-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.bf16_pair.Statement Cert.KernelIdeal.S32x128 Cert.KernelIdeal.S16x128
  ∧ IdealRules.named_const.Statement Cert.KernelIdeal.κ "quant_scale" .f32 0x3F87C3B6#32 ((35589849 / 33554432 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)) (v2 : (c : Dev Cert.KernelIdeal.nD) → Buf (Elt Ideal) ((c.tc : Thread Cert.KernelIdeal.nD Cert.KernelIdeal.τ).loc Cert.KernelIdeal.main_v75_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_v75_7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v201) = v1 c
          ∧ r.2.mem ((c.tc : Thread Cert.ReferenceIdeal.nD Cert.ReferenceIdeal.τ).loc Cert.ReferenceIdeal.main_v205) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2560x1792 : Shape := ⟨2, ![2560, 1792]⟩
abbrev S2x896x6912 : Shape := ⟨3, ![2, 896, 6912]⟩
abbrev S2560x6912 : Shape := ⟨2, ![2560, 6912]⟩
abbrev S6912 : Shape := ⟨1, ![6912]⟩
abbrev S2x896 : Shape := ⟨2, ![2, 896]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1792x6912 : Shape := ⟨2, ![1792, 6912]⟩
abbrev S1x1792 : Shape := ⟨2, ![1, 1792]⟩
abbrev S1x6912 : Shape := ⟨2, ![1, 6912]⟩
abbrev S1792x2560 : Shape := ⟨2, ![1792, 2560]⟩
abbrev S1792x3456 : Shape := ⟨2, ![1792, 3456]⟩
abbrev S1792x216 : Shape := ⟨2, ![1792, 216]⟩
abbrev S2560x3456 : Shape := ⟨2, ![2560, 3456]⟩
abbrev S2560x216 : Shape := ⟨2, ![2560, 216]⟩
abbrev S896x6912 : Shape := ⟨2, ![896, 6912]⟩
abbrev S2x28x6912 : Shape := ⟨3, ![2, 28, 6912]⟩
abbrev S1792x256 : Shape := ⟨2, ![1792, 256]⟩
abbrev S2560x256 : Shape := ⟨2, ![2560, 256]⟩
abbrev S256x2560 : Shape := ⟨2, ![256, 2560]⟩
abbrev S1792x128 : Shape := ⟨2, ![1792, 128]⟩
abbrev S2560x128 : Shape := ⟨2, ![2560, 128]⟩
abbrev S896x256 : Shape := ⟨2, ![896, 256]⟩
abbrev S2x28x256 : Shape := ⟨3, ![2, 28, 256]⟩
abbrev S56x256 : Shape := ⟨2, ![56, 256]⟩
abbrev S8x128 : Shape := ⟨2, ![8, 128]⟩
abbrev S32x256 : Shape := ⟨2, ![32, 256]⟩
abbrev S32x128 : Shape := ⟨2, ![32, 128]⟩
abbrev S16x128 : Shape := ⟨2, ![16, 128]⟩
abbrev S8x256 : Shape := ⟨2, ![8, 256]⟩
abbrev S8x128x1 : Shape := ⟨3, ![8, 128, 1]⟩
abbrev S64x256 : Shape := ⟨2, ![64, 256]⟩
abbrev S16x256 : Shape := ⟨2, ![16, 256]⟩
abbrev S28x256 : Shape := ⟨2, ![28, 256]⟩
abbrev S1x28x256 : Shape := ⟨3, ![1, 28, 256]⟩

abbrev nBuf : Space → Nat
  | .hbm => 121
  | .vmem => 40
  | .smem => 0
  | _ => 0

abbrev bufTy : (tb : Table) → Fin (tcTables nBuf tb) → BufTy
  | .hbm, ⟨0, _⟩ => ⟨S2560x1792, .bf16⟩
  | .hbm, ⟨1, _⟩ => ⟨S2x896x6912, .bf16⟩
  | .hbm, ⟨2, _⟩ => ⟨S2560x6912, .bf16⟩
  | .hbm, ⟨3, _⟩ => ⟨S6912, .f32⟩
  | .hbm, ⟨4, _⟩ => ⟨S2x896, .f32⟩
  | .hbm, ⟨5, _⟩ => ⟨S2x896x6912, .i8⟩
  | .hbm, ⟨6, _⟩ => ⟨S2560x6912, .i8⟩
  | .hbm, ⟨7, _⟩ => ⟨S2x896x6912, .i8⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i32⟩
  | .hbm, ⟨14, _⟩ => ⟨S1x256, .i32⟩
  | .hbm, ⟨15, _⟩ => ⟨S_, .i32⟩
  | .hbm, ⟨16, _⟩ => ⟨S1x256, .i32⟩
  | .hbm, ⟨17, _⟩ => ⟨S1x256, .i32⟩
  | .hbm, ⟨18, _⟩ => ⟨S256x256, .i32⟩
  | .hbm, ⟨19, _⟩ => ⟨S256x256, .i32⟩
  | .hbm, ⟨20, _⟩ => ⟨S256x256, .i32⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i1⟩
  | .hbm, ⟨28, _⟩ => ⟨S_, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i32⟩
  | .hbm, ⟨37, _⟩ => ⟨S1x256, .i32⟩
  | .hbm, ⟨38, _⟩ => ⟨S_, .i32⟩
  | .hbm, ⟨39, _⟩ => ⟨S1x256, .i32⟩
  | .hbm, ⟨40, _⟩ => ⟨S1x256, .i32⟩
  | .hbm, ⟨41, _⟩ => ⟨S256x256, .i32⟩
  | .hbm, ⟨42, _⟩ => ⟨S256x256, .i32⟩
  | .hbm, ⟨43, _⟩ => ⟨S256x256, .i1⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256, .bf16⟩
  | .hbm, ⟨48, _⟩ => ⟨S256, .i32⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S_, .i32⟩
  | .hbm, ⟨53, _⟩ => ⟨S256, .i32⟩
  | .hbm, ⟨54, _⟩ => ⟨S256, .i32⟩
  | .hbm, ⟨55, _⟩ => ⟨S_, .i32⟩
  | .hbm, ⟨56, _⟩ => ⟨S256, .i32⟩
  | .hbm, ⟨57, _⟩ => ⟨S256, .i32⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S_, .i32⟩
  | .hbm, ⟨62, _⟩ => ⟨S256, .i32⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S256, .i32⟩
  | .hbm, ⟨69, _⟩ => ⟨S256, .i32⟩
  | .hbm, ⟨70, _⟩ => ⟨S256x1, .i32⟩
  | .hbm, ⟨71, _⟩ => ⟨S_, .i32⟩
  | .hbm, ⟨72, _⟩ => ⟨S256x1, .i32⟩
  | .hbm, ⟨73, _⟩ => ⟨S256x1, .i32⟩
  | .hbm, ⟨74, _⟩ => ⟨S1x256, .i32⟩
  | .hbm, ⟨75, _⟩ => ⟨S_, .i32⟩
  | .hbm, ⟨76, _⟩ => ⟨S1x256, .i32⟩
  | .hbm, ⟨77, _⟩ => ⟨S1x256, .i32⟩
  | .hbm, ⟨78, _⟩ => ⟨S256x256, .i32⟩
  | .hbm, ⟨79, _⟩ => ⟨S256x256, .i32⟩
  | .hbm, ⟨80, _⟩ => ⟨S256x256, .i32⟩
  | .hbm, ⟨81, _⟩ => ⟨S256x256, .i32⟩
  | .hbm, ⟨82, _⟩ => ⟨S_, .i32⟩
  | .hbm, ⟨83, _⟩ => ⟨S256x256, .i32⟩
  | .hbm, ⟨84, _⟩ => ⟨S256x256, .i32⟩
  | .hbm, ⟨85, _⟩ => ⟨S_, .i32⟩
  | .hbm, ⟨86, _⟩ => ⟨S256x256, .i32⟩
  | .hbm, ⟨87, _⟩ => ⟨S256x256, .i1⟩
  | .hbm, ⟨88, _⟩ => ⟨S_, .f32⟩
  | .hbm, ⟨89, _⟩ => ⟨S_, .f32⟩
  | .hbm, ⟨90, _⟩ => ⟨S256x256, .f32⟩
  | .hbm, ⟨91, _⟩ => ⟨S256x256, .f32⟩
  | .hbm, ⟨92, _⟩ => ⟨S256x256, .f32⟩
  | .hbm, ⟨93, _⟩ => ⟨S256x1, .i32⟩
  | .hbm, ⟨94, _⟩ => ⟨S_, .i32⟩
  | .hbm, ⟨95, _⟩ => ⟨S256x1, .i32⟩
  | .hbm, ⟨96, _⟩ => ⟨S256x1, .i32⟩
  | .hbm, ⟨97, _⟩ => ⟨S1x256, .i32⟩
  | .hbm, ⟨98, _⟩ => ⟨S_, .i32⟩
  | .hbm, ⟨99, _⟩ => ⟨S1x256, .i32⟩
  | .hbm, ⟨100, _⟩ => ⟨S1x256, .i32⟩
  | .hbm, ⟨101, _⟩ => ⟨S256x256, .i32⟩
  | .hbm, ⟨102, _⟩ => ⟨S256x256, .i32⟩
  | .hbm, ⟨103, _⟩ => ⟨S256x256, .i1⟩
  | .hbm, ⟨104, _⟩ => ⟨S_, .f32⟩
  | .hbm, ⟨105, _⟩ => ⟨S256x256, .f32⟩
  | .hbm, ⟨106, _⟩ => ⟨S256x256, .f32⟩
  | .hbm, ⟨107, _⟩ => ⟨S256x256, .bf16⟩
  | .hbm, ⟨108, _⟩ => ⟨S1792x6912, .bf16⟩
  | .hbm, ⟨109, _⟩ => ⟨S1x1792, .f32⟩
  | .hbm, ⟨110, _⟩ => ⟨S1x6912, .f32⟩
  | .hbm, ⟨111, _⟩ => ⟨S1792x6912, .i8⟩
  | .hbm, ⟨112, _⟩ => ⟨S1792x6912, .i8⟩
  | .hbm, ⟨113, _⟩ => ⟨S1792x2560, .bf16⟩
  | .hbm, ⟨114, _⟩ => ⟨S2560x6912, .f32⟩
  | .hbm, ⟨115, _⟩ => ⟨S1792x3456, .i8⟩
  | .hbm, ⟨116, _⟩ => ⟨S1792x216, .i8⟩
  | .hbm, ⟨117, _⟩ => ⟨S2560x3456, .i8⟩
  | .hbm, ⟨118, _⟩ => ⟨S2560x216, .i8⟩
  | .hbm, ⟨119, _⟩ => ⟨S896x6912, .i8⟩
  | .hbm, ⟨120, _⟩ => ⟨S2x28x6912, .i8⟩
  | .local _ .vmem, ⟨0, _⟩ => ⟨S256x256, .bf16⟩
  | .local _ .vmem, ⟨1, _⟩ => ⟨S256x256, .bf16⟩
  | .local _ .vmem, ⟨2, _⟩ => ⟨S1x1792, .f32⟩
  | .local _ .vmem, ⟨3, _⟩ => ⟨S1x256, .f32⟩
  | .local _ .vmem, ⟨4, _⟩ => ⟨S1x256, .f32⟩
  | .local _ .vmem, ⟨5, _⟩ => ⟨S1792x256, .bf16⟩
  | .local _ .vmem, ⟨6, _⟩ => ⟨S1792x256, .bf16⟩
  | .local _ .vmem, ⟨7, _⟩ => ⟨S2560x256, .bf16⟩
  | .local _ .vmem, ⟨8, _⟩ => ⟨S2560x256, .bf16⟩
  | .local _ .vmem, ⟨9, _⟩ => ⟨S1792x256, .i8⟩
  | .local _ .vmem, ⟨10, _⟩ => ⟨S1792x256, .i8⟩
  | .local _ .vmem, ⟨11, _⟩ => ⟨S2560x256, .i8⟩
  | .local _ .vmem, ⟨12, _⟩ => ⟨S2560x256, .i8⟩
  | .local _ .vmem, ⟨13, _⟩ => ⟨S1792x256, .i8⟩
  | .local _ .vmem, ⟨14, _⟩ => ⟨S1792x256, .i8⟩
  | .local _ .vmem, ⟨15, _⟩ => ⟨S256x2560, .bf16⟩
  | .local _ .vmem, ⟨16, _⟩ => ⟨S256x2560, .bf16⟩
  | .local _ .vmem, ⟨17, _⟩ => ⟨S2560x256, .f32⟩
  | .local _ .vmem, ⟨18, _⟩ => ⟨S2560x256, .f32⟩
  | .local _ .vmem, ⟨19, _⟩ => ⟨S1792x128, .i8⟩
  | .local _ .vmem, ⟨20, _⟩ => ⟨S1792x128, .i8⟩
  | .local _ .vmem, ⟨21, _⟩ => ⟨S1792x216, .i8⟩
  | .local _ .vmem, ⟨22, _⟩ => ⟨S2560x128, .i8⟩
  | .local _ .vmem, ⟨23, _⟩ => ⟨S2560x128, .i8⟩
  | .local _ .vmem, ⟨24, _⟩ => ⟨S2560x216, .i8⟩
  | .local _ .vmem, ⟨25, _⟩ => ⟨S896x256, .i8⟩
  | .local _ .vmem, ⟨26, _⟩ => ⟨S896x256, .i8⟩
  | .local _ .vmem, ⟨27, _⟩ => ⟨S2x28x256, .i8⟩
  | .local _ .vmem, ⟨28, _⟩ => ⟨S2x28x256, .i8⟩
  | .local _ .vmem, ⟨29, _⟩ => ⟨S2560x1792, .bf16⟩
  | .local _ .vmem, ⟨30, _⟩ => ⟨S1792x2560, .f32⟩
  | .local _ .vmem, ⟨31, _⟩ => ⟨S1792x256, .f32⟩
  | .local _ .vmem, ⟨32, _⟩ => ⟨S2560x256, .f32⟩
  | .local _ .vmem, ⟨33, _⟩ => ⟨S1792x256, .f32⟩
  | .local _ .vmem, ⟨34, _⟩ => ⟨S1792x256, .bf16⟩
  | .local _ .vmem, ⟨35, _⟩ => ⟨S2560x256, .bf16⟩
  | .local _ .vmem, ⟨36, _⟩ => ⟨S1792x256, .bf16⟩
  | .local _ .vmem, ⟨37, _⟩ => ⟨S56x256, .i32⟩
  | .local _ .vmem, ⟨38, _⟩ => ⟨S1792x256, .i8⟩
  | .local _ .vmem, ⟨39, _⟩ => ⟨S2560x256, .i8⟩
  | _, _ => ⟨S2560x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_call1_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_12 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_13 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_14 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_15 : Ref sig .tc := ⟨.hbm, 82, rfl⟩
abbrev main_v54 : Ref sig .tc := ⟨.hbm, 83, rfl⟩
abbrev main_v55 : Ref sig .tc := ⟨.hbm, 84, rfl⟩
abbrev main_c_16 : Ref sig .tc := ⟨.hbm, 85, rfl⟩
abbrev main_v56 : Ref sig .tc := ⟨.hbm, 86, rfl⟩
abbrev main_v57 : Ref sig .tc := ⟨.hbm, 87, rfl⟩
abbrev main_cst_17 : Ref sig .tc := ⟨.hbm, 88, rfl⟩
abbrev main_cst_18 : Ref sig .tc := ⟨.hbm, 89, rfl⟩
abbrev main_call2_v0 : Ref sig .tc := ⟨.hbm, 90, rfl⟩
abbrev main_call2_v1 : Ref sig .tc := ⟨.hbm, 91, rfl⟩
abbrev main_v58 : Ref sig .tc := ⟨.hbm, 92, rfl⟩
abbrev main_v59 : Ref sig .tc := ⟨.hbm, 93, rfl⟩
abbrev main_c_19 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_20 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_21 : Ref sig .tc := ⟨.hbm, 104, rfl⟩
abbrev main_call3_v0 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75_0 : Ref sig .tc := ⟨.hbm, 113, rfl⟩
abbrev main_v75_1 : Ref sig .tc := ⟨.hbm, 114, rfl⟩
abbrev main_v75_2 : Ref sig .tc := ⟨.hbm, 115, rfl⟩
abbrev main_v75_3 : Ref sig .tc := ⟨.hbm, 116, rfl⟩
abbrev main_v75_4 : Ref sig .tc := ⟨.hbm, 117, rfl⟩
abbrev main_v75_5 : Ref sig .tc := ⟨.hbm, 118, rfl⟩
abbrev main_v75_6 : Ref sig .tc := ⟨.hbm, 119, rfl⟩
abbrev main_v75_7 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_scratch10 : Ref sig .tc := ⟨.vmem, 39, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [BitOps F]

abbrev grid0 : Pipeline.Grid := ⟨1, ![35], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c8_i32_26 : BitVec 32 := 8#32
  let v48 : BitVec 32 := Scalar.muli arg0 c8_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c128_i32_27 : BitVec 32 := 128#32
  let c0_i32_30 : BitVec 32 := 0#32
  let v55 : BitVec 1 := Scalar.cmpi .sgt c128_i32_27 c0_i32_30
  let v56 : BitVec 32 := Scalar.extui v55
  let c0_i32_31 : BitVec 32 := 0#32
  let v57 : BitVec 1 := Scalar.cmpi .slt c128_i32_27 c0_i32_31
  let v58 : BitVec 32 := Scalar.extui v57
  let v59 : BitVec 32 := Scalar.subi v56 v58
  let v60 : BitVec 1 := Scalar.cmpi .ne v54 v59
  let v61 : BitVec 32 := Scalar.remsi v48 c128_i32_27
  let c0_i32_32 : BitVec 32 := 0#32
  let v62 : BitVec 1 := Scalar.cmpi .ne v61 c0_i32_32
  let v63 : BitVec 1 := Scalar.andi v60 v62
  let v49 : BitVec 32 := Scalar.divsi v48 c128_i32_27
  let c1_i32_33 : BitVec 32 := 1#32
  let v64 : BitVec 32 := Scalar.subi v49 c1_i32_33
  let v65 : BitVec 32 := Scalar.select v63 v64 v49
  let c128_i32_34 : BitVec 32 := 128#32
  let v66 : BitVec 32 := Scalar.muli v65 c128_i32_34
  v66
@[reducible] def k0_t1_loop : Scf.Loop 32 :=
  let c0_i32_36 : BitVec 32 := 0#32
  let c56_i32 : BitVec 32 := 56#32
  let v74 : BitVec 32 := Scalar.addi c0_i32_36 c56_i32
  let c1_i32_37 : BitVec 32 := 1#32
  ⟨c0_i32_36, v74, c1_i32_37⟩
def k0_mult2 (k0_t1 : Fin k0_t1_loop.trips) : BitVec 32 :=
  let c0_i32_88 : BitVec 32 := 0#32
  let c0_i32_36 : BitVec 32 := 0#32
  let c1_i32_37 : BitVec 32 := 1#32
  let arg31 : BitVec 32 := Scf.iv c0_i32_36 c1_i32_37 k0_t1
  let c1_i32_87 : BitVec 32 := 1#32
  let v155 : BitVec 32 := Scalar.muli arg31 c1_i32_87
  let v156 : BitVec 32 := Scalar.addi c0_i32_88 v155
  let c32_i32 : BitVec 32 := 32#32
  let v157 : BitVec 32 := Scalar.muli v156 c32_i32
  v157
def k0_off1 (k0_t1 : Fin k0_t1_loop.trips) : Fin 2 → Nat :=
  let c0_i32_88 : BitVec 32 := 0#32
  let c0_i32_36 : BitVec 32 := 0#32
  let c1_i32_37 : BitVec 32 := 1#32
  let arg31 : BitVec 32 := Scf.iv c0_i32_36 c1_i32_37 k0_t1
  let c1_i32_87 : BitVec 32 := 1#32
  let v155 : BitVec 32 := Scalar.muli arg31 c1_i32_87
  let v156 : BitVec 32 := Scalar.addi c0_i32_88 v155
  let c32_i32 : BitVec 32 := 32#32
  let v157 : BitVec 32 := Scalar.muli v156 c32_i32
  let v158 : BitVec 32 := v157
  let v159 : Index := Scalar.indexCast v158
  let c0_89 : Index := 0#32
  ![v159.toNat, 0]
def k0_off2 (k0_t1 : Fin k0_t1_loop.trips) : Fin 2 → Nat :=
  let c0_i32_88 : BitVec 32 := 0#32
  let c0_i32_36 : BitVec 32 := 0#32
  let c1_i32_37 : BitVec 32 := 1#32
  let arg31 : BitVec 32 := Scf.iv c0_i32_36 c1_i32_37 k0_t1
  let c1_i32_87 : BitVec 32 := 1#32
  let v155 : BitVec 32 := Scalar.muli arg31 c1_i32_87
  let v156 : BitVec 32 := Scalar.addi c0_i32_88 v155
  let c32_i32 : BitVec 32 := 32#32
  let v157 : BitVec 32 := Scalar.muli v156 c32_i32
  let v158 : BitVec 32 := v157
  let v434 : Index := Scalar.indexCast v158
  let c0_170 : Index := 0#32
  ![v434.toNat, 0]
def k0_off3 (i : grid0.Coords) (k0_t1 : Fin k0_t1_loop.trips) : Fin 2 → Nat :=
  let c0_i32_88 : BitVec 32 := 0#32
  let c0_i32_36 : BitVec 32 := 0#32
  let c1_i32_37 : BitVec 32 := 1#32
  let arg31 : BitVec 32 := Scf.iv c0_i32_36 c1_i32_37 k0_t1
  let c1_i32_87 : BitVec 32 := 1#32
  let v155 : BitVec 32 := Scalar.muli arg31 c1_i32_87
  let v156 : BitVec 32 := Scalar.addi c0_i32_88 v155
  let c32_i32 : BitVec 32 := 32#32
  let v157 : BitVec 32 := Scalar.muli v156 c32_i32
  let v158 : BitVec 32 := v157
  let v440 : Index := Scalar.indexCast v158
  let arg0 : BitVec 32 := BitVec.ofNat 32 (i 0).val
  let c8_i32_26 : BitVec 32 := 8#32
  let v48 : BitVec 32 := Scalar.muli arg0 c8_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c128_i32_27 : BitVec 32 := 128#32
  let c0_i32_30 : BitVec 32 := 0#32
  let v55 : BitVec 1 := Scalar.cmpi .sgt c128_i32_27 c0_i32_30
  let v56 : BitVec 32 := Scalar.extui v55
  let c0_i32_31 : BitVec 32 := 0#32
  let v57 : BitVec 1 := Scalar.cmpi .slt c128_i32_27 c0_i32_31
  let v58 : BitVec 32 := Scalar.extui v57
  let v59 : BitVec 32 := Scalar.subi v56 v58
  let v60 : BitVec 1 := Scalar.cmpi .ne v54 v59
  let v61 : BitVec 32 := Scalar.remsi v48 c128_i32_27
  let c0_i32_32 : BitVec 32 := 0#32
  let v62 : BitVec 1 := Scalar.cmpi .ne v61 c0_i32_32
  let v63 : BitVec 1 := Scalar.andi v60 v62
  let v49 : BitVec 32 := Scalar.divsi v48 c128_i32_27
  let c1_i32_33 : BitVec 32 := 1#32
  let v64 : BitVec 32 := Scalar.subi v49 c1_i32_33
  let v65 : BitVec 32 := Scalar.select v63 v64 v49
  let c128_i32_34 : BitVec 32 := 128#32
  let v66 : BitVec 32 := Scalar.muli v65 c128_i32_34
  let v67 : BitVec 32 := v66
  let v441 : Index := Scalar.indexCast v67
  ![v440.toNat, v441.toNat]
@[reducible] def k0_t2_loop : Scf.Loop 32 :=
  let c0_i32_39 : BitVec 32 := 0#32
  let c80_i32 : BitVec 32 := 80#32
  let v75 : BitVec 32 := Scalar.addi c0_i32_39 c80_i32
  let c1_i32_40 : BitVec 32 := 1#32
  ⟨c0_i32_39, v75, c1_i32_40⟩
def k0_mult3 (k0_t2 : Fin k0_t2_loop.trips) : BitVec 32 :=
  let c0_i32_88 : BitVec 32 := 0#32
  let c0_i32_39 : BitVec 32 := 0#32
  let c1_i32_40 : BitVec 32 := 1#32
  let arg31 : BitVec 32 := Scf.iv c0_i32_39 c1_i32_40 k0_t2
  let c1_i32_87 : BitVec 32 := 1#32
  let v155 : BitVec 32 := Scalar.muli arg31 c1_i32_87
  let v156 : BitVec 32 := Scalar.addi c0_i32_88 v155
  let c32_i32 : BitVec 32 := 32#32
  let v157 : BitVec 32 := Scalar.muli v156 c32_i32
  v157
def k0_off4 (k0_t2 : Fin k0_t2_loop.trips) : Fin 2 → Nat :=
  let c0_i32_88 : BitVec 32 := 0#32
  let c0_i32_39 : BitVec 32 := 0#32
  let c1_i32_40 : BitVec 32 := 1#32
  let arg31 : BitVec 32 := Scf.iv c0_i32_39 c1_i32_40 k0_t2
  let c1_i32_87 : BitVec 32 := 1#32
  let v155 : BitVec 32 := Scalar.muli arg31 c1_i32_87
  let v156 : BitVec 32 := Scalar.addi c0_i32_88 v155
  let c32_i32 : BitVec 32 := 32#32
  let v157 : BitVec 32 := Scalar.muli v156 c32_i32
  let v158 : BitVec 32 := v157
  let v159 : Index := Scalar.indexCast v158
  let c0_89 : Index := 0#32
  ![v159.toNat, 0]
def k0_off5 (k0_t2 : Fin k0_t2_loop.trips) : Fin 2 → Nat :=
  let c0_i32_88 : BitVec 32 := 0#32
  let c0_i32_39 : BitVec 32 := 0#32
  let c1_i32_40 : BitVec 32 := 1#32
  let arg31 : BitVec 32 := Scf.iv c0_i32_39 c1_i32_40 k0_t2
  let c1_i32_87 : BitVec 32 := 1#32
  let v155 : BitVec 32 := Scalar.muli arg31 c1_i32_87
  let v156 : BitVec 32 := Scalar.addi c0_i32_88 v155
  let c32_i32 : BitVec 32 := 32#32
  let v157 : BitVec 32 := Scalar.muli v156 c32_i32
  let v158 : BitVec 32 := v157
  let v433 : Index := Scalar.indexCast v158
  let c0_170 : Index := 0#32
  ![v433.toNat, 0]
def k0_off6 (i : grid0.Coords) (k0_t2 : Fin k0_t2_loop.trips) : Fin 2 → Nat :=
  let c0_i32_88 : BitVec 32 := 0#32
  let c0_i32_39 : BitVec 32 := 0#32
  let c1_i32_40 : BitVec 32 := 1#32
  let arg31 : BitVec 32 := Scf.iv c0_i32_39 c1_i32_40 k0_t2
  let c1_i32_87 : BitVec 32 := 1#32
  let v155 : BitVec 32 := Scalar.muli arg31 c1_i32_87
  let v156 : BitVec 32 := Scalar.addi c0_i32_88 v155
  let c32_i32 : BitVec 32 := 32#32
  let v157 : BitVec 32 := Scalar.muli v156 c32_i32
  let v158 : BitVec 32 := v157
  let v439 : Index := Scalar.indexCast v158
  let arg0 : BitVec 32 := BitVec.ofNat 32 (i 0).val
  let c8_i32_26 : BitVec 32 := 8#32
  let v48 : BitVec 32 := Scalar.muli arg0 c8_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c128_i32_27 : BitVec 32 := 128#32
  let c0_i32_30 : BitVec 32 := 0#32
  let v55 : BitVec 1 := Scalar.cmpi .sgt c128_i32_27 c0_i32_30
  let v56 : BitVec 32 := Scalar.extui v55
  let c0_i32_31 : BitVec 32 := 0#32
  let v57 : BitVec 1 := Scalar.cmpi .slt c128_i32_27 c0_i32_31
  let v58 : BitVec 32 := Scalar.extui v57
  let v59 : BitVec 32 := Scalar.subi v56 v58
  let v60 : BitVec 1 := Scalar.cmpi .ne v54 v59
  let v61 : BitVec 32 := Scalar.remsi v48 c128_i32_27
  let c0_i32_32 : BitVec 32 := 0#32
  let v62 : BitVec 1 := Scalar.cmpi .ne v61 c0_i32_32
  let v63 : BitVec 1 := Scalar.andi v60 v62
  let v49 : BitVec 32 := Scalar.divsi v48 c128_i32_27
  let c1_i32_33 : BitVec 32 := 1#32
  let v64 : BitVec 32 := Scalar.subi v49 c1_i32_33
  let v65 : BitVec 32 := Scalar.select v63 v64 v49
  let c128_i32_34 : BitVec 32 := 128#32
  let v66 : BitVec 32 := Scalar.muli v65 c128_i32_34
  let v67 : BitVec 32 := v66
  let v440 : Index := Scalar.indexCast v67
  ![v439.toNat, v440.toNat]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c27_i32 : BitVec 32 := 27#32
  let v4 : BitVec 1 := Scalar.cmpi .slt arg0 c27_i32
  let v5 : BitVec 1 := Scalar.andi v3 v4
  let v6 : BitVec 32 := Scalar.extui v5
  let c0_i32_2 : BitVec 32 := 0#32
  let v7 : BitVec 1 := Scalar.cmpi .ne v6 c0_i32_2
  v7

@[reducible] def k0_t3_loop : Scf.Loop 32 :=
  let c0_i32_86 : BitVec 32 := 0#32
  let c28_i32 : BitVec 32 := 28#32
  let v94 : BitVec 32 := Scalar.addi c0_i32_86 c28_i32
  let c1_i32 : BitVec 32 := 1#32
  ⟨c0_i32_86, v94, c1_i32⟩
def k0_mult4 (k0_t3 : Fin k0_t3_loop.trips) : BitVec 32 :=
  let c0_i32_191 : BitVec 32 := 0#32
  let c0_i32_86 : BitVec 32 := 0#32
  let c1_i32 : BitVec 32 := 1#32
  let arg31 : BitVec 32 := Scf.iv c0_i32_86 c1_i32 k0_t3
  let c1_i32_190 : BitVec 32 := 1#32
  let v248 : BitVec 32 := Scalar.muli arg31 c1_i32_190
  let v249 : BitVec 32 := Scalar.addi c0_i32_191 v248
  let c64_i32 : BitVec 32 := 64#32
  let v250 : BitVec 32 := Scalar.muli v249 c64_i32
  v250
def k0_off7 (k0_t3 : Fin k0_t3_loop.trips) : Fin 2 → Nat :=
  let c0_i32_191 : BitVec 32 := 0#32
  let c0_i32_86 : BitVec 32 := 0#32
  let c1_i32 : BitVec 32 := 1#32
  let arg31 : BitVec 32 := Scf.iv c0_i32_86 c1_i32 k0_t3
  let c1_i32_190 : BitVec 32 := 1#32
  let v248 : BitVec 32 := Scalar.muli arg31 c1_i32_190
  let v249 : BitVec 32 := Scalar.addi c0_i32_191 v248
  let c64_i32 : BitVec 32 := 64#32
  let v250 : BitVec 32 := Scalar.muli v249 c64_i32
  let v251 : BitVec 32 := v250
  let v252 : Index := Scalar.indexCast v251
  let c0_192 : Index := 0#32
  ![v252.toNat, 0]
def k0_mult5 (k0_t3 : Fin k0_t3_loop.trips) : BitVec 32 :=
  let c0_i32_191 : BitVec 32 := 0#32
  let c0_i32_86 : BitVec 32 := 0#32
  let c1_i32 : BitVec 32 := 1#32
  let arg31 : BitVec 32 := Scf.iv c0_i32_86 c1_i32 k0_t3
  let c1_i32_190 : BitVec 32 := 1#32
  let v248 : BitVec 32 := Scalar.muli arg31 c1_i32_190
  let v249 : BitVec 32 := Scalar.addi c0_i32_191 v248
  let c32_i32 : BitVec 32 := 32#32
  let v490 : BitVec 32 := Scalar.muli v249 c32_i32
  v490
def k0_off8 (k0_t3 : Fin k0_t3_loop.trips) : Fin 2 → Nat :=
  let c0_i32_191 : BitVec 32 := 0#32
  let c0_i32_86 : BitVec 32 := 0#32
  let c1_i32 : BitVec 32 := 1#32
  let arg31 : BitVec 32 := Scf.iv c0_i32_86 c1_i32 k0_t3
  let c1_i32_190 : BitVec 32 := 1#32
  let v248 : BitVec 32 := Scalar.muli arg31 c1_i32_190
  let v249 : BitVec 32 := Scalar.addi c0_i32_191 v248
  let c32_i32 : BitVec 32 := 32#32
  let v490 : BitVec 32 := Scalar.muli v249 c32_i32
  let v491 : BitVec 32 := v490
  let v492 : Index := Scalar.indexCast v491
  let c0_270 : Index := 0#32
  ![v492.toNat, 0]
def k0_off9 (k0_t3 : Fin k0_t3_loop.trips) (c0_i32_272 : BitVec 32) : Fin 2 → Nat :=
  let c2_i32_271 : BitVec 32 := 2#32
  let c0_i32_191 : BitVec 32 := 0#32
  let c0_i32_86 : BitVec 32 := 0#32
  let c1_i32 : BitVec 32 := 1#32
  let arg31 : BitVec 32 := Scf.iv c0_i32_86 c1_i32 k0_t3
  let c1_i32_190 : BitVec 32 := 1#32
  let v248 : BitVec 32 := Scalar.muli arg31 c1_i32_190
  let v249 : BitVec 32 := Scalar.addi c0_i32_191 v248
  let v494 : BitVec 32 := Scalar.muli c2_i32_271 v249
  let v495 : BitVec 32 := Scalar.addi v494 c0_i32_272
  let v496 : Index := Scalar.indexCast v495
  let c0_273 : Index := 0#32
  ![v496.toNat, 0]
def k0_mult6 (i : grid0.Coords) : BitVec 32 :=
  let arg0 : BitVec 32 := BitVec.ofNat 32 (i 0).val
  let c8_i32_123 : BitVec 32 := 8#32
  let v141 : BitVec 32 := Scalar.muli arg0 c8_i32_123
  let c0_i32_125 : BitVec 32 := 0#32
  let v143 : BitVec 1 := Scalar.cmpi .sgt v141 c0_i32_125
  let v144 : BitVec 32 := Scalar.extui v143
  let c0_i32_126 : BitVec 32 := 0#32
  let v145 : BitVec 1 := Scalar.cmpi .slt v141 c0_i32_126
  let v146 : BitVec 32 := Scalar.extui v145
  let v147 : BitVec 32 := Scalar.subi v144 v146
  let c128_i32_124 : BitVec 32 := 128#32
  let c0_i32_127 : BitVec 32 := 0#32
  let v148 : BitVec 1 := Scalar.cmpi .sgt c128_i32_124 c0_i32_127
  let v149 : BitVec 32 := Scalar.extui v148
  let c0_i32_128 : BitVec 32 := 0#32
  let v150 : BitVec 1 := Scalar.cmpi .slt c128_i32_124 c0_i32_128
  let v151 : BitVec 32 := Scalar.extui v150
  let v152 : BitVec 32 := Scalar.subi v149 v151
  let v153 : BitVec 1 := Scalar.cmpi .ne v147 v152
  let v154 : BitVec 32 := Scalar.remsi v141 c128_i32_124
  let c0_i32_129 : BitVec 32 := 0#32
  let v155 : BitVec 1 := Scalar.cmpi .ne v154 c0_i32_129
  let v156 : BitVec 1 := Scalar.andi v153 v155
  let v142 : BitVec 32 := Scalar.divsi v141 c128_i32_124
  let c1_i32_130 : BitVec 32 := 1#32
  let v157 : BitVec 32 := Scalar.subi v142 c1_i32_130
  let v158 : BitVec 32 := Scalar.select v156 v157 v142
  let c128_i32_131 : BitVec 32 := 128#32
  let v159 : BitVec 32 := Scalar.muli v158 c128_i32_131
  v159
@[reducible] def k0_t4_loop : Scf.Loop 32 :=
  let c0_i32_133 : BitVec 32 := 0#32
  let c56_i32 : BitVec 32 := 56#32
  let v167 : BitVec 32 := Scalar.addi c0_i32_133 c56_i32
  let c1_i32_134 : BitVec 32 := 1#32
  ⟨c0_i32_133, v167, c1_i32_134⟩
def k0_mult7 (k0_t4 : Fin k0_t4_loop.trips) : BitVec 32 :=
  let c0_i32_191 : BitVec 32 := 0#32
  let c0_i32_133 : BitVec 32 := 0#32
  let c1_i32_134 : BitVec 32 := 1#32
  let arg31 : BitVec 32 := Scf.iv c0_i32_133 c1_i32_134 k0_t4
  let c1_i32_190 : BitVec 32 := 1#32
  let v248 : BitVec 32 := Scalar.muli arg31 c1_i32_190
  let v249 : BitVec 32 := Scalar.addi c0_i32_191 v248
  let c32_i32 : BitVec 32 := 32#32
  let v250 : BitVec 32 := Scalar.muli v249 c32_i32
  v250
def k0_off10 (k0_t4 : Fin k0_t4_loop.trips) : Fin 2 → Nat :=
  let c0_i32_191 : BitVec 32 := 0#32
  let c0_i32_133 : BitVec 32 := 0#32
  let c1_i32_134 : BitVec 32 := 1#32
  let arg31 : BitVec 32 := Scf.iv c0_i32_133 c1_i32_134 k0_t4
  let c1_i32_190 : BitVec 32 := 1#32
  let v248 : BitVec 32 := Scalar.muli arg31 c1_i32_190
  let v249 : BitVec 32 := Scalar.addi c0_i32_191 v248
  let c32_i32 : BitVec 32 := 32#32
  let v250 : BitVec 32 := Scalar.muli v249 c32_i32
  let v251 : BitVec 32 := v250
  let v252 : Index := Scalar.indexCast v251
  let c0_192 : Index := 0#32
  ![v252.toNat, 0]
def k0_off11 (k0_t4 : Fin k0_t4_loop.trips) : Fin 2 → Nat :=
  let c0_i32_191 : BitVec 32 := 0#32
  let c0_i32_133 : BitVec 32 := 0#32
  let c1_i32_134 : BitVec 32 := 1#32
  let arg31 : BitVec 32 := Scf.iv c0_i32_133 c1_i32_134 k0_t4
  let c1_i32_190 : BitVec 32 := 1#32
  let v248 : BitVec 32 := Scalar.muli arg31 c1_i32_190
  let v249 : BitVec 32 := Scalar.addi c0_i32_191 v248
  let c32_i32 : BitVec 32 := 32#32
  let v250 : BitVec 32 := Scalar.muli v249 c32_i32
  let v251 : BitVec 32 := v250
  let v527 : Index := Scalar.indexCast v251
  let c0_273 : Index := 0#32
  ![v527.toNat, 0]
def k0_off12 (i : grid0.Coords) (k0_t4 : Fin k0_t4_loop.trips) : Fin 2 → Nat :=
  let c0_i32_191 : BitVec 32 := 0#32
  let c0_i32_133 : BitVec 32 := 0#32
  let c1_i32_134 : BitVec 32 := 1#32
  let arg31 : BitVec 32 := Scf.iv c0_i32_133 c1_i32_134 k0_t4
  let c1_i32_190 : BitVec 32 := 1#32
  let v248 : BitVec 32 := Scalar.muli arg31 c1_i32_190
  let v249 : BitVec 32 := Scalar.addi c0_i32_191 v248
  let c32_i32 : BitVec 32 := 32#32
  let v250 : BitVec 32 := Scalar.muli v249 c32_i32
  let v251 : BitVec 32 := v250
  let v533 : Index := Scalar.indexCast v251
  let arg0 : BitVec 32 := BitVec.ofNat 32 (i 0).val
  let c8_i32_123 : BitVec 32 := 8#32
  let v141 : BitVec 32 := Scalar.muli arg0 c8_i32_123
  let c0_i32_125 : BitVec 32 := 0#32
  let v143 : BitVec 1 := Scalar.cmpi .sgt v141 c0_i32_125
  let v144 : BitVec 32 := Scalar.extui v143
  let c0_i32_126 : BitVec 32 := 0#32
  let v145 : BitVec 1 := Scalar.cmpi .slt v141 c0_i32_126
  let v146 : BitVec 32 := Scalar.extui v145
  let v147 : BitVec 32 := Scalar.subi v144 v146
  let c128_i32_124 : BitVec 32 := 128#32
  let c0_i32_127 : BitVec 32 := 0#32
  let v148 : BitVec 1 := Scalar.cmpi .sgt c128_i32_124 c0_i32_127
  let v149 : BitVec 32 := Scalar.extui v148
  let c0_i32_128 : BitVec 32 := 0#32
  let v150 : BitVec 1 := Scalar.cmpi .slt c128_i32_124 c0_i32_128
  let v151 : BitVec 32 := Scalar.extui v150
  let v152 : BitVec 32 := Scalar.subi v149 v151
  let v153 : BitVec 1 := Scalar.cmpi .ne v147 v152
  let v154 : BitVec 32 := Scalar.remsi v141 c128_i32_124
  let c0_i32_129 : BitVec 32 := 0#32
  let v155 : BitVec 1 := Scalar.cmpi .ne v154 c0_i32_129
  let v156 : BitVec 1 := Scalar.andi v153 v155
  let v142 : BitVec 32 := Scalar.divsi v141 c128_i32_124
  let c1_i32_130 : BitVec 32 := 1#32
  let v157 : BitVec 32 := Scalar.subi v142 c1_i32_130
  let v158 : BitVec 32 := Scalar.select v156 v157 v142
  let c128_i32_131 : BitVec 32 := 128#32
  let v159 : BitVec 32 := Scalar.muli v158 c128_i32_131
  let v160 : BitVec 32 := v159
  let v534 : Index := Scalar.indexCast v160
  ![v533.toNat, v534.toNat]
@[reducible] def k0_t5_loop : Scf.Loop 32 :=
  let c0_i32_136 : BitVec 32 := 0#32
  let c80_i32 : BitVec 32 := 80#32
  let v168 : BitVec 32 := Scalar.addi c0_i32_136 c80_i32
  let c1_i32_137 : BitVec 32 := 1#32
  ⟨c0_i32_136, v168, c1_i32_137⟩
def k0_mult8 (k0_t5 : Fin k0_t5_loop.trips) : BitVec 32 :=
  let c0_i32_191 : BitVec 32 := 0#32
  let c0_i32_136 : BitVec 32 := 0#32
  let c1_i32_137 : BitVec 32 := 1#32
  let arg31 : BitVec 32 := Scf.iv c0_i32_136 c1_i32_137 k0_t5
  let c1_i32_190 : BitVec 32 := 1#32
  let v248 : BitVec 32 := Scalar.muli arg31 c1_i32_190
  let v249 : BitVec 32 := Scalar.addi c0_i32_191 v248
  let c32_i32 : BitVec 32 := 32#32
  let v250 : BitVec 32 := Scalar.muli v249 c32_i32
  v250
def k0_off13 (k0_t5 : Fin k0_t5_loop.trips) : Fin 2 → Nat :=
  let c0_i32_191 : BitVec 32 := 0#32
  let c0_i32_136 : BitVec 32 := 0#32
  let c1_i32_137 : BitVec 32 := 1#32
  let arg31 : BitVec 32 := Scf.iv c0_i32_136 c1_i32_137 k0_t5
  let c1_i32_190 : BitVec 32 := 1#32
  let v248 : BitVec 32 := Scalar.muli arg31 c1_i32_190
  let v249 : BitVec 32 := Scalar.addi c0_i32_191 v248
  let c32_i32 : BitVec 32 := 32#32
  let v250 : BitVec 32 := Scalar.muli v249 c32_i32
  let v251 : BitVec 32 := v250
  let v252 : Index := Scalar.indexCast v251
  let c0_192 : Index := 0#32
  ![v252.toNat, 0]
def k0_off14 (k0_t5 : Fin k0_t5_loop.trips) : Fin 2 → Nat :=
  let c0_i32_191 : BitVec 32 := 0#32
  let c0_i32_136 : BitVec 32 := 0#32
  let c1_i32_137 : BitVec 32 := 1#32
  let arg31 : BitVec 32 := Scf.iv c0_i32_136 c1_i32_137 k0_t5
  let c1_i32_190 : BitVec 32 := 1#32
  let v248 : BitVec 32 := Scalar.muli arg31 c1_i32_190
  let v249 : BitVec 32 := Scalar.addi c0_i32_191 v248
  let c32_i32 : BitVec 32 := 32#32
  let v250 : BitVec 32 := Scalar.muli v249 c32_i32
  let v251 : BitVec 32 := v250
  let v526 : Index := Scalar.indexCast v251
  let c0_273 : Index := 0#32
  ![v526.toNat, 0]
def k0_off15 (i : grid0.Coords) (k0_t5 : Fin k0_t5_loop.trips) : Fin 2 → Nat :=
  let c0_i32_191 : BitVec 32 := 0#32
  let c0_i32_136 : BitVec 32 := 0#32
  let c1_i32_137 : BitVec 32 := 1#32
  let arg31 : BitVec 32 := Scf.iv c0_i32_136 c1_i32_137 k0_t5
  let c1_i32_190 : BitVec 32 := 1#32
  let v248 : BitVec 32 := Scalar.muli arg31 c1_i32_190
  let v249 : BitVec 32 := Scalar.addi c0_i32_191 v248
  let c32_i32 : BitVec 32 := 32#32
  let v250 : BitVec 32 := Scalar.muli v249 c32_i32
  let v251 : BitVec 32 := v250
  let v532 : Index := Scalar.indexCast v251
  let arg0 : BitVec 32 := BitVec.ofNat 32 (i 0).val
  let c8_i32_123 : BitVec 32 := 8#32
  let v141 : BitVec 32 := Scalar.muli arg0 c8_i32_123
  let c0_i32_125 : BitVec 32 := 0#32
  let v143 : BitVec 1 := Scalar.cmpi .sgt v141 c0_i32_125
  let v144 : BitVec 32 := Scalar.extui v143
  let c0_i32_126 : BitVec 32 := 0#32
  let v145 : BitVec 1 := Scalar.cmpi .slt v141 c0_i32_126
  let v146 : BitVec 32 := Scalar.extui v145
  let v147 : BitVec 32 := Scalar.subi v144 v146
  let c128_i32_124 : BitVec 32 := 128#32
  let c0_i32_127 : BitVec 32 := 0#32
  let v148 : BitVec 1 := Scalar.cmpi .sgt c128_i32_124 c0_i32_127
  let v149 : BitVec 32 := Scalar.extui v148
  let c0_i32_128 : BitVec 32 := 0#32
  let v150 : BitVec 1 := Scalar.cmpi .slt c128_i32_124 c0_i32_128
  let v151 : BitVec 32 := Scalar.extui v150
  let v152 : BitVec 32 := Scalar.subi v149 v151
  let v153 : BitVec 1 := Scalar.cmpi .ne v147 v152
  let v154 : BitVec 32 := Scalar.remsi v141 c128_i32_124
  let c0_i32_129 : BitVec 32 := 0#32
  let v155 : BitVec 1 := Scalar.cmpi .ne v154 c0_i32_129
  let v156 : BitVec 1 := Scalar.andi v153 v155
  let v142 : BitVec 32 := Scalar.divsi v141 c128_i32_124
  let c1_i32_130 : BitVec 32 := 1#32
  let v157 : BitVec 32 := Scalar.subi v142 c1_i32_130
  let v158 : BitVec 32 := Scalar.select v156 v157 v142
  let c128_i32_131 : BitVec 32 := 128#32
  let v159 : BitVec 32 := Scalar.muli v158 c128_i32_131
  let v160 : BitVec 32 := v159
  let v533 : Index := Scalar.indexCast v160
  ![v532.toNat, v533.toNat]
def k0_cond3 (i : grid0.Coords) : BitVec 1 :=
  let arg0 : BitVec 32 := BitVec.ofNat 32 (i 0).val
  let c27_i32_3 : BitVec 32 := 27#32
  let v8 : BitVec 1 := Scalar.cmpi .eq arg0 c27_i32_3
  let v9 : BitVec 32 := Scalar.extui v8
  let c0_i32_4 : BitVec 32 := 0#32
  let v10 : BitVec 1 := Scalar.cmpi .ne v9 c0_i32_4
  v10

@[reducible] def k0_t6_loop : Scf.Loop 32 :=
  let c0_i32_86 : BitVec 32 := 0#32
  let c28_i32 : BitVec 32 := 28#32
  let v94 : BitVec 32 := Scalar.addi c0_i32_86 c28_i32
  let c1_i32 : BitVec 32 := 1#32
  ⟨c0_i32_86, v94, c1_i32⟩
def k0_mult9 (k0_t6 : Fin k0_t6_loop.trips) : BitVec 32 :=
  let c0_i32_113 : BitVec 32 := 0#32
  let c0_i32_86 : BitVec 32 := 0#32
  let c1_i32 : BitVec 32 := 1#32
  let arg31 : BitVec 32 := Scf.iv c0_i32_86 c1_i32 k0_t6
  let c1_i32_112 : BitVec 32 := 1#32
  let v115 : BitVec 32 := Scalar.muli arg31 c1_i32_112
  let v116 : BitVec 32 := Scalar.addi c0_i32_113 v115
  let c64_i32 : BitVec 32 := 64#32
  let v117 : BitVec 32 := Scalar.muli v116 c64_i32
  v117
def k0_off16 (k0_t6 : Fin k0_t6_loop.trips) : Fin 2 → Nat :=
  let c0_i32_113 : BitVec 32 := 0#32
  let c0_i32_86 : BitVec 32 := 0#32
  let c1_i32 : BitVec 32 := 1#32
  let arg31 : BitVec 32 := Scf.iv c0_i32_86 c1_i32 k0_t6
  let c1_i32_112 : BitVec 32 := 1#32
  let v115 : BitVec 32 := Scalar.muli arg31 c1_i32_112
  let v116 : BitVec 32 := Scalar.addi c0_i32_113 v115
  let c64_i32 : BitVec 32 := 64#32
  let v117 : BitVec 32 := Scalar.muli v116 c64_i32
  let v118 : BitVec 32 := v117
  let v119 : Index := Scalar.indexCast v118
  let c0_114 : Index := 0#32
  ![v119.toNat, 0]
def k0_mult10 (k0_t6 : Fin k0_t6_loop.trips) : BitVec 32 :=
  let c0_i32_113 : BitVec 32 := 0#32
  let c0_i32_86 : BitVec 32 := 0#32
  let c1_i32 : BitVec 32 := 1#32
  let arg31 : BitVec 32 := Scf.iv c0_i32_86 c1_i32 k0_t6
  let c1_i32_112 : BitVec 32 := 1#32
  let v115 : BitVec 32 := Scalar.muli arg31 c1_i32_112
  let v116 : BitVec 32 := Scalar.addi c0_i32_113 v115
  let c32_i32 : BitVec 32 := 32#32
  let v357 : BitVec 32 := Scalar.muli v116 c32_i32
  v357
def k0_off17 (k0_t6 : Fin k0_t6_loop.trips) : Fin 2 → Nat :=
  let c0_i32_113 : BitVec 32 := 0#32
  let c0_i32_86 : BitVec 32 := 0#32
  let c1_i32 : BitVec 32 := 1#32
  let arg31 : BitVec 32 := Scf.iv c0_i32_86 c1_i32 k0_t6
  let c1_i32_112 : BitVec 32 := 1#32
  let v115 : BitVec 32 := Scalar.muli arg31 c1_i32_112
  let v116 : BitVec 32 := Scalar.addi c0_i32_113 v115
  let c32_i32 : BitVec 32 := 32#32
  let v357 : BitVec 32 := Scalar.muli v116 c32_i32
  let v358 : BitVec 32 := v357
  let v359 : Index := Scalar.indexCast v358
  let c0_192 : Index := 0#32
  ![v359.toNat, 0]
def k0_off18 (k0_t6 : Fin k0_t6_loop.trips) (c0_i32_194 : BitVec 32) : Fin 2 → Nat :=
  let c2_i32_193 : BitVec 32 := 2#32
  let c0_i32_113 : BitVec 32 := 0#32
  let c0_i32_86 : BitVec 32 := 0#32
  let c1_i32 : BitVec 32 := 1#32
  let arg31 : BitVec 32 := Scf.iv c0_i32_86 c1_i32 k0_t6
  let c1_i32_112 : BitVec 32 := 1#32
  let v115 : BitVec 32 := Scalar.muli arg31 c1_i32_112
  let v116 : BitVec 32 := Scalar.addi c0_i32_113 v115
  let v361 : BitVec 32 := Scalar.muli c2_i32_193 v116
  let v362 : BitVec 32 := Scalar.addi v361 c0_i32_194
  let v363 : Index := Scalar.indexCast v362
  let c0_195 : Index := 0#32
  ![v363.toNat, 0]
def k0_cond4 (i : grid0.Coords) : BitVec 1 :=
  let arg0 : BitVec 32 := BitVec.ofNat 32 (i 0).val
  let c27_i32_5 : BitVec 32 := 27#32
  let v11 : BitVec 1 := Scalar.cmpi .sgt arg0 c27_i32_5
  let v12 : BitVec 32 := Scalar.extui v11
  let c0_i32_6 : BitVec 32 := 0#32
  let v13 : BitVec 1 := Scalar.cmpi .ne v12 c0_i32_6
  v13

def k0_mult11 (i : grid0.Coords) : BitVec 32 :=
  let arg0 : BitVec 32 := BitVec.ofNat 32 (i 0).val
  let c27_i32_7 : BitVec 32 := 27#32
  let v14 : BitVec 32 := Scalar.subi arg0 c27_i32_7
  let c1_i32 : BitVec 32 := 1#32
  let v15 : BitVec 32 := Scalar.subi v14 c1_i32
  let c256_i32 : BitVec 32 := 256#32
  let v16 : BitVec 32 := Scalar.muli v15 c256_i32
  v16
def k0_off19 (i : grid0.Coords) : Fin 2 → Nat :=
  let arg0 : BitVec 32 := BitVec.ofNat 32 (i 0).val
  let c27_i32_7 : BitVec 32 := 27#32
  let v14 : BitVec 32 := Scalar.subi arg0 c27_i32_7
  let c1_i32 : BitVec 32 := 1#32
  let v15 : BitVec 32 := Scalar.subi v14 c1_i32
  let c256_i32 : BitVec 32 := 256#32
  let v16 : BitVec 32 := Scalar.muli v15 c256_i32
  let v17 : BitVec 32 := v16
  let v18 : Index := Scalar.indexCast v17
  let c0 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c26_i32 : BitVec 32 := 26#32
  let v1 : BitVec 32 := Scalar.maxsi c0_i32 v0
  let v2 : BitVec 32 := Scalar.minsi c26_i32 v1
  let c0_i32_0 : BitVec 32 := 0#32
  let c0_i32_1 : BitVec 32 := 0#32
  ![c0_i32_0.toNat, v2.toNat]

def cc0_transform_10 (i : grid0.Coords) : Fin 2 → Nat :=
  let arg0 : BitVec 32 := BitVec.ofNat 32 (i 0).val
  let c27_i32 : BitVec 32 := 27#32
  let v0 : BitVec 32 := Scalar.subi arg0 c27_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c26_i32 : BitVec 32 := 26#32
  let v1 : BitVec 32 := Scalar.maxsi c0_i32 v0
  let v2 : BitVec 32 := Scalar.minsi c26_i32 v1
  let c0_i32_0 : BitVec 32 := 0#32
  let c0_i32_1 : BitVec 32 := 0#32
  ![c0_i32_0.toNat, v2.toNat]

def cc0_transform_12 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c26_i32 : BitVec 32 := 26#32
  let v1 : BitVec 32 := Scalar.maxsi c0_i32 v0
  let v2 : BitVec 32 := Scalar.minsi c26_i32 v1
  let c0_i32_0 : BitVec 32 := 0#32
  let c0_i32_1 : BitVec 32 := 0#32
  ![c0_i32_0.toNat, v2.toNat]

def cc0_transform_17 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c26_i32 : BitVec 32 := 26#32
  let v1 : BitVec 32 := Scalar.maxsi c0_i32 v0
  let v2 : BitVec 32 := Scalar.minsi c26_i32 v1
  let c0_i32_0 : BitVec 32 := 0#32
  let c0_i32_1 : BitVec 32 := 0#32
  let c0_i32_2 : BitVec 32 := 0#32
  ![c0_i32_0.toNat, c0_i32_1.toNat, v2.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2560x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1792x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2560x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1792x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2560x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1792x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1792x216 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2560x128 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2560x216 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S896x256 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x28x256 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "inv_ln2" => some (((Real.log 2)⁻¹ : ℝ) : EReal)
  | "quant_scale" => some ((35589849 / 33554432 : ℝ) : EReal)
  | _ => none
-- ==== ReferenceIdeal.lean ====
abbrev S2560x1792 : Shape := ⟨2, ![2560, 1792]⟩
abbrev S2x896x6912 : Shape := ⟨3, ![2, 896, 6912]⟩
abbrev S2560x6912 : Shape := ⟨2, ![2560, 6912]⟩
abbrev S6912 : Shape := ⟨1, ![6912]⟩
abbrev S2x896 : Shape := ⟨2, ![2, 896]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1x1x6912 : Shape := ⟨3, ![1, 1, 6912]⟩
abbrev S2x896x216x32 : Shape := ⟨4, ![2, 896, 216, 32]⟩
abbrev S2x896x216 : Shape := ⟨3, ![2, 896, 216]⟩
abbrev S2x896x216x1 : Shape := ⟨4, ![2, 896, 216, 1]⟩
abbrev S1x6912 : Shape := ⟨2, ![1, 6912]⟩
abbrev S2560x216x32 : Shape := ⟨3, ![2560, 216, 32]⟩
abbrev S2560x216 : Shape := ⟨2, ![2560, 216]⟩
abbrev S2560x216x1 : Shape := ⟨3, ![2560, 216, 1]⟩
abbrev S2x896x2560 : Shape := ⟨3, ![2, 896, 2560]⟩
abbrev S2x896x1 : Shape := ⟨3, ![2, 896, 1]⟩
abbrev S2x28x32x6912 : Shape := ⟨4, ![2, 28, 32, 6912]⟩
abbrev S2x28x6912x32 : Shape := ⟨4, ![2, 28, 6912, 32]⟩
abbrev S2x28x6912 : Shape := ⟨3, ![2, 28, 6912]⟩
abbrev S2x28x1x6912 : Shape := ⟨4, ![2, 28, 1, 6912]⟩
abbrev S1792x6912 : Shape := ⟨2, ![1792, 6912]⟩
abbrev S1792x2560 : Shape := ⟨2, ![1792, 2560]⟩

abbrev nBuf : Space → Nat
  | .hbm => 276
  | .vmem => 0
  | .smem => 0
  | _ => 0

abbrev hbmTy0_0 (i : Nat) : BufTy := match i % 128 with
  | 0 => ⟨S2560x1792, .bf16⟩
  | 1 => ⟨S2x896x6912, .bf16⟩
  | 2 => ⟨S2560x6912, .bf16⟩
  | 3 => ⟨S6912, .f32⟩
  | 4 => ⟨S2x896, .f32⟩
  | 5 => ⟨S2x896x6912, .i8⟩
  | 6 => ⟨S2560x6912, .i8⟩
  | 7 => ⟨S2x896x6912, .i8⟩
  | 8 => ⟨S32, .i32⟩
  | 9 => ⟨S32x1, .i32⟩
  | 10 => ⟨S1x32, .i32⟩
  | 11 => ⟨S32x32, .i32⟩
  | 12 => ⟨S32x32, .i32⟩
  | 13 => ⟨S32x32, .i32⟩
  | 14 => ⟨S32x32, .i32⟩
  | 15 => ⟨S_, .i32⟩
  | 16 => ⟨S32x32, .i32⟩
  | 17 => ⟨S32x32, .i32⟩
  | 18 => ⟨S_, .i32⟩
  | 19 => ⟨S32x32, .i32⟩
  | 20 => ⟨S32x32, .i1⟩
  | 21 => ⟨S_, .f32⟩
  | 22 => ⟨S_, .f32⟩
  | 23 => ⟨S_, .f32⟩
  | 24 => ⟨S32x32, .f32⟩
  | 25 => ⟨S32x32, .f32⟩
  | 26 => ⟨S32x32, .f32⟩
  | 27 => ⟨S2x896x6912, .f32⟩
  | 28 => ⟨S1x1x6912, .f32⟩
  | 29 => ⟨S2x896x6912, .f32⟩
  | 30 => ⟨S2x896x6912, .f32⟩
  | 31 => ⟨S2x896x216x32, .f32⟩
  | 32 => ⟨S2x896x216x32, .f32⟩
  | 33 => ⟨S2x896x216x32, .i8⟩
  | 34 => ⟨S_, .f32⟩
  | 35 => ⟨S_, .f32⟩
  | 36 => ⟨S2x896x216x32, .f32⟩
  | 37 => ⟨S_, .f32⟩
  | 38 => ⟨S2x896x216, .f32⟩
  | 39 => ⟨S2x896x216x1, .f32⟩
  | 40 => ⟨S_, .f32⟩
  | 41 => ⟨S2x896x216x1, .f32⟩
  | 42 => ⟨S2x896x216x1, .i1⟩
  | 43 => ⟨S2x896x216x1, .f32⟩
  | 44 => ⟨S2x896x216x1, .f32⟩
  | 45 => ⟨S2x896x216x1, .f32⟩
  | 46 => ⟨S2x896x216x1, .f32⟩
  | 47 => ⟨S_, .f32⟩
  | 48 => ⟨S2x896x216x1, .f32⟩
  | 49 => ⟨S2x896x216x1, .f32⟩
  | 50 => ⟨S_, .f32⟩
  | 51 => ⟨S2x896x216x1, .f32⟩
  | 52 => ⟨S2x896x216x1, .f32⟩
  | 53 => ⟨S2x896x216x1, .f32⟩
  | 54 => ⟨S2x896x216x1, .f32⟩
  | 55 => ⟨S2x896x216x1, .f32⟩
  | 56 => ⟨S2x896x216x1, .f32⟩
  | 57 => ⟨S_, .f32⟩
  | 58 => ⟨S2x896x216x1, .f32⟩
  | 59 => ⟨S2x896x216x1, .f32⟩
  | 60 => ⟨S2x896x216x32, .f32⟩
  | 61 => ⟨S2x896x216x32, .f32⟩
  | 62 => ⟨S2x896x216x32, .f32⟩
  | 63 => ⟨S_, .f32⟩
  | 64 => ⟨S2x896x216x32, .f32⟩
  | 65 => ⟨S2x896x216x32, .i1⟩
  | 66 => ⟨S_, .f32⟩
  | 67 => ⟨S2x896x216x32, .f32⟩
  | 68 => ⟨S2x896x216x32, .i1⟩
  | 69 => ⟨S_, .f32⟩
  | 70 => ⟨S_, .f32⟩
  | 71 => ⟨S2x896x216x32, .f32⟩
  | 72 => ⟨S2x896x216x32, .f32⟩
  | 73 => ⟨S2x896x216x32, .f32⟩
  | 74 => ⟨S_, .f32⟩
  | 75 => ⟨S2x896x216x32, .f32⟩
  | 76 => ⟨S2x896x216x32, .f32⟩
  | 77 => ⟨S2x896x216x32, .f32⟩
  | 78 => ⟨S2x896x216x32, .f32⟩
  | 79 => ⟨S2x896x216x32, .f32⟩
  | 80 => ⟨S2x896x216x32, .f32⟩
  | 81 => ⟨S2x896x216x32, .f32⟩
  | 82 => ⟨S2x896x216x32, .i32⟩
  | 83 => ⟨S2x896x216x32, .f32⟩
  | 84 => ⟨S_, .f32⟩
  | 85 => ⟨S2x896x216x32, .f32⟩
  | 86 => ⟨S2x896x216x32, .f32⟩
  | 87 => ⟨S_, .f32⟩
  | 88 => ⟨S2x896x216x32, .f32⟩
  | 89 => ⟨S2x896x216x32, .f32⟩
  | 90 => ⟨S2x896x216x32, .i1⟩
  | 91 => ⟨S2x896x216x32, .f32⟩
  | 92 => ⟨S2x896x216x32, .f32⟩
  | 93 => ⟨S_, .f32⟩
  | 94 => ⟨S2x896x216x32, .f32⟩
  | 95 => ⟨S2x896x216x32, .i1⟩
  | 96 => ⟨S2x896x216x32, .f32⟩
  | 97 => ⟨S2x896x216x32, .f32⟩
  | 98 => ⟨S2x896x216x32, .bf16⟩
  | 99 => ⟨S2x896x216x1, .f32⟩
  | 100 => ⟨S2x896x216x1, .f32⟩
  | 101 => ⟨S2x896x216x1, .f32⟩
  | 102 => ⟨S2x896x216x1, .bf16⟩
  | 103 => ⟨S2x896x216x32, .bf16⟩
  | 104 => ⟨S2x896x216x32, .bf16⟩
  | 105 => ⟨S2560x6912, .f32⟩
  | 106 => ⟨S1x6912, .f32⟩
  | 107 => ⟨S2560x6912, .f32⟩
  | 108 => ⟨S2560x6912, .f32⟩
  | 109 => ⟨S2560x216x32, .f32⟩
  | 110 => ⟨S2560x216x32, .f32⟩
  | 111 => ⟨S2560x216x32, .i8⟩
  | 112 => ⟨S_, .f32⟩
  | 113 => ⟨S_, .f32⟩
  | 114 => ⟨S2560x216x32, .f32⟩
  | 115 => ⟨S_, .f32⟩
  | 116 => ⟨S2560x216, .f32⟩
  | 117 => ⟨S2560x216x1, .f32⟩
  | 118 => ⟨S_, .f32⟩
  | 119 => ⟨S2560x216x1, .f32⟩
  | 120 => ⟨S2560x216x1, .i1⟩
  | 121 => ⟨S2560x216x1, .f32⟩
  | 122 => ⟨S2560x216x1, .f32⟩
  | 123 => ⟨S2560x216x1, .f32⟩
  | 124 => ⟨S2560x216x1, .f32⟩
  | 125 => ⟨S_, .f32⟩
  | 126 => ⟨S2560x216x1, .f32⟩
  | 127 => ⟨S2560x216x1, .f32⟩
  | _ => ⟨S2560x1792, .bf16⟩

abbrev hbmTy0_1 (i : Nat) : BufTy := match i % 128 with
  | 0 => ⟨S_, .f32⟩
  | 1 => ⟨S2560x216x1, .f32⟩
  | 2 => ⟨S2560x216x1, .f32⟩
  | 3 => ⟨S2560x216x1, .f32⟩
  | 4 => ⟨S2560x216x1, .f32⟩
  | 5 => ⟨S2560x216x1, .f32⟩
  | 6 => ⟨S2560x216x1, .f32⟩
  | 7 => ⟨S_, .f32⟩
  | 8 => ⟨S2560x216x1, .f32⟩
  | 9 => ⟨S2560x216x1, .f32⟩
  | 10 => ⟨S2560x216x32, .f32⟩
  | 11 => ⟨S2560x216x32, .f32⟩
  | 12 => ⟨S2560x216x32, .f32⟩
  | 13 => ⟨S_, .f32⟩
  | 14 => ⟨S2560x216x32, .f32⟩
  | 15 => ⟨S2560x216x32, .i1⟩
  | 16 => ⟨S_, .f32⟩
  | 17 => ⟨S2560x216x32, .f32⟩
  | 18 => ⟨S2560x216x32, .i1⟩
  | 19 => ⟨S_, .f32⟩
  | 20 => ⟨S_, .f32⟩
  | 21 => ⟨S2560x216x32, .f32⟩
  | 22 => ⟨S2560x216x32, .f32⟩
  | 23 => ⟨S2560x216x32, .f32⟩
  | 24 => ⟨S_, .f32⟩
  | 25 => ⟨S2560x216x32, .f32⟩
  | 26 => ⟨S2560x216x32, .f32⟩
  | 27 => ⟨S2560x216x32, .f32⟩
  | 28 => ⟨S2560x216x32, .f32⟩
  | 29 => ⟨S2560x216x32, .f32⟩
  | 30 => ⟨S2560x216x32, .f32⟩
  | 31 => ⟨S2560x216x32, .f32⟩
  | 32 => ⟨S2560x216x32, .i32⟩
  | 33 => ⟨S2560x216x32, .f32⟩
  | 34 => ⟨S_, .f32⟩
  | 35 => ⟨S2560x216x32, .f32⟩
  | 36 => ⟨S2560x216x32, .f32⟩
  | 37 => ⟨S_, .f32⟩
  | 38 => ⟨S2560x216x32, .f32⟩
  | 39 => ⟨S2560x216x32, .f32⟩
  | 40 => ⟨S2560x216x32, .i1⟩
  | 41 => ⟨S2560x216x32, .f32⟩
  | 42 => ⟨S2560x216x32, .f32⟩
  | 43 => ⟨S_, .f32⟩
  | 44 => ⟨S2560x216x32, .f32⟩
  | 45 => ⟨S2560x216x32, .i1⟩
  | 46 => ⟨S2560x216x32, .f32⟩
  | 47 => ⟨S2560x216x32, .f32⟩
  | 48 => ⟨S2560x216x32, .bf16⟩
  | 49 => ⟨S2560x216x1, .f32⟩
  | 50 => ⟨S2560x216x1, .f32⟩
  | 51 => ⟨S2560x216x1, .f32⟩
  | 52 => ⟨S2560x216x1, .bf16⟩
  | 53 => ⟨S2560x216x32, .bf16⟩
  | 54 => ⟨S2560x216x32, .bf16⟩
  | 55 => ⟨S2x896x2560, .f32⟩
  | 56 => ⟨S_, .f32⟩
  | 57 => ⟨S2x896x2560, .f32⟩
  | 58 => ⟨S2x896x2560, .f32⟩
  | 59 => ⟨S2x896x2560, .bf16⟩
  | 60 => ⟨S2x896x6912, .f32⟩
  | 61 => ⟨S2x896x1, .f32⟩
  | 62 => ⟨S2x896x6912, .f32⟩
  | 63 => ⟨S2x896x6912, .f32⟩
  | 64 => ⟨S2x28x32x6912, .f32⟩
  | 65 => ⟨S2x28x6912x32, .f32⟩
  | 66 => ⟨S2x28x32x6912, .f32⟩
  | 67 => ⟨S2x28x32x6912, .i8⟩
  | 68 => ⟨S_, .f32⟩
  | 69 => ⟨S_, .f32⟩
  | 70 => ⟨S2x28x32x6912, .f32⟩
  | 71 => ⟨S_, .f32⟩
  | 72 => ⟨S2x28x6912, .f32⟩
  | 73 => ⟨S2x28x1x6912, .f32⟩
  | 74 => ⟨S_, .f32⟩
  | 75 => ⟨S2x28x1x6912, .f32⟩
  | 76 => ⟨S2x28x1x6912, .i1⟩
  | 77 => ⟨S2x28x1x6912, .f32⟩
  | 78 => ⟨S2x28x1x6912, .f32⟩
  | 79 => ⟨S2x28x1x6912, .f32⟩
  | 80 => ⟨S2x28x1x6912, .f32⟩
  | 81 => ⟨S_, .f32⟩
  | 82 => ⟨S2x28x1x6912, .f32⟩
  | 83 => ⟨S2x28x1x6912, .f32⟩
  | 84 => ⟨S_, .f32⟩
  | 85 => ⟨S2x28x1x6912, .f32⟩
  | 86 => ⟨S2x28x1x6912, .f32⟩
  | 87 => ⟨S2x28x1x6912, .f32⟩
  | 88 => ⟨S2x28x1x6912, .f32⟩
  | 89 => ⟨S2x28x1x6912, .f32⟩
  | 90 => ⟨S2x28x1x6912, .f32⟩
  | 91 => ⟨S_, .f32⟩
  | 92 => ⟨S2x28x1x6912, .f32⟩
  | 93 => ⟨S2x28x1x6912, .f32⟩
  | 94 => ⟨S2x28x32x6912, .f32⟩
  | 95 => ⟨S2x28x32x6912, .f32⟩
  | 96 => ⟨S2x28x32x6912, .f32⟩
  | 97 => ⟨S_, .f32⟩
  | 98 => ⟨S2x28x32x6912, .f32⟩
  | 99 => ⟨S2x28x32x6912, .i1⟩
  | 100 => ⟨S_, .f32⟩
  | 101 => ⟨S2x28x32x6912, .f32⟩
  | 102 => ⟨S2x28x32x6912, .i1⟩
  | 103 => ⟨S_, .f32⟩
  | 104 => ⟨S_, .f32⟩
  | 105 => ⟨S2x28x32x6912, .f32⟩
  | 106 => ⟨S2x28x32x6912, .f32⟩
  | 107 => ⟨S2x28x32x6912, .f32⟩
  | 108 => ⟨S_, .f32⟩
  | 109 => ⟨S2x28x32x6912, .f32⟩
  | 110 => ⟨S2x28x32x6912, .f32⟩
  | 111 => ⟨S2x28x32x6912, .f32⟩
  | 112 => ⟨S2x28x32x6912, .f32⟩
  | 113 => ⟨S2x28x32x6912, .f32⟩
  | 114 => ⟨S2x28x32x6912, .f32⟩
  | 115 => ⟨S2x28x32x6912, .f32⟩
  | 116 => ⟨S2x28x32x6912, .i32⟩
  | 117 => ⟨S2x28x32x6912, .f32⟩
  | 118 => ⟨S_, .f32⟩
  | 119 => ⟨S2x28x32x6912, .f32⟩
  | 120 => ⟨S2x28x32x6912, .f32⟩
  | 121 => ⟨S_, .f32⟩
  | 122 => ⟨S2x28x32x6912, .f32⟩
  | 123 => ⟨S2x28x32x6912, .f32⟩
  | 124 => ⟨S2x28x32x6912, .i1⟩
  | 125 => ⟨S2x28x32x6912, .f32⟩
  | 126 => ⟨S2x28x32x6912, .f32⟩
  | 127 => ⟨S_, .f32⟩
  | _ => ⟨S2560x1792, .bf16⟩

abbrev hbmTy0_2 (i : Nat) : BufTy := match i % 128 with
  | 0 => ⟨S2x28x32x6912, .f32⟩
  | 1 => ⟨S2x28x32x6912, .i1⟩
  | 2 => ⟨S2x28x32x6912, .f32⟩
  | 3 => ⟨S2x28x32x6912, .f32⟩
  | 4 => ⟨S2x28x32x6912, .bf16⟩
  | 5 => ⟨S2x28x1x6912, .f32⟩
  | 6 => ⟨S2x28x1x6912, .f32⟩
  | 7 => ⟨S2x28x1x6912, .f32⟩
  | 8 => ⟨S2x28x1x6912, .bf16⟩
  | 9 => ⟨S2x28x32x6912, .bf16⟩
  | 10 => ⟨S2x28x32x6912, .bf16⟩
  | 11 => ⟨S1792x6912, .bf16⟩
  | 12 => ⟨S2560x6912, .f32⟩
  | 13 => ⟨S_, .f32⟩
  | 14 => ⟨S2560x6912, .f32⟩
  | 15 => ⟨S2560x6912, .f32⟩
  | 16 => ⟨S1792x2560, .bf16⟩
  | 17 => ⟨S2x28x6912, .f32⟩
  | 18 => ⟨S2x28x6912, .i32⟩
  | 19 => ⟨S2x28x6912, .i8⟩
  | _ => ⟨S2560x1792, .bf16⟩

abbrev hbmTy (i : Nat) : BufTy := match i / 128 with
  | 0 => hbmTy0_0 i
  | 1 => hbmTy0_1 i
  | 2 => hbmTy0_2 i
  | _ => ⟨S2560x1792, .bf16⟩

abbrev bufTy : (tb : Table) → Fin (tcTables nBuf tb) → BufTy
  | .hbm, ⟨i, _⟩ => hbmTy i
  | _, _ => ⟨S2560x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_call1_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_cst_11 : Ref sig .tc := ⟨.hbm, 70, rfl⟩
abbrev main_call2_v0 : Ref sig .tc := ⟨.hbm, 71, rfl⟩
abbrev main_call2_v1 : Ref sig .tc := ⟨.hbm, 72, rfl⟩
abbrev main_v46 : Ref sig .tc := ⟨.hbm, 73, rfl⟩
abbrev main_cst_12 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_16 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_cst_18 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_19 : Ref sig .tc := ⟨.hbm, 125, rfl⟩
abbrev main_v90 : Ref sig .tc := ⟨.hbm, 126, rfl⟩
abbrev main_v91 : Ref sig .tc := ⟨.hbm, 127, rfl⟩
abbrev main_cst_20 : Ref sig .tc := ⟨.hbm, 128, rfl⟩
abbrev main_call6_v0 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_22 : Ref sig .tc := ⟨.hbm, 141, rfl⟩
abbrev main_v102 : Ref sig .tc := ⟨.hbm, 142, rfl⟩
abbrev main_v103 : Ref sig .tc := ⟨.hbm, 143, rfl⟩
abbrev main_cst_23 : Ref sig .tc := ⟨.hbm, 144, rfl⟩
abbrev main_v104 : Ref sig .tc := ⟨.hbm, 145, rfl⟩
abbrev main_v105 : Ref sig .tc := ⟨.hbm, 146, rfl⟩
abbrev main_cst_24 : Ref sig .tc := ⟨.hbm, 147, rfl⟩
abbrev main_cst_25 : Ref sig .tc := ⟨.hbm, 148, rfl⟩
abbrev main_call7_v0 : Ref sig .tc := ⟨.hbm, 149, rfl⟩
abbrev main_call7_v1 : Ref sig .tc := ⟨.hbm, 150, rfl⟩
abbrev main_v106 : Ref sig .tc := ⟨.hbm, 151, rfl⟩
abbrev main_cst_26 : Ref sig .tc := ⟨.hbm, 152, rfl⟩
abbrev main_call8_v0 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_27 : Ref sig .tc := ⟨.hbm, 162, rfl⟩
abbrev main_v115 : Ref sig .tc := ⟨.hbm, 163, rfl⟩
abbrev main_v116 : Ref sig .tc := ⟨.hbm, 164, rfl⟩
abbrev main_cst_28 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_29 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_30 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_31 : Ref sig .tc := ⟨.hbm, 196, rfl⟩
abbrev main_v145 : Ref sig .tc := ⟨.hbm, 197, rfl⟩
abbrev main_v146 : Ref sig .tc := ⟨.hbm, 198, rfl⟩
abbrev main_cst_32 : Ref sig .tc := ⟨.hbm, 199, rfl⟩
abbrev main_v147 : Ref sig .tc := ⟨.hbm, 200, rfl⟩
abbrev main_v148 : Ref sig .tc := ⟨.hbm, 201, rfl⟩
abbrev main_cst_33 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_34 : Ref sig .tc := ⟨.hbm, 209, rfl⟩
abbrev main_v155 : Ref sig .tc := ⟨.hbm, 210, rfl⟩
abbrev main_v156 : Ref sig .tc := ⟨.hbm, 211, rfl⟩
abbrev main_cst_35 : Ref sig .tc := ⟨.hbm, 212, rfl⟩
abbrev main_call11_v0 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_36 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_37 : Ref sig .tc := ⟨.hbm, 225, rfl⟩
abbrev main_v167 : Ref sig .tc := ⟨.hbm, 226, rfl⟩
abbrev main_v168 : Ref sig .tc := ⟨.hbm, 227, rfl⟩
abbrev main_cst_38 : Ref sig .tc := ⟨.hbm, 228, rfl⟩
abbrev main_v169 : Ref sig .tc := ⟨.hbm, 229, rfl⟩
abbrev main_v170 : Ref sig .tc := ⟨.hbm, 230, rfl⟩
abbrev main_cst_39 : Ref sig .tc := ⟨.hbm, 231, rfl⟩
abbrev main_cst_40 : Ref sig .tc := ⟨.hbm, 232, rfl⟩
abbrev main_call12_v0 : Ref sig .tc := ⟨.hbm, 233, rfl⟩
abbrev main_call12_v1 : Ref sig .tc := ⟨.hbm, 234, rfl⟩
abbrev main_v171 : Ref sig .tc := ⟨.hbm, 235, rfl⟩
abbrev main_cst_41 : Ref sig .tc := ⟨.hbm, 236, rfl⟩
abbrev main_call13_v0 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_cst_42 : Ref sig .tc := ⟨.hbm, 246, rfl⟩
abbrev main_v180 : Ref sig .tc := ⟨.hbm, 247, rfl⟩
abbrev main_v181 : Ref sig .tc := ⟨.hbm, 248, rfl⟩
abbrev main_cst_43 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_cst_44 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_cst_45 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩

abbrev nD : Nat := 1
abbrev τ : Topo := Topo.v7x

variable {F : FTy → Type} [FloatOps F]
-- ==== Proof.AnyLoops.lean ====
/-
  The counted loops of the backward kernel, at the algebra the transfer steps run in: every buffer a trip touches is
  held at some contents before and after it.
-/
module

public import proofs.«01_k».proof.Proof.Gen.Kernel.Loops
public import Idealize.ShloMosaic.Lib.Pipeline.Frame
public import Idealize.ShloMosaic.Lib.Transfers

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- A memref's buffer on core `c`, held whole at some contents. -/
abbrev anyAt (c : Dev nD) {S : Shape} {e : EltTy} (M : Memref sig .tc .vmem S e) : sProp 𝕄 :=
  iprop(∃ f, M.view.loc (c : Thread nD τ) ↦[M.view.set]{fullShare} f)

variable (c : Dev nD)
  (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg5 : Memref sig .tc .hbm S2560x1792 .bf16)
  (harg5 : arg5.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)
  (arg19 : Memref sig .tc .vmem S2560x1792 .bf16)
  (harg19 : arg19.IsWhole)
  (arg20 : Memref sig .tc .vmem S1792x2560 .f32)
  (harg20 : arg20.IsWhole)
  (arg21 : Memref sig .tc .vmem S1792x256 .f32)
  (harg21 : arg21.IsWhole)
  (arg22 : Memref sig .tc .vmem S2560x256 .f32)
  (harg22 : arg22.IsWhole)
  (arg23 : Memref sig .tc .vmem S1792x256 .f32)
  (harg23 : arg23.IsWhole)
  (arg24 : Memref sig .tc .vmem S1792x256 .bf16)
  (harg24 : arg24.IsWhole)
  (arg25 : Memref sig .tc .vmem S2560x256 .bf16)
  (harg25 : arg25.IsWhole)
  (arg26 : Memref sig .tc .vmem S1792x256 .bf16)
  (harg26 : arg26.IsWhole)
  (arg27 : Memref sig .tc .vmem S56x256 .i32)
  (harg27 : arg27.IsWhole)
  (arg28 : Memref sig .tc .vmem S1792x256 .i8)
  (harg28 : arg28.IsWhole)
  (arg29 : Memref sig .tc .vmem S2560x256 .i8)
  (harg29 : arg29.IsWhole)
  (arg30 : DmaSems sig S_)

/-- The loop over the row groups of dy (first point): all it touches stays held, at some contents. -/
@[sl_loop, instance_reducible]
def anyLoop1 (arg0 : BitVec 32) (k0_h1 : k0_cond1 i = 1#1) (v36 : IVec S8x128 32) (v39 : BitVec 32) (v40 : BitVec 32) (v45 : BitVec 1) :
    LoopInvTy_k0_t1 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg0 k0_h1 v36 v39 v40 v45 where
  inv _ _ := iprop(anyAt c arg8 ∗ anyAt c arg21 ∗ anyAt c arg13 ∗ anyAt c arg24 ∗ anyAt c arg28)
  step k _ := by
    have hk : k.val < 56 := Nat.lt_of_lt_of_le k.isLt k0_t1_abs.2.1
    unfold k0_t1_body
    iintro ⟨⟨%f8, H8⟩, ⟨%f21, H21⟩, ⟨%f13, H13⟩, ⟨%f24, H24⟩, ⟨%f28, H28⟩⟩
    sl_exec
    sl_step
    sl_close

/-- The loop over the row groups of w (first point): all it touches stays held, at some contents. -/
@[sl_loop, instance_reducible]
def anyLoop2 (arg0 : BitVec 32) (k0_h1 : k0_cond1 i = 1#1) (v36 : IVec S8x128 32) (v39 : BitVec 32) (v40 : BitVec 32) (v45 : BitVec 1) :
    LoopInvTy_k0_t2 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg0 k0_h1 v36 v39 v40 v45 where
  inv _ _ := iprop(anyAt c arg9 ∗ anyAt c arg22 ∗ anyAt c arg15 ∗ anyAt c arg25 ∗ anyAt c arg29)
  step k _ := by
    have hk : k.val < 80 := Nat.lt_of_lt_of_le k.isLt k0_t2_abs.2.1
    unfold k0_t2_body
    iintro ⟨⟨%f9, H9⟩, ⟨%f22, H22⟩, ⟨%f15, H15⟩, ⟨%f25, H25⟩, ⟨%f29, H29⟩⟩
    sl_exec
    sl_step
    sl_close

/-- The loop over the column groups of dy: all it touches stays held, at some contents. -/
@[sl_loop, instance_reducible]
def anyLoop3 (k0_h2 : k0_cond2 i = 1#1) :
    LoopInvTy_k0_t3 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h2 where
  inv _ _ := iprop(anyAt c arg10 ∗ anyAt c arg23 ∗ anyAt c arg17 ∗ anyAt c arg27 ∗ anyAt c arg26)
  step k _ := by
    have hk : k.val < 28 := Nat.lt_of_lt_of_le k.isLt k0_t3_abs.2.1
    unfold k0_t3_body
    iintro ⟨⟨%f10, H10⟩, ⟨%f23, H23⟩, ⟨%f17, H17⟩, ⟨%f27, H27⟩, ⟨%f26, H26⟩⟩
    sl_exec
    sl_step
    sl_close

/-- The loop over the row groups of dy: all it touches stays held, at some contents. -/
@[sl_loop, instance_reducible]
def anyLoop4 (k0_h2 : k0_cond2 i = 1#1) (v129 : IVec S8x128 32) (v140 : BitVec 32) (v142 : BitVec 32) (v156 : BitVec 1) (c1_i32_130 : BitVec 32) :
    LoopInvTy_k0_t4 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h2 v129 v140 v142 v156 c1_i32_130 where
  inv _ _ := iprop(anyAt c arg8 ∗ anyAt c arg21 ∗ anyAt c arg13 ∗ anyAt c arg24 ∗ anyAt c arg28)
  step k _ := by
    have hk : k.val < 56 := Nat.lt_of_lt_of_le k.isLt k0_t4_abs.2.1
    unfold k0_t4_body
    iintro ⟨⟨%f8, H8⟩, ⟨%f21, H21⟩, ⟨%f13, H13⟩, ⟨%f24, H24⟩, ⟨%f28, H28⟩⟩
    sl_exec
    sl_step
    sl_close

/-- The loop over the row groups of w: all it touches stays held, at some contents. -/
@[sl_loop, instance_reducible]
def anyLoop5 (k0_h2 : k0_cond2 i = 1#1) (v129 : IVec S8x128 32) (v140 : BitVec 32) (v142 : BitVec 32) (v156 : BitVec 1) (c1_i32_130 : BitVec 32) :
    LoopInvTy_k0_t5 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h2 v129 v140 v142 v156 c1_i32_130 where
  inv _ _ := iprop(anyAt c arg9 ∗ anyAt c arg22 ∗ anyAt c arg15 ∗ anyAt c arg25 ∗ anyAt c arg29)
  step k _ := by
    have hk : k.val < 80 := Nat.lt_of_lt_of_le k.isLt k0_t5_abs.2.1
    unfold k0_t5_body
    iintro ⟨⟨%f9, H9⟩, ⟨%f22, H22⟩, ⟨%f15, H15⟩, ⟨%f25, H25⟩, ⟨%f29, H29⟩⟩
    sl_exec
    sl_step
    sl_close

/-- The loop over the column groups of dy (last tile): all it touches stays held, at some contents. -/
@[sl_loop, instance_reducible]
def anyLoop6 (k0_h3 : k0_cond3 i = 1#1) :
    LoopInvTy_k0_t6 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h3 where
  inv _ _ := iprop(anyAt c arg10 ∗ anyAt c arg23 ∗ anyAt c arg17 ∗ anyAt c arg27 ∗ anyAt c arg26)
  step k _ := by
    have hk : k.val < 28 := Nat.lt_of_lt_of_le k.isLt k0_t6_abs.2.1
    unfold k0_t6_body
    iintro ⟨⟨%f10, H10⟩, ⟨%f23, H23⟩, ⟨%f17, H17⟩, ⟨%f27, H27⟩, ⟨%f26, H26⟩⟩
    sl_exec
    sl_step
    sl_close

end Cert.Kernel.Hand

end
-- ==== Proof.AnyRun.lean ====
/-
  The backward kernel's body, run at each kind of grid point, with every window and scratch buffer held at some contents:
  its one transfer of its own is issued and waited inside the first point.
-/
module

public import proofs.«01_k».proof.Proof.Gen.Kernel.Loops
public import proofs.«01_k».proof.Proof.AnyLoops
public import proofs.«01_k».proof.Proof.Gen.Kernel.Frame
public import Idealize.ShloMosaic.Lib.Pipeline.Frame
public import Idealize.ShloMosaic.Lib.Transfers

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (Pipeline.UD sig nD τ) ℕ

/-- The buffer of the copied x. -/
abbrev sc0 : Memref sig .tc .vmem S2560x1792 .bf16 := Memref.whole cc0_scratch0
/-- The buffer of the accumulator. -/
abbrev sc1 : Memref sig .tc .vmem S1792x2560 .f32 := Memref.whole cc0_scratch1
/-- The buffer of the rotated gradient along the columns. -/
abbrev sc2 : Memref sig .tc .vmem S1792x256 .f32 := Memref.whole cc0_scratch2
/-- The buffer of the rotated weight. -/
abbrev sc3 : Memref sig .tc .vmem S2560x256 .f32 := Memref.whole cc0_scratch3
/-- The buffer of the rotated gradient along the tokens. -/
abbrev sc4 : Memref sig .tc .vmem S1792x256 .f32 := Memref.whole cc0_scratch4
/-- The buffer of the quantised gradient along the columns. -/
abbrev sc5 : Memref sig .tc .vmem S1792x256 .bf16 := Memref.whole cc0_scratch5
/-- The buffer of the quantised weight. -/
abbrev sc6 : Memref sig .tc .vmem S2560x256 .bf16 := Memref.whole cc0_scratch6
/-- The buffer of the quantised gradient along the tokens. -/
abbrev sc7 : Memref sig .tc .vmem S1792x256 .bf16 := Memref.whole cc0_scratch7
/-- The buffer of the exponents along the tokens. -/
abbrev sc8 : Memref sig .tc .vmem S56x256 .i32 := Memref.whole cc0_scratch8
/-- The buffer of the gradient's exponents along the columns. -/
abbrev sc9 : Memref sig .tc .vmem S1792x256 .i8 := Memref.whole cc0_scratch9
/-- The buffer of the weight's exponents. -/
abbrev sc10 : Memref sig .tc .vmem S2560x256 .i8 := Memref.whole cc0_scratch10
/-- The decoded activations, left in HBM. -/
abbrev hbM : Memref sig .tc .hbm S2560x1792 .bf16 := Memref.whole main_arg0
/-- A buffer on core `c` held whole at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f
/-- A memref owned on core `c` at some contents. -/
abbrev anyOwn (c : Dev nD) {S : Shape} {e : EltTy} (M : Memref sig .tc .vmem S e) : sProp 𝕄 :=
  iprop(∃ d, owns (c : Thread nD τ) M fullShare d)

variable (c : Dev nD) (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)

/-- What the body is run from and gives back: every window and scratch buffer at some contents, its semaphore at zero, the
    activations in HBM at `fh`. -/
abbrev bodyRes (fh : Buf (Elt F) (hbM.view.loc (c : Thread nD τ))) : sProp 𝕄 :=
  iprop(anyOwn c arg1
        ∗ anyOwn c arg2
        ∗ anyOwn c arg3
        ∗ anyOwn c arg4
        ∗ anyOwn c arg6
        ∗ anyOwn c arg7
        ∗ anyOwn c arg8
        ∗ anyOwn c arg9
        ∗ anyOwn c arg10
        ∗ anyOwn c arg11
        ∗ anyOwn c arg12
        ∗ anyOwn c arg13
        ∗ anyOwn c arg14
        ∗ anyOwn c arg15
        ∗ anyOwn c arg16
        ∗ anyOwn c arg17
        ∗ anyOwn c arg18
        ∗ anyOwn c sc0
        ∗ anyOwn c sc1
        ∗ anyOwn c sc2
        ∗ anyOwn c sc3
        ∗ anyOwn c sc4
        ∗ anyOwn c sc5
        ∗ anyOwn c sc6
        ∗ anyOwn c sc7
        ∗ anyOwn c sc8
        ∗ anyOwn c sc9
        ∗ anyOwn c sc10
        ∗ semVal ((c : Thread nD τ), SemLoc.dma 29) 0
        ∗ hbPt c hbM fh)

/-- At the first point the body runs to its return. -/
theorem run1 (h1 : k0_cond1 i = 1#1) (h2 : ¬ k0_cond2 i = 1#1) (h3 : ¬ k0_cond3 i = 1#1) (h4 : ¬ k0_cond4 i = 1#1)
    (fh : Buf (Elt F) (hbM.view.loc (c : Thread nD τ))) (W : Waits sig Unit) (K : PUnit → sProp 𝕄) :
    iprop(bodyRes c arg1 arg2 arg3 arg4 arg6 arg7 arg8 arg9 arg10 arg11 arg12 arg13 arg14 arg15 arg16 arg17 arg18 fh ∗ owes (c : Thread nD τ) 0 W
        ∗ (iprop(bodyRes c arg1 arg2 arg3 arg4 arg6 arg7 arg8 arg9 arg10 arg11 arg12 arg13 arg14 arg15 arg16 arg17 arg18 fh ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold bodyRes anyOwn owns
  iintro ⟨⟨⟨%dW1, %fW1, -, W1⟩, ⟨%dW2, %fW2, -, W2⟩, ⟨%dW3, %fW3, -, W3⟩, ⟨%dW4, %fW4, -, W4⟩, ⟨%dW6, %fW6, -, W6⟩, ⟨%dW7, %fW7, -, W7⟩, ⟨%dW8, %fW8, -, W8⟩, ⟨%dW9, %fW9, -, W9⟩, ⟨%dW10, %fW10, -, W10⟩, ⟨%dW11, %fW11, -, W11⟩, ⟨%dW12, %fW12, -, W12⟩, ⟨%dW13, %fW13, -, W13⟩, ⟨%dW14, %fW14, -, W14⟩, ⟨%dW15, %fW15, -, W15⟩, ⟨%dW16, %fW16, -, W16⟩, ⟨%dW17, %fW17, -, W17⟩, ⟨%dW18, %fW18, -, W18⟩, ⟨%dS0, %fS0, -, S0⟩, ⟨%dS1, %fS1, -, S1⟩, ⟨%dS2, %fS2, -, S2⟩, ⟨%dS3, %fS3, -, S3⟩, ⟨%dS4, %fS4, -, S4⟩, ⟨%dS5, %fS5, -, S5⟩, ⟨%dS6, %fS6, -, S6⟩, ⟨%dS7, %fS7, -, S7⟩, ⟨%dS8, %fS8, -, S8⟩, ⟨%dS9, %fS9, -, S9⟩, ⟨%dS10, %fS10, -, S10⟩, Hq, Hh⟩, HW, Hk⟩
  sl_exec
  sl_step
  iapply Hk
  isplitr [HW]; swap
  · iexists _; iexact HW
  isplitl [W1]
  · iexists _, _; isplitr; swap; · iexact W1
    ipureintro; rfl
  isplitl [W2]
  · iexists _, _; isplitr; swap; · iexact W2
    ipureintro; rfl
  isplitl [W3]
  · iexists _, _; isplitr; swap; · iexact W3
    ipureintro; rfl
  isplitl [W4]
  · iexists _, _; isplitr; swap; · iexact W4
    ipureintro; rfl
  isplitl [W6]
  · iexists _, _; isplitr; swap; · iexact W6
    ipureintro; rfl
  isplitl [W7]
  · iexists _, _; isplitr; swap; · iexact W7
    ipureintro; rfl
  isplitl [W8]
  · iexists _, _; isplitr; swap; · iexact W8
    ipureintro; rfl
  isplitl [W9]
  · iexists _, _; isplitr; swap; · iexact W9
    ipureintro; rfl
  isplitl [W10]
  · iexists _, _; isplitr; swap; · iexact W10
    ipureintro; rfl
  isplitl [W11]
  · iexists _, _; isplitr; swap; · iexact W11
    ipureintro; rfl
  isplitl [W12]
  · iexists _, _; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _, _; isplitr; swap; · iexact W18
    ipureintro; rfl
  isplitl [S0]
  · iexists _, _; isplitr; swap; · iexact S0
    ipureintro; rfl
  isplitl [S1]
  · iexists _, _; isplitr; swap; · iexact S1
    ipureintro; rfl
  isplitl [S2]
  · iexists _, _; isplitr; swap; · iexact S2
    ipureintro; rfl
  isplitl [S3]
  · iexists _, _; isplitr; swap; · iexact S3
    ipureintro; rfl
  isplitl [S4]
  · iexists _, _; isplitr; swap; · iexact S4
    ipureintro; rfl
  isplitl [S5]
  · iexists _, _; isplitr; swap; · iexact S5
    ipureintro; rfl
  isplitl [S6]
  · iexists _, _; isplitr; swap; · iexact S6
    ipureintro; rfl
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

/-- At a middle point the body runs to its return. -/
theorem run2 (h1 : ¬ k0_cond1 i = 1#1) (h2 : k0_cond2 i = 1#1) (h3 : ¬ k0_cond3 i = 1#1) (h4 : ¬ k0_cond4 i = 1#1)
    (fh : Buf (Elt F) (hbM.view.loc (c : Thread nD τ))) (W : Waits sig Unit) (K : PUnit → sProp 𝕄) :
    iprop(bodyRes c arg1 arg2 arg3 arg4 arg6 arg7 arg8 arg9 arg10 arg11 arg12 arg13 arg14 arg15 arg16 arg17 arg18 fh ∗ owes (c : Thread nD τ) 0 W
        ∗ (iprop(bodyRes c arg1 arg2 arg3 arg4 arg6 arg7 arg8 arg9 arg10 arg11 arg12 arg13 arg14 arg15 arg16 arg17 arg18 fh ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold bodyRes anyOwn owns
  iintro ⟨⟨⟨%dW1, %fW1, -, W1⟩, ⟨%dW2, %fW2, -, W2⟩, ⟨%dW3, %fW3, -, W3⟩, ⟨%dW4, %fW4, -, W4⟩, ⟨%dW6, %fW6, -, W6⟩, ⟨%dW7, %fW7, -, W7⟩, ⟨%dW8, %fW8, -, W8⟩, ⟨%dW9, %fW9, -, W9⟩, ⟨%dW10, %fW10, -, W10⟩, ⟨%dW11, %fW11, -, W11⟩, ⟨%dW12, %fW12, -, W12⟩, ⟨%dW13, %fW13, -, W13⟩, ⟨%dW14, %fW14, -, W14⟩, ⟨%dW15, %fW15, -, W15⟩, ⟨%dW16, %fW16, -, W16⟩, ⟨%dW17, %fW17, -, W17⟩, ⟨%dW18, %fW18, -, W18⟩, ⟨%dS0, %fS0, -, S0⟩, ⟨%dS1, %fS1, -, S1⟩, ⟨%dS2, %fS2, -, S2⟩, ⟨%dS3, %fS3, -, S3⟩, ⟨%dS4, %fS4, -, S4⟩, ⟨%dS5, %fS5, -, S5⟩, ⟨%dS6, %fS6, -, S6⟩, ⟨%dS7, %fS7, -, S7⟩, ⟨%dS8, %fS8, -, S8⟩, ⟨%dS9, %fS9, -, S9⟩, ⟨%dS10, %fS10, -, S10⟩, Hq, Hh⟩, HW, Hk⟩
  sl_exec
  sl_step
  iapply Hk
  isplitr [HW]; swap
  · iexists _; iexact HW
  isplitl [W1]
  · iexists _, _; isplitr; swap; · iexact W1
    ipureintro; rfl
  isplitl [W2]
  · iexists _, _; isplitr; swap; · iexact W2
    ipureintro; rfl
  isplitl [W3]
  · iexists _, _; isplitr; swap; · iexact W3
    ipureintro; rfl
  isplitl [W4]
  · iexists _, _; isplitr; swap; · iexact W4
    ipureintro; rfl
  isplitl [W6]
  · iexists _, _; isplitr; swap; · iexact W6
    ipureintro; rfl
  isplitl [W7]
  · iexists _, _; isplitr; swap; · iexact W7
    ipureintro; rfl
  isplitl [W8]
  · iexists _, _; isplitr; swap; · iexact W8
    ipureintro; rfl
  isplitl [W9]
  · iexists _, _; isplitr; swap; · iexact W9
    ipureintro; rfl
  isplitl [W10]
  · iexists _, _; isplitr; swap; · iexact W10
    ipureintro; rfl
  isplitl [W11]
  · iexists _, _; isplitr; swap; · iexact W11
    ipureintro; rfl
  isplitl [W12]
  · iexists _, _; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _, _; isplitr; swap; · iexact W18
    ipureintro; rfl
  isplitl [S0]
  · iexists _, _; isplitr; swap; · iexact S0
    ipureintro; rfl
  isplitl [S1]
  · iexists _, _; isplitr; swap; · iexact S1
    ipureintro; rfl
  isplitl [S2]
  · iexists _, _; isplitr; swap; · iexact S2
    ipureintro; rfl
  isplitl [S3]
  · iexists _, _; isplitr; swap; · iexact S3
    ipureintro; rfl
  isplitl [S4]
  · iexists _, _; isplitr; swap; · iexact S4
    ipureintro; rfl
  isplitl [S5]
  · iexists _, _; isplitr; swap; · iexact S5
    ipureintro; rfl
  isplitl [S6]
  · iexists _, _; isplitr; swap; · iexact S6
    ipureintro; rfl
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

/-- At the point of the last tile the body runs to its return. -/
theorem run3 (h1 : ¬ k0_cond1 i = 1#1) (h2 : ¬ k0_cond2 i = 1#1) (h3 : k0_cond3 i = 1#1) (h4 : ¬ k0_cond4 i = 1#1)
    (fh : Buf (Elt F) (hbM.view.loc (c : Thread nD τ))) (W : Waits sig Unit) (K : PUnit → sProp 𝕄) :
    iprop(bodyRes c arg1 arg2 arg3 arg4 arg6 arg7 arg8 arg9 arg10 arg11 arg12 arg13 arg14 arg15 arg16 arg17 arg18 fh ∗ owes (c : Thread nD τ) 0 W
        ∗ (iprop(bodyRes c arg1 arg2 arg3 arg4 arg6 arg7 arg8 arg9 arg10 arg11 arg12 arg13 arg14 arg15 arg16 arg17 arg18 fh ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold bodyRes anyOwn owns
  iintro ⟨⟨⟨%dW1, %fW1, -, W1⟩, ⟨%dW2, %fW2, -, W2⟩, ⟨%dW3, %fW3, -, W3⟩, ⟨%dW4, %fW4, -, W4⟩, ⟨%dW6, %fW6, -, W6⟩, ⟨%dW7, %fW7, -, W7⟩, ⟨%dW8, %fW8, -, W8⟩, ⟨%dW9, %fW9, -, W9⟩, ⟨%dW10, %fW10, -, W10⟩, ⟨%dW11, %fW11, -, W11⟩, ⟨%dW12, %fW12, -, W12⟩, ⟨%dW13, %fW13, -, W13⟩, ⟨%dW14, %fW14, -, W14⟩, ⟨%dW15, %fW15, -, W15⟩, ⟨%dW16, %fW16, -, W16⟩, ⟨%dW17, %fW17, -, W17⟩, ⟨%dW18, %fW18, -, W18⟩, ⟨%dS0, %fS0, -, S0⟩, ⟨%dS1, %fS1, -, S1⟩, ⟨%dS2, %fS2, -, S2⟩, ⟨%dS3, %fS3, -, S3⟩, ⟨%dS4, %fS4, -, S4⟩, ⟨%dS5, %fS5, -, S5⟩, ⟨%dS6, %fS6, -, S6⟩, ⟨%dS7, %fS7, -, S7⟩, ⟨%dS8, %fS8, -, S8⟩, ⟨%dS9, %fS9, -, S9⟩, ⟨%dS10, %fS10, -, S10⟩, Hq, Hh⟩, HW, Hk⟩
  sl_exec
  sl_step
  iapply Hk
  isplitr [HW]; swap
  · iexists _; iexact HW
  isplitl [W1]
  · iexists _, _; isplitr; swap; · iexact W1
    ipureintro; rfl
  isplitl [W2]
  · iexists _, _; isplitr; swap; · iexact W2
    ipureintro; rfl
  isplitl [W3]
  · iexists _, _; isplitr; swap; · iexact W3
    ipureintro; rfl
  isplitl [W4]
  · iexists _, _; isplitr; swap; · iexact W4
    ipureintro; rfl
  isplitl [W6]
  · iexists _, _; isplitr; swap; · iexact W6
    ipureintro; rfl
  isplitl [W7]
  · iexists _, _; isplitr; swap; · iexact W7
    ipureintro; rfl
  isplitl [W8]
  · iexists _, _; isplitr; swap; · iexact W8
    ipureintro; rfl
  isplitl [W9]
  · iexists _, _; isplitr; swap; · iexact W9
    ipureintro; rfl
  isplitl [W10]
  · iexists _, _; isplitr; swap; · iexact W10
    ipureintro; rfl
  isplitl [W11]
  · iexists _, _; isplitr; swap; · iexact W11
    ipureintro; rfl
  isplitl [W12]
  · iexists _, _; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _, _; isplitr; swap; · iexact W18
    ipureintro; rfl
  isplitl [S0]
  · iexists _, _; isplitr; swap; · iexact S0
    ipureintro; rfl
  isplitl [S1]
  · iexists _, _; isplitr; swap; · iexact S1
    ipureintro; rfl
  isplitl [S2]
  · iexists _, _; isplitr; swap; · iexact S2
    ipureintro; rfl
  isplitl [S3]
  · iexists _, _; isplitr; swap; · iexact S3
    ipureintro; rfl
  isplitl [S4]
  · iexists _, _; isplitr; swap; · iexact S4
    ipureintro; rfl
  isplitl [S5]
  · iexists _, _; isplitr; swap; · iexact S5
    ipureintro; rfl
  isplitl [S6]
  · iexists _, _; isplitr; swap; · iexact S6
    ipureintro; rfl
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

/-- At a point that writes dx the body runs to its return. -/
theorem run4 (h1 : ¬ k0_cond1 i = 1#1) (h2 : ¬ k0_cond2 i = 1#1) (h3 : ¬ k0_cond3 i = 1#1) (h4 : k0_cond4 i = 1#1)
    (fh : Buf (Elt F) (hbM.view.loc (c : Thread nD τ))) (W : Waits sig Unit) (K : PUnit → sProp 𝕄) :
    iprop(bodyRes c arg1 arg2 arg3 arg4 arg6 arg7 arg8 arg9 arg10 arg11 arg12 arg13 arg14 arg15 arg16 arg17 arg18 fh ∗ owes (c : Thread nD τ) 0 W
        ∗ (iprop(bodyRes c arg1 arg2 arg3 arg4 arg6 arg7 arg8 arg9 arg10 arg11 arg12 arg13 arg14 arg15 arg16 arg17 arg18 fh ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold bodyRes anyOwn owns
  iintro ⟨⟨⟨%dW1, %fW1, -, W1⟩, ⟨%dW2, %fW2, -, W2⟩, ⟨%dW3, %fW3, -, W3⟩, ⟨%dW4, %fW4, -, W4⟩, ⟨%dW6, %fW6, -, W6⟩, ⟨%dW7, %fW7, -, W7⟩, ⟨%dW8, %fW8, -, W8⟩, ⟨%dW9, %fW9, -, W9⟩, ⟨%dW10, %fW10, -, W10⟩, ⟨%dW11, %fW11, -, W11⟩, ⟨%dW12, %fW12, -, W12⟩, ⟨%dW13, %fW13, -, W13⟩, ⟨%dW14, %fW14, -, W14⟩, ⟨%dW15, %fW15, -, W15⟩, ⟨%dW16, %fW16, -, W16⟩, ⟨%dW17, %fW17, -, W17⟩, ⟨%dW18, %fW18, -, W18⟩, ⟨%dS0, %fS0, -, S0⟩, ⟨%dS1, %fS1, -, S1⟩, ⟨%dS2, %fS2, -, S2⟩, ⟨%dS3, %fS3, -, S3⟩, ⟨%dS4, %fS4, -, S4⟩, ⟨%dS5, %fS5, -, S5⟩, ⟨%dS6, %fS6, -, S6⟩, ⟨%dS7, %fS7, -, S7⟩, ⟨%dS8, %fS8, -, S8⟩, ⟨%dS9, %fS9, -, S9⟩, ⟨%dS10, %fS10, -, S10⟩, Hq, Hh⟩, HW, Hk⟩
  sl_exec
  sl_step
  iapply Hk
  isplitr [HW]; swap
  · iexists _; iexact HW
  isplitl [W1]
  · iexists _, _; isplitr; swap; · iexact W1
    ipureintro; rfl
  isplitl [W2]
  · iexists _, _; isplitr; swap; · iexact W2
    ipureintro; rfl
  isplitl [W3]
  · iexists _, _; isplitr; swap; · iexact W3
    ipureintro; rfl
  isplitl [W4]
  · iexists _, _; isplitr; swap; · iexact W4
    ipureintro; rfl
  isplitl [W6]
  · iexists _, _; isplitr; swap; · iexact W6
    ipureintro; rfl
  isplitl [W7]
  · iexists _, _; isplitr; swap; · iexact W7
    ipureintro; rfl
  isplitl [W8]
  · iexists _, _; isplitr; swap; · iexact W8
    ipureintro; rfl
  isplitl [W9]
  · iexists _, _; isplitr; swap; · iexact W9
    ipureintro; rfl
  isplitl [W10]
  · iexists _, _; isplitr; swap; · iexact W10
    ipureintro; rfl
  isplitl [W11]
  · iexists _, _; isplitr; swap; · iexact W11
    ipureintro; rfl
  isplitl [W12]
  · iexists _, _; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _, _; isplitr; swap; · iexact W18
    ipureintro; rfl
  isplitl [S0]
  · iexists _, _; isplitr; swap; · iexact S0
    ipureintro; rfl
  isplitl [S1]
  · iexists _, _; isplitr; swap; · iexact S1
    ipureintro; rfl
  isplitl [S2]
  · iexists _, _; isplitr; swap; · iexact S2
    ipureintro; rfl
  isplitl [S3]
  · iexists _, _; isplitr; swap; · iexact S3
    ipureintro; rfl
  isplitl [S4]
  · iexists _, _; isplitr; swap; · iexact S4
    ipureintro; rfl
  isplitl [S5]
  · iexists _, _; isplitr; swap; · iexact S5
    ipureintro; rfl
  isplitl [S6]
  · iexists _, _; isplitr; swap; · iexact S6
    ipureintro; rfl
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

end Cert.Kernel.Hand

end
-- ==== Proof.AnyFrame.lean ====
/-
  The frame of the whole program: from any memory every run ends, with the arguments as launched and every semaphore at zero.
-/
module

public import proofs.«01_k».proof.Proof.Gen.Kernel.Loops
public import proofs.«01_k».proof.Proof.AnyRun

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The kernel's own semaphore. -/
abbrev osem0 : Fin 1 → SemLoc sig := fun j => (![SemLoc.dma 29] : Fin 1 → SemLoc sig) j
/-- The kernel's own semaphores are as the launch declares them. -/
theorem ownSemFacts0 : Pipeline.OwnSemFacts spec0 osem0 := by decide
/-- The kernel's own semaphore, as one assertion. -/
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 29) 0 := by
  rw [Pipeline.ownSems0_eq_of_list c osem0 [0] (by decide) (by decide)]; rfl
/-- The activations, left in HBM: no window's array. -/
def H0 : Finset (Ref sig .tc) := {main_arg0}
/-- The arrays left in the large memory are among those no window stages. -/
theorem H0_sub : H0 ⊆ Pipeline.restRefs sig spec0 := by decide
/-- The arrays left in the large memory, as one assertion. -/
theorem hbmPts0_eq (c : Dev nD) :
    (bigSep H0 (fun b => ((c : Thread nD τ).loc b) ↦{fullShare} V m c b) : sProp 𝕄) = hbPt c hbM (V m c main_arg0) := by
  rw [BI.bigSep_eq_bigSepL_of_eq [main_arg0] (by decide) (by decide)]; rfl

/-- What holds between points, conjunct by conjunct: the scratch at some contents, the generator register at some state,
    the semaphore at zero, the activations as launched. -/
theorem PhiD0_eq (c : Dev nD) :
    (Pipeline.ΦD osem0 spec0 H0 (V m) c : sProp 𝕄)
      = iprop(iprop(anyOwn c sc0 ∗ anyOwn c sc1 ∗ anyOwn c sc2 ∗ anyOwn c sc3 ∗ anyOwn c sc4 ∗ anyOwn c sc5 ∗ anyOwn c sc6 ∗ anyOwn c sc7 ∗ anyOwn c sc8 ∗ anyOwn c sc9 ∗ anyOwn c sc10) ∗ (∃ r, prngReg c r)
          ∗ semVal ((c : Thread nD τ), SemLoc.dma 29) 0 ∗ hbPt c hbM (V m c main_arg0)) := by
  rw [Pipeline.ΦD_eq, scopedRest0_eq, ownSems00_eq, hbmPts0_eq]; simp only [anyOwn, sc0, sc1, sc2, sc3, sc4, sc5, sc6, sc7, sc8, sc9, sc10, owns_whole]; try rfl

/-- Nothing is said of what any window holds after a point. -/
def forgets0 : Fin 17 → Bool := fun _ => true

/-- The proof data on core `c`. -/
def dats (_ : Fin 1) (c : Dev nD) : Dat τ (Elt F) Unit ℕ (Pipeline.UD sig nD τ) ℕ cfg0 c where
  A w := V m c (Pipeline.arrRef spec0 w)
  after w t := Pipeline.Dat.unnamed (cfg := cfg0) w t
  Φ _ := Pipeline.ΦD osem0 spec0 H0 (V m) c
  q _ := fullShare
  owed _ := 0

/-- A window's array is what the host line left in it. -/
theorem A_eq (c : Dev nD) (w : Fin cfg0.W) : (dats m 0 c).A w = V m c (Pipeline.arrRef spec0 w) := by dsimp only [dats]

/-- Which of the four kinds a grid point is of. -/
theorem kinds (t : Fin cfg0.N) :
    (k0_cond1 (grid0.coords t) = 1#1 ∧ ¬ k0_cond2 (grid0.coords t) = 1#1 ∧ ¬ k0_cond3 (grid0.coords t) = 1#1 ∧ ¬ k0_cond4 (grid0.coords t) = 1#1)
    ∨ (¬ k0_cond1 (grid0.coords t) = 1#1 ∧ k0_cond2 (grid0.coords t) = 1#1 ∧ ¬ k0_cond3 (grid0.coords t) = 1#1 ∧ ¬ k0_cond4 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1)
    ∨ (¬ k0_cond1 (grid0.coords t) = 1#1 ∧ ¬ k0_cond2 (grid0.coords t) = 1#1 ∧ ¬ k0_cond3 (grid0.coords t) = 1#1 ∧ k0_cond4 (grid0.coords t) = 1#1) := by
  revert t; decide +kernel

section Run
variable (c : Dev nD) (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)

/-- The body runs at a point of any of the four kinds. -/
theorem runAny
    (hi : (k0_cond1 i = 1#1 ∧ ¬ k0_cond2 i = 1#1 ∧ ¬ k0_cond3 i = 1#1 ∧ ¬ k0_cond4 i = 1#1)
      ∨ (¬ k0_cond1 i = 1#1 ∧ k0_cond2 i = 1#1 ∧ ¬ k0_cond3 i = 1#1 ∧ ¬ k0_cond4 i = 1#1)
      ∨ (¬ k0_cond1 i = 1#1 ∧ ¬ k0_cond2 i = 1#1 ∧ k0_cond3 i = 1#1 ∧ ¬ k0_cond4 i = 1#1)
      ∨ (¬ k0_cond1 i = 1#1 ∧ ¬ k0_cond2 i = 1#1 ∧ ¬ k0_cond3 i = 1#1 ∧ k0_cond4 i = 1#1))
    (fh : Buf (Elt F) (hbM.view.loc (c : Thread nD τ))) (W : Waits sig Unit) (K : PUnit → sProp 𝕄) :
    iprop(bodyRes c arg1 arg2 arg3 arg4 arg6 arg7 arg8 arg9 arg10 arg11 arg12 arg13 arg14 arg15 arg16 arg17 arg18 fh ∗ owes (c : Thread nD τ) 0 W
        ∗ (iprop(bodyRes c arg1 arg2 arg3 arg4 arg6 arg7 arg8 arg9 arg10 arg11 arg12 arg13 arg14 arg15 arg16 arg17 arg18 fh ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  rcases hi with ⟨h1, h2, h3, h4⟩ | ⟨h1, h2, h3, h4⟩ | ⟨h1, h2, h3, h4⟩ | ⟨h1, h2, h3, h4⟩
  · exact run1 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 h1 h2 h3 h4 fh W K
  · exact run2 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 h1 h2 h3 h4 fh W K
  · exact run3 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 h1 h2 h3 h4 fh W K
  · exact run4 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 h1 h2 h3 h4 fh W K

end Run

/-- What the body is called with at point `t`, and what it returns. -/
def bodyPre (c : Dev nD) (t : Fin cfg0.N) : sProp 𝕄 :=
  iprop((dats m 0 c).Φ t.castSucc ∗ (dats m 0 c).owesAt () t.castSucc
    ∗ anyOwn c (win0_0.stage (cfg0.slots t 0)) ∗ anyOwn c (win0_1.stage (cfg0.slots t 1)) ∗ anyOwn c (win0_2.stage (cfg0.slots t 2)) ∗ anyOwn c (win0_3.stage (cfg0.slots t 3)) ∗ anyOwn c (win0_4.stage (cfg0.slots t 4)) ∗ anyOwn c (win0_5.stage (cfg0.slots t 5)) ∗ anyOwn c (win0_6.stage (cfg0.slots t 6)) ∗ anyOwn c (win0_7.stage (cfg0.slots t 7)) ∗ anyOwn c (win0_8.stage (cfg0.slots t 8)) ∗ anyOwn c (win0_9.stage (cfg0.slots t 9)) ∗ anyOwn c (win0_10.stage (cfg0.slots t 10)) ∗ anyOwn c (win0_11.stage (cfg0.slots t 11)) ∗ anyOwn c (win0_12.stage (cfg0.slots t 12)) ∗ anyOwn c (win0_13.stage (cfg0.slots t 13)) ∗ anyOwn c (win0_14.stage (cfg0.slots t 14)) ∗ anyOwn c (win0_15.stage (cfg0.slots t 15)) ∗ anyOwn c (win0_16.stage (cfg0.slots t 16)))
/-- What the body leaves at a grid point. -/
def bodyPost (c : Dev nD) (t : Fin cfg0.N) : sProp 𝕄 :=
  iprop((dats m 0 c).Φ t.succ ∗ (dats m 0 c).owesAt () t.succ
    ∗ anyOwn c (win0_0.stage (cfg0.slots t 0)) ∗ anyOwn c (win0_1.stage (cfg0.slots t 1)) ∗ anyOwn c (win0_2.stage (cfg0.slots t 2)) ∗ anyOwn c (win0_3.stage (cfg0.slots t 3)) ∗ anyOwn c (win0_4.stage (cfg0.slots t 4)) ∗ anyOwn c (win0_5.stage (cfg0.slots t 5)) ∗ anyOwn c (win0_6.stage (cfg0.slots t 6)) ∗ anyOwn c (win0_7.stage (cfg0.slots t 7)) ∗ anyOwn c (win0_8.stage (cfg0.slots t 8)) ∗ anyOwn c (win0_9.stage (cfg0.slots t 9)) ∗ anyOwn c (win0_10.stage (cfg0.slots t 10)) ∗ anyOwn c (win0_11.stage (cfg0.slots t 11)) ∗ anyOwn c (win0_12.stage (cfg0.slots t 12)) ∗ anyOwn c (win0_13.stage (cfg0.slots t 13)) ∗ anyOwn c (win0_14.stage (cfg0.slots t 14)) ∗ anyOwn c (win0_15.stage (cfg0.slots t 15)) ∗ anyOwn c (win0_16.stage (cfg0.slots t 16)))

set_option maxHeartbeats 1000000 in
/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  iintro ⟨⟨⟨S0, S1, S2, S3, S4, S5, S6, S7, S8, S9, S10⟩, Hg, Hq, Hh⟩, ⟨%W, %hW, HO⟩, W0, W1, W2, W3, W4, W5, W6, W7, W8, W9, W10, W11, W12, W13, W14, W15, W16⟩
  iapply (runAny c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (kinds t) (V m c main_arg0) W _)
  isplitr [HO Hg]
  · unfold bodyRes
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Hq]; · iexact Hq
    iexact Hh
  isplitl [HO]; · iexact HO
  unfold bodyRes
  iintro ⟨⟨W0, W1, W2, W3, W4, W5, W6, W7, W8, W9, W10, W11, W12, W13, W14, W15, W16, S0, S1, S2, S3, S4, S5, S6, S7, S8, S9, S10, Hq, Hh⟩, ⟨%W', HO⟩⟩
  isplitl [S0 S1 S2 S3 S4 S5 S6 S7 S8 S9 S10 Hg Hq Hh]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    isplitl [Hg]; · iexact Hg
    isplitl [Hq]; · iexact Hq
    iexact Hh
  isplitl [HO]
  · iexists W'; isplitr; · ipureintro; exact fun _ _ => Or.inl trivial
    iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  iexact W16

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body obligation, every window forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option maxHeartbeats 800000 in
/-- The program up to the region, at the algebra the transfer steps run in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

-- unification must unfold plain definitions in a metavariable's type
set_option backward.isDefEq.respectTransparency.types false in
/-- Every run of the program ends; the arrays the kernel reads are as the kernel found them; every semaphore is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

set_option maxHeartbeats 1600000 in
/-- The frame claim. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 5 rfl).trans ((A_eq m c 5).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Pipeline.RDat.FramePost.arr_in h.1 c 7 rfl).trans ((A_eq m c 7).trans (V_main_arg6 m c)),
      ((h.1 c).2 main_arg7 (Pipeline.mem_restRefs_of main_arg7 (by decide) (by decide))).trans (V_main_arg7 m c)⟩, h.2⟩) (run_main m ρ)

end Cert.Kernel.Hand

end
-- ==== Proof.IdealAnyLoops.lean ====
/-
  The counted loops of the backward kernel, at the algebra the transfer steps run in: every buffer a trip touches is
  held at some contents before and after it.
-/
module

public import proofs.«01_k».proof.Proof.Gen.KernelIdeal.Loops
public import Idealize.ShloMosaic.Lib.Pipeline.Frame
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A memref's buffer on core `c`, held whole at some contents. -/
abbrev anyAt (c : Dev nD) {S : Shape} {e : EltTy} (M : Memref sig .tc .vmem S e) : sProp 𝕄 :=
  iprop(∃ f, M.view.loc (c : Thread nD τ) ↦[M.view.set]{fullShare} f)

variable (c : Dev nD)
  (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg5 : Memref sig .tc .hbm S2560x1792 .bf16)
  (harg5 : arg5.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)
  (arg19 : Memref sig .tc .vmem S2560x1792 .bf16)
  (harg19 : arg19.IsWhole)
  (arg20 : Memref sig .tc .vmem S1792x2560 .f32)
  (harg20 : arg20.IsWhole)
  (arg21 : Memref sig .tc .vmem S1792x256 .f32)
  (harg21 : arg21.IsWhole)
  (arg22 : Memref sig .tc .vmem S2560x256 .f32)
  (harg22 : arg22.IsWhole)
  (arg23 : Memref sig .tc .vmem S1792x256 .f32)
  (harg23 : arg23.IsWhole)
  (arg24 : Memref sig .tc .vmem S1792x256 .bf16)
  (harg24 : arg24.IsWhole)
  (arg25 : Memref sig .tc .vmem S2560x256 .bf16)
  (harg25 : arg25.IsWhole)
  (arg26 : Memref sig .tc .vmem S1792x256 .bf16)
  (harg26 : arg26.IsWhole)
  (arg27 : Memref sig .tc .vmem S56x256 .i32)
  (harg27 : arg27.IsWhole)
  (arg28 : Memref sig .tc .vmem S1792x256 .i8)
  (harg28 : arg28.IsWhole)
  (arg29 : Memref sig .tc .vmem S2560x256 .i8)
  (harg29 : arg29.IsWhole)
  (arg30 : DmaSems sig S_)

/-- The loop over the row groups of dy (first point): all it touches stays held, at some contents. -/
@[sl_loop, instance_reducible]
def anyLoop1 (arg0 : BitVec 32) (k0_h1 : k0_cond1 i = 1#1) (v36 : IVec S8x128 32) (v39 : BitVec 32) (v40 : BitVec 32) (v45 : BitVec 1) :
    LoopInvTy_k0_t1 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg0 k0_h1 v36 v39 v40 v45 where
  inv _ _ := iprop(anyAt c arg8 ∗ anyAt c arg21 ∗ anyAt c arg13 ∗ anyAt c arg24 ∗ anyAt c arg28)
  step k _ := by
    have hk : k.val < 56 := Nat.lt_of_lt_of_le k.isLt k0_t1_abs.2.1
    unfold k0_t1_body
    iintro ⟨⟨%f8, H8⟩, ⟨%f21, H21⟩, ⟨%f13, H13⟩, ⟨%f24, H24⟩, ⟨%f28, H28⟩⟩
    sl_exec
    sl_step
    sl_close

/-- The loop over the row groups of w (first point): all it touches stays held, at some contents. -/
@[sl_loop, instance_reducible]
def anyLoop2 (arg0 : BitVec 32) (k0_h1 : k0_cond1 i = 1#1) (v36 : IVec S8x128 32) (v39 : BitVec 32) (v40 : BitVec 32) (v45 : BitVec 1) :
    LoopInvTy_k0_t2 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg0 k0_h1 v36 v39 v40 v45 where
  inv _ _ := iprop(anyAt c arg9 ∗ anyAt c arg22 ∗ anyAt c arg15 ∗ anyAt c arg25 ∗ anyAt c arg29)
  step k _ := by
    have hk : k.val < 80 := Nat.lt_of_lt_of_le k.isLt k0_t2_abs.2.1
    unfold k0_t2_body
    iintro ⟨⟨%f9, H9⟩, ⟨%f22, H22⟩, ⟨%f15, H15⟩, ⟨%f25, H25⟩, ⟨%f29, H29⟩⟩
    sl_exec
    sl_step
    sl_close

/-- The loop over the column groups of dy: all it touches stays held, at some contents. -/
@[sl_loop, instance_reducible]
def anyLoop3 (k0_h2 : k0_cond2 i = 1#1) :
    LoopInvTy_k0_t3 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h2 where
  inv _ _ := iprop(anyAt c arg10 ∗ anyAt c arg23 ∗ anyAt c arg17 ∗ anyAt c arg27 ∗ anyAt c arg26)
  step k _ := by
    have hk : k.val < 28 := Nat.lt_of_lt_of_le k.isLt k0_t3_abs.2.1
    unfold k0_t3_body
    iintro ⟨⟨%f10, H10⟩, ⟨%f23, H23⟩, ⟨%f17, H17⟩, ⟨%f27, H27⟩, ⟨%f26, H26⟩⟩
    sl_exec
    sl_step
    sl_close

/-- The loop over the row groups of dy: all it touches stays held, at some contents. -/
@[sl_loop, instance_reducible]
def anyLoop4 (k0_h2 : k0_cond2 i = 1#1) (v129 : IVec S8x128 32) (v140 : BitVec 32) (v142 : BitVec 32) (v156 : BitVec 1) (c1_i32_130 : BitVec 32) :
    LoopInvTy_k0_t4 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h2 v129 v140 v142 v156 c1_i32_130 where
  inv _ _ := iprop(anyAt c arg8 ∗ anyAt c arg21 ∗ anyAt c arg13 ∗ anyAt c arg24 ∗ anyAt c arg28)
  step k _ := by
    have hk : k.val < 56 := Nat.lt_of_lt_of_le k.isLt k0_t4_abs.2.1
    unfold k0_t4_body
    iintro ⟨⟨%f8, H8⟩, ⟨%f21, H21⟩, ⟨%f13, H13⟩, ⟨%f24, H24⟩, ⟨%f28, H28⟩⟩
    sl_exec
    sl_step
    sl_close

/-- The loop over the row groups of w: all it touches stays held, at some contents. -/
@[sl_loop, instance_reducible]
def anyLoop5 (k0_h2 : k0_cond2 i = 1#1) (v129 : IVec S8x128 32) (v140 : BitVec 32) (v142 : BitVec 32) (v156 : BitVec 1) (c1_i32_130 : BitVec 32) :
    LoopInvTy_k0_t5 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h2 v129 v140 v142 v156 c1_i32_130 where
  inv _ _ := iprop(anyAt c arg9 ∗ anyAt c arg22 ∗ anyAt c arg15 ∗ anyAt c arg25 ∗ anyAt c arg29)
  step k _ := by
    have hk : k.val < 80 := Nat.lt_of_lt_of_le k.isLt k0_t5_abs.2.1
    unfold k0_t5_body
    iintro ⟨⟨%f9, H9⟩, ⟨%f22, H22⟩, ⟨%f15, H15⟩, ⟨%f25, H25⟩, ⟨%f29, H29⟩⟩
    sl_exec
    sl_step
    sl_close

/-- The loop over the column groups of dy (last tile): all it touches stays held, at some contents. -/
@[sl_loop, instance_reducible]
def anyLoop6 (k0_h3 : k0_cond3 i = 1#1) :
    LoopInvTy_k0_t6 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h3 where
  inv _ _ := iprop(anyAt c arg10 ∗ anyAt c arg23 ∗ anyAt c arg17 ∗ anyAt c arg27 ∗ anyAt c arg26)
  step k _ := by
    have hk : k.val < 28 := Nat.lt_of_lt_of_le k.isLt k0_t6_abs.2.1
    unfold k0_t6_body
    iintro ⟨⟨%f10, H10⟩, ⟨%f23, H23⟩, ⟨%f17, H17⟩, ⟨%f27, H27⟩, ⟨%f26, H26⟩⟩
    sl_exec
    sl_step
    sl_close

end Cert.KernelIdeal.Hand

end
-- ==== Proof.IdealAnyRun.lean ====
/-
  The backward kernel's body, run at each kind of grid point, with every window and scratch buffer held at some contents:
  its one transfer of its own is issued and waited inside the first point.
-/
module

public import proofs.«01_k».proof.Proof.Gen.KernelIdeal.Loops
public import proofs.«01_k».proof.Proof.IdealAnyLoops
public import proofs.«01_k».proof.Proof.Gen.KernelIdeal.Frame
public import Idealize.ShloMosaic.Lib.Pipeline.Frame
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

/-- The buffer of the copied x. -/
abbrev sc0 : Memref sig .tc .vmem S2560x1792 .bf16 := Memref.whole cc0_scratch0
/-- The buffer of the accumulator. -/
abbrev sc1 : Memref sig .tc .vmem S1792x2560 .f32 := Memref.whole cc0_scratch1
/-- The buffer of the rotated gradient along the columns. -/
abbrev sc2 : Memref sig .tc .vmem S1792x256 .f32 := Memref.whole cc0_scratch2
/-- The buffer of the rotated weight. -/
abbrev sc3 : Memref sig .tc .vmem S2560x256 .f32 := Memref.whole cc0_scratch3
/-- The buffer of the rotated gradient along the tokens. -/
abbrev sc4 : Memref sig .tc .vmem S1792x256 .f32 := Memref.whole cc0_scratch4
/-- The buffer of the quantised gradient along the columns. -/
abbrev sc5 : Memref sig .tc .vmem S1792x256 .bf16 := Memref.whole cc0_scratch5
/-- The buffer of the quantised weight. -/
abbrev sc6 : Memref sig .tc .vmem S2560x256 .bf16 := Memref.whole cc0_scratch6
/-- The buffer of the quantised gradient along the tokens. -/
abbrev sc7 : Memref sig .tc .vmem S1792x256 .bf16 := Memref.whole cc0_scratch7
/-- The buffer of the exponents along the tokens. -/
abbrev sc8 : Memref sig .tc .vmem S56x256 .i32 := Memref.whole cc0_scratch8
/-- The buffer of the gradient's exponents along the columns. -/
abbrev sc9 : Memref sig .tc .vmem S1792x256 .i8 := Memref.whole cc0_scratch9
/-- The buffer of the weight's exponents. -/
abbrev sc10 : Memref sig .tc .vmem S2560x256 .i8 := Memref.whole cc0_scratch10
/-- The decoded activations, left in HBM. -/
abbrev hbM : Memref sig .tc .hbm S2560x1792 .bf16 := Memref.whole main_arg0
/-- A buffer on core `c` held whole at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f
/-- A memref owned on core `c` at some contents. -/
abbrev anyOwn (c : Dev nD) {S : Shape} {e : EltTy} (M : Memref sig .tc .vmem S e) : sProp 𝕄 :=
  iprop(∃ d, owns (c : Thread nD τ) M fullShare d)

variable (c : Dev nD) (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)

/-- What the body is run from and gives back: every window and scratch buffer at some contents, its semaphore at zero, the
    activations in HBM at `fh`. -/
abbrev bodyRes (fh : Buf (Elt F) (hbM.view.loc (c : Thread nD τ))) : sProp 𝕄 :=
  iprop(anyOwn c arg1
        ∗ anyOwn c arg2
        ∗ anyOwn c arg3
        ∗ anyOwn c arg4
        ∗ anyOwn c arg6
        ∗ anyOwn c arg7
        ∗ anyOwn c arg8
        ∗ anyOwn c arg9
        ∗ anyOwn c arg10
        ∗ anyOwn c arg11
        ∗ anyOwn c arg12
        ∗ anyOwn c arg13
        ∗ anyOwn c arg14
        ∗ anyOwn c arg15
        ∗ anyOwn c arg16
        ∗ anyOwn c arg17
        ∗ anyOwn c arg18
        ∗ anyOwn c sc0
        ∗ anyOwn c sc1
        ∗ anyOwn c sc2
        ∗ anyOwn c sc3
        ∗ anyOwn c sc4
        ∗ anyOwn c sc5
        ∗ anyOwn c sc6
        ∗ anyOwn c sc7
        ∗ anyOwn c sc8
        ∗ anyOwn c sc9
        ∗ anyOwn c sc10
        ∗ semVal ((c : Thread nD τ), SemLoc.dma 29) 0
        ∗ hbPt c hbM fh)

/-- At the first point the body runs to its return. -/
theorem run1 (h1 : k0_cond1 i = 1#1) (h2 : ¬ k0_cond2 i = 1#1) (h3 : ¬ k0_cond3 i = 1#1) (h4 : ¬ k0_cond4 i = 1#1)
    (fh : Buf (Elt F) (hbM.view.loc (c : Thread nD τ))) (W : Waits sig Unit) (K : PUnit → sProp 𝕄) :
    iprop(bodyRes c arg1 arg2 arg3 arg4 arg6 arg7 arg8 arg9 arg10 arg11 arg12 arg13 arg14 arg15 arg16 arg17 arg18 fh ∗ owes (c : Thread nD τ) 0 W
        ∗ (iprop(bodyRes c arg1 arg2 arg3 arg4 arg6 arg7 arg8 arg9 arg10 arg11 arg12 arg13 arg14 arg15 arg16 arg17 arg18 fh ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold bodyRes anyOwn owns
  iintro ⟨⟨⟨%dW1, %fW1, -, W1⟩, ⟨%dW2, %fW2, -, W2⟩, ⟨%dW3, %fW3, -, W3⟩, ⟨%dW4, %fW4, -, W4⟩, ⟨%dW6, %fW6, -, W6⟩, ⟨%dW7, %fW7, -, W7⟩, ⟨%dW8, %fW8, -, W8⟩, ⟨%dW9, %fW9, -, W9⟩, ⟨%dW10, %fW10, -, W10⟩, ⟨%dW11, %fW11, -, W11⟩, ⟨%dW12, %fW12, -, W12⟩, ⟨%dW13, %fW13, -, W13⟩, ⟨%dW14, %fW14, -, W14⟩, ⟨%dW15, %fW15, -, W15⟩, ⟨%dW16, %fW16, -, W16⟩, ⟨%dW17, %fW17, -, W17⟩, ⟨%dW18, %fW18, -, W18⟩, ⟨%dS0, %fS0, -, S0⟩, ⟨%dS1, %fS1, -, S1⟩, ⟨%dS2, %fS2, -, S2⟩, ⟨%dS3, %fS3, -, S3⟩, ⟨%dS4, %fS4, -, S4⟩, ⟨%dS5, %fS5, -, S5⟩, ⟨%dS6, %fS6, -, S6⟩, ⟨%dS7, %fS7, -, S7⟩, ⟨%dS8, %fS8, -, S8⟩, ⟨%dS9, %fS9, -, S9⟩, ⟨%dS10, %fS10, -, S10⟩, Hq, Hh⟩, HW, Hk⟩
  sl_exec
  sl_step
  iapply Hk
  isplitr [HW]; swap
  · iexists _; iexact HW
  isplitl [W1]
  · iexists _, _; isplitr; swap; · iexact W1
    ipureintro; rfl
  isplitl [W2]
  · iexists _, _; isplitr; swap; · iexact W2
    ipureintro; rfl
  isplitl [W3]
  · iexists _, _; isplitr; swap; · iexact W3
    ipureintro; rfl
  isplitl [W4]
  · iexists _, _; isplitr; swap; · iexact W4
    ipureintro; rfl
  isplitl [W6]
  · iexists _, _; isplitr; swap; · iexact W6
    ipureintro; rfl
  isplitl [W7]
  · iexists _, _; isplitr; swap; · iexact W7
    ipureintro; rfl
  isplitl [W8]
  · iexists _, _; isplitr; swap; · iexact W8
    ipureintro; rfl
  isplitl [W9]
  · iexists _, _; isplitr; swap; · iexact W9
    ipureintro; rfl
  isplitl [W10]
  · iexists _, _; isplitr; swap; · iexact W10
    ipureintro; rfl
  isplitl [W11]
  · iexists _, _; isplitr; swap; · iexact W11
    ipureintro; rfl
  isplitl [W12]
  · iexists _, _; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _, _; isplitr; swap; · iexact W18
    ipureintro; rfl
  isplitl [S0]
  · iexists _, _; isplitr; swap; · iexact S0
    ipureintro; rfl
  isplitl [S1]
  · iexists _, _; isplitr; swap; · iexact S1
    ipureintro; rfl
  isplitl [S2]
  · iexists _, _; isplitr; swap; · iexact S2
    ipureintro; rfl
  isplitl [S3]
  · iexists _, _; isplitr; swap; · iexact S3
    ipureintro; rfl
  isplitl [S4]
  · iexists _, _; isplitr; swap; · iexact S4
    ipureintro; rfl
  isplitl [S5]
  · iexists _, _; isplitr; swap; · iexact S5
    ipureintro; rfl
  isplitl [S6]
  · iexists _, _; isplitr; swap; · iexact S6
    ipureintro; rfl
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

/-- At a middle point the body runs to its return. -/
theorem run2 (h1 : ¬ k0_cond1 i = 1#1) (h2 : k0_cond2 i = 1#1) (h3 : ¬ k0_cond3 i = 1#1) (h4 : ¬ k0_cond4 i = 1#1)
    (fh : Buf (Elt F) (hbM.view.loc (c : Thread nD τ))) (W : Waits sig Unit) (K : PUnit → sProp 𝕄) :
    iprop(bodyRes c arg1 arg2 arg3 arg4 arg6 arg7 arg8 arg9 arg10 arg11 arg12 arg13 arg14 arg15 arg16 arg17 arg18 fh ∗ owes (c : Thread nD τ) 0 W
        ∗ (iprop(bodyRes c arg1 arg2 arg3 arg4 arg6 arg7 arg8 arg9 arg10 arg11 arg12 arg13 arg14 arg15 arg16 arg17 arg18 fh ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold bodyRes anyOwn owns
  iintro ⟨⟨⟨%dW1, %fW1, -, W1⟩, ⟨%dW2, %fW2, -, W2⟩, ⟨%dW3, %fW3, -, W3⟩, ⟨%dW4, %fW4, -, W4⟩, ⟨%dW6, %fW6, -, W6⟩, ⟨%dW7, %fW7, -, W7⟩, ⟨%dW8, %fW8, -, W8⟩, ⟨%dW9, %fW9, -, W9⟩, ⟨%dW10, %fW10, -, W10⟩, ⟨%dW11, %fW11, -, W11⟩, ⟨%dW12, %fW12, -, W12⟩, ⟨%dW13, %fW13, -, W13⟩, ⟨%dW14, %fW14, -, W14⟩, ⟨%dW15, %fW15, -, W15⟩, ⟨%dW16, %fW16, -, W16⟩, ⟨%dW17, %fW17, -, W17⟩, ⟨%dW18, %fW18, -, W18⟩, ⟨%dS0, %fS0, -, S0⟩, ⟨%dS1, %fS1, -, S1⟩, ⟨%dS2, %fS2, -, S2⟩, ⟨%dS3, %fS3, -, S3⟩, ⟨%dS4, %fS4, -, S4⟩, ⟨%dS5, %fS5, -, S5⟩, ⟨%dS6, %fS6, -, S6⟩, ⟨%dS7, %fS7, -, S7⟩, ⟨%dS8, %fS8, -, S8⟩, ⟨%dS9, %fS9, -, S9⟩, ⟨%dS10, %fS10, -, S10⟩, Hq, Hh⟩, HW, Hk⟩
  sl_exec
  sl_step
  iapply Hk
  isplitr [HW]; swap
  · iexists _; iexact HW
  isplitl [W1]
  · iexists _, _; isplitr; swap; · iexact W1
    ipureintro; rfl
  isplitl [W2]
  · iexists _, _; isplitr; swap; · iexact W2
    ipureintro; rfl
  isplitl [W3]
  · iexists _, _; isplitr; swap; · iexact W3
    ipureintro; rfl
  isplitl [W4]
  · iexists _, _; isplitr; swap; · iexact W4
    ipureintro; rfl
  isplitl [W6]
  · iexists _, _; isplitr; swap; · iexact W6
    ipureintro; rfl
  isplitl [W7]
  · iexists _, _; isplitr; swap; · iexact W7
    ipureintro; rfl
  isplitl [W8]
  · iexists _, _; isplitr; swap; · iexact W8
    ipureintro; rfl
  isplitl [W9]
  · iexists _, _; isplitr; swap; · iexact W9
    ipureintro; rfl
  isplitl [W10]
  · iexists _, _; isplitr; swap; · iexact W10
    ipureintro; rfl
  isplitl [W11]
  · iexists _, _; isplitr; swap; · iexact W11
    ipureintro; rfl
  isplitl [W12]
  · iexists _, _; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _, _; isplitr; swap; · iexact W18
    ipureintro; rfl
  isplitl [S0]
  · iexists _, _; isplitr; swap; · iexact S0
    ipureintro; rfl
  isplitl [S1]
  · iexists _, _; isplitr; swap; · iexact S1
    ipureintro; rfl
  isplitl [S2]
  · iexists _, _; isplitr; swap; · iexact S2
    ipureintro; rfl
  isplitl [S3]
  · iexists _, _; isplitr; swap; · iexact S3
    ipureintro; rfl
  isplitl [S4]
  · iexists _, _; isplitr; swap; · iexact S4
    ipureintro; rfl
  isplitl [S5]
  · iexists _, _; isplitr; swap; · iexact S5
    ipureintro; rfl
  isplitl [S6]
  · iexists _, _; isplitr; swap; · iexact S6
    ipureintro; rfl
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

/-- At the point of the last tile the body runs to its return. -/
theorem run3 (h1 : ¬ k0_cond1 i = 1#1) (h2 : ¬ k0_cond2 i = 1#1) (h3 : k0_cond3 i = 1#1) (h4 : ¬ k0_cond4 i = 1#1)
    (fh : Buf (Elt F) (hbM.view.loc (c : Thread nD τ))) (W : Waits sig Unit) (K : PUnit → sProp 𝕄) :
    iprop(bodyRes c arg1 arg2 arg3 arg4 arg6 arg7 arg8 arg9 arg10 arg11 arg12 arg13 arg14 arg15 arg16 arg17 arg18 fh ∗ owes (c : Thread nD τ) 0 W
        ∗ (iprop(bodyRes c arg1 arg2 arg3 arg4 arg6 arg7 arg8 arg9 arg10 arg11 arg12 arg13 arg14 arg15 arg16 arg17 arg18 fh ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold bodyRes anyOwn owns
  iintro ⟨⟨⟨%dW1, %fW1, -, W1⟩, ⟨%dW2, %fW2, -, W2⟩, ⟨%dW3, %fW3, -, W3⟩, ⟨%dW4, %fW4, -, W4⟩, ⟨%dW6, %fW6, -, W6⟩, ⟨%dW7, %fW7, -, W7⟩, ⟨%dW8, %fW8, -, W8⟩, ⟨%dW9, %fW9, -, W9⟩, ⟨%dW10, %fW10, -, W10⟩, ⟨%dW11, %fW11, -, W11⟩, ⟨%dW12, %fW12, -, W12⟩, ⟨%dW13, %fW13, -, W13⟩, ⟨%dW14, %fW14, -, W14⟩, ⟨%dW15, %fW15, -, W15⟩, ⟨%dW16, %fW16, -, W16⟩, ⟨%dW17, %fW17, -, W17⟩, ⟨%dW18, %fW18, -, W18⟩, ⟨%dS0, %fS0, -, S0⟩, ⟨%dS1, %fS1, -, S1⟩, ⟨%dS2, %fS2, -, S2⟩, ⟨%dS3, %fS3, -, S3⟩, ⟨%dS4, %fS4, -, S4⟩, ⟨%dS5, %fS5, -, S5⟩, ⟨%dS6, %fS6, -, S6⟩, ⟨%dS7, %fS7, -, S7⟩, ⟨%dS8, %fS8, -, S8⟩, ⟨%dS9, %fS9, -, S9⟩, ⟨%dS10, %fS10, -, S10⟩, Hq, Hh⟩, HW, Hk⟩
  sl_exec
  sl_step
  iapply Hk
  isplitr [HW]; swap
  · iexists _; iexact HW
  isplitl [W1]
  · iexists _, _; isplitr; swap; · iexact W1
    ipureintro; rfl
  isplitl [W2]
  · iexists _, _; isplitr; swap; · iexact W2
    ipureintro; rfl
  isplitl [W3]
  · iexists _, _; isplitr; swap; · iexact W3
    ipureintro; rfl
  isplitl [W4]
  · iexists _, _; isplitr; swap; · iexact W4
    ipureintro; rfl
  isplitl [W6]
  · iexists _, _; isplitr; swap; · iexact W6
    ipureintro; rfl
  isplitl [W7]
  · iexists _, _; isplitr; swap; · iexact W7
    ipureintro; rfl
  isplitl [W8]
  · iexists _, _; isplitr; swap; · iexact W8
    ipureintro; rfl
  isplitl [W9]
  · iexists _, _; isplitr; swap; · iexact W9
    ipureintro; rfl
  isplitl [W10]
  · iexists _, _; isplitr; swap; · iexact W10
    ipureintro; rfl
  isplitl [W11]
  · iexists _, _; isplitr; swap; · iexact W11
    ipureintro; rfl
  isplitl [W12]
  · iexists _, _; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _, _; isplitr; swap; · iexact W18
    ipureintro; rfl
  isplitl [S0]
  · iexists _, _; isplitr; swap; · iexact S0
    ipureintro; rfl
  isplitl [S1]
  · iexists _, _; isplitr; swap; · iexact S1
    ipureintro; rfl
  isplitl [S2]
  · iexists _, _; isplitr; swap; · iexact S2
    ipureintro; rfl
  isplitl [S3]
  · iexists _, _; isplitr; swap; · iexact S3
    ipureintro; rfl
  isplitl [S4]
  · iexists _, _; isplitr; swap; · iexact S4
    ipureintro; rfl
  isplitl [S5]
  · iexists _, _; isplitr; swap; · iexact S5
    ipureintro; rfl
  isplitl [S6]
  · iexists _, _; isplitr; swap; · iexact S6
    ipureintro; rfl
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

/-- At a point that writes dx the body runs to its return. -/
theorem run4 (h1 : ¬ k0_cond1 i = 1#1) (h2 : ¬ k0_cond2 i = 1#1) (h3 : ¬ k0_cond3 i = 1#1) (h4 : k0_cond4 i = 1#1)
    (fh : Buf (Elt F) (hbM.view.loc (c : Thread nD τ))) (W : Waits sig Unit) (K : PUnit → sProp 𝕄) :
    iprop(bodyRes c arg1 arg2 arg3 arg4 arg6 arg7 arg8 arg9 arg10 arg11 arg12 arg13 arg14 arg15 arg16 arg17 arg18 fh ∗ owes (c : Thread nD τ) 0 W
        ∗ (iprop(bodyRes c arg1 arg2 arg3 arg4 arg6 arg7 arg8 arg9 arg10 arg11 arg12 arg13 arg14 arg15 arg16 arg17 arg18 fh ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold bodyRes anyOwn owns
  iintro ⟨⟨⟨%dW1, %fW1, -, W1⟩, ⟨%dW2, %fW2, -, W2⟩, ⟨%dW3, %fW3, -, W3⟩, ⟨%dW4, %fW4, -, W4⟩, ⟨%dW6, %fW6, -, W6⟩, ⟨%dW7, %fW7, -, W7⟩, ⟨%dW8, %fW8, -, W8⟩, ⟨%dW9, %fW9, -, W9⟩, ⟨%dW10, %fW10, -, W10⟩, ⟨%dW11, %fW11, -, W11⟩, ⟨%dW12, %fW12, -, W12⟩, ⟨%dW13, %fW13, -, W13⟩, ⟨%dW14, %fW14, -, W14⟩, ⟨%dW15, %fW15, -, W15⟩, ⟨%dW16, %fW16, -, W16⟩, ⟨%dW17, %fW17, -, W17⟩, ⟨%dW18, %fW18, -, W18⟩, ⟨%dS0, %fS0, -, S0⟩, ⟨%dS1, %fS1, -, S1⟩, ⟨%dS2, %fS2, -, S2⟩, ⟨%dS3, %fS3, -, S3⟩, ⟨%dS4, %fS4, -, S4⟩, ⟨%dS5, %fS5, -, S5⟩, ⟨%dS6, %fS6, -, S6⟩, ⟨%dS7, %fS7, -, S7⟩, ⟨%dS8, %fS8, -, S8⟩, ⟨%dS9, %fS9, -, S9⟩, ⟨%dS10, %fS10, -, S10⟩, Hq, Hh⟩, HW, Hk⟩
  sl_exec
  sl_step
  iapply Hk
  isplitr [HW]; swap
  · iexists _; iexact HW
  isplitl [W1]
  · iexists _, _; isplitr; swap; · iexact W1
    ipureintro; rfl
  isplitl [W2]
  · iexists _, _; isplitr; swap; · iexact W2
    ipureintro; rfl
  isplitl [W3]
  · iexists _, _; isplitr; swap; · iexact W3
    ipureintro; rfl
  isplitl [W4]
  · iexists _, _; isplitr; swap; · iexact W4
    ipureintro; rfl
  isplitl [W6]
  · iexists _, _; isplitr; swap; · iexact W6
    ipureintro; rfl
  isplitl [W7]
  · iexists _, _; isplitr; swap; · iexact W7
    ipureintro; rfl
  isplitl [W8]
  · iexists _, _; isplitr; swap; · iexact W8
    ipureintro; rfl
  isplitl [W9]
  · iexists _, _; isplitr; swap; · iexact W9
    ipureintro; rfl
  isplitl [W10]
  · iexists _, _; isplitr; swap; · iexact W10
    ipureintro; rfl
  isplitl [W11]
  · iexists _, _; isplitr; swap; · iexact W11
    ipureintro; rfl
  isplitl [W12]
  · iexists _, _; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _, _; isplitr; swap; · iexact W18
    ipureintro; rfl
  isplitl [S0]
  · iexists _, _; isplitr; swap; · iexact S0
    ipureintro; rfl
  isplitl [S1]
  · iexists _, _; isplitr; swap; · iexact S1
    ipureintro; rfl
  isplitl [S2]
  · iexists _, _; isplitr; swap; · iexact S2
    ipureintro; rfl
  isplitl [S3]
  · iexists _, _; isplitr; swap; · iexact S3
    ipureintro; rfl
  isplitl [S4]
  · iexists _, _; isplitr; swap; · iexact S4
    ipureintro; rfl
  isplitl [S5]
  · iexists _, _; isplitr; swap; · iexact S5
    ipureintro; rfl
  isplitl [S6]
  · iexists _, _; isplitr; swap; · iexact S6
    ipureintro; rfl
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

end Cert.KernelIdeal.Hand

end
-- ==== Proof.IdealAnyFrame.lean ====
/-
  The frame of the whole program: from any memory every run ends, with the arguments as launched and every semaphore at zero.
-/
module

public import proofs.«01_k».proof.Proof.Gen.KernelIdeal.Loops
public import proofs.«01_k».proof.Proof.IdealAnyRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The kernel's own semaphore. -/
abbrev osem0 : Fin 1 → SemLoc sig := fun j => (![SemLoc.dma 29] : Fin 1 → SemLoc sig) j
/-- The kernel's own semaphores are as the launch declares them. -/
theorem ownSemFacts0 : Pipeline.OwnSemFacts spec0 osem0 := by decide
/-- The kernel's own semaphore, as one assertion. -/
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 29) 0 := by
  rw [Pipeline.ownSems0_eq_of_list c osem0 [0] (by decide) (by decide)]; rfl
/-- The activations, left in HBM: no window's array. -/
def H0 : Finset (Ref sig .tc) := {main_arg0}
/-- The arrays left in the large memory are among those no window stages. -/
theorem H0_sub : H0 ⊆ Pipeline.restRefs sig spec0 := by decide
/-- The arrays left in the large memory, as one assertion. -/
theorem hbmPts0_eq (c : Dev nD) :
    (bigSep H0 (fun b => ((c : Thread nD τ).loc b) ↦{fullShare} V m c b) : sProp 𝕄) = hbPt c hbM (V m c main_arg0) := by
  rw [BI.bigSep_eq_bigSepL_of_eq [main_arg0] (by decide) (by decide)]; rfl

/-- What holds between points, conjunct by conjunct: the scratch at some contents, the generator register at some state,
    the semaphore at zero, the activations as launched. -/
theorem PhiD0_eq (c : Dev nD) :
    (Pipeline.ΦD osem0 spec0 H0 (V m) c : sProp 𝕄)
      = iprop(iprop(anyOwn c sc0 ∗ anyOwn c sc1 ∗ anyOwn c sc2 ∗ anyOwn c sc3 ∗ anyOwn c sc4 ∗ anyOwn c sc5 ∗ anyOwn c sc6 ∗ anyOwn c sc7 ∗ anyOwn c sc8 ∗ anyOwn c sc9 ∗ anyOwn c sc10) ∗ (∃ r, prngReg c r)
          ∗ semVal ((c : Thread nD τ), SemLoc.dma 29) 0 ∗ hbPt c hbM (V m c main_arg0)) := by
  rw [Pipeline.ΦD_eq, scopedRest0_eq, ownSems00_eq, hbmPts0_eq]; simp only [anyOwn, sc0, sc1, sc2, sc3, sc4, sc5, sc6, sc7, sc8, sc9, sc10, owns_whole]; try rfl

/-- Nothing is said of what any window holds after a point. -/
def forgets0 : Fin 17 → Bool := fun _ => true

/-- The proof data on core `c`. -/
def dats (_ : Fin 1) (c : Dev nD) : Dat τ (Elt F) Unit ℕ (Pipeline.UD sig nD τ) ℕ cfg0 c where
  A w := V m c (Pipeline.arrRef spec0 w)
  after w t := Pipeline.Dat.unnamed (cfg := cfg0) w t
  Φ _ := Pipeline.ΦD osem0 spec0 H0 (V m) c
  q _ := fullShare
  owed _ := 0

/-- A window's array is what the host line left in it. -/
theorem A_eq (c : Dev nD) (w : Fin cfg0.W) : (dats m 0 c).A w = V m c (Pipeline.arrRef spec0 w) := by dsimp only [dats]

/-- Which of the four kinds a grid point is of. -/
theorem kinds (t : Fin cfg0.N) :
    (k0_cond1 (grid0.coords t) = 1#1 ∧ ¬ k0_cond2 (grid0.coords t) = 1#1 ∧ ¬ k0_cond3 (grid0.coords t) = 1#1 ∧ ¬ k0_cond4 (grid0.coords t) = 1#1)
    ∨ (¬ k0_cond1 (grid0.coords t) = 1#1 ∧ k0_cond2 (grid0.coords t) = 1#1 ∧ ¬ k0_cond3 (grid0.coords t) = 1#1 ∧ ¬ k0_cond4 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1)
    ∨ (¬ k0_cond1 (grid0.coords t) = 1#1 ∧ ¬ k0_cond2 (grid0.coords t) = 1#1 ∧ ¬ k0_cond3 (grid0.coords t) = 1#1 ∧ k0_cond4 (grid0.coords t) = 1#1) := by
  revert t; decide +kernel

section Run
variable (c : Dev nD) (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)

/-- The body runs at a point of any of the four kinds. -/
theorem runAny
    (hi : (k0_cond1 i = 1#1 ∧ ¬ k0_cond2 i = 1#1 ∧ ¬ k0_cond3 i = 1#1 ∧ ¬ k0_cond4 i = 1#1)
      ∨ (¬ k0_cond1 i = 1#1 ∧ k0_cond2 i = 1#1 ∧ ¬ k0_cond3 i = 1#1 ∧ ¬ k0_cond4 i = 1#1)
      ∨ (¬ k0_cond1 i = 1#1 ∧ ¬ k0_cond2 i = 1#1 ∧ k0_cond3 i = 1#1 ∧ ¬ k0_cond4 i = 1#1)
      ∨ (¬ k0_cond1 i = 1#1 ∧ ¬ k0_cond2 i = 1#1 ∧ ¬ k0_cond3 i = 1#1 ∧ k0_cond4 i = 1#1))
    (fh : Buf (Elt F) (hbM.view.loc (c : Thread nD τ))) (W : Waits sig Unit) (K : PUnit → sProp 𝕄) :
    iprop(bodyRes c arg1 arg2 arg3 arg4 arg6 arg7 arg8 arg9 arg10 arg11 arg12 arg13 arg14 arg15 arg16 arg17 arg18 fh ∗ owes (c : Thread nD τ) 0 W
        ∗ (iprop(bodyRes c arg1 arg2 arg3 arg4 arg6 arg7 arg8 arg9 arg10 arg11 arg12 arg13 arg14 arg15 arg16 arg17 arg18 fh ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  rcases hi with ⟨h1, h2, h3, h4⟩ | ⟨h1, h2, h3, h4⟩ | ⟨h1, h2, h3, h4⟩ | ⟨h1, h2, h3, h4⟩
  · exact run1 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 h1 h2 h3 h4 fh W K
  · exact run2 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 h1 h2 h3 h4 fh W K
  · exact run3 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 h1 h2 h3 h4 fh W K
  · exact run4 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 h1 h2 h3 h4 fh W K

end Run

/-- What the body is called with at point `t`, and what it returns. -/
def bodyPre (c : Dev nD) (t : Fin cfg0.N) : sProp 𝕄 :=
  iprop((dats m 0 c).Φ t.castSucc ∗ (dats m 0 c).owesAt () t.castSucc
    ∗ anyOwn c (win0_0.stage (cfg0.slots t 0)) ∗ anyOwn c (win0_1.stage (cfg0.slots t 1)) ∗ anyOwn c (win0_2.stage (cfg0.slots t 2)) ∗ anyOwn c (win0_3.stage (cfg0.slots t 3)) ∗ anyOwn c (win0_4.stage (cfg0.slots t 4)) ∗ anyOwn c (win0_5.stage (cfg0.slots t 5)) ∗ anyOwn c (win0_6.stage (cfg0.slots t 6)) ∗ anyOwn c (win0_7.stage (cfg0.slots t 7)) ∗ anyOwn c (win0_8.stage (cfg0.slots t 8)) ∗ anyOwn c (win0_9.stage (cfg0.slots t 9)) ∗ anyOwn c (win0_10.stage (cfg0.slots t 10)) ∗ anyOwn c (win0_11.stage (cfg0.slots t 11)) ∗ anyOwn c (win0_12.stage (cfg0.slots t 12)) ∗ anyOwn c (win0_13.stage (cfg0.slots t 13)) ∗ anyOwn c (win0_14.stage (cfg0.slots t 14)) ∗ anyOwn c (win0_15.stage (cfg0.slots t 15)) ∗ anyOwn c (win0_16.stage (cfg0.slots t 16)))
/-- What the body leaves at a grid point. -/
def bodyPost (c : Dev nD) (t : Fin cfg0.N) : sProp 𝕄 :=
  iprop((dats m 0 c).Φ t.succ ∗ (dats m 0 c).owesAt () t.succ
    ∗ anyOwn c (win0_0.stage (cfg0.slots t 0)) ∗ anyOwn c (win0_1.stage (cfg0.slots t 1)) ∗ anyOwn c (win0_2.stage (cfg0.slots t 2)) ∗ anyOwn c (win0_3.stage (cfg0.slots t 3)) ∗ anyOwn c (win0_4.stage (cfg0.slots t 4)) ∗ anyOwn c (win0_5.stage (cfg0.slots t 5)) ∗ anyOwn c (win0_6.stage (cfg0.slots t 6)) ∗ anyOwn c (win0_7.stage (cfg0.slots t 7)) ∗ anyOwn c (win0_8.stage (cfg0.slots t 8)) ∗ anyOwn c (win0_9.stage (cfg0.slots t 9)) ∗ anyOwn c (win0_10.stage (cfg0.slots t 10)) ∗ anyOwn c (win0_11.stage (cfg0.slots t 11)) ∗ anyOwn c (win0_12.stage (cfg0.slots t 12)) ∗ anyOwn c (win0_13.stage (cfg0.slots t 13)) ∗ anyOwn c (win0_14.stage (cfg0.slots t 14)) ∗ anyOwn c (win0_15.stage (cfg0.slots t 15)) ∗ anyOwn c (win0_16.stage (cfg0.slots t 16)))

set_option maxHeartbeats 1000000 in
/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  iintro ⟨⟨⟨S0, S1, S2, S3, S4, S5, S6, S7, S8, S9, S10⟩, Hg, Hq, Hh⟩, ⟨%W, %hW, HO⟩, W0, W1, W2, W3, W4, W5, W6, W7, W8, W9, W10, W11, W12, W13, W14, W15, W16⟩
  iapply (runAny c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (kinds t) (V m c main_arg0) W _)
  isplitr [HO Hg]
  · unfold bodyRes
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Hq]; · iexact Hq
    iexact Hh
  isplitl [HO]; · iexact HO
  unfold bodyRes
  iintro ⟨⟨W0, W1, W2, W3, W4, W5, W6, W7, W8, W9, W10, W11, W12, W13, W14, W15, W16, S0, S1, S2, S3, S4, S5, S6, S7, S8, S9, S10, Hq, Hh⟩, ⟨%W', HO⟩⟩
  isplitl [S0 S1 S2 S3 S4 S5 S6 S7 S8 S9 S10 Hg Hq Hh]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    isplitl [Hg]; · iexact Hg
    isplitl [Hq]; · iexact Hq
    iexact Hh
  isplitl [HO]
  · iexists W'; isplitr; · ipureintro; exact fun _ _ => Or.inl trivial
    iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  iexact W16

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body obligation, every window forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option maxHeartbeats 800000 in
/-- The program up to the region, at the algebra the transfer steps run in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

-- unification must unfold plain definitions in a metavariable's type
set_option backward.isDefEq.respectTransparency.types false in
/-- Every run of the program ends; the arrays the kernel reads are as the kernel found them; every semaphore is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

set_option maxHeartbeats 1600000 in
/-- The frame claim. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 5 rfl).trans ((A_eq m c 5).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Pipeline.RDat.FramePost.arr_in h.1 c 7 rfl).trans ((A_eq m c 7).trans (V_main_arg6 m c)),
      ((h.1 c).2 main_arg7 (Pipeline.mem_restRefs_of main_arg7 (by decide) (by decide))).trans (V_main_arg7 m c)⟩, h.2⟩) (run_main m ρ)

end Cert.KernelIdeal.Hand

end
-- ==== Proof.RefFrame.lean ====
/-
  The reference runs and leaves its arguments as they were: it is a straight line of host operations, no one of which
  writes an argument, and it declares no semaphore.
-/
module

public import proofs.«01_k».proof.Defs
public import proofs.«01_k».proof.Proof.Gen.ReferenceIdeal
public import Idealize.ShloMosaic.Lib.Claim

@[expose] public section

set_option maxRecDepth 16384

noncomputable section

namespace Cert.Proof.Ref

open Idealize.ShloMosaic Idealize.ShloMosaic.StableHlo Idealize.SL.Sem

/-- The reference terminates, its counters at zero, its eight arguments unchanged. -/
theorem frame : Cert.quiescent_ReferenceIdeal := by
  intro m g _
  refine (θ_run Cert.ReferenceIdeal.defs _ _).mono
    (fun r h => ⟨h, Idealize.ShloMosaic.sem_eq_zero_of_no_sems (by decide) r.2⟩) ?_
  hlo_run

end Cert.Proof.Ref

end
-- ==== Proof.Named.lean ====
/-
  The rewrites that turn the kernel into its ideal twin: two float constants are read as the real numbers they round, and
  pairs of bfloat16 words as rows of each parity.
-/
module

public import proofs.«01_k».proof.Defs
public import Idealize.ShloMosaic.Lib.Bf16Pair

@[expose] public section

noncomputable section

namespace Cert.Proof

open Idealize.ShloMosaic

/-- Each rewrite of the ideal twin is the one its rule allows. -/
theorem preserves : Cert.preserves_Kernel_KernelIdeal :=
  ⟨IdealRules.named_const.statement Cert.KernelIdeal.κ "inv_ln2" .f32 0x3FB8AA3B#32 (((Real.log 2)⁻¹ : ℝ) : EReal) rfl,
    IdealRules.bf16_pair.statement Cert.KernelIdeal.S32x128 Cert.KernelIdeal.S16x128,
    IdealRules.named_const.statement Cert.KernelIdeal.κ "quant_scale" .f32 0x3F87C3B6#32
      ((35589849 / 33554432 : ℝ) : EReal) rfl⟩

end Cert.Proof

end
-- ==== Proof.Quant.lean ====
/-
  What one trip of each quantising loop stores, as one function of the rows it reads: the rotated values and the random
  bytes. All six loops compute one of two such functions, one for groups along the lanes, one for groups along the tokens.
-/
module

public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- Thirty-two rows quantised in groups along the lanes: `x` the rotated values, `r` the random bytes. -/
def laneOp (x : Vec F S32x256 .f32) (r : Vec F S32x256 .i8) : FVec F S32x256 .bf16 :=
  let one : F .f32 := Scalar.ofBits .f32 0x3F800000#32
  let zero : F .f32 := Scalar.ofBits .f32 0x00000000#32
  let bytes := k0_pay6 (F := F) r
  let dec := k0_pay12 (k0_pay9 x)
  let ye := k0_pay18 (k0_pay7 x) (k0_pay10 x) zero
  let yo := k0_pay19 (k0_pay8 x) (k0_pay10 x) zero
  let ie := k0_pay26 (k0_pay24 ye (k0_pay20 bytes)) (k0_pay25 ye) one
  let io := k0_pay31 (k0_pay27 k0_pay13 k0_pay14 (k0_pay16 bytes) (k0_pay17 bytes)) (k0_pay28 yo) (k0_pay29 yo) (k0_pay30 yo) one
  k0_pay74 (k0_pay35 dec ie (k0_pay32 ye ie)) (k0_pay36 dec yo io)

/-- The same for the weight's loops, whose text is cut at other places. -/
def laneOpW (x : Vec F S32x256 .f32) (r : Vec F S32x256 .i8) : FVec F S32x256 .bf16 :=
  let one : F .f32 := Scalar.ofBits .f32 0x3F800000#32
  let zero : F .f32 := Scalar.ofBits .f32 0x00000000#32
  let dec := k0_pay43 (k0_pay39 x)
  let ye := k0_pay49 (k0_pay37 x) (k0_pay40 x) (k0_pay41 (F := F))
  let yo := k0_pay50 (k0_pay38 x) (k0_pay40 x) (k0_pay41 (F := F))
  let ie := k0_pay57 (k0_pay55 ye (k0_pay51 (F := F) r)) (k0_pay56 ye) one zero
  let io := k0_pay63 (k0_pay58 k0_pay44 k0_pay45 (k0_pay47 (F := F) r) (k0_pay48 (F := F) r)) (k0_pay59 yo) (k0_pay60 yo) (k0_pay61 yo) (k0_pay62 (F := F))
  k0_pay77 (k0_pay67 dec yo ie io (k0_pay64 ye ie) zero)

/-- The weight's powers of two are the gradient's function. -/
theorem sharedP (x : Vec F S32x256 .f32) : k0_pay39 x = k0_pay9 x := rfl
/-- The same, as float32. -/
theorem sharedPf (x : Vec F S32x256 .f32) : k0_pay40 x = k0_pay10 x := rfl
/-- The weight's even scaled values are the gradient's function. -/
theorem sharedY (s : FVec F S32x128 .f32) (pf : FVec F S32x128 .f32) :
    k0_pay49 s pf (k0_pay41 (F := F)) = k0_pay18 s pf (Scalar.ofBits .f32 0x00000000#32) := rfl
/-- The weight's odd scaled values are the gradient's function. -/
theorem sharedY' (s : FVec F S32x128 .f32) (pf : FVec F S32x128 .f32) :
    k0_pay50 s pf (k0_pay41 (F := F)) = k0_pay19 s pf (Scalar.ofBits .f32 0x00000000#32) := rfl
/-- The weight's bytes are regrouped as the gradient's. -/
theorem sharedR (r : IVec S32x256 8) :
    k0_pay51 (F := F) r = bitcast S32x128 8 (k0_pay20 r) bitcasts_S8x128_w32_S32x128_w8 := rfl
/-- The weight's carries are the gradient's function. -/
theorem sharedUp (y : FVec F S32x128 .f32) (w : IVec S8x128 32) :
    k0_pay55 y (bitcast S32x128 8 w bitcasts_S8x128_w32_S32x128_w8) = k0_pay24 y w := rfl
/-- The weight's codes below are the gradient's function. -/
theorem sharedLo (y : FVec F S32x128 .f32) : k0_pay56 y = k0_pay25 y := rfl
/-- The weight's even codes are the gradient's function. -/
theorem sharedIe (b : IVec S32x128 1) (l : FVec F S32x128 .f32) :
    k0_pay57 b l (Scalar.ofBits .f32 0x3F800000#32 : F .f32) (Scalar.ofBits .f32 0x00000000#32)
      = k0_pay26 b l (Scalar.ofBits .f32 0x3F800000#32) := rfl
/-- A cast to the same shape changes nothing. -/
theorem pay6_eq (r : IVec S32x256 8) : k0_pay6 (F := F) r = r := shapeCast_self r _
/-- The weight's first half of bytes. -/
theorem sharedA (r : IVec S32x256 8) : k0_pay47 (F := F) r = k0_pay16 r := rfl
/-- The weight's second half of bytes. -/
theorem sharedB (r : IVec S32x256 8) : k0_pay48 (F := F) r = k0_pay17 r := rfl
/-- The weight's odd codes are the gradient's function. -/
theorem sharedIo (w : IVec S32x128 32) (y : FVec F S32x128 .f32) :
    k0_pay63 w (k0_pay59 y) (k0_pay60 y) (k0_pay61 y) (k0_pay62 (F := F))
      = k0_pay31 w (k0_pay28 y) (k0_pay29 y) (k0_pay30 y) (Scalar.ofBits .f32 0x3F800000#32) := rfl
/-- The weight's decoded values are the gradient's function. -/
theorem sharedOp (dec : FVec F S32x128 .bf16) (y : FVec F S32x128 .f32) (ie io s : IVec S8x128 32) :
    k0_pay77 (k0_pay67 dec y ie io s (Scalar.ofBits .f32 0x00000000#32)) = k0_pay74 (k0_pay35 dec ie s) (k0_pay36 dec y io) := rfl

/-- The weight's loops compute the same function. -/
theorem laneOpW_eq (x : Vec F S32x256 .f32) (r : Vec F S32x256 .i8) : laneOpW x r = laneOp x r := by
  unfold laneOpW laneOp
  simp only []
  rw [pay6_eq, sharedOp, sharedP, sharedPf, sharedY, sharedY', sharedR, sharedUp, sharedLo, sharedIe, sharedIo, sharedA, sharedB]
  rfl

/-- Sixty-four rows quantised in groups along the tokens: `x` the rotated values, `r` the random bytes. -/
def tokOp (x : Vec F S64x256 .f32) (r : Vec F S64x256 .i8) : FVec F S64x256 .bf16 :=
  let bytes := k0_pay90 (F := F) r
  let x0 := k0_pay91 x
  let sc0 := k0_pay93 x
  let op0 := k0_pay104 (k0_pay95 (k0_pay92 x) (Scalar.ofBits .f32 0x41800000#32)) (k0_pay96 x0 sc0) (k0_pay98 x0 sc0)
    (k0_pay99 x0 sc0) (k0_pay100 x0 sc0) (k0_pay101 (F := F) bytes)
  let x1 := k0_pay106 x
  let p1 := k0_pay107 x
  let idx1 := k0_pay117 (F := F) (k0_pay112 bytes) (k0_pay113 x1 p1) (k0_pay114 x1 p1) (k0_pay115 x1 p1) (k0_pay116 x1 p1)
    (Scalar.ofBits .f32 0x3E800000#32)
  k0_pay197 (k0_pay121 op0 (k0_pay110 p1) idx1 (k0_pay118 (k0_pay111 x1 p1)))

/-- The scale exponents of the first and of the second thirty-two of sixty-four rows. -/
def expOp (x : Vec F S64x256 .f32) (b : ℕ) : IVec S1x256 32 :=
  if b = 0 then k0_pay122 (k0_pay94 x) else k0_pay123 (k0_pay109 (k0_pay107 x))

end Cert.KernelIdeal.Hand

end
-- ==== Proof.Fill.lean ====
/-
  A buffer filled block by block: what it holds after some of its blocks have been written.
-/
module

public import Idealize.ShloMosaic.Lib.Pipeline.Frame

@[expose] public section

noncomputable section

namespace Cert.Fill

open Idealize.ShloMosaic

variable {sig : RefSig} {κ : Kind} {sp : Space} {s B : Shape} {e : EltTy} {Val : EltTy → Type}

/-- The first `k` blocks of the buffer `f` hold what `G` says; block `q`'s element `x` lies at `at_ q x`. -/
def Filled (v : View sig κ sp s e) {n : ℕ} (at_ : Fin n → B.Idx → s.Idx) (G : Fin n → B.Idx → Val e) :
    ℕ → v.ty.Contents Val → Prop
  | 0, _ => True
  | k + 1, f => ∀ q : Fin n, q.val < k + 1 → ∀ x, v.read Val f (at_ q x) = G q x

/-- Writing the next block extends what is filled by that block. -/
theorem filled_step (v : View sig κ sp s e) {n : ℕ} {at_ : Fin n → B.Idx → s.Idx} {G : Fin n → B.Idx → Val e}
    (inj : ∀ q x q' x', at_ q x = at_ q' x' → q = q') (k : Fin n) {f : v.ty.Contents Val} (r : Rect s)
    (w : r.shape.Idx → Val e) (hs : r.shape = B) (hr : ∀ x : r.shape.Idx, r.emb x = at_ k (hs ▸ x))
    (hw : ∀ x : r.shape.Idx, w x = G k (hs ▸ x)) (hf : Filled v at_ G k.val f) :
    Filled v at_ G (k.val + 1) (v.writes Val f [⟨r, w⟩]) := by
  subst hs
  intro q hq x
  by_cases h : q = k
  · subst h
    rw [← hr x, View.read_writes_cons_emb, hw x]
  · have hlt : q.val < k.val := by
      have : q.val ≠ k.val := fun h' => h (Fin.ext h')
      omega
    rw [View.read_writes_apply_of_forall_not_mem]
    · cases hk : k.val with
      | zero => omega
      | succ m =>
        rw [hk] at hf
        exact hf q (by omega) x
    · intro p hp
      rw [List.mem_singleton] at hp
      subst hp
      intro hmem
      obtain ⟨x', hx'⟩ := r.exists_idx_of_mem hmem
      exact h (inj _ _ _ _ (hx'.symm.trans (hr x')))

/-- The same over a list of earlier stores, the trip a number. -/
theorem filled_cons (v : View sig κ sp s e) {n : ℕ} {at_ : Fin n → B.Idx → s.Idx} {G : Fin n → B.Idx → Val e}
    (inj : ∀ q x q' x', at_ q x = at_ q' x' → q = q') (k : ℕ) (hk : k < n) {f : v.ty.Contents Val} {L : List (View.Piece Val s e)} (r : Rect s)
    (w : r.shape.Idx → Val e) (hs : r.shape = B) (hr : ∀ x : r.shape.Idx, r.emb x = at_ ⟨k, hk⟩ (hs ▸ x))
    (hw : ∀ x : r.shape.Idx, w x = G ⟨k, hk⟩ (hs ▸ x)) (hf : Filled v at_ G k (v.writes Val f L)) :
    Filled v at_ G (k + 1) (v.writes Val f (⟨r, w⟩ :: L)) :=
  filled_step v inj ⟨k, hk⟩ r w hs hr hw hf

/-- Nothing is filled at first. -/
theorem filled_zero (v : View sig κ sp s e) {n : ℕ} {at_ : Fin n → B.Idx → s.Idx} {G : Fin n → B.Idx → Val e} (f : v.ty.Contents Val) :
    Filled v at_ G 0 f := trivial

/-- All is filled at the end. -/
theorem filled_all {v : View sig κ sp s e} {n : ℕ} {at_ : Fin (n + 1) → B.Idx → s.Idx} {G : Fin (n + 1) → B.Idx → Val e} {f : v.ty.Contents Val}
    (h : Filled v at_ G (n + 1) f) (q : Fin (n + 1)) (x : B.Idx) : v.read Val f (at_ q x) = G q x := h q q.isLt x

end Cert.Fill

end
-- ==== Proof.ValLoops.lean ====
/-
  The counted loops of the backward kernel with the values they store: the rows each trip writes are the quantised rows it
  read. The buffers whose contents no result depends on are held at some contents.
-/
module

public import proofs.«01_k».proof.Proof.Gen.KernelIdeal.Loops
public import proofs.«01_k».proof.Proof.IdealAnyLoops
public import proofs.«01_k».proof.Proof.Quant
public import proofs.«01_k».proof.Proof.Fill
public import Idealize.ShloMosaic.Lib.Pipeline.Frame
public import Idealize.ShloMosaic.Lib.Transfers
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fill

variable {F : FTy → Type} [FloatOps F] [Named F]

local notation "𝕄" => MT nD τ sig Unit (Elt F) ℕ (Pipeline.UD sig nD τ) ℕ

/-- Element `x` of the `q`-th block of 32 rows of a 1792-row array. -/
def at32 (q : Fin 56) (x : S32x256.Idx) : S1792x256.Idx := ix2 ⟨32 * q.val + (x 0).val, by have h : (x 0).val < 32 := (x 0).isLt; omega⟩ (x 1)
/-- Element `x` of the `q`-th block of 32 rows of a 2560-row array. -/
def at32w (q : Fin 80) (x : S32x256.Idx) : S2560x256.Idx := ix2 ⟨32 * q.val + (x 0).val, by have h : (x 0).val < 32 := (x 0).isLt; omega⟩ (x 1)
/-- Element `x` of the `q`-th block of 64 rows of a 1792-row array. -/
def at64 (q : Fin 28) (x : S64x256.Idx) : S1792x256.Idx := ix2 ⟨64 * q.val + (x 0).val, by have h : (x 0).val < 64 := (x 0).isLt; omega⟩ (x 1)

/-- Blocks do not overlap. -/
theorem at32_inj (q x q' x') (h : at32 q x = at32 q' x') : q = q' := by
  have h0 : 32 * q.val + (x 0).val = 32 * q'.val + (x' 0).val := congrArg Fin.val (congrFun h 0)
  have h1 : (x 0).val < 32 := (x 0).isLt
  have h2 : (x' 0).val < 32 := (x' 0).isLt
  exact Fin.ext (by omega)
/-- Blocks do not overlap. -/
theorem at32w_inj (q x q' x') (h : at32w q x = at32w q' x') : q = q' := by
  have h0 : 32 * q.val + (x 0).val = 32 * q'.val + (x' 0).val := congrArg Fin.val (congrFun h 0)
  have h1 : (x 0).val < 32 := (x 0).isLt
  have h2 : (x' 0).val < 32 := (x' 0).isLt
  exact Fin.ext (by omega)
/-- Blocks do not overlap. -/
theorem at64_inj (q x q' x') (h : at64 q x = at64 q' x') : q = q' := by
  have h0 : 64 * q.val + (x 0).val = 64 * q'.val + (x' 0).val := congrArg Fin.val (congrFun h 0)
  have h1 : (x 0).val < 64 := (x 0).isLt
  have h2 : (x' 0).val < 64 := (x' 0).isLt
  exact Fin.ext (by omega)

/-- Where trip `k` reads and writes. -/
theorem off1_eq : ∀ k : Fin k0_t1_loop.trips, k0_off1 k = ![32 * k.val, 0] := by decide +kernel
/-- Where trip `k` reads and writes. -/
theorem off4_eq : ∀ k : Fin k0_t2_loop.trips, k0_off4 k = ![32 * k.val, 0] := by decide +kernel
/-- Where trip `k` reads and writes. -/
theorem off7_eq : ∀ k : Fin k0_t3_loop.trips, k0_off7 k = ![64 * k.val, 0] := by decide +kernel
/-- Where trip `k` reads and writes. -/
theorem off10_eq : ∀ k : Fin k0_t4_loop.trips, k0_off10 k = ![32 * k.val, 0] := by decide +kernel
/-- Where trip `k` reads and writes. -/
theorem off13_eq : ∀ k : Fin k0_t5_loop.trips, k0_off13 k = ![32 * k.val, 0] := by decide +kernel
/-- Where trip `k` reads and writes. -/
theorem off16_eq : ∀ k : Fin k0_t6_loop.trips, k0_off16 k = ![64 * k.val, 0] := by decide +kernel

/-- The rectangle of 32 rows from row `32 q`, placed. -/
theorem emb32 (off : Fin 2 → ℕ) (inb : ∀ a, off a + S32x256.size a ≤ S1792x256.size a) (q : Fin 56) (h : off = ![32 * q.val, 0])
    (x : S32x256.Idx) : (Rect.unit (s := S1792x256) off S32x256.size inb).emb x = at32 q x := by
  subst h
  funext a
  match a with
  | ⟨0, _⟩ => exact Fin.ext ((Rect.emb_apply _ _ _).trans (congrArg (32 * q.val + ·) (Nat.one_mul _)))
  | ⟨1, _⟩ => exact Fin.ext ((Rect.emb_apply _ _ _).trans ((Nat.zero_add _).trans (Nat.one_mul _)))
/-- The same over 2560 rows. -/
theorem emb32w (off : Fin 2 → ℕ) (inb : ∀ a, off a + S32x256.size a ≤ S2560x256.size a) (q : Fin 80) (h : off = ![32 * q.val, 0])
    (x : S32x256.Idx) : (Rect.unit (s := S2560x256) off S32x256.size inb).emb x = at32w q x := by
  subst h
  funext a
  match a with
  | ⟨0, _⟩ => exact Fin.ext ((Rect.emb_apply _ _ _).trans (congrArg (32 * q.val + ·) (Nat.one_mul _)))
  | ⟨1, _⟩ => exact Fin.ext ((Rect.emb_apply _ _ _).trans ((Nat.zero_add _).trans (Nat.one_mul _)))
/-- The rectangle of 64 rows from row `64 q`, placed. -/
theorem emb64 (off : Fin 2 → ℕ) (inb : ∀ a, off a + S64x256.size a ≤ S1792x256.size a) (q : Fin 28) (h : off = ![64 * q.val, 0])
    (x : S64x256.Idx) : (Rect.unit (s := S1792x256) off S64x256.size inb).emb x = at64 q x := by
  subst h
  funext a
  match a with
  | ⟨0, _⟩ => exact Fin.ext ((Rect.emb_apply _ _ _).trans (congrArg (64 * q.val + ·) (Nat.one_mul _)))
  | ⟨1, _⟩ => exact Fin.ext ((Rect.emb_apply _ _ _).trans ((Nat.zero_add _).trans (Nat.one_mul _)))

/-- Block `q` of the rows quantised along the lanes. -/
def laneG (S : S1792x256.Idx → Elt F .f32) (R : S1792x256.Idx → Elt F .i8) (q : Fin 56) : S32x256.Idx → Elt F .bf16 :=
  laneOp (fun x => S (at32 q x)) (fun x => R (at32 q x))
/-- The same for the weight's 2560 rows. -/
def laneGw (S : S2560x256.Idx → Elt F .f32) (R : S2560x256.Idx → Elt F .i8) (q : Fin 80) : S32x256.Idx → Elt F .bf16 :=
  laneOp (fun x => S (at32w q x)) (fun x => R (at32w q x))
/-- Block `q` of the rows quantised along the tokens. -/
def tokG (S : S1792x256.Idx → Elt F .f32) (R : S1792x256.Idx → Elt F .i8) (q : Fin 28) : S64x256.Idx → Elt F .bf16 :=
  tokOp (fun x => S (at64 q x)) (fun x => R (at64 q x))

/-- Row `q` of the table of scale exponents. -/
def atE (q : Fin 56) (x : S1x256.Idx) : S56x256.Idx := ix2 ⟨q.val + (x 0).val, by have h : (x 0).val < 1 := (x 0).isLt; omega⟩ (x 1)
/-- Rows do not overlap. -/
theorem atE_inj (q x q' x') (h : atE q x = atE q' x') : q = q' := by
  have h0 : q.val + (x 0).val = q'.val + (x' 0).val := congrArg Fin.val (congrFun h 0)
  have h1 : (x 0).val < 1 := (x 0).isLt
  have h2 : (x' 0).val < 1 := (x' 0).isLt
  exact Fin.ext (by omega)
/-- The row's rectangle, placed. -/
theorem embE (off : Fin 2 → ℕ) (inb : ∀ a, off a + S1x256.size a ≤ S56x256.size a) (q : Fin 56) (h : off = ![q.val, 0])
    (x : S1x256.Idx) : (Rect.unit (s := S56x256) off S1x256.size inb).emb x = atE q x := by
  subst h
  funext a
  match a with
  | ⟨0, _⟩ => exact Fin.ext ((Rect.emb_apply _ _ _).trans (congrArg (q.val + ·) (Nat.one_mul _)))
  | ⟨1, _⟩ => exact Fin.ext ((Rect.emb_apply _ _ _).trans ((Nat.zero_add _).trans (Nat.one_mul _)))
/-- The row trip `k` writes first. -/
theorem off9_eq0 : ∀ k : Fin k0_t3_loop.trips, k0_off9 k 0#32 = ![2 * k.val, 0] := by decide +kernel
/-- The row trip `k` writes second. -/
theorem off9_eq1 : ∀ k : Fin k0_t3_loop.trips, k0_off9 k 1#32 = ![2 * k.val + 1, 0] := by decide +kernel
/-- The row trip `k` writes first, at the last tile. -/
theorem off18_eq0 : ∀ k : Fin k0_t6_loop.trips, k0_off18 k 0#32 = ![2 * k.val, 0] := by decide +kernel
/-- The row trip `k` writes second, at the last tile. -/
theorem off18_eq1 : ∀ k : Fin k0_t6_loop.trips, k0_off18 k 1#32 = ![2 * k.val + 1, 0] := by decide +kernel
/-- Row `q` of the table of scale exponents: those of the `q`-th thirty-two rows. -/
def expG (S : S1792x256.Idx → Elt F .f32) (q : Fin 56) : S1x256.Idx → Elt F .i32 :=
  expOp (fun x => S (at64 ⟨q.val / 2, by omega⟩ x)) (q.val % 2)

/-- Reading the rectangle of a block is reading the array at the block's places. -/
theorem rows_eq_at32 {e : EltTy} (v : View sig .tc .vmem S1792x256 e) (X : BufTy.Contents (Elt F) v.ty) (off : Fin 2 → ℕ)
    (inb : ∀ a, off a + S32x256.size a ≤ S1792x256.size a) (q : Fin 56) (h : off = ![32 * q.val, 0]) :
    (fun x => v.read (Elt F) X (at32 q x)) = View.readAt (Elt F) v (Rect.unit (s := S1792x256) off S32x256.size inb).toLoadRect X :=
  funext fun x => by rw [← emb32 off inb q h x]; rfl
/-- Block `q` in terms of the rectangle a trip reads. -/
theorem laneG_eq (v : View sig .tc .vmem S1792x256 .f32) (X : BufTy.Contents (Elt F) v.ty) (v' : View sig .tc .vmem S1792x256 .i8)
    (X' : BufTy.Contents (Elt F) v'.ty) (off : Fin 2 → ℕ) (inb : ∀ a, off a + S32x256.size a ≤ S1792x256.size a) (q : Fin 56)
    (h : off = ![32 * q.val, 0]) :
    laneG (v.read (Elt F) X) (v'.read (Elt F) X') q
      = laneOp (View.readAt (Elt F) v (Rect.unit (s := S1792x256) off S32x256.size inb).toLoadRect X)
          (View.readAt (Elt F) v' (Rect.unit (s := S1792x256) off S32x256.size inb).toLoadRect X') :=
  congrArg₂ laneOp (rows_eq_at32 v X off inb q h) (rows_eq_at32 v' X' off inb q h)
/-- Reading the rectangle of a block is reading the array at the block's places. -/
theorem rows_eq_at32w {e : EltTy} (v : View sig .tc .vmem S2560x256 e) (X : BufTy.Contents (Elt F) v.ty) (off : Fin 2 → ℕ)
    (inb : ∀ a, off a + S32x256.size a ≤ S2560x256.size a) (q : Fin 80) (h : off = ![32 * q.val, 0]) :
    (fun x => v.read (Elt F) X (at32w q x)) = View.readAt (Elt F) v (Rect.unit (s := S2560x256) off S32x256.size inb).toLoadRect X :=
  funext fun x => by rw [← emb32w off inb q h x]; rfl
/-- Block `q` in terms of the rectangle a trip reads. -/
theorem laneGw_eq (v : View sig .tc .vmem S2560x256 .f32) (X : BufTy.Contents (Elt F) v.ty) (v' : View sig .tc .vmem S2560x256 .i8)
    (X' : BufTy.Contents (Elt F) v'.ty) (off : Fin 2 → ℕ) (inb : ∀ a, off a + S32x256.size a ≤ S2560x256.size a) (q : Fin 80)
    (h : off = ![32 * q.val, 0]) :
    laneGw (v.read (Elt F) X) (v'.read (Elt F) X') q
      = laneOp (View.readAt (Elt F) v (Rect.unit (s := S2560x256) off S32x256.size inb).toLoadRect X)
          (View.readAt (Elt F) v' (Rect.unit (s := S2560x256) off S32x256.size inb).toLoadRect X') :=
  congrArg₂ laneOp (rows_eq_at32w v X off inb q h) (rows_eq_at32w v' X' off inb q h)
/-- Reading the rectangle of a block is reading the array at the block's places. -/
theorem rows_eq_at64 {e : EltTy} (v : View sig .tc .vmem S1792x256 e) (X : BufTy.Contents (Elt F) v.ty) (off : Fin 2 → ℕ)
    (inb : ∀ a, off a + S64x256.size a ≤ S1792x256.size a) (q : Fin 28) (h : off = ![64 * q.val, 0]) :
    (fun x => v.read (Elt F) X (at64 q x)) = View.readAt (Elt F) v (Rect.unit (s := S1792x256) off S64x256.size inb).toLoadRect X :=
  funext fun x => by rw [← emb64 off inb q h x]; rfl
/-- Block `q` in terms of the rectangle a trip reads. -/
theorem tokG_eq (v : View sig .tc .vmem S1792x256 .f32) (X : BufTy.Contents (Elt F) v.ty) (v' : View sig .tc .vmem S1792x256 .i8)
    (X' : BufTy.Contents (Elt F) v'.ty) (off : Fin 2 → ℕ) (inb : ∀ a, off a + S64x256.size a ≤ S1792x256.size a) (q : Fin 28)
    (h : off = ![64 * q.val, 0]) :
    tokG (v.read (Elt F) X) (v'.read (Elt F) X') q
      = tokOp (View.readAt (Elt F) v (Rect.unit (s := S1792x256) off S64x256.size inb).toLoadRect X)
          (View.readAt (Elt F) v' (Rect.unit (s := S1792x256) off S64x256.size inb).toLoadRect X') :=
  congrArg₂ tokOp (rows_eq_at64 v X off inb q h) (rows_eq_at64 v' X' off inb q h)
/-- The first row a trip writes, in terms of the rectangle it reads. -/
theorem expG_eq0 (v : View sig .tc .vmem S1792x256 .f32) (X : BufTy.Contents (Elt F) v.ty) (off : Fin 2 → ℕ)
    (inb : ∀ a, off a + S64x256.size a ≤ S1792x256.size a) (q : Fin 28) (h : off = ![64 * q.val, 0]) :
    expG (v.read (Elt F) X) ⟨2 * q.val, by omega⟩
      = k0_pay122 (k0_pay94 (View.readAt (Elt F) v (Rect.unit (s := S1792x256) off S64x256.size inb).toLoadRect X)) := by
  rw [← rows_eq_at64 v X off inb q h]
  unfold expG expOp
  rw [if_pos (show 2 * q.val % 2 = 0 by omega)]
  have e : (⟨2 * q.val / 2, by omega⟩ : Fin 28) = q := Fin.ext (by show 2 * q.val / 2 = q.val; omega)
  rw [e]
/-- The second row a trip writes, in terms of the rectangle it reads. -/
theorem expG_eq1 (v : View sig .tc .vmem S1792x256 .f32) (X : BufTy.Contents (Elt F) v.ty) (off : Fin 2 → ℕ)
    (inb : ∀ a, off a + S64x256.size a ≤ S1792x256.size a) (q : Fin 28) (h : off = ![64 * q.val, 0]) :
    expG (v.read (Elt F) X) ⟨2 * q.val + 1, by omega⟩
      = k0_pay123 (k0_pay109 (k0_pay107 (View.readAt (Elt F) v (Rect.unit (s := S1792x256) off S64x256.size inb).toLoadRect X))) := by
  rw [← rows_eq_at64 v X off inb q h]
  unfold expG expOp
  rw [if_neg (show ¬ (2 * q.val + 1) % 2 = 0 by omega)]
  have e : (⟨(2 * q.val + 1) / 2, by omega⟩ : Fin 28) = q := Fin.ext (by show (2 * q.val + 1) / 2 = q.val; omega)
  rw [e]

variable (c : Dev nD)
  (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg5 : Memref sig .tc .hbm S2560x1792 .bf16)
  (harg5 : arg5.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)
  (arg19 : Memref sig .tc .vmem S2560x1792 .bf16)
  (harg19 : arg19.IsWhole)
  (arg20 : Memref sig .tc .vmem S1792x2560 .f32)
  (harg20 : arg20.IsWhole)
  (arg21 : Memref sig .tc .vmem S1792x256 .f32)
  (harg21 : arg21.IsWhole)
  (arg22 : Memref sig .tc .vmem S2560x256 .f32)
  (harg22 : arg22.IsWhole)
  (arg23 : Memref sig .tc .vmem S1792x256 .f32)
  (harg23 : arg23.IsWhole)
  (arg24 : Memref sig .tc .vmem S1792x256 .bf16)
  (harg24 : arg24.IsWhole)
  (arg25 : Memref sig .tc .vmem S2560x256 .bf16)
  (harg25 : arg25.IsWhole)
  (arg26 : Memref sig .tc .vmem S1792x256 .bf16)
  (harg26 : arg26.IsWhole)
  (arg27 : Memref sig .tc .vmem S56x256 .i32)
  (harg27 : arg27.IsWhole)
  (arg28 : Memref sig .tc .vmem S1792x256 .i8)
  (harg28 : arg28.IsWhole)
  (arg29 : Memref sig .tc .vmem S2560x256 .i8)
  (harg29 : arg29.IsWhole)
  (arg30 : DmaSems sig S_)

/-- The loop over the row groups of dy (first point): the blocks done so far hold the quantised rows. -/
@[sl_loop, instance_reducible]
def valLoop1 (X8 : BufTy.Contents (Elt F) arg8.view.ty) (X21 : BufTy.Contents (Elt F) arg21.view.ty) (arg0 : BitVec 32) (k0_h1 : k0_cond1 i = 1#1) (v36 : IVec S8x128 32) (v39 : BitVec 32) (v40 : BitVec 32) (v45 : BitVec 1) :
    LoopInvTy_k0_t1 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg0 k0_h1 v36 v39 v40 v45 where
  inv k _ := iprop((arg8.view.loc (c : Thread nD τ) ↦[arg8.view.set]{fullShare} X8) ∗ (arg21.view.loc (c : Thread nD τ) ↦[arg21.view.set]{fullShare} X21) ∗ anyAt c arg13 ∗ (∃ f, (arg24.view.loc (c : Thread nD τ) ↦[arg24.view.set]{fullShare} f) ∗ ⌜Filled arg24.view at32 (laneG (arg21.view.read (Elt F) X21) (arg8.view.read (Elt F) X8)) k f⌝) ∗ anyAt c arg28)
  step k _ := by
    have hk : k.val < 56 := Nat.lt_of_lt_of_le k.isLt k0_t1_abs.2.1
    unfold k0_t1_body
    iintro ⟨H8, H21, ⟨%f13, H13⟩, ⟨%f24, H24, %h24⟩, ⟨%f28, H28⟩⟩
    sl_exec
    sl_step
    isplitl [H8]
    · iexact H8
    isplitl [H21]
    · iexact H21
    isplitl [H13]
    · iexists _
      iexact H13
    isplitl [H24]
    · iexists _
      isplitl [H24]
      · iexact H24
      · ipureintro
        refine filled_step arg24.view at32_inj ⟨k.val, hk⟩ _ _ rfl (emb32 _ _ ⟨k.val, hk⟩ (off1_eq k)) (fun x => ?_) h24
        refine Eq.trans ?_ (congrFun (laneG_eq arg21.view X21 arg8.view X8 (k0_off1 k) (k0_off1_inb i k k0_h1) ⟨k.val, hk⟩ (off1_eq k)) x).symm
        rfl
    · iexists _
      iexact H28

/-- The loop over the row groups of w (first point): the blocks done so far hold the quantised rows. -/
@[sl_loop, instance_reducible]
def valLoop2 (X9 : BufTy.Contents (Elt F) arg9.view.ty) (X22 : BufTy.Contents (Elt F) arg22.view.ty) (arg0 : BitVec 32) (k0_h1 : k0_cond1 i = 1#1) (v36 : IVec S8x128 32) (v39 : BitVec 32) (v40 : BitVec 32) (v45 : BitVec 1) :
    LoopInvTy_k0_t2 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg0 k0_h1 v36 v39 v40 v45 where
  inv k _ := iprop((arg9.view.loc (c : Thread nD τ) ↦[arg9.view.set]{fullShare} X9) ∗ (arg22.view.loc (c : Thread nD τ) ↦[arg22.view.set]{fullShare} X22) ∗ anyAt c arg15 ∗ (∃ f, (arg25.view.loc (c : Thread nD τ) ↦[arg25.view.set]{fullShare} f) ∗ ⌜Filled arg25.view at32w (laneGw (arg22.view.read (Elt F) X22) (arg9.view.read (Elt F) X9)) k f⌝) ∗ anyAt c arg29)
  step k _ := by
    have hk : k.val < 80 := Nat.lt_of_lt_of_le k.isLt k0_t2_abs.2.1
    unfold k0_t2_body
    iintro ⟨H9, H22, ⟨%f15, H15⟩, ⟨%f25, H25, %h25⟩, ⟨%f29, H29⟩⟩
    sl_exec
    sl_step
    isplitl [H9]
    · iexact H9
    isplitl [H22]
    · iexact H22
    isplitl [H15]
    · iexists _
      iexact H15
    isplitl [H25]
    · iexists _
      isplitl [H25]
      · iexact H25
      · ipureintro
        refine filled_step arg25.view at32w_inj ⟨k.val, hk⟩ _ _ rfl (emb32w _ _ ⟨k.val, hk⟩ (off4_eq k)) (fun x => ?_) h25
        refine Eq.trans ?_ (congrFun (laneGw_eq arg22.view X22 arg9.view X9 (k0_off4 k) (k0_off4_inb i k k0_h1) ⟨k.val, hk⟩ (off4_eq k)) x).symm
        refine Eq.trans ?_ (congrFun (laneOpW_eq (View.readAt (Elt F) arg22.view (Rect.unit (s := S2560x256) (k0_off4 k) S32x256.size (k0_off4_inb i k k0_h1)).toLoadRect X22) (View.readAt (Elt F) arg9.view (Rect.unit (s := S2560x256) (k0_off4 k) S32x256.size (k0_off4_inb i k k0_h1)).toLoadRect X9)) x)
        rfl
    · iexists _
      iexact H29

/-- The loop over the column groups of dy: the blocks done so far hold the quantised rows. -/
@[sl_loop, instance_reducible]
def valLoop3 (X10 : BufTy.Contents (Elt F) arg10.view.ty) (X23 : BufTy.Contents (Elt F) arg23.view.ty) (k0_h2 : k0_cond2 i = 1#1) :
    LoopInvTy_k0_t3 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h2 where
  inv k _ := iprop((arg10.view.loc (c : Thread nD τ) ↦[arg10.view.set]{fullShare} X10) ∗ (arg23.view.loc (c : Thread nD τ) ↦[arg23.view.set]{fullShare} X23) ∗ anyAt c arg17 ∗ (∃ f, (arg27.view.loc (c : Thread nD τ) ↦[arg27.view.set]{fullShare} f) ∗ ⌜Filled arg27.view atE (expG (arg23.view.read (Elt F) X23)) (2 * k) f⌝) ∗ (∃ f, (arg26.view.loc (c : Thread nD τ) ↦[arg26.view.set]{fullShare} f) ∗ ⌜Filled arg26.view at64 (tokG (arg23.view.read (Elt F) X23) (arg10.view.read (Elt F) X10)) k f⌝))
  step k _ := by
    have hk : k.val < 28 := Nat.lt_of_lt_of_le k.isLt k0_t3_abs.2.1
    unfold k0_t3_body
    iintro ⟨H10, H23, ⟨%f17, H17⟩, ⟨%f27, H27, %h27⟩, ⟨%f26, H26, %h26⟩⟩
    sl_exec
    sl_step
    isplitl [H10]
    · iexact H10
    isplitl [H23]
    · iexact H23
    isplitl [H17]
    · iexists _
      iexact H17
    isplitl [H27]
    · iexists _
      isplitl [H27]
      · iexact H27
      · ipureintro
        refine filled_cons arg27.view atE_inj (2 * k.val + 1) (by omega) _ _ rfl (embE _ _ ⟨2 * k.val + 1, by omega⟩ (off9_eq1 k)) (fun x => ?_)
          (filled_cons arg27.view atE_inj (2 * k.val) (by omega) _ _ rfl (embE _ _ ⟨2 * k.val, by omega⟩ (off9_eq0 k)) (fun x => ?_) h27)
        · refine Eq.trans ?_ (congrFun (expG_eq1 arg23.view X23 (k0_off7 k) (k0_off7_inb i k k0_h2) ⟨k.val, hk⟩ (off7_eq k)) x).symm
          rfl
        · refine Eq.trans ?_ (congrFun (expG_eq0 arg23.view X23 (k0_off7 k) (k0_off7_inb i k k0_h2) ⟨k.val, hk⟩ (off7_eq k)) x).symm
          rfl
    · iexists _
      isplitl [H26]
      · iexact H26
      · ipureintro
        refine filled_step arg26.view at64_inj ⟨k.val, hk⟩ _ _ rfl (emb64 _ _ ⟨k.val, hk⟩ (off7_eq k)) (fun x => ?_) h26
        refine Eq.trans ?_ (congrFun (tokG_eq arg23.view X23 arg10.view X10 (k0_off7 k) (k0_off7_inb i k k0_h2) ⟨k.val, hk⟩ (off7_eq k)) x).symm
        rfl

/-- The loop over the row groups of dy: the blocks done so far hold the quantised rows. -/
@[sl_loop, instance_reducible]
def valLoop4 (X8 : BufTy.Contents (Elt F) arg8.view.ty) (X21 : BufTy.Contents (Elt F) arg21.view.ty) (k0_h2 : k0_cond2 i = 1#1) (v129 : IVec S8x128 32) (v140 : BitVec 32) (v142 : BitVec 32) (v156 : BitVec 1) (c1_i32_130 : BitVec 32) :
    LoopInvTy_k0_t4 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h2 v129 v140 v142 v156 c1_i32_130 where
  inv k _ := iprop((arg8.view.loc (c : Thread nD τ) ↦[arg8.view.set]{fullShare} X8) ∗ (arg21.view.loc (c : Thread nD τ) ↦[arg21.view.set]{fullShare} X21) ∗ anyAt c arg13 ∗ (∃ f, (arg24.view.loc (c : Thread nD τ) ↦[arg24.view.set]{fullShare} f) ∗ ⌜Filled arg24.view at32 (laneG (arg21.view.read (Elt F) X21) (arg8.view.read (Elt F) X8)) k f⌝) ∗ anyAt c arg28)
  step k _ := by
    have hk : k.val < 56 := Nat.lt_of_lt_of_le k.isLt k0_t4_abs.2.1
    unfold k0_t4_body
    iintro ⟨H8, H21, ⟨%f13, H13⟩, ⟨%f24, H24, %h24⟩, ⟨%f28, H28⟩⟩
    sl_exec
    sl_step
    isplitl [H8]
    · iexact H8
    isplitl [H21]
    · iexact H21
    isplitl [H13]
    · iexists _
      iexact H13
    isplitl [H24]
    · iexists _
      isplitl [H24]
      · iexact H24
      · ipureintro
        refine filled_step arg24.view at32_inj ⟨k.val, hk⟩ _ _ rfl (emb32 _ _ ⟨k.val, hk⟩ (off10_eq k)) (fun x => ?_) h24
        refine Eq.trans ?_ (congrFun (laneG_eq arg21.view X21 arg8.view X8 (k0_off10 k) (k0_off10_inb i k k0_h2) ⟨k.val, hk⟩ (off10_eq k)) x).symm
        rfl
    · iexists _
      iexact H28

/-- The loop over the row groups of w: the blocks done so far hold the quantised rows. -/
@[sl_loop, instance_reducible]
def valLoop5 (X9 : BufTy.Contents (Elt F) arg9.view.ty) (X22 : BufTy.Contents (Elt F) arg22.view.ty) (k0_h2 : k0_cond2 i = 1#1) (v129 : IVec S8x128 32) (v140 : BitVec 32) (v142 : BitVec 32) (v156 : BitVec 1) (c1_i32_130 : BitVec 32) :
    LoopInvTy_k0_t5 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h2 v129 v140 v142 v156 c1_i32_130 where
  inv k _ := iprop((arg9.view.loc (c : Thread nD τ) ↦[arg9.view.set]{fullShare} X9) ∗ (arg22.view.loc (c : Thread nD τ) ↦[arg22.view.set]{fullShare} X22) ∗ anyAt c arg15 ∗ (∃ f, (arg25.view.loc (c : Thread nD τ) ↦[arg25.view.set]{fullShare} f) ∗ ⌜Filled arg25.view at32w (laneGw (arg22.view.read (Elt F) X22) (arg9.view.read (Elt F) X9)) k f⌝) ∗ anyAt c arg29)
  step k _ := by
    have hk : k.val < 80 := Nat.lt_of_lt_of_le k.isLt k0_t5_abs.2.1
    unfold k0_t5_body
    iintro ⟨H9, H22, ⟨%f15, H15⟩, ⟨%f25, H25, %h25⟩, ⟨%f29, H29⟩⟩
    sl_exec
    sl_step
    isplitl [H9]
    · iexact H9
    isplitl [H22]
    · iexact H22
    isplitl [H15]
    · iexists _
      iexact H15
    isplitl [H25]
    · iexists _
      isplitl [H25]
      · iexact H25
      · ipureintro
        refine filled_step arg25.view at32w_inj ⟨k.val, hk⟩ _ _ rfl (emb32w _ _ ⟨k.val, hk⟩ (off13_eq k)) (fun x => ?_) h25
        refine Eq.trans ?_ (congrFun (laneGw_eq arg22.view X22 arg9.view X9 (k0_off13 k) (k0_off13_inb i k k0_h2) ⟨k.val, hk⟩ (off13_eq k)) x).symm
        refine Eq.trans ?_ (congrFun (laneOpW_eq (View.readAt (Elt F) arg22.view (Rect.unit (s := S2560x256) (k0_off13 k) S32x256.size (k0_off13_inb i k k0_h2)).toLoadRect X22) (View.readAt (Elt F) arg9.view (Rect.unit (s := S2560x256) (k0_off13 k) S32x256.size (k0_off13_inb i k k0_h2)).toLoadRect X9)) x)
        rfl
    · iexists _
      iexact H29

/-- The loop over the column groups of dy (last tile): the blocks done so far hold the quantised rows. -/
@[sl_loop, instance_reducible]
def valLoop6 (X10 : BufTy.Contents (Elt F) arg10.view.ty) (X23 : BufTy.Contents (Elt F) arg23.view.ty) (k0_h3 : k0_cond3 i = 1#1) :
    LoopInvTy_k0_t6 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h3 where
  inv k _ := iprop((arg10.view.loc (c : Thread nD τ) ↦[arg10.view.set]{fullShare} X10) ∗ (arg23.view.loc (c : Thread nD τ) ↦[arg23.view.set]{fullShare} X23) ∗ anyAt c arg17 ∗ (∃ f, (arg27.view.loc (c : Thread nD τ) ↦[arg27.view.set]{fullShare} f) ∗ ⌜Filled arg27.view atE (expG (arg23.view.read (Elt F) X23)) (2 * k) f⌝) ∗ (∃ f, (arg26.view.loc (c : Thread nD τ) ↦[arg26.view.set]{fullShare} f) ∗ ⌜Filled arg26.view at64 (tokG (arg23.view.read (Elt F) X23) (arg10.view.read (Elt F) X10)) k f⌝))
  step k _ := by
    have hk : k.val < 28 := Nat.lt_of_lt_of_le k.isLt k0_t6_abs.2.1
    unfold k0_t6_body
    iintro ⟨H10, H23, ⟨%f17, H17⟩, ⟨%f27, H27, %h27⟩, ⟨%f26, H26, %h26⟩⟩
    sl_exec
    sl_step
    isplitl [H10]
    · iexact H10
    isplitl [H23]
    · iexact H23
    isplitl [H17]
    · iexists _
      iexact H17
    isplitl [H27]
    · iexists _
      isplitl [H27]
      · iexact H27
      · ipureintro
        refine filled_cons arg27.view atE_inj (2 * k.val + 1) (by omega) _ _ rfl (embE _ _ ⟨2 * k.val + 1, by omega⟩ (off18_eq1 k)) (fun x => ?_)
          (filled_cons arg27.view atE_inj (2 * k.val) (by omega) _ _ rfl (embE _ _ ⟨2 * k.val, by omega⟩ (off18_eq0 k)) (fun x => ?_) h27)
        · refine Eq.trans ?_ (congrFun (expG_eq1 arg23.view X23 (k0_off16 k) (k0_off16_inb i k k0_h3) ⟨k.val, hk⟩ (off16_eq k)) x).symm
          rfl
        · refine Eq.trans ?_ (congrFun (expG_eq0 arg23.view X23 (k0_off16 k) (k0_off16_inb i k k0_h3) ⟨k.val, hk⟩ (off16_eq k)) x).symm
          rfl
    · iexists _
      isplitl [H26]
      · iexact H26
      · ipureintro
        refine filled_step arg26.view at64_inj ⟨k.val, hk⟩ _ _ rfl (emb64 _ _ ⟨k.val, hk⟩ (off16_eq k)) (fun x => ?_) h26
        refine Eq.trans ?_ (congrFun (tokG_eq arg23.view X23 arg10.view X10 (k0_off16 k) (k0_off16_inb i k k0_h3) ⟨k.val, hk⟩ (off16_eq k)) x).symm
        rfl

end Cert.KernelIdeal.Hand

end
-- ==== Proof.StepOps.lean ====
/-
  What one grid point makes of the blocks it reads, array by array: the rotations, the quantised operands, the running product
  and the weight gradient's block.
-/
module

public import proofs.«01_k».proof.Proof.Gen.KernelIdeal.Loops
public import proofs.«01_k».proof.Proof.ValLoops
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fill

variable {F : FTy → Type} [FloatOps F] [Named F]

local notation "𝕄" => MT nD τ sig Unit (Elt F) ℕ (Pipeline.UD sig nD τ) ℕ

/-- Element `x` of the `q`-th block of 256 rows of a 1792-row array. -/
def at256 (q : Fin 7) (x : S256x256.Idx) : S1792x256.Idx := ix2 ⟨256 * q.val + (x 0).val, by have h : (x 0).val < 256 := (x 0).isLt; omega⟩ (x 1)
/-- Element `x` of the `q`-th block of 256 rows of a 2560-row array. -/
def at256w (q : Fin 10) (x : S256x256.Idx) : S2560x256.Idx := ix2 ⟨256 * q.val + (x 0).val, by have h : (x 0).val < 256 := (x 0).isLt; omega⟩ (x 1)
/-- Element `x` of the `q`-th block of 256 signs. -/
def atSign (q : Fin 7) (x : S1x256.Idx) : S1x1792.Idx := ix2 (x 0) ⟨256 * q.val + (x 1).val, by have h : (x 1).val < 256 := (x 1).isLt; omega⟩
/-- Element `x` of the `q`-th block of 256 columns of the running product. -/
def atCol (q : Fin 10) (x : S1792x256.Idx) : S1792x2560.Idx := ix2 (x 0) ⟨256 * q.val + (x 1).val, by have h : (x 1).val < 256 := (x 1).isLt; omega⟩
/-- Element `x` of the `q`-th block of 256 rows of the running product. -/
def atRow (q : Fin 7) (x : S256x2560.Idx) : S1792x2560.Idx := ix2 ⟨256 * q.val + (x 0).val, by have h : (x 0).val < 256 := (x 0).isLt; omega⟩ (x 1)

/-- The tokens of dy rotated, block by block. -/
def IsTrot (HT : S256x256.Idx → Elt F .bf16) (ST : S1x1792.Idx → Elt F .f32) (A : S1792x256.Idx → Elt F .bf16) (d : S1792x256.Idx → Elt F .f32) : Prop :=
  ∀ q x, d (at256 q x) = k0_pay213 HT (fun y => ST (atSign q y)) (fun y => A (at256 q y)) x
/-- Rows quantised along the lanes. -/
def IsLane (S : S1792x256.Idx → Elt F .f32) (R : S1792x256.Idx → Elt F .i8) (d : S1792x256.Idx → Elt F .bf16) : Prop :=
  ∀ q x, d (at32 q x) = laneG S R q x
/-- The weight's rows quantised along the lanes. -/
def IsLanew (S : S2560x256.Idx → Elt F .f32) (R : S2560x256.Idx → Elt F .i8) (d : S2560x256.Idx → Elt F .bf16) : Prop :=
  ∀ q x, d (at32w q x) = laneGw S R q x
/-- Columns quantised along the tokens. -/
def IsTok (S : S1792x256.Idx → Elt F .f32) (R : S1792x256.Idx → Elt F .i8) (d : S1792x256.Idx → Elt F .bf16) : Prop :=
  ∀ q x, d (at64 q x) = tokG S R q x
/-- One more tile's product added to the running one. -/
def IsAcc (A : S1792x2560.Idx → Elt F .f32) (N : S1792x256.Idx → Elt F .bf16) (W : S2560x256.Idx → Elt F .bf16) (d : S1792x2560.Idx → Elt F .f32) : Prop :=
  ∀ q x, d (atCol q x) = k0_pay186 (fun y => A (atCol q y)) N (fun y => W (at256w q y)) x

variable {κ : Kind} {sp sp' sp2 sp3 : Space}

/-- Every block done: what the buffer holds. -/
theorem isLane_of_filled {v : View sig .tc sp S1792x256 .bf16} {S S' : S1792x256.Idx → Elt F .f32} {R : S1792x256.Idx → Elt F .i8}
    {n : ℕ} {f : v.ty.Contents (Elt F)} (hS : S' = S) (hn : n = 55 + 1) (h : Filled v at32 (laneG S' R) n f) : IsLane S R (v.read (Elt F) f) := by
  subst hS; subst hn; exact fun q x => h q q.isLt x
/-- Every block done: what the buffer holds. -/
theorem isLanew_of_filled {v : View sig .tc sp S2560x256 .bf16} {S S' : S2560x256.Idx → Elt F .f32} {R : S2560x256.Idx → Elt F .i8}
    {n : ℕ} {f : v.ty.Contents (Elt F)} (hS : S' = S) (hn : n = 79 + 1) (h : Filled v at32w (laneGw S' R) n f) : IsLanew S R (v.read (Elt F) f) := by
  subst hS; subst hn; exact fun q x => h q q.isLt x
/-- Every block done: what the buffer holds. -/
theorem isTok_of_filled {v : View sig .tc sp S1792x256 .bf16} {S : S1792x256.Idx → Elt F .f32} {R : S1792x256.Idx → Elt F .i8}
    {n : ℕ} {f : v.ty.Contents (Elt F)} (hn : n = 27 + 1) (h : Filled v at64 (tokG S R) n f) : IsTok S R (v.read (Elt F) f) := by
  subst hn; exact fun q x => h q q.isLt x

/-- Blocks do not overlap. -/
theorem at256_inj (q x q' x') (h : at256 q x = at256 q' x') : q = q' := by
  have h0 : 256 * q.val + (x 0).val = 256 * q'.val + (x' 0).val := congrArg Fin.val (congrFun h 0)
  have h1 : (x 0).val < 256 := (x 0).isLt
  have h2 : (x' 0).val < 256 := (x' 0).isLt
  exact Fin.ext (by omega)
/-- Blocks of columns do not overlap. -/
theorem atCol_inj (q x q' x') (h : atCol q x = atCol q' x') : q = q' := by
  have h0 : 256 * q.val + (x 1).val = 256 * q'.val + (x' 1).val := congrArg Fin.val (congrFun h 1)
  have h1 : (x 1).val < 256 := (x 1).isLt
  have h2 : (x' 1).val < 256 := (x' 1).isLt
  exact Fin.ext (by omega)
/-- The rectangle of 256 rows from row `256 q`, placed. -/
theorem emb256 (off : Fin 2 → ℕ) (inb : ∀ a, off a + S256x256.size a ≤ S1792x256.size a) (q : Fin 7) (h : off = ![256 * q.val, 0])
    (x : S256x256.Idx) : (Rect.unit (s := S1792x256) off S256x256.size inb).emb x = at256 q x := by
  subst h
  funext a
  match a with
  | ⟨0, _⟩ => exact Fin.ext ((Rect.emb_apply _ _ _).trans (congrArg (256 * q.val + ·) (Nat.one_mul _)))
  | ⟨1, _⟩ => exact Fin.ext ((Rect.emb_apply _ _ _).trans ((Nat.zero_add _).trans (Nat.one_mul _)))
/-- Reading that rectangle is reading the array at the block's places. -/
theorem emb256_read {e : EltTy} (v : View sig .tc sp S1792x256 e) (X : BufTy.Contents (Elt F) v.ty) (off : Fin 2 → ℕ)
    (inb : ∀ a, off a + S256x256.size a ≤ S1792x256.size a) (q : Fin 7) (h : off = ![256 * q.val, 0]) :
    View.readAt (Elt F) v (Rect.unit (s := S1792x256) off S256x256.size inb).toLoadRect X = fun x => v.read (Elt F) X (at256 q x) :=
  funext fun x => by rw [← emb256 off inb q h x]; rfl
/-- The same over 2560 rows. -/
theorem emb256w (off : Fin 2 → ℕ) (inb : ∀ a, off a + S256x256.size a ≤ S2560x256.size a) (q : Fin 10) (h : off = ![256 * q.val, 0])
    (x : S256x256.Idx) : (Rect.unit (s := S2560x256) off S256x256.size inb).emb x = at256w q x := by
  subst h
  funext a
  match a with
  | ⟨0, _⟩ => exact Fin.ext ((Rect.emb_apply _ _ _).trans (congrArg (256 * q.val + ·) (Nat.one_mul _)))
  | ⟨1, _⟩ => exact Fin.ext ((Rect.emb_apply _ _ _).trans ((Nat.zero_add _).trans (Nat.one_mul _)))
/-- Reading that rectangle is reading the array at the block's places. -/
theorem emb256w_read {e : EltTy} (v : View sig .tc sp S2560x256 e) (X : BufTy.Contents (Elt F) v.ty) (off : Fin 2 → ℕ)
    (inb : ∀ a, off a + S256x256.size a ≤ S2560x256.size a) (q : Fin 10) (h : off = ![256 * q.val, 0]) :
    View.readAt (Elt F) v (Rect.unit (s := S2560x256) off S256x256.size inb).toLoadRect X = fun x => v.read (Elt F) X (at256w q x) :=
  funext fun x => by rw [← emb256w off inb q h x]; rfl
/-- The rectangle of 256 signs from `256 q`, placed. -/
theorem embSign (off : Fin 2 → ℕ) (inb : ∀ a, off a + S1x256.size a ≤ S1x1792.size a) (q : Fin 7) (h : off = ![0, 256 * q.val])
    (x : S1x256.Idx) : (Rect.unit (s := S1x1792) off S1x256.size inb).emb x = atSign q x := by
  subst h
  funext a
  match a with
  | ⟨0, _⟩ => exact Fin.ext ((Rect.emb_apply _ _ _).trans ((Nat.zero_add _).trans (Nat.one_mul _)))
  | ⟨1, _⟩ => exact Fin.ext ((Rect.emb_apply _ _ _).trans (congrArg (256 * q.val + ·) (Nat.one_mul _)))
/-- Reading that rectangle is reading the array at the block's places. -/
theorem embSign_read {e : EltTy} (v : View sig .tc sp S1x1792 e) (X : BufTy.Contents (Elt F) v.ty) (off : Fin 2 → ℕ)
    (inb : ∀ a, off a + S1x256.size a ≤ S1x1792.size a) (q : Fin 7) (h : off = ![0, 256 * q.val]) :
    View.readAt (Elt F) v (Rect.unit (s := S1x1792) off S1x256.size inb).toLoadRect X = fun x => v.read (Elt F) X (atSign q x) :=
  funext fun x => by rw [← embSign off inb q h x]; rfl
/-- The rectangle of 256 columns from column `256 q`, placed. -/
theorem embCol (off : Fin 2 → ℕ) (inb : ∀ a, off a + S1792x256.size a ≤ S1792x2560.size a) (q : Fin 10) (h : off = ![0, 256 * q.val])
    (x : S1792x256.Idx) : (Rect.unit (s := S1792x2560) off S1792x256.size inb).emb x = atCol q x := by
  subst h
  funext a
  match a with
  | ⟨0, _⟩ => exact Fin.ext ((Rect.emb_apply _ _ _).trans ((Nat.zero_add _).trans (Nat.one_mul _)))
  | ⟨1, _⟩ => exact Fin.ext ((Rect.emb_apply _ _ _).trans (congrArg (256 * q.val + ·) (Nat.one_mul _)))
/-- Reading that rectangle is reading the array at the block's places. -/
theorem embCol_read {e : EltTy} (v : View sig .tc sp S1792x2560 e) (X : BufTy.Contents (Elt F) v.ty) (off : Fin 2 → ℕ)
    (inb : ∀ a, off a + S1792x256.size a ≤ S1792x2560.size a) (q : Fin 10) (h : off = ![0, 256 * q.val]) :
    View.readAt (Elt F) v (Rect.unit (s := S1792x2560) off S1792x256.size inb).toLoadRect X = fun x => v.read (Elt F) X (atCol q x) :=
  funext fun x => by rw [← embCol off inb q h x]; rfl
/-- The rectangle of 256 rows of the running product, placed. -/
theorem embRow (off : Fin 2 → ℕ) (inb : ∀ a, off a + S256x2560.size a ≤ S1792x2560.size a) (q : Fin 7) (h : off = ![256 * q.val, 0])
    (x : S256x2560.Idx) : (Rect.unit (s := S1792x2560) off S256x2560.size inb).emb x = atRow q x := by
  subst h
  funext a
  match a with
  | ⟨0, _⟩ => exact Fin.ext ((Rect.emb_apply _ _ _).trans (congrArg (256 * q.val + ·) (Nat.one_mul _)))
  | ⟨1, _⟩ => exact Fin.ext ((Rect.emb_apply _ _ _).trans ((Nat.zero_add _).trans (Nat.one_mul _)))
/-- Reading that rectangle is reading the array at the block's places. -/
theorem embRow_read {e : EltTy} (v : View sig .tc sp S1792x2560 e) (X : BufTy.Contents (Elt F) v.ty) (off : Fin 2 → ℕ)
    (inb : ∀ a, off a + S256x2560.size a ≤ S1792x2560.size a) (q : Fin 7) (h : off = ![256 * q.val, 0]) :
    View.readAt (Elt F) v (Rect.unit (s := S1792x2560) off S256x2560.size inb).toLoadRect X = fun x => v.read (Elt F) X (atRow q x) :=
  funext fun x => by rw [← embRow off inb q h x]; rfl

/-- Seven stores of rotated blocks leave the rotated tokens. -/
theorem isTrot_of_writes (v1 : View sig .tc sp S256x256 .bf16) (f1 : v1.ty.Contents (Elt F)) (v3 : View sig .tc sp S1x1792 .f32)
    (f3 : v3.ty.Contents (Elt F)) (v6 : View sig .tc sp S1792x256 .bf16) (f6 : v6.ty.Contents (Elt F)) (v : View sig .tc sp S1792x256 .f32)
    (f : v.ty.Contents (Elt F)) (p0 : S256x256.Idx → Elt F .f32) (p1 : S256x256.Idx → Elt F .f32) (p2 : S256x256.Idx → Elt F .f32) (p3 : S256x256.Idx → Elt F .f32) (p4 : S256x256.Idx → Elt F .f32) (p5 : S256x256.Idx → Elt F .f32) (p6 : S256x256.Idx → Elt F .f32) (i0 : ∀ a, (![0, 0] : Fin 2 → ℕ) a + S256x256.size a ≤ S1792x256.size a) (i1 : ∀ a, (![256, 0] : Fin 2 → ℕ) a + S256x256.size a ≤ S1792x256.size a) (i2 : ∀ a, (![512, 0] : Fin 2 → ℕ) a + S256x256.size a ≤ S1792x256.size a) (i3 : ∀ a, (![768, 0] : Fin 2 → ℕ) a + S256x256.size a ≤ S1792x256.size a) (i4 : ∀ a, (![1024, 0] : Fin 2 → ℕ) a + S256x256.size a ≤ S1792x256.size a) (i5 : ∀ a, (![1280, 0] : Fin 2 → ℕ) a + S256x256.size a ≤ S1792x256.size a) (i6 : ∀ a, (![1536, 0] : Fin 2 → ℕ) a + S256x256.size a ≤ S1792x256.size a)
    (h0 : p0 = k0_pay213 (View.readAt (Elt F) v1 (Rect.unit (s := S256x256) ![0, 0] S256x256.size inb_S256x256_S256x256_0_0).toLoadRect f1) (View.readAt (Elt F) v3 (Rect.unit (s := S1x1792) ![0, 0] S1x256.size inb_S1x1792_S1x256_0_0).toLoadRect f3) (View.readAt (Elt F) v6 (Rect.unit (s := S1792x256) ![0, 0] S256x256.size inb_S1792x256_S256x256_0_0).toLoadRect f6))
    (h1 : p1 = k0_pay213 (View.readAt (Elt F) v1 (Rect.unit (s := S256x256) ![0, 0] S256x256.size inb_S256x256_S256x256_0_0).toLoadRect f1) (View.readAt (Elt F) v3 (Rect.unit (s := S1x1792) ![0, 256] S1x256.size inb_S1x1792_S1x256_0_256).toLoadRect f3) (View.readAt (Elt F) v6 (Rect.unit (s := S1792x256) ![256, 0] S256x256.size inb_S1792x256_S256x256_256_0).toLoadRect f6))
    (h2 : p2 = k0_pay213 (View.readAt (Elt F) v1 (Rect.unit (s := S256x256) ![0, 0] S256x256.size inb_S256x256_S256x256_0_0).toLoadRect f1) (View.readAt (Elt F) v3 (Rect.unit (s := S1x1792) ![0, 512] S1x256.size inb_S1x1792_S1x256_0_512).toLoadRect f3) (View.readAt (Elt F) v6 (Rect.unit (s := S1792x256) ![512, 0] S256x256.size inb_S1792x256_S256x256_512_0).toLoadRect f6))
    (h3 : p3 = k0_pay213 (View.readAt (Elt F) v1 (Rect.unit (s := S256x256) ![0, 0] S256x256.size inb_S256x256_S256x256_0_0).toLoadRect f1) (View.readAt (Elt F) v3 (Rect.unit (s := S1x1792) ![0, 768] S1x256.size inb_S1x1792_S1x256_0_768).toLoadRect f3) (View.readAt (Elt F) v6 (Rect.unit (s := S1792x256) ![768, 0] S256x256.size inb_S1792x256_S256x256_768_0).toLoadRect f6))
    (h4 : p4 = k0_pay213 (View.readAt (Elt F) v1 (Rect.unit (s := S256x256) ![0, 0] S256x256.size inb_S256x256_S256x256_0_0).toLoadRect f1) (View.readAt (Elt F) v3 (Rect.unit (s := S1x1792) ![0, 1024] S1x256.size inb_S1x1792_S1x256_0_1024).toLoadRect f3) (View.readAt (Elt F) v6 (Rect.unit (s := S1792x256) ![1024, 0] S256x256.size inb_S1792x256_S256x256_1024_0).toLoadRect f6))
    (h5 : p5 = k0_pay213 (View.readAt (Elt F) v1 (Rect.unit (s := S256x256) ![0, 0] S256x256.size inb_S256x256_S256x256_0_0).toLoadRect f1) (View.readAt (Elt F) v3 (Rect.unit (s := S1x1792) ![0, 1280] S1x256.size inb_S1x1792_S1x256_0_1280).toLoadRect f3) (View.readAt (Elt F) v6 (Rect.unit (s := S1792x256) ![1280, 0] S256x256.size inb_S1792x256_S256x256_1280_0).toLoadRect f6))
    (h6 : p6 = k0_pay213 (View.readAt (Elt F) v1 (Rect.unit (s := S256x256) ![0, 0] S256x256.size inb_S256x256_S256x256_0_0).toLoadRect f1) (View.readAt (Elt F) v3 (Rect.unit (s := S1x1792) ![0, 1536] S1x256.size inb_S1x1792_S1x256_0_1536).toLoadRect f3) (View.readAt (Elt F) v6 (Rect.unit (s := S1792x256) ![1536, 0] S256x256.size inb_S1792x256_S256x256_1536_0).toLoadRect f6)) :
    IsTrot (v1.read (Elt F) f1) (v3.read (Elt F) f3) (v6.read (Elt F) f6) (v.read (Elt F) (v.writes (Elt F) f [⟨Rect.unit (s := S1792x256) ![1536, 0] S256x256.size i6, p6⟩, ⟨Rect.unit (s := S1792x256) ![1280, 0] S256x256.size i5, p5⟩, ⟨Rect.unit (s := S1792x256) ![1024, 0] S256x256.size i4, p4⟩, ⟨Rect.unit (s := S1792x256) ![768, 0] S256x256.size i3, p3⟩, ⟨Rect.unit (s := S1792x256) ![512, 0] S256x256.size i2, p2⟩, ⟨Rect.unit (s := S1792x256) ![256, 0] S256x256.size i1, p1⟩, ⟨Rect.unit (s := S1792x256) ![0, 0] S256x256.size i0, p0⟩])) := by
  have g0 : Filled v at256 (fun q x => k0_pay213 (v1.read (Elt F) f1) (fun y => v3.read (Elt F) f3 (atSign q y)) (fun y => v6.read (Elt F) f6 (at256 q y)) x) 0 (v.writes (Elt F) f []) := filled_zero v _
  have g1 : Filled v at256 (fun q x => k0_pay213 (v1.read (Elt F) f1) (fun y => v3.read (Elt F) f3 (atSign q y)) (fun y => v6.read (Elt F) f6 (at256 q y)) x) 1 (v.writes (Elt F) f [⟨Rect.unit (s := S1792x256) ![0, 0] S256x256.size i0, p0⟩]) :=
    filled_cons v at256_inj 0 (by decide) (Rect.unit (s := S1792x256) ![0, 0] S256x256.size i0) p0 rfl (emb256 _ i0 0 rfl) (fun x => by rw [h0, View.readAt_full, embSign_read v3 f3 ![0, 0] _ 0 rfl, emb256_read v6 f6 ![0, 0] _ 0 rfl]; rfl) g0
  have g2 : Filled v at256 (fun q x => k0_pay213 (v1.read (Elt F) f1) (fun y => v3.read (Elt F) f3 (atSign q y)) (fun y => v6.read (Elt F) f6 (at256 q y)) x) 2 (v.writes (Elt F) f [⟨Rect.unit (s := S1792x256) ![256, 0] S256x256.size i1, p1⟩, ⟨Rect.unit (s := S1792x256) ![0, 0] S256x256.size i0, p0⟩]) :=
    filled_cons v at256_inj 1 (by decide) (Rect.unit (s := S1792x256) ![256, 0] S256x256.size i1) p1 rfl (emb256 _ i1 1 rfl) (fun x => by rw [h1, View.readAt_full, embSign_read v3 f3 ![0, 256] _ 1 rfl, emb256_read v6 f6 ![256, 0] _ 1 rfl]; rfl) g1
  have g3 : Filled v at256 (fun q x => k0_pay213 (v1.read (Elt F) f1) (fun y => v3.read (Elt F) f3 (atSign q y)) (fun y => v6.read (Elt F) f6 (at256 q y)) x) 3 (v.writes (Elt F) f [⟨Rect.unit (s := S1792x256) ![512, 0] S256x256.size i2, p2⟩, ⟨Rect.unit (s := S1792x256) ![256, 0] S256x256.size i1, p1⟩, ⟨Rect.unit (s := S1792x256) ![0, 0] S256x256.size i0, p0⟩]) :=
    filled_cons v at256_inj 2 (by decide) (Rect.unit (s := S1792x256) ![512, 0] S256x256.size i2) p2 rfl (emb256 _ i2 2 rfl) (fun x => by rw [h2, View.readAt_full, embSign_read v3 f3 ![0, 512] _ 2 rfl, emb256_read v6 f6 ![512, 0] _ 2 rfl]; rfl) g2
  have g4 : Filled v at256 (fun q x => k0_pay213 (v1.read (Elt F) f1) (fun y => v3.read (Elt F) f3 (atSign q y)) (fun y => v6.read (Elt F) f6 (at256 q y)) x) 4 (v.writes (Elt F) f [⟨Rect.unit (s := S1792x256) ![768, 0] S256x256.size i3, p3⟩, ⟨Rect.unit (s := S1792x256) ![512, 0] S256x256.size i2, p2⟩, ⟨Rect.unit (s := S1792x256) ![256, 0] S256x256.size i1, p1⟩, ⟨Rect.unit (s := S1792x256) ![0, 0] S256x256.size i0, p0⟩]) :=
    filled_cons v at256_inj 3 (by decide) (Rect.unit (s := S1792x256) ![768, 0] S256x256.size i3) p3 rfl (emb256 _ i3 3 rfl) (fun x => by rw [h3, View.readAt_full, embSign_read v3 f3 ![0, 768] _ 3 rfl, emb256_read v6 f6 ![768, 0] _ 3 rfl]; rfl) g3
  have g5 : Filled v at256 (fun q x => k0_pay213 (v1.read (Elt F) f1) (fun y => v3.read (Elt F) f3 (atSign q y)) (fun y => v6.read (Elt F) f6 (at256 q y)) x) 5 (v.writes (Elt F) f [⟨Rect.unit (s := S1792x256) ![1024, 0] S256x256.size i4, p4⟩, ⟨Rect.unit (s := S1792x256) ![768, 0] S256x256.size i3, p3⟩, ⟨Rect.unit (s := S1792x256) ![512, 0] S256x256.size i2, p2⟩, ⟨Rect.unit (s := S1792x256) ![256, 0] S256x256.size i1, p1⟩, ⟨Rect.unit (s := S1792x256) ![0, 0] S256x256.size i0, p0⟩]) :=
    filled_cons v at256_inj 4 (by decide) (Rect.unit (s := S1792x256) ![1024, 0] S256x256.size i4) p4 rfl (emb256 _ i4 4 rfl) (fun x => by rw [h4, View.readAt_full, embSign_read v3 f3 ![0, 1024] _ 4 rfl, emb256_read v6 f6 ![1024, 0] _ 4 rfl]; rfl) g4
  have g6 : Filled v at256 (fun q x => k0_pay213 (v1.read (Elt F) f1) (fun y => v3.read (Elt F) f3 (atSign q y)) (fun y => v6.read (Elt F) f6 (at256 q y)) x) 6 (v.writes (Elt F) f [⟨Rect.unit (s := S1792x256) ![1280, 0] S256x256.size i5, p5⟩, ⟨Rect.unit (s := S1792x256) ![1024, 0] S256x256.size i4, p4⟩, ⟨Rect.unit (s := S1792x256) ![768, 0] S256x256.size i3, p3⟩, ⟨Rect.unit (s := S1792x256) ![512, 0] S256x256.size i2, p2⟩, ⟨Rect.unit (s := S1792x256) ![256, 0] S256x256.size i1, p1⟩, ⟨Rect.unit (s := S1792x256) ![0, 0] S256x256.size i0, p0⟩]) :=
    filled_cons v at256_inj 5 (by decide) (Rect.unit (s := S1792x256) ![1280, 0] S256x256.size i5) p5 rfl (emb256 _ i5 5 rfl) (fun x => by rw [h5, View.readAt_full, embSign_read v3 f3 ![0, 1280] _ 5 rfl, emb256_read v6 f6 ![1280, 0] _ 5 rfl]; rfl) g5
  have g7 : Filled v at256 (fun q x => k0_pay213 (v1.read (Elt F) f1) (fun y => v3.read (Elt F) f3 (atSign q y)) (fun y => v6.read (Elt F) f6 (at256 q y)) x) 7 (v.writes (Elt F) f [⟨Rect.unit (s := S1792x256) ![1536, 0] S256x256.size i6, p6⟩, ⟨Rect.unit (s := S1792x256) ![1280, 0] S256x256.size i5, p5⟩, ⟨Rect.unit (s := S1792x256) ![1024, 0] S256x256.size i4, p4⟩, ⟨Rect.unit (s := S1792x256) ![768, 0] S256x256.size i3, p3⟩, ⟨Rect.unit (s := S1792x256) ![512, 0] S256x256.size i2, p2⟩, ⟨Rect.unit (s := S1792x256) ![256, 0] S256x256.size i1, p1⟩, ⟨Rect.unit (s := S1792x256) ![0, 0] S256x256.size i0, p0⟩]) :=
    filled_cons v at256_inj 6 (by decide) (Rect.unit (s := S1792x256) ![1536, 0] S256x256.size i6) p6 rfl (emb256 _ i6 6 rfl) (fun x => by rw [h6, View.readAt_full, embSign_read v3 f3 ![0, 1536] _ 6 rfl, emb256_read v6 f6 ![1536, 0] _ 6 rfl]; rfl) g6
  exact fun q x => filled_all g7 q x

set_option maxHeartbeats 1600000 in
/-- Ten stores of column blocks leave the running product one tile on. -/
theorem isAcc_of_writes (v1 : View sig .tc sp S1792x2560 .f32) (f1 f : v1.ty.Contents (Elt F)) (v5 : View sig .tc sp S1792x256 .bf16)
    (f5 : v5.ty.Contents (Elt F)) (v6 : View sig .tc sp S2560x256 .bf16) (f6 : v6.ty.Contents (Elt F)) (p0 : S1792x256.Idx → Elt F .f32) (p1 : S1792x256.Idx → Elt F .f32) (p2 : S1792x256.Idx → Elt F .f32) (p3 : S1792x256.Idx → Elt F .f32) (p4 : S1792x256.Idx → Elt F .f32) (p5 : S1792x256.Idx → Elt F .f32) (p6 : S1792x256.Idx → Elt F .f32) (p7 : S1792x256.Idx → Elt F .f32) (p8 : S1792x256.Idx → Elt F .f32) (p9 : S1792x256.Idx → Elt F .f32) (i0 : ∀ a, (![0, 0] : Fin 2 → ℕ) a + S1792x256.size a ≤ S1792x2560.size a) (i1 : ∀ a, (![0, 256] : Fin 2 → ℕ) a + S1792x256.size a ≤ S1792x2560.size a) (i2 : ∀ a, (![0, 512] : Fin 2 → ℕ) a + S1792x256.size a ≤ S1792x2560.size a) (i3 : ∀ a, (![0, 768] : Fin 2 → ℕ) a + S1792x256.size a ≤ S1792x2560.size a) (i4 : ∀ a, (![0, 1024] : Fin 2 → ℕ) a + S1792x256.size a ≤ S1792x2560.size a) (i5 : ∀ a, (![0, 1280] : Fin 2 → ℕ) a + S1792x256.size a ≤ S1792x2560.size a) (i6 : ∀ a, (![0, 1536] : Fin 2 → ℕ) a + S1792x256.size a ≤ S1792x2560.size a) (i7 : ∀ a, (![0, 1792] : Fin 2 → ℕ) a + S1792x256.size a ≤ S1792x2560.size a) (i8 : ∀ a, (![0, 2048] : Fin 2 → ℕ) a + S1792x256.size a ≤ S1792x2560.size a) (i9 : ∀ a, (![0, 2304] : Fin 2 → ℕ) a + S1792x256.size a ≤ S1792x2560.size a)
    (h0 : p0 = k0_pay186 (View.readAt (Elt F) v1 (Rect.unit (s := S1792x2560) ![0, 0] S1792x256.size i0).toLoadRect f1) (View.readAt (Elt F) v5 (Rect.unit (s := S1792x256) ![0, 0] S1792x256.size inb_S1792x256_S1792x256_0_0).toLoadRect f5) (View.readAt (Elt F) v6 (Rect.unit (s := S2560x256) ![0, 0] S256x256.size inb_S2560x256_S256x256_0_0).toLoadRect f6))
    (h1 : p1 = k0_pay186 (View.readAt (Elt F) v1 (Rect.unit (s := S1792x2560) ![0, 256] S1792x256.size i1).toLoadRect f1) (View.readAt (Elt F) v5 (Rect.unit (s := S1792x256) ![0, 0] S1792x256.size inb_S1792x256_S1792x256_0_0).toLoadRect f5) (View.readAt (Elt F) v6 (Rect.unit (s := S2560x256) ![256, 0] S256x256.size inb_S2560x256_S256x256_256_0).toLoadRect f6))
    (h2 : p2 = k0_pay186 (View.readAt (Elt F) v1 (Rect.unit (s := S1792x2560) ![0, 512] S1792x256.size i2).toLoadRect f1) (View.readAt (Elt F) v5 (Rect.unit (s := S1792x256) ![0, 0] S1792x256.size inb_S1792x256_S1792x256_0_0).toLoadRect f5) (View.readAt (Elt F) v6 (Rect.unit (s := S2560x256) ![512, 0] S256x256.size inb_S2560x256_S256x256_512_0).toLoadRect f6))
    (h3 : p3 = k0_pay186 (View.readAt (Elt F) v1 (Rect.unit (s := S1792x2560) ![0, 768] S1792x256.size i3).toLoadRect f1) (View.readAt (Elt F) v5 (Rect.unit (s := S1792x256) ![0, 0] S1792x256.size inb_S1792x256_S1792x256_0_0).toLoadRect f5) (View.readAt (Elt F) v6 (Rect.unit (s := S2560x256) ![768, 0] S256x256.size inb_S2560x256_S256x256_768_0).toLoadRect f6))
    (h4 : p4 = k0_pay186 (View.readAt (Elt F) v1 (Rect.unit (s := S1792x2560) ![0, 1024] S1792x256.size i4).toLoadRect f1) (View.readAt (Elt F) v5 (Rect.unit (s := S1792x256) ![0, 0] S1792x256.size inb_S1792x256_S1792x256_0_0).toLoadRect f5) (View.readAt (Elt F) v6 (Rect.unit (s := S2560x256) ![1024, 0] S256x256.size inb_S2560x256_S256x256_1024_0).toLoadRect f6))
    (h5 : p5 = k0_pay186 (View.readAt (Elt F) v1 (Rect.unit (s := S1792x2560) ![0, 1280] S1792x256.size i5).toLoadRect f1) (View.readAt (Elt F) v5 (Rect.unit (s := S1792x256) ![0, 0] S1792x256.size inb_S1792x256_S1792x256_0_0).toLoadRect f5) (View.readAt (Elt F) v6 (Rect.unit (s := S2560x256) ![1280, 0] S256x256.size inb_S2560x256_S256x256_1280_0).toLoadRect f6))
    (h6 : p6 = k0_pay186 (View.readAt (Elt F) v1 (Rect.unit (s := S1792x2560) ![0, 1536] S1792x256.size i6).toLoadRect f1) (View.readAt (Elt F) v5 (Rect.unit (s := S1792x256) ![0, 0] S1792x256.size inb_S1792x256_S1792x256_0_0).toLoadRect f5) (View.readAt (Elt F) v6 (Rect.unit (s := S2560x256) ![1536, 0] S256x256.size inb_S2560x256_S256x256_1536_0).toLoadRect f6))
    (h7 : p7 = k0_pay186 (View.readAt (Elt F) v1 (Rect.unit (s := S1792x2560) ![0, 1792] S1792x256.size i7).toLoadRect f1) (View.readAt (Elt F) v5 (Rect.unit (s := S1792x256) ![0, 0] S1792x256.size inb_S1792x256_S1792x256_0_0).toLoadRect f5) (View.readAt (Elt F) v6 (Rect.unit (s := S2560x256) ![1792, 0] S256x256.size inb_S2560x256_S256x256_1792_0).toLoadRect f6))
    (h8 : p8 = k0_pay186 (View.readAt (Elt F) v1 (Rect.unit (s := S1792x2560) ![0, 2048] S1792x256.size i8).toLoadRect f1) (View.readAt (Elt F) v5 (Rect.unit (s := S1792x256) ![0, 0] S1792x256.size inb_S1792x256_S1792x256_0_0).toLoadRect f5) (View.readAt (Elt F) v6 (Rect.unit (s := S2560x256) ![2048, 0] S256x256.size inb_S2560x256_S256x256_2048_0).toLoadRect f6))
    (h9 : p9 = k0_pay186 (View.readAt (Elt F) v1 (Rect.unit (s := S1792x2560) ![0, 2304] S1792x256.size i9).toLoadRect f1) (View.readAt (Elt F) v5 (Rect.unit (s := S1792x256) ![0, 0] S1792x256.size inb_S1792x256_S1792x256_0_0).toLoadRect f5) (View.readAt (Elt F) v6 (Rect.unit (s := S2560x256) ![2304, 0] S256x256.size inb_S2560x256_S256x256_2304_0).toLoadRect f6)) :
    IsAcc (v1.read (Elt F) f1) (v5.read (Elt F) f5) (v6.read (Elt F) f6) (v1.read (Elt F) (v1.writes (Elt F) f [⟨Rect.unit (s := S1792x2560) ![0, 2304] S1792x256.size i9, p9⟩, ⟨Rect.unit (s := S1792x2560) ![0, 2048] S1792x256.size i8, p8⟩, ⟨Rect.unit (s := S1792x2560) ![0, 1792] S1792x256.size i7, p7⟩, ⟨Rect.unit (s := S1792x2560) ![0, 1536] S1792x256.size i6, p6⟩, ⟨Rect.unit (s := S1792x2560) ![0, 1280] S1792x256.size i5, p5⟩, ⟨Rect.unit (s := S1792x2560) ![0, 1024] S1792x256.size i4, p4⟩, ⟨Rect.unit (s := S1792x2560) ![0, 768] S1792x256.size i3, p3⟩, ⟨Rect.unit (s := S1792x2560) ![0, 512] S1792x256.size i2, p2⟩, ⟨Rect.unit (s := S1792x2560) ![0, 256] S1792x256.size i1, p1⟩, ⟨Rect.unit (s := S1792x2560) ![0, 0] S1792x256.size i0, p0⟩])) := by
  have g0 : Filled v1 atCol (fun q x => k0_pay186 (fun y => v1.read (Elt F) f1 (atCol q y)) (v5.read (Elt F) f5) (fun y => v6.read (Elt F) f6 (at256w q y)) x) 0 (v1.writes (Elt F) f []) := filled_zero v1 _
  have g1 : Filled v1 atCol (fun q x => k0_pay186 (fun y => v1.read (Elt F) f1 (atCol q y)) (v5.read (Elt F) f5) (fun y => v6.read (Elt F) f6 (at256w q y)) x) 1 (v1.writes (Elt F) f [⟨Rect.unit (s := S1792x2560) ![0, 0] S1792x256.size i0, p0⟩]) :=
    filled_cons v1 atCol_inj 0 (by decide) (Rect.unit (s := S1792x2560) ![0, 0] S1792x256.size i0) p0 rfl (embCol _ i0 0 rfl) (fun x => by rw [h0, View.readAt_full, embCol_read v1 f1 ![0, 0] _ 0 rfl, emb256w_read v6 f6 ![0, 0] _ 0 rfl]; rfl) g0
  have g2 : Filled v1 atCol (fun q x => k0_pay186 (fun y => v1.read (Elt F) f1 (atCol q y)) (v5.read (Elt F) f5) (fun y => v6.read (Elt F) f6 (at256w q y)) x) 2 (v1.writes (Elt F) f [⟨Rect.unit (s := S1792x2560) ![0, 256] S1792x256.size i1, p1⟩, ⟨Rect.unit (s := S1792x2560) ![0, 0] S1792x256.size i0, p0⟩]) :=
    filled_cons v1 atCol_inj 1 (by decide) (Rect.unit (s := S1792x2560) ![0, 256] S1792x256.size i1) p1 rfl (embCol _ i1 1 rfl) (fun x => by rw [h1, View.readAt_full, embCol_read v1 f1 ![0, 256] _ 1 rfl, emb256w_read v6 f6 ![256, 0] _ 1 rfl]; rfl) g1
  have g3 : Filled v1 atCol (fun q x => k0_pay186 (fun y => v1.read (Elt F) f1 (atCol q y)) (v5.read (Elt F) f5) (fun y => v6.read (Elt F) f6 (at256w q y)) x) 3 (v1.writes (Elt F) f [⟨Rect.unit (s := S1792x2560) ![0, 512] S1792x256.size i2, p2⟩, ⟨Rect.unit (s := S1792x2560) ![0, 256] S1792x256.size i1, p1⟩, ⟨Rect.unit (s := S1792x2560) ![0, 0] S1792x256.size i0, p0⟩]) :=
    filled_cons v1 atCol_inj 2 (by decide) (Rect.unit (s := S1792x2560) ![0, 512] S1792x256.size i2) p2 rfl (embCol _ i2 2 rfl) (fun x => by rw [h2, View.readAt_full, embCol_read v1 f1 ![0, 512] _ 2 rfl, emb256w_read v6 f6 ![512, 0] _ 2 rfl]; rfl) g2
  have g4 : Filled v1 atCol (fun q x => k0_pay186 (fun y => v1.read (Elt F) f1 (atCol q y)) (v5.read (Elt F) f5) (fun y => v6.read (Elt F) f6 (at256w q y)) x) 4 (v1.writes (Elt F) f [⟨Rect.unit (s := S1792x2560) ![0, 768] S1792x256.size i3, p3⟩, ⟨Rect.unit (s := S1792x2560) ![0, 512] S1792x256.size i2, p2⟩, ⟨Rect.unit (s := S1792x2560) ![0, 256] S1792x256.size i1, p1⟩, ⟨Rect.unit (s := S1792x2560) ![0, 0] S1792x256.size i0, p0⟩]) :=
    filled_cons v1 atCol_inj 3 (by decide) (Rect.unit (s := S1792x2560) ![0, 768] S1792x256.size i3) p3 rfl (embCol _ i3 3 rfl) (fun x => by rw [h3, View.readAt_full, embCol_read v1 f1 ![0, 768] _ 3 rfl, emb256w_read v6 f6 ![768, 0] _ 3 rfl]; rfl) g3
  have g5 : Filled v1 atCol (fun q x => k0_pay186 (fun y => v1.read (Elt F) f1 (atCol q y)) (v5.read (Elt F) f5) (fun y => v6.read (Elt F) f6 (at256w q y)) x) 5 (v1.writes (Elt F) f [⟨Rect.unit (s := S1792x2560) ![0, 1024] S1792x256.size i4, p4⟩, ⟨Rect.unit (s := S1792x2560) ![0, 768] S1792x256.size i3, p3⟩, ⟨Rect.unit (s := S1792x2560) ![0, 512] S1792x256.size i2, p2⟩, ⟨Rect.unit (s := S1792x2560) ![0, 256] S1792x256.size i1, p1⟩, ⟨Rect.unit (s := S1792x2560) ![0, 0] S1792x256.size i0, p0⟩]) :=
    filled_cons v1 atCol_inj 4 (by decide) (Rect.unit (s := S1792x2560) ![0, 1024] S1792x256.size i4) p4 rfl (embCol _ i4 4 rfl) (fun x => by rw [h4, View.readAt_full, embCol_read v1 f1 ![0, 1024] _ 4 rfl, emb256w_read v6 f6 ![1024, 0] _ 4 rfl]; rfl) g4
  have g6 : Filled v1 atCol (fun q x => k0_pay186 (fun y => v1.read (Elt F) f1 (atCol q y)) (v5.read (Elt F) f5) (fun y => v6.read (Elt F) f6 (at256w q y)) x) 6 (v1.writes (Elt F) f [⟨Rect.unit (s := S1792x2560) ![0, 1280] S1792x256.size i5, p5⟩, ⟨Rect.unit (s := S1792x2560) ![0, 1024] S1792x256.size i4, p4⟩, ⟨Rect.unit (s := S1792x2560) ![0, 768] S1792x256.size i3, p3⟩, ⟨Rect.unit (s := S1792x2560) ![0, 512] S1792x256.size i2, p2⟩, ⟨Rect.unit (s := S1792x2560) ![0, 256] S1792x256.size i1, p1⟩, ⟨Rect.unit (s := S1792x2560) ![0, 0] S1792x256.size i0, p0⟩]) :=
    filled_cons v1 atCol_inj 5 (by decide) (Rect.unit (s := S1792x2560) ![0, 1280] S1792x256.size i5) p5 rfl (embCol _ i5 5 rfl) (fun x => by rw [h5, View.readAt_full, embCol_read v1 f1 ![0, 1280] _ 5 rfl, emb256w_read v6 f6 ![1280, 0] _ 5 rfl]; rfl) g5
  have g7 : Filled v1 atCol (fun q x => k0_pay186 (fun y => v1.read (Elt F) f1 (atCol q y)) (v5.read (Elt F) f5) (fun y => v6.read (Elt F) f6 (at256w q y)) x) 7 (v1.writes (Elt F) f [⟨Rect.unit (s := S1792x2560) ![0, 1536] S1792x256.size i6, p6⟩, ⟨Rect.unit (s := S1792x2560) ![0, 1280] S1792x256.size i5, p5⟩, ⟨Rect.unit (s := S1792x2560) ![0, 1024] S1792x256.size i4, p4⟩, ⟨Rect.unit (s := S1792x2560) ![0, 768] S1792x256.size i3, p3⟩, ⟨Rect.unit (s := S1792x2560) ![0, 512] S1792x256.size i2, p2⟩, ⟨Rect.unit (s := S1792x2560) ![0, 256] S1792x256.size i1, p1⟩, ⟨Rect.unit (s := S1792x2560) ![0, 0] S1792x256.size i0, p0⟩]) :=
    filled_cons v1 atCol_inj 6 (by decide) (Rect.unit (s := S1792x2560) ![0, 1536] S1792x256.size i6) p6 rfl (embCol _ i6 6 rfl) (fun x => by rw [h6, View.readAt_full, embCol_read v1 f1 ![0, 1536] _ 6 rfl, emb256w_read v6 f6 ![1536, 0] _ 6 rfl]; rfl) g6
  have g8 : Filled v1 atCol (fun q x => k0_pay186 (fun y => v1.read (Elt F) f1 (atCol q y)) (v5.read (Elt F) f5) (fun y => v6.read (Elt F) f6 (at256w q y)) x) 8 (v1.writes (Elt F) f [⟨Rect.unit (s := S1792x2560) ![0, 1792] S1792x256.size i7, p7⟩, ⟨Rect.unit (s := S1792x2560) ![0, 1536] S1792x256.size i6, p6⟩, ⟨Rect.unit (s := S1792x2560) ![0, 1280] S1792x256.size i5, p5⟩, ⟨Rect.unit (s := S1792x2560) ![0, 1024] S1792x256.size i4, p4⟩, ⟨Rect.unit (s := S1792x2560) ![0, 768] S1792x256.size i3, p3⟩, ⟨Rect.unit (s := S1792x2560) ![0, 512] S1792x256.size i2, p2⟩, ⟨Rect.unit (s := S1792x2560) ![0, 256] S1792x256.size i1, p1⟩, ⟨Rect.unit (s := S1792x2560) ![0, 0] S1792x256.size i0, p0⟩]) :=
    filled_cons v1 atCol_inj 7 (by decide) (Rect.unit (s := S1792x2560) ![0, 1792] S1792x256.size i7) p7 rfl (embCol _ i7 7 rfl) (fun x => by rw [h7, View.readAt_full, embCol_read v1 f1 ![0, 1792] _ 7 rfl, emb256w_read v6 f6 ![1792, 0] _ 7 rfl]; rfl) g7
  have g9 : Filled v1 atCol (fun q x => k0_pay186 (fun y => v1.read (Elt F) f1 (atCol q y)) (v5.read (Elt F) f5) (fun y => v6.read (Elt F) f6 (at256w q y)) x) 9 (v1.writes (Elt F) f [⟨Rect.unit (s := S1792x2560) ![0, 2048] S1792x256.size i8, p8⟩, ⟨Rect.unit (s := S1792x2560) ![0, 1792] S1792x256.size i7, p7⟩, ⟨Rect.unit (s := S1792x2560) ![0, 1536] S1792x256.size i6, p6⟩, ⟨Rect.unit (s := S1792x2560) ![0, 1280] S1792x256.size i5, p5⟩, ⟨Rect.unit (s := S1792x2560) ![0, 1024] S1792x256.size i4, p4⟩, ⟨Rect.unit (s := S1792x2560) ![0, 768] S1792x256.size i3, p3⟩, ⟨Rect.unit (s := S1792x2560) ![0, 512] S1792x256.size i2, p2⟩, ⟨Rect.unit (s := S1792x2560) ![0, 256] S1792x256.size i1, p1⟩, ⟨Rect.unit (s := S1792x2560) ![0, 0] S1792x256.size i0, p0⟩]) :=
    filled_cons v1 atCol_inj 8 (by decide) (Rect.unit (s := S1792x2560) ![0, 2048] S1792x256.size i8) p8 rfl (embCol _ i8 8 rfl) (fun x => by rw [h8, View.readAt_full, embCol_read v1 f1 ![0, 2048] _ 8 rfl, emb256w_read v6 f6 ![2048, 0] _ 8 rfl]; rfl) g8
  have g10 : Filled v1 atCol (fun q x => k0_pay186 (fun y => v1.read (Elt F) f1 (atCol q y)) (v5.read (Elt F) f5) (fun y => v6.read (Elt F) f6 (at256w q y)) x) 10 (v1.writes (Elt F) f [⟨Rect.unit (s := S1792x2560) ![0, 2304] S1792x256.size i9, p9⟩, ⟨Rect.unit (s := S1792x2560) ![0, 2048] S1792x256.size i8, p8⟩, ⟨Rect.unit (s := S1792x2560) ![0, 1792] S1792x256.size i7, p7⟩, ⟨Rect.unit (s := S1792x2560) ![0, 1536] S1792x256.size i6, p6⟩, ⟨Rect.unit (s := S1792x2560) ![0, 1280] S1792x256.size i5, p5⟩, ⟨Rect.unit (s := S1792x2560) ![0, 1024] S1792x256.size i4, p4⟩, ⟨Rect.unit (s := S1792x2560) ![0, 768] S1792x256.size i3, p3⟩, ⟨Rect.unit (s := S1792x2560) ![0, 512] S1792x256.size i2, p2⟩, ⟨Rect.unit (s := S1792x2560) ![0, 256] S1792x256.size i1, p1⟩, ⟨Rect.unit (s := S1792x2560) ![0, 0] S1792x256.size i0, p0⟩]) :=
    filled_cons v1 atCol_inj 9 (by decide) (Rect.unit (s := S1792x2560) ![0, 2304] S1792x256.size i9) p9 rfl (embCol _ i9 9 rfl) (fun x => by rw [h9, View.readAt_full, embCol_read v1 f1 ![0, 2304] _ 9 rfl, emb256w_read v6 f6 ![2304, 0] _ 9 rfl]; rfl) g9
  exact fun q x => filled_all g10 q x
/-- The rotation of dy along the lanes, from what the windows read. -/
theorem lrot_eq (v2 : View sig .tc sp S256x256 .bf16) (f2 : v2.ty.Contents (Elt F)) (v4 : View sig .tc sp S1x256 .f32) (f4 : v4.ty.Contents (Elt F))
    (v6 : View sig .tc sp S1792x256 .bf16) (f6 : v6.ty.Contents (Elt F)) :
    k0_pay70 (View.readAt (Elt F) v2 (Rect.unit (s := S256x256) ![0, 0] S256x256.size inb_S256x256_S256x256_0_0).toLoadRect f2)
      (View.readAt (Elt F) v4 (Rect.unit (s := S1x256) ![0, 0] S1x256.size inb_S1x256_S1x256_0_0).toLoadRect f4)
      (View.readAt (Elt F) v6 (Rect.unit (s := S1792x256) ![0, 0] S1792x256.size inb_S1792x256_S1792x256_0_0).toLoadRect f6)
      = k0_pay70 (v2.read (Elt F) f2) (v4.read (Elt F) f4) (v6.read (Elt F) f6) := by
  rw [View.readAt_full, View.readAt_full, View.readAt_full]
/-- The rotation of w along the lanes, from what the windows read. -/
theorem lrotw_eq (v2 : View sig .tc sp S256x256 .bf16) (f2 : v2.ty.Contents (Elt F)) (v4 : View sig .tc sp S1x256 .f32) (f4 : v4.ty.Contents (Elt F))
    (v6 : View sig .tc sp S2560x256 .bf16) (f6 : v6.ty.Contents (Elt F)) :
    k0_pay71 (View.readAt (Elt F) v2 (Rect.unit (s := S256x256) ![0, 0] S256x256.size inb_S256x256_S256x256_0_0).toLoadRect f2)
      (View.readAt (Elt F) v4 (Rect.unit (s := S1x256) ![0, 0] S1x256.size inb_S1x256_S1x256_0_0).toLoadRect f4)
      (View.readAt (Elt F) v6 (Rect.unit (s := S2560x256) ![0, 0] S2560x256.size inb_S2560x256_S2560x256_0_0).toLoadRect f6)
      = k0_pay71 (v2.read (Elt F) f2) (v4.read (Elt F) f4) (v6.read (Elt F) f6) := by
  rw [View.readAt_full, View.readAt_full, View.readAt_full]

/-- `d` holds the scale exponents of the tokens' groups of the rows `S`, as bytes. -/
def IsEt (S : S1792x256.Idx → Elt F .f32) (d : S2x28x256.Idx → Elt F .i8) : Prop :=
  ∀ (b : Fin 2) (g : Fin 28) (l : Fin 256), d (ix3 b g l) = BitVec.setWidth 8 (expG S ⟨28 * b.val + g.val, by omega⟩ (ix2 0 l))

/-- Element `x` of the half `q` of the scales' block. -/
def atHalf (q : Fin 2) (x : S1x28x256.Idx) : S2x28x256.Idx := ix3 ⟨q.val + (x 0).val, by have h : (x 0).val < 1 := (x 0).isLt; omega⟩ (x 1) (x 2)
/-- The halves do not overlap. -/
theorem atHalf_inj (q x q' x') (h : atHalf q x = atHalf q' x') : q = q' := by
  have h0 : q.val + (x 0).val = q'.val + (x' 0).val := congrArg Fin.val (congrFun h 0)
  have h1 : (x 0).val < 1 := (x 0).isLt
  have h2 : (x' 0).val < 1 := (x' 0).isLt
  exact Fin.ext (by omega)
/-- A half's rectangle, placed. -/
theorem embHalf (off : Fin 3 → ℕ) (inb : ∀ a, off a + S1x28x256.size a ≤ S2x28x256.size a) (q : Fin 2) (h : off = ![q.val, 0, 0])
    (x : S1x28x256.Idx) : (Rect.unit (s := S2x28x256) off S1x28x256.size inb).emb x = atHalf q x := by
  subst h
  funext a
  match a with
  | ⟨0, _⟩ => exact Fin.ext ((Rect.emb_apply _ _ _).trans (congrArg (q.val + ·) (Nat.one_mul _)))
  | ⟨1, _⟩ => exact Fin.ext ((Rect.emb_apply _ _ _).trans ((Nat.zero_add _).trans (Nat.one_mul _)))
  | ⟨2, _⟩ => exact Fin.ext ((Rect.emb_apply _ _ _).trans ((Nat.zero_add _).trans (Nat.one_mul _)))
/-- A half of the exponents as bytes, at an index. -/
theorem pay198_at (y : Vec F S28x256 .i32) (g : Fin 28) (l : Fin 256) :
    k0_pay198 (F := F) y (ix3 0 g l) = BitVec.setWidth 8 (y (ix2 g l)) := by
  pointwise [k0_pay198]
/-- A row of the table of exponents, read through a rectangle. -/
theorem row_of_filled {v : View sig .tc sp S56x256 .i32} {f : v.ty.Contents (Elt F)} {S : S1792x256.Idx → Elt F .f32}
    (h : Filled v atE (expG S) (55 + 1) f) (o : ℕ) (off : Fin 2 → ℕ) (ho : off = ![o, 0]) (hb : o ≤ 28)
    (inb : ∀ a, off a + S28x256.size a ≤ S56x256.size a) (g : Fin 28) (l : Fin 256) (q : Fin 56) (hq : q.val = o + g.val) :
    View.readAt (Elt F) v (Rect.unit (s := S56x256) off S28x256.size inb).toLoadRect f (ix2 g l) = expG S q (ix2 0 l) := by
  refine Eq.trans ?_ (h q q.isLt (ix2 0 l))
  subst ho
  show v.read (Elt F) f ((Rect.unit (s := S56x256) ![o, 0] S28x256.size inb).emb (ix2 g l)) = _
  congr 1
  funext a
  match a with
  | ⟨0, _⟩ => exact Fin.ext ((Rect.emb_apply _ _ _).trans ((congrArg (o + ·) (Nat.one_mul _)).trans hq.symm))
  | ⟨1, _⟩ => exact Fin.ext ((Rect.emb_apply _ _ _).trans ((Nat.zero_add _).trans (Nat.one_mul _)))
/-- Half `q` of the exponents as bytes. -/
def halfG (S : S1792x256.Idx → Elt F .f32) (q : Fin 2) (x : S1x28x256.Idx) : Elt F .i8 :=
  BitVec.setWidth 8 (expG S ⟨28 * q.val + (x 1).val, by have h : (x 1).val < 28 := (x 1).isLt; omega⟩ (ix2 0 (x 2)))
/-- Two stores of halves leave the exponents as bytes. -/
theorem isEt_of_writes {ve : View sig .tc sp S56x256 .i32} {fe : ve.ty.Contents (Elt F)} {S : S1792x256.Idx → Elt F .f32}
    {n : ℕ} (hn : n = 55 + 1) (h : Filled ve atE (expG S) n fe) (v : View sig .tc sp' S2x28x256 .i8) (f : v.ty.Contents (Elt F))
    (p0 p1 : S1x28x256.Idx → Elt F .i8) (i0 : ∀ a, (![0, 0, 0] : Fin 3 → ℕ) a + S1x28x256.size a ≤ S2x28x256.size a)
    (i1 : ∀ a, (![1, 0, 0] : Fin 3 → ℕ) a + S1x28x256.size a ≤ S2x28x256.size a)
    (h0 : p0 = k0_pay198 (View.readAt (Elt F) ve (Rect.unit (s := S56x256) ![0, 0] S28x256.size inb_S56x256_S28x256_0_0).toLoadRect fe))
    (h1 : p1 = k0_pay198 (View.readAt (Elt F) ve (Rect.unit (s := S56x256) ![28, 0] S28x256.size inb_S56x256_S28x256_28_0).toLoadRect fe)) :
    IsEt S (v.read (Elt F) (v.writes (Elt F) f [⟨Rect.unit (s := S2x28x256) ![1, 0, 0] S1x28x256.size i1, p1⟩, ⟨Rect.unit (s := S2x28x256) ![0, 0, 0] S1x28x256.size i0, p0⟩])) := by
  subst hn
  have hx : ∀ x : S1x28x256.Idx, ∃ (g : Fin 28) (l : Fin 256), x = ix3 0 g l := fun x => ⟨x 1, x 2, by
    funext a
    match a with
    | ⟨0, _⟩ => exact Fin.ext (by have h : (x 0).val < 1 := (x 0).isLt; show (x 0).val = 0; omega)
    | ⟨1, _⟩ => rfl
    | ⟨2, _⟩ => rfl⟩
  have e0 : ∀ x : S1x28x256.Idx, p0 x = halfG S 0 x := fun x => by
    obtain ⟨g, l, rfl⟩ := hx x
    exact (congrFun h0 _).trans ((pay198_at _ g l).trans (congrArg (BitVec.setWidth 8) (row_of_filled h 0 _ rfl (by omega) _ g l _ rfl)))
  have e1 : ∀ x : S1x28x256.Idx, p1 x = halfG S 1 x := fun x => by
    obtain ⟨g, l, rfl⟩ := hx x
    exact (congrFun h1 _).trans ((pay198_at _ g l).trans (congrArg (BitVec.setWidth 8) (row_of_filled h 28 _ rfl (by omega) _ g l _ rfl)))
  have g0 : Filled v atHalf (halfG S) 0 (v.writes (Elt F) f []) := filled_zero v _
  have g1 : Filled v atHalf (halfG S) 1 (v.writes (Elt F) f [⟨Rect.unit (s := S2x28x256) ![0, 0, 0] S1x28x256.size i0, p0⟩]) :=
    filled_cons v atHalf_inj 0 (by decide) (Rect.unit (s := S2x28x256) ![0, 0, 0] S1x28x256.size i0) p0 rfl (embHalf _ i0 0 rfl) e0 g0
  have g2 : Filled v atHalf (halfG S) 2 (v.writes (Elt F) f [⟨Rect.unit (s := S2x28x256) ![1, 0, 0] S1x28x256.size i1, p1⟩, ⟨Rect.unit (s := S2x28x256) ![0, 0, 0] S1x28x256.size i0, p0⟩]) :=
    filled_cons v atHalf_inj 1 (by decide) (Rect.unit (s := S2x28x256) ![1, 0, 0] S1x28x256.size i1) p1 rfl (embHalf _ i1 1 rfl) e1 g1
  intro b g l
  exact filled_all g2 b (ix3 0 g l)

end Cert.KernelIdeal.Hand

end
-- ==== Proof.ValRun1.lean ====
/-
  The backward body at one kind of grid point, with the values it leaves.
-/
module

public import proofs.«01_k».proof.Proof.Gen.KernelIdeal.Loops
public import proofs.«01_k».proof.Proof.StepOps
public import proofs.«01_k».proof.Proof.IdealAnyRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fill
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

variable (c : Dev nD) (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)

set_option maxHeartbeats 1600000 in
/-- At the first point the body leaves these contents. -/
theorem valRun1 (h1 : k0_cond1 i = 1#1) (h2 : ¬ k0_cond2 i = 1#1) (h3 : ¬ k0_cond3 i = 1#1) (h4 : ¬ k0_cond4 i = 1#1)
    (fh : Buf (Elt F) (hbM.view.loc (c : Thread nD τ))) (W : Waits sig Unit) (K : PUnit → sProp 𝕄)
    (XW1 : S256x256.Idx → Elt F .bf16) (XW2 : S256x256.Idx → Elt F .bf16) (XW3 : S1x1792.Idx → Elt F .f32) (XW4 : S1x256.Idx → Elt F .f32) (XW6 : S1792x256.Idx → Elt F .bf16) (XW7 : S2560x256.Idx → Elt F .bf16) (XW8 : S1792x256.Idx → Elt F .i8) (XW9 : S2560x256.Idx → Elt F .i8) (XW10 : S1792x256.Idx → Elt F .i8) (XW11 : S256x2560.Idx → Elt F .bf16) (XW12 : S2560x256.Idx → Elt F .f32) (XW13 : S1792x128.Idx → Elt F .i8) (XW14 : S1792x216.Idx → Elt F .i8) (XW15 : S2560x128.Idx → Elt F .i8) (XW16 : S2560x216.Idx → Elt F .i8) (XW17 : S896x256.Idx → Elt F .i8) (XW18 : S2x28x256.Idx → Elt F .i8) (XS0 : S2560x1792.Idx → Elt F .bf16) (XS1 : S1792x2560.Idx → Elt F .f32) (XS2 : S1792x256.Idx → Elt F .f32) (XS3 : S2560x256.Idx → Elt F .f32) (XS4 : S1792x256.Idx → Elt F .f32) (XS5 : S1792x256.Idx → Elt F .bf16) (XS6 : S2560x256.Idx → Elt F .bf16) (XS7 : S1792x256.Idx → Elt F .bf16) (XS8 : S56x256.Idx → Elt F .i32) (XS9 : S1792x256.Idx → Elt F .i8) (XS10 : S2560x256.Idx → Elt F .i8) :
    iprop((owns (c : Thread nD τ) arg1 fullShare XW1 ∗ owns (c : Thread nD τ) arg2 fullShare XW2 ∗ owns (c : Thread nD τ) arg3 fullShare XW3 ∗ owns (c : Thread nD τ) arg4 fullShare XW4 ∗ owns (c : Thread nD τ) arg6 fullShare XW6 ∗ owns (c : Thread nD τ) arg7 fullShare XW7 ∗ owns (c : Thread nD τ) arg8 fullShare XW8 ∗ owns (c : Thread nD τ) arg9 fullShare XW9 ∗ owns (c : Thread nD τ) arg10 fullShare XW10 ∗ owns (c : Thread nD τ) arg11 fullShare XW11 ∗ owns (c : Thread nD τ) arg12 fullShare XW12 ∗ owns (c : Thread nD τ) arg13 fullShare XW13 ∗ owns (c : Thread nD τ) arg14 fullShare XW14 ∗ owns (c : Thread nD τ) arg15 fullShare XW15 ∗ owns (c : Thread nD τ) arg16 fullShare XW16 ∗ owns (c : Thread nD τ) arg17 fullShare XW17 ∗ owns (c : Thread nD τ) arg18 fullShare XW18 ∗ owns (c : Thread nD τ) sc0 fullShare XS0 ∗ owns (c : Thread nD τ) sc1 fullShare XS1 ∗ owns (c : Thread nD τ) sc2 fullShare XS2 ∗ owns (c : Thread nD τ) sc3 fullShare XS3 ∗ owns (c : Thread nD τ) sc4 fullShare XS4 ∗ owns (c : Thread nD τ) sc5 fullShare XS5 ∗ owns (c : Thread nD τ) sc6 fullShare XS6 ∗ owns (c : Thread nD τ) sc7 fullShare XS7 ∗ owns (c : Thread nD τ) sc8 fullShare XS8 ∗ owns (c : Thread nD τ) sc9 fullShare XS9 ∗ owns (c : Thread nD τ) sc10 fullShare XS10 ∗ semVal ((c : Thread nD τ), SemLoc.dma 29) 0 ∗ hbPt c hbM fh) ∗ owes (c : Thread nD τ) 0 W
        ∗ (iprop((owns (c : Thread nD τ) arg1 fullShare XW1 ∗ owns (c : Thread nD τ) arg2 fullShare XW2 ∗ owns (c : Thread nD τ) arg3 fullShare XW3 ∗ owns (c : Thread nD τ) arg4 fullShare XW4 ∗ owns (c : Thread nD τ) arg6 fullShare XW6 ∗ owns (c : Thread nD τ) arg7 fullShare XW7 ∗ owns (c : Thread nD τ) arg8 fullShare XW8 ∗ owns (c : Thread nD τ) arg9 fullShare XW9 ∗ owns (c : Thread nD τ) arg10 fullShare XW10 ∗ anyOwn c arg11 ∗ anyOwn c arg12 ∗ anyOwn c arg13 ∗ anyOwn c arg14 ∗ anyOwn c arg15 ∗ anyOwn c arg16 ∗ anyOwn c arg17 ∗ anyOwn c arg18 ∗ (∃ d, owns (c : Thread nD τ) sc0 fullShare d ∗ ⌜d = hbM.view.read (Elt F) fh⌝) ∗ (∃ d, owns (c : Thread nD τ) sc1 fullShare d ∗ ⌜d = k0_pay68⌝) ∗ anyOwn c sc2 ∗ anyOwn c sc3 ∗ (∃ d, owns (c : Thread nD τ) sc4 fullShare d ∗ ⌜IsTrot XW1 XW3 XW6 d⌝) ∗ (∃ d, owns (c : Thread nD τ) sc5 fullShare d ∗ ⌜IsLane (k0_pay70 XW2 XW4 XW6) XW8 d⌝) ∗ (∃ d, owns (c : Thread nD τ) sc6 fullShare d ∗ ⌜IsLanew (k0_pay71 XW2 XW4 XW7) XW9 d⌝) ∗ anyOwn c sc7 ∗ anyOwn c sc8 ∗ anyOwn c sc9 ∗ anyOwn c sc10 ∗ semVal ((c : Thread nD τ), SemLoc.dma 29) 0 ∗ hbPt c hbM fh) ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold anyOwn owns
  have ht : True := trivial
  iintro ⟨⟨⟨%fW1, %hW1, W1⟩, ⟨%fW2, %hW2, W2⟩, ⟨%fW3, %hW3, W3⟩, ⟨%fW4, %hW4, W4⟩, ⟨%fW6, %hW6, W6⟩, ⟨%fW7, %hW7, W7⟩, ⟨%fW8, %hW8, W8⟩, ⟨%fW9, %hW9, W9⟩, ⟨%fW10, %hW10, W10⟩, ⟨%fW11, %hW11, W11⟩, ⟨%fW12, %hW12, W12⟩, ⟨%fW13, %hW13, W13⟩, ⟨%fW14, %hW14, W14⟩, ⟨%fW15, %hW15, W15⟩, ⟨%fW16, %hW16, W16⟩, ⟨%fW17, %hW17, W17⟩, ⟨%fW18, %hW18, W18⟩, ⟨%fS0, %hS0, S0⟩, ⟨%fS1, %hS1, S1⟩, ⟨%fS2, %hS2, S2⟩, ⟨%fS3, %hS3, S3⟩, ⟨%fS4, %hS4, S4⟩, ⟨%fS5, %hS5, S5⟩, ⟨%fS6, %hS6, S6⟩, ⟨%fS7, %hS7, S7⟩, ⟨%fS8, %hS8, S8⟩, ⟨%fS9, %hS9, S9⟩, ⟨%fS10, %hS10, S10⟩, Hq, Hh⟩, HW, Hk⟩
  subst hW1 hW2 hW3 hW4 hW6 hW7 hW8 hW9 hW10 hW11 hW12 hW13 hW14 hW15 hW16 hW17 hW18 hS0 hS1 hS2 hS3 hS4 hS5 hS6 hS7 hS8 hS9 hS10
  sl_exec
  sl_step
  iapply Hk
  isplitr [HW]; swap
  · iexists _; iexact HW
  isplitl [W1]
  · iexists fW1; isplitr; swap; · iexact W1
    ipureintro; rfl
  isplitl [W2]
  · iexists fW2; isplitr; swap; · iexact W2
    ipureintro; rfl
  isplitl [W3]
  · iexists fW3; isplitr; swap; · iexact W3
    ipureintro; rfl
  isplitl [W4]
  · iexists fW4; isplitr; swap; · iexact W4
    ipureintro; rfl
  isplitl [W6]
  · iexists fW6; isplitr; swap; · iexact W6
    ipureintro; rfl
  isplitl [W7]
  · iexists fW7; isplitr; swap; · iexact W7
    ipureintro; rfl
  isplitl [W8]
  · iexists fW8; isplitr; swap; · iexact W8
    ipureintro; rfl
  isplitl [W9]
  · iexists fW9; isplitr; swap; · iexact W9
    ipureintro; rfl
  isplitl [W10]
  · iexists fW10; isplitr; swap; · iexact W10
    ipureintro; rfl
  isplitl [W11]
  · iexists _, _; isplitr; swap; · iexact W11
    ipureintro; rfl
  isplitl [W12]
  · iexists _, _; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _, _; isplitr; swap; · iexact W18
    ipureintro; rfl
  isplitl [S0]
  · iexists _; isplitl [S0]
    · iexists _; isplitr; swap; · iexact S0
      ipureintro; rfl
    · ipureintro
      exact View.read_writes_whole _ _ _
  isplitl [S1]
  · iexists _; isplitl [S1]
    · iexists _; isplitr; swap; · iexact S1
      ipureintro; rfl
    · ipureintro
      exact View.read_writes_full _ _ _ _ _
  isplitl [S2]
  · iexists _, _; isplitr; swap; · iexact S2
    ipureintro; rfl
  isplitl [S3]
  · iexists _, _; isplitr; swap; · iexact S3
    ipureintro; rfl
  isplitl [S4]
  · iexists _; isplitl [S4]
    · iexists _; isplitr; swap; · iexact S4
      ipureintro; rfl
    · ipureintro
      exact isTrot_of_writes arg1.view fW1 arg3.view fW3 arg6.view fW6 _ _ _ _ _ _ _ _ _ _ _ _ _ _ _ _ rfl rfl rfl rfl rfl rfl rfl
  isplitl [S5]
  · iexists _; isplitl [S5]
    · iexists _; isplitr; swap; · iexact S5
      ipureintro; rfl
    · ipureintro
      exact isLane_of_filled ((View.read_writes_full _ _ _ _ _).trans (lrot_eq arg2.view fW2 arg4.view fW4 arg6.view fW6)) rfl ‹Filled sc5.view at32 _ _ _›
  isplitl [S6]
  · iexists _; isplitl [S6]
    · iexists _; isplitr; swap; · iexact S6
      ipureintro; rfl
    · ipureintro
      exact isLanew_of_filled ((View.read_writes_full _ _ _ _ _).trans (lrotw_eq arg2.view fW2 arg4.view fW4 arg7.view fW7)) rfl ‹Filled sc6.view at32w _ _ _›
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

end Cert.KernelIdeal.Hand

end
-- ==== Proof.ValRun2.lean ====
/-
  The backward body at one kind of grid point, with the values it leaves.
-/
module

public import proofs.«01_k».proof.Proof.Gen.KernelIdeal.Loops
public import proofs.«01_k».proof.Proof.StepOps
public import proofs.«01_k».proof.Proof.IdealAnyRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fill
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

variable (c : Dev nD) (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)

set_option maxHeartbeats 1600000 in
/-- At a middle point the body leaves these contents. -/
theorem valRun2 (h1 : ¬ k0_cond1 i = 1#1) (h2 : k0_cond2 i = 1#1) (h3 : ¬ k0_cond3 i = 1#1) (h4 : ¬ k0_cond4 i = 1#1)
    (fh : Buf (Elt F) (hbM.view.loc (c : Thread nD τ))) (W : Waits sig Unit) (K : PUnit → sProp 𝕄)
    (XW1 : S256x256.Idx → Elt F .bf16) (XW2 : S256x256.Idx → Elt F .bf16) (XW3 : S1x1792.Idx → Elt F .f32) (XW4 : S1x256.Idx → Elt F .f32) (XW6 : S1792x256.Idx → Elt F .bf16) (XW7 : S2560x256.Idx → Elt F .bf16) (XW8 : S1792x256.Idx → Elt F .i8) (XW9 : S2560x256.Idx → Elt F .i8) (XW10 : S1792x256.Idx → Elt F .i8) (XW11 : S256x2560.Idx → Elt F .bf16) (XW12 : S2560x256.Idx → Elt F .f32) (XW13 : S1792x128.Idx → Elt F .i8) (XW14 : S1792x216.Idx → Elt F .i8) (XW15 : S2560x128.Idx → Elt F .i8) (XW16 : S2560x216.Idx → Elt F .i8) (XW17 : S896x256.Idx → Elt F .i8) (XW18 : S2x28x256.Idx → Elt F .i8) (XS0 : S2560x1792.Idx → Elt F .bf16) (XS1 : S1792x2560.Idx → Elt F .f32) (XS2 : S1792x256.Idx → Elt F .f32) (XS3 : S2560x256.Idx → Elt F .f32) (XS4 : S1792x256.Idx → Elt F .f32) (XS5 : S1792x256.Idx → Elt F .bf16) (XS6 : S2560x256.Idx → Elt F .bf16) (XS7 : S1792x256.Idx → Elt F .bf16) (XS8 : S56x256.Idx → Elt F .i32) (XS9 : S1792x256.Idx → Elt F .i8) (XS10 : S2560x256.Idx → Elt F .i8) :
    iprop((owns (c : Thread nD τ) arg1 fullShare XW1 ∗ owns (c : Thread nD τ) arg2 fullShare XW2 ∗ owns (c : Thread nD τ) arg3 fullShare XW3 ∗ owns (c : Thread nD τ) arg4 fullShare XW4 ∗ owns (c : Thread nD τ) arg6 fullShare XW6 ∗ owns (c : Thread nD τ) arg7 fullShare XW7 ∗ owns (c : Thread nD τ) arg8 fullShare XW8 ∗ owns (c : Thread nD τ) arg9 fullShare XW9 ∗ owns (c : Thread nD τ) arg10 fullShare XW10 ∗ owns (c : Thread nD τ) arg11 fullShare XW11 ∗ owns (c : Thread nD τ) arg12 fullShare XW12 ∗ owns (c : Thread nD τ) arg13 fullShare XW13 ∗ owns (c : Thread nD τ) arg14 fullShare XW14 ∗ owns (c : Thread nD τ) arg15 fullShare XW15 ∗ owns (c : Thread nD τ) arg16 fullShare XW16 ∗ owns (c : Thread nD τ) arg17 fullShare XW17 ∗ owns (c : Thread nD τ) arg18 fullShare XW18 ∗ owns (c : Thread nD τ) sc0 fullShare XS0 ∗ owns (c : Thread nD τ) sc1 fullShare XS1 ∗ owns (c : Thread nD τ) sc2 fullShare XS2 ∗ owns (c : Thread nD τ) sc3 fullShare XS3 ∗ owns (c : Thread nD τ) sc4 fullShare XS4 ∗ owns (c : Thread nD τ) sc5 fullShare XS5 ∗ owns (c : Thread nD τ) sc6 fullShare XS6 ∗ owns (c : Thread nD τ) sc7 fullShare XS7 ∗ owns (c : Thread nD τ) sc8 fullShare XS8 ∗ owns (c : Thread nD τ) sc9 fullShare XS9 ∗ owns (c : Thread nD τ) sc10 fullShare XS10 ∗ semVal ((c : Thread nD τ), SemLoc.dma 29) 0 ∗ hbPt c hbM fh) ∗ owes (c : Thread nD τ) 0 W
        ∗ (iprop((owns (c : Thread nD τ) arg1 fullShare XW1 ∗ owns (c : Thread nD τ) arg2 fullShare XW2 ∗ owns (c : Thread nD τ) arg3 fullShare XW3 ∗ owns (c : Thread nD τ) arg4 fullShare XW4 ∗ owns (c : Thread nD τ) arg6 fullShare XW6 ∗ owns (c : Thread nD τ) arg7 fullShare XW7 ∗ owns (c : Thread nD τ) arg8 fullShare XW8 ∗ owns (c : Thread nD τ) arg9 fullShare XW9 ∗ owns (c : Thread nD τ) arg10 fullShare XW10 ∗ anyOwn c arg11 ∗ (∃ d, owns (c : Thread nD τ) arg12 fullShare d ∗ ⌜∃ o, IsTok XS4 XW10 o ∧ d = k0_pay204 XS0 o⌝) ∗ anyOwn c arg13 ∗ anyOwn c arg14 ∗ anyOwn c arg15 ∗ anyOwn c arg16 ∗ anyOwn c arg17 ∗ (∃ d, owns (c : Thread nD τ) arg18 fullShare d ∗ ⌜IsEt XS4 d⌝) ∗ owns (c : Thread nD τ) sc0 fullShare XS0 ∗ (∃ d, owns (c : Thread nD τ) sc1 fullShare d ∗ ⌜IsAcc XS1 XS5 XS6 d⌝) ∗ anyOwn c sc2 ∗ anyOwn c sc3 ∗ (∃ d, owns (c : Thread nD τ) sc4 fullShare d ∗ ⌜IsTrot XW1 XW3 XW6 d⌝) ∗ (∃ d, owns (c : Thread nD τ) sc5 fullShare d ∗ ⌜IsLane (k0_pay70 XW2 XW4 XW6) XW8 d⌝) ∗ (∃ d, owns (c : Thread nD τ) sc6 fullShare d ∗ ⌜IsLanew (k0_pay71 XW2 XW4 XW7) XW9 d⌝) ∗ anyOwn c sc7 ∗ anyOwn c sc8 ∗ anyOwn c sc9 ∗ anyOwn c sc10 ∗ semVal ((c : Thread nD τ), SemLoc.dma 29) 0 ∗ hbPt c hbM fh) ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold anyOwn owns
  have ht : True := trivial
  iintro ⟨⟨⟨%fW1, %hW1, W1⟩, ⟨%fW2, %hW2, W2⟩, ⟨%fW3, %hW3, W3⟩, ⟨%fW4, %hW4, W4⟩, ⟨%fW6, %hW6, W6⟩, ⟨%fW7, %hW7, W7⟩, ⟨%fW8, %hW8, W8⟩, ⟨%fW9, %hW9, W9⟩, ⟨%fW10, %hW10, W10⟩, ⟨%fW11, %hW11, W11⟩, ⟨%fW12, %hW12, W12⟩, ⟨%fW13, %hW13, W13⟩, ⟨%fW14, %hW14, W14⟩, ⟨%fW15, %hW15, W15⟩, ⟨%fW16, %hW16, W16⟩, ⟨%fW17, %hW17, W17⟩, ⟨%fW18, %hW18, W18⟩, ⟨%fS0, %hS0, S0⟩, ⟨%fS1, %hS1, S1⟩, ⟨%fS2, %hS2, S2⟩, ⟨%fS3, %hS3, S3⟩, ⟨%fS4, %hS4, S4⟩, ⟨%fS5, %hS5, S5⟩, ⟨%fS6, %hS6, S6⟩, ⟨%fS7, %hS7, S7⟩, ⟨%fS8, %hS8, S8⟩, ⟨%fS9, %hS9, S9⟩, ⟨%fS10, %hS10, S10⟩, Hq, Hh⟩, HW, Hk⟩
  subst hW1 hW2 hW3 hW4 hW6 hW7 hW8 hW9 hW10 hW11 hW12 hW13 hW14 hW15 hW16 hW17 hW18 hS0 hS1 hS2 hS3 hS4 hS5 hS6 hS7 hS8 hS9 hS10
  sl_exec
  sl_step
  iapply Hk
  isplitr [HW]; swap
  · iexists _; iexact HW
  isplitl [W1]
  · iexists fW1; isplitr; swap; · iexact W1
    ipureintro; rfl
  isplitl [W2]
  · iexists fW2; isplitr; swap; · iexact W2
    ipureintro; rfl
  isplitl [W3]
  · iexists fW3; isplitr; swap; · iexact W3
    ipureintro; rfl
  isplitl [W4]
  · iexists fW4; isplitr; swap; · iexact W4
    ipureintro; rfl
  isplitl [W6]
  · iexists fW6; isplitr; swap; · iexact W6
    ipureintro; rfl
  isplitl [W7]
  · iexists fW7; isplitr; swap; · iexact W7
    ipureintro; rfl
  isplitl [W8]
  · iexists fW8; isplitr; swap; · iexact W8
    ipureintro; rfl
  isplitl [W9]
  · iexists fW9; isplitr; swap; · iexact W9
    ipureintro; rfl
  isplitl [W10]
  · iexists fW10; isplitr; swap; · iexact W10
    ipureintro; rfl
  isplitl [W11]
  · iexists _, _; isplitr; swap; · iexact W11
    ipureintro; rfl
  isplitl [W12]
  · iexists _; isplitl [W12]
    · iexists _; isplitr; swap; · iexact W12
      ipureintro; rfl
    · ipureintro
      exact ⟨_, isTok_of_filled rfl ‹Filled sc7.view at64 _ _ _›, (View.read_writes_full _ _ _ _ _).trans (congrArg₂ k0_pay204 (View.readAt_full sc0.view fS0 _) (View.readAt_full sc7.view _ _))⟩
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _; isplitl [W18]
    · iexists _; isplitr; swap; · iexact W18
      ipureintro; rfl
    · ipureintro
      delta valRun2.sl.W18_2
      exact isEt_of_writes rfl ‹Filled sc8.view atE _ _ _› arg18.view _ _ _ _ _ rfl rfl
  isplitl [S0]
  · iexists fS0; isplitr; swap; · iexact S0
    ipureintro; rfl
  isplitl [S1]
  · iexists _; isplitl [S1]
    · iexists _; isplitr; swap; · iexact S1
      ipureintro; rfl
    · ipureintro
      delta valRun2.sl.S1_10
      exact isAcc_of_writes sc1.view fS1 _ sc5.view fS5 sc6.view fS6 _ _ _ _ _ _ _ _ _ _ _ _ _ _ _ _ _ _ _ _ rfl rfl rfl rfl rfl rfl rfl rfl rfl rfl
  isplitl [S2]
  · iexists _, _; isplitr; swap; · iexact S2
    ipureintro; rfl
  isplitl [S3]
  · iexists _, _; isplitr; swap; · iexact S3
    ipureintro; rfl
  isplitl [S4]
  · iexists _; isplitl [S4]
    · iexists _; isplitr; swap; · iexact S4
      ipureintro; rfl
    · ipureintro
      exact isTrot_of_writes arg1.view fW1 arg3.view fW3 arg6.view fW6 _ _ _ _ _ _ _ _ _ _ _ _ _ _ _ _ rfl rfl rfl rfl rfl rfl rfl
  isplitl [S5]
  · iexists _; isplitl [S5]
    · iexists _; isplitr; swap; · iexact S5
      ipureintro; rfl
    · ipureintro
      exact isLane_of_filled ((View.read_writes_full _ _ _ _ _).trans (lrot_eq arg2.view fW2 arg4.view fW4 arg6.view fW6)) rfl ‹Filled sc5.view at32 _ _ _›
  isplitl [S6]
  · iexists _; isplitl [S6]
    · iexists _; isplitr; swap; · iexact S6
      ipureintro; rfl
    · ipureintro
      exact isLanew_of_filled ((View.read_writes_full _ _ _ _ _).trans (lrotw_eq arg2.view fW2 arg4.view fW4 arg7.view fW7)) rfl ‹Filled sc6.view at32w _ _ _›
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

end Cert.KernelIdeal.Hand

end
-- ==== Proof.ValRun3.lean ====
/-
  The backward body at one kind of grid point, with the values it leaves.
-/
module

public import proofs.«01_k».proof.Proof.Gen.KernelIdeal.Loops
public import proofs.«01_k».proof.Proof.StepOps
public import proofs.«01_k».proof.Proof.IdealAnyRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fill
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

variable (c : Dev nD) (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)

set_option maxHeartbeats 1600000 in
/-- At the point of the last tile the body leaves these contents. -/
theorem valRun3 (h1 : ¬ k0_cond1 i = 1#1) (h2 : ¬ k0_cond2 i = 1#1) (h3 : k0_cond3 i = 1#1) (h4 : ¬ k0_cond4 i = 1#1)
    (fh : Buf (Elt F) (hbM.view.loc (c : Thread nD τ))) (W : Waits sig Unit) (K : PUnit → sProp 𝕄)
    (XW1 : S256x256.Idx → Elt F .bf16) (XW2 : S256x256.Idx → Elt F .bf16) (XW3 : S1x1792.Idx → Elt F .f32) (XW4 : S1x256.Idx → Elt F .f32) (XW6 : S1792x256.Idx → Elt F .bf16) (XW7 : S2560x256.Idx → Elt F .bf16) (XW8 : S1792x256.Idx → Elt F .i8) (XW9 : S2560x256.Idx → Elt F .i8) (XW10 : S1792x256.Idx → Elt F .i8) (XW11 : S256x2560.Idx → Elt F .bf16) (XW12 : S2560x256.Idx → Elt F .f32) (XW13 : S1792x128.Idx → Elt F .i8) (XW14 : S1792x216.Idx → Elt F .i8) (XW15 : S2560x128.Idx → Elt F .i8) (XW16 : S2560x216.Idx → Elt F .i8) (XW17 : S896x256.Idx → Elt F .i8) (XW18 : S2x28x256.Idx → Elt F .i8) (XS0 : S2560x1792.Idx → Elt F .bf16) (XS1 : S1792x2560.Idx → Elt F .f32) (XS2 : S1792x256.Idx → Elt F .f32) (XS3 : S2560x256.Idx → Elt F .f32) (XS4 : S1792x256.Idx → Elt F .f32) (XS5 : S1792x256.Idx → Elt F .bf16) (XS6 : S2560x256.Idx → Elt F .bf16) (XS7 : S1792x256.Idx → Elt F .bf16) (XS8 : S56x256.Idx → Elt F .i32) (XS9 : S1792x256.Idx → Elt F .i8) (XS10 : S2560x256.Idx → Elt F .i8) :
    iprop((owns (c : Thread nD τ) arg1 fullShare XW1 ∗ owns (c : Thread nD τ) arg2 fullShare XW2 ∗ owns (c : Thread nD τ) arg3 fullShare XW3 ∗ owns (c : Thread nD τ) arg4 fullShare XW4 ∗ owns (c : Thread nD τ) arg6 fullShare XW6 ∗ owns (c : Thread nD τ) arg7 fullShare XW7 ∗ owns (c : Thread nD τ) arg8 fullShare XW8 ∗ owns (c : Thread nD τ) arg9 fullShare XW9 ∗ owns (c : Thread nD τ) arg10 fullShare XW10 ∗ owns (c : Thread nD τ) arg11 fullShare XW11 ∗ owns (c : Thread nD τ) arg12 fullShare XW12 ∗ owns (c : Thread nD τ) arg13 fullShare XW13 ∗ owns (c : Thread nD τ) arg14 fullShare XW14 ∗ owns (c : Thread nD τ) arg15 fullShare XW15 ∗ owns (c : Thread nD τ) arg16 fullShare XW16 ∗ owns (c : Thread nD τ) arg17 fullShare XW17 ∗ owns (c : Thread nD τ) arg18 fullShare XW18 ∗ owns (c : Thread nD τ) sc0 fullShare XS0 ∗ owns (c : Thread nD τ) sc1 fullShare XS1 ∗ owns (c : Thread nD τ) sc2 fullShare XS2 ∗ owns (c : Thread nD τ) sc3 fullShare XS3 ∗ owns (c : Thread nD τ) sc4 fullShare XS4 ∗ owns (c : Thread nD τ) sc5 fullShare XS5 ∗ owns (c : Thread nD τ) sc6 fullShare XS6 ∗ owns (c : Thread nD τ) sc7 fullShare XS7 ∗ owns (c : Thread nD τ) sc8 fullShare XS8 ∗ owns (c : Thread nD τ) sc9 fullShare XS9 ∗ owns (c : Thread nD τ) sc10 fullShare XS10 ∗ semVal ((c : Thread nD τ), SemLoc.dma 29) 0 ∗ hbPt c hbM fh) ∗ owes (c : Thread nD τ) 0 W
        ∗ (iprop((owns (c : Thread nD τ) arg1 fullShare XW1 ∗ owns (c : Thread nD τ) arg2 fullShare XW2 ∗ owns (c : Thread nD τ) arg3 fullShare XW3 ∗ owns (c : Thread nD τ) arg4 fullShare XW4 ∗ owns (c : Thread nD τ) arg6 fullShare XW6 ∗ owns (c : Thread nD τ) arg7 fullShare XW7 ∗ owns (c : Thread nD τ) arg8 fullShare XW8 ∗ owns (c : Thread nD τ) arg9 fullShare XW9 ∗ owns (c : Thread nD τ) arg10 fullShare XW10 ∗ anyOwn c arg11 ∗ (∃ d, owns (c : Thread nD τ) arg12 fullShare d ∗ ⌜∃ o, IsTok XS4 XW10 o ∧ d = k0_pay204 XS0 o⌝) ∗ anyOwn c arg13 ∗ anyOwn c arg14 ∗ anyOwn c arg15 ∗ anyOwn c arg16 ∗ anyOwn c arg17 ∗ (∃ d, owns (c : Thread nD τ) arg18 fullShare d ∗ ⌜IsEt XS4 d⌝) ∗ owns (c : Thread nD τ) sc0 fullShare XS0 ∗ (∃ d, owns (c : Thread nD τ) sc1 fullShare d ∗ ⌜IsAcc XS1 XS5 XS6 d⌝) ∗ anyOwn c sc2 ∗ anyOwn c sc3 ∗ anyOwn c sc4 ∗ anyOwn c sc5 ∗ anyOwn c sc6 ∗ anyOwn c sc7 ∗ anyOwn c sc8 ∗ anyOwn c sc9 ∗ anyOwn c sc10 ∗ semVal ((c : Thread nD τ), SemLoc.dma 29) 0 ∗ hbPt c hbM fh) ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold anyOwn owns
  have ht : True := trivial
  iintro ⟨⟨⟨%fW1, %hW1, W1⟩, ⟨%fW2, %hW2, W2⟩, ⟨%fW3, %hW3, W3⟩, ⟨%fW4, %hW4, W4⟩, ⟨%fW6, %hW6, W6⟩, ⟨%fW7, %hW7, W7⟩, ⟨%fW8, %hW8, W8⟩, ⟨%fW9, %hW9, W9⟩, ⟨%fW10, %hW10, W10⟩, ⟨%fW11, %hW11, W11⟩, ⟨%fW12, %hW12, W12⟩, ⟨%fW13, %hW13, W13⟩, ⟨%fW14, %hW14, W14⟩, ⟨%fW15, %hW15, W15⟩, ⟨%fW16, %hW16, W16⟩, ⟨%fW17, %hW17, W17⟩, ⟨%fW18, %hW18, W18⟩, ⟨%fS0, %hS0, S0⟩, ⟨%fS1, %hS1, S1⟩, ⟨%fS2, %hS2, S2⟩, ⟨%fS3, %hS3, S3⟩, ⟨%fS4, %hS4, S4⟩, ⟨%fS5, %hS5, S5⟩, ⟨%fS6, %hS6, S6⟩, ⟨%fS7, %hS7, S7⟩, ⟨%fS8, %hS8, S8⟩, ⟨%fS9, %hS9, S9⟩, ⟨%fS10, %hS10, S10⟩, Hq, Hh⟩, HW, Hk⟩
  subst hW1 hW2 hW3 hW4 hW6 hW7 hW8 hW9 hW10 hW11 hW12 hW13 hW14 hW15 hW16 hW17 hW18 hS0 hS1 hS2 hS3 hS4 hS5 hS6 hS7 hS8 hS9 hS10
  sl_exec
  sl_step
  iapply Hk
  isplitr [HW]; swap
  · iexists _; iexact HW
  isplitl [W1]
  · iexists fW1; isplitr; swap; · iexact W1
    ipureintro; rfl
  isplitl [W2]
  · iexists fW2; isplitr; swap; · iexact W2
    ipureintro; rfl
  isplitl [W3]
  · iexists fW3; isplitr; swap; · iexact W3
    ipureintro; rfl
  isplitl [W4]
  · iexists fW4; isplitr; swap; · iexact W4
    ipureintro; rfl
  isplitl [W6]
  · iexists fW6; isplitr; swap; · iexact W6
    ipureintro; rfl
  isplitl [W7]
  · iexists fW7; isplitr; swap; · iexact W7
    ipureintro; rfl
  isplitl [W8]
  · iexists fW8; isplitr; swap; · iexact W8
    ipureintro; rfl
  isplitl [W9]
  · iexists fW9; isplitr; swap; · iexact W9
    ipureintro; rfl
  isplitl [W10]
  · iexists fW10; isplitr; swap; · iexact W10
    ipureintro; rfl
  isplitl [W11]
  · iexists _, _; isplitr; swap; · iexact W11
    ipureintro; rfl
  isplitl [W12]
  · iexists _; isplitl [W12]
    · iexists _; isplitr; swap; · iexact W12
      ipureintro; rfl
    · ipureintro
      exact ⟨_, isTok_of_filled rfl ‹Filled sc7.view at64 _ _ _›, (View.read_writes_full _ _ _ _ _).trans (congrArg₂ k0_pay204 (View.readAt_full sc0.view fS0 _) (View.readAt_full sc7.view _ _))⟩
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _; isplitl [W18]
    · iexists _; isplitr; swap; · iexact W18
      ipureintro; rfl
    · ipureintro
      exact isEt_of_writes rfl ‹Filled sc8.view atE _ _ _› arg18.view fW18 _ _ _ _ rfl rfl
  isplitl [S0]
  · iexists fS0; isplitr; swap; · iexact S0
    ipureintro; rfl
  isplitl [S1]
  · iexists _; isplitl [S1]
    · iexists _; isplitr; swap; · iexact S1
      ipureintro; rfl
    · ipureintro
      delta valRun3.sl.S1_10
      exact isAcc_of_writes sc1.view fS1 _ sc5.view fS5 sc6.view fS6 _ _ _ _ _ _ _ _ _ _ _ _ _ _ _ _ _ _ _ _ rfl rfl rfl rfl rfl rfl rfl rfl rfl rfl
  isplitl [S2]
  · iexists _, _; isplitr; swap; · iexact S2
    ipureintro; rfl
  isplitl [S3]
  · iexists _, _; isplitr; swap; · iexact S3
    ipureintro; rfl
  isplitl [S4]
  · iexists _, _; isplitr; swap; · iexact S4
    ipureintro; rfl
  isplitl [S5]
  · iexists _, _; isplitr; swap; · iexact S5
    ipureintro; rfl
  isplitl [S6]
  · iexists _, _; isplitr; swap; · iexact S6
    ipureintro; rfl
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

end Cert.KernelIdeal.Hand

end
-- ==== Proof.ValRun4.lean ====
/-
  The backward body at one kind of grid point, with the values it leaves.
-/
module

public import proofs.«01_k».proof.Proof.Gen.KernelIdeal.Loops
public import proofs.«01_k».proof.Proof.StepOps
public import proofs.«01_k».proof.Proof.IdealAnyRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fill
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

variable (c : Dev nD) (i : grid0.Coords)
  (arg1 : Memref sig .tc .vmem S256x256 .bf16)
  (harg1 : arg1.IsWhole)
  (arg2 : Memref sig .tc .vmem S256x256 .bf16)
  (harg2 : arg2.IsWhole)
  (arg3 : Memref sig .tc .vmem S1x1792 .f32)
  (harg3 : arg3.IsWhole)
  (arg4 : Memref sig .tc .vmem S1x256 .f32)
  (harg4 : arg4.IsWhole)
  (arg6 : Memref sig .tc .vmem S1792x256 .bf16)
  (harg6 : arg6.IsWhole)
  (arg7 : Memref sig .tc .vmem S2560x256 .bf16)
  (harg7 : arg7.IsWhole)
  (arg8 : Memref sig .tc .vmem S1792x256 .i8)
  (harg8 : arg8.IsWhole)
  (arg9 : Memref sig .tc .vmem S2560x256 .i8)
  (harg9 : arg9.IsWhole)
  (arg10 : Memref sig .tc .vmem S1792x256 .i8)
  (harg10 : arg10.IsWhole)
  (arg11 : Memref sig .tc .vmem S256x2560 .bf16)
  (harg11 : arg11.IsWhole)
  (arg12 : Memref sig .tc .vmem S2560x256 .f32)
  (harg12 : arg12.IsWhole)
  (arg13 : Memref sig .tc .vmem S1792x128 .i8)
  (harg13 : arg13.IsWhole)
  (arg14 : Memref sig .tc .vmem S1792x216 .i8)
  (harg14 : arg14.IsWhole)
  (arg15 : Memref sig .tc .vmem S2560x128 .i8)
  (harg15 : arg15.IsWhole)
  (arg16 : Memref sig .tc .vmem S2560x216 .i8)
  (harg16 : arg16.IsWhole)
  (arg17 : Memref sig .tc .vmem S896x256 .i8)
  (harg17 : arg17.IsWhole)
  (arg18 : Memref sig .tc .vmem S2x28x256 .i8)
  (harg18 : arg18.IsWhole)

set_option maxHeartbeats 1600000 in
/-- At a point that writes dx the body leaves these contents. -/
theorem valRun4 (h1 : ¬ k0_cond1 i = 1#1) (h2 : ¬ k0_cond2 i = 1#1) (h3 : ¬ k0_cond3 i = 1#1) (h4 : k0_cond4 i = 1#1)
    (fh : Buf (Elt F) (hbM.view.loc (c : Thread nD τ))) (W : Waits sig Unit) (K : PUnit → sProp 𝕄)
    (XW1 : S256x256.Idx → Elt F .bf16) (XW2 : S256x256.Idx → Elt F .bf16) (XW3 : S1x1792.Idx → Elt F .f32) (XW4 : S1x256.Idx → Elt F .f32) (XW6 : S1792x256.Idx → Elt F .bf16) (XW7 : S2560x256.Idx → Elt F .bf16) (XW8 : S1792x256.Idx → Elt F .i8) (XW9 : S2560x256.Idx → Elt F .i8) (XW10 : S1792x256.Idx → Elt F .i8) (XW11 : S256x2560.Idx → Elt F .bf16) (XW12 : S2560x256.Idx → Elt F .f32) (XW13 : S1792x128.Idx → Elt F .i8) (XW14 : S1792x216.Idx → Elt F .i8) (XW15 : S2560x128.Idx → Elt F .i8) (XW16 : S2560x216.Idx → Elt F .i8) (XW17 : S896x256.Idx → Elt F .i8) (XW18 : S2x28x256.Idx → Elt F .i8) (XS0 : S2560x1792.Idx → Elt F .bf16) (XS1 : S1792x2560.Idx → Elt F .f32) (XS2 : S1792x256.Idx → Elt F .f32) (XS3 : S2560x256.Idx → Elt F .f32) (XS4 : S1792x256.Idx → Elt F .f32) (XS5 : S1792x256.Idx → Elt F .bf16) (XS6 : S2560x256.Idx → Elt F .bf16) (XS7 : S1792x256.Idx → Elt F .bf16) (XS8 : S56x256.Idx → Elt F .i32) (XS9 : S1792x256.Idx → Elt F .i8) (XS10 : S2560x256.Idx → Elt F .i8) :
    iprop((owns (c : Thread nD τ) arg1 fullShare XW1 ∗ owns (c : Thread nD τ) arg2 fullShare XW2 ∗ owns (c : Thread nD τ) arg3 fullShare XW3 ∗ owns (c : Thread nD τ) arg4 fullShare XW4 ∗ owns (c : Thread nD τ) arg6 fullShare XW6 ∗ owns (c : Thread nD τ) arg7 fullShare XW7 ∗ owns (c : Thread nD τ) arg8 fullShare XW8 ∗ owns (c : Thread nD τ) arg9 fullShare XW9 ∗ owns (c : Thread nD τ) arg10 fullShare XW10 ∗ owns (c : Thread nD τ) arg11 fullShare XW11 ∗ owns (c : Thread nD τ) arg12 fullShare XW12 ∗ owns (c : Thread nD τ) arg13 fullShare XW13 ∗ owns (c : Thread nD τ) arg14 fullShare XW14 ∗ owns (c : Thread nD τ) arg15 fullShare XW15 ∗ owns (c : Thread nD τ) arg16 fullShare XW16 ∗ owns (c : Thread nD τ) arg17 fullShare XW17 ∗ owns (c : Thread nD τ) arg18 fullShare XW18 ∗ owns (c : Thread nD τ) sc0 fullShare XS0 ∗ owns (c : Thread nD τ) sc1 fullShare XS1 ∗ owns (c : Thread nD τ) sc2 fullShare XS2 ∗ owns (c : Thread nD τ) sc3 fullShare XS3 ∗ owns (c : Thread nD τ) sc4 fullShare XS4 ∗ owns (c : Thread nD τ) sc5 fullShare XS5 ∗ owns (c : Thread nD τ) sc6 fullShare XS6 ∗ owns (c : Thread nD τ) sc7 fullShare XS7 ∗ owns (c : Thread nD τ) sc8 fullShare XS8 ∗ owns (c : Thread nD τ) sc9 fullShare XS9 ∗ owns (c : Thread nD τ) sc10 fullShare XS10 ∗ semVal ((c : Thread nD τ), SemLoc.dma 29) 0 ∗ hbPt c hbM fh) ∗ owes (c : Thread nD τ) 0 W
        ∗ (iprop((owns (c : Thread nD τ) arg1 fullShare XW1 ∗ owns (c : Thread nD τ) arg2 fullShare XW2 ∗ owns (c : Thread nD τ) arg3 fullShare XW3 ∗ owns (c : Thread nD τ) arg4 fullShare XW4 ∗ owns (c : Thread nD τ) arg6 fullShare XW6 ∗ owns (c : Thread nD τ) arg7 fullShare XW7 ∗ owns (c : Thread nD τ) arg8 fullShare XW8 ∗ owns (c : Thread nD τ) arg9 fullShare XW9 ∗ owns (c : Thread nD τ) arg10 fullShare XW10 ∗ (∃ d, owns (c : Thread nD τ) arg11 fullShare d ∗ ⌜d = k0_pay5 (fun y => XS1 ((Rect.unit (s := S1792x2560) (k0_off19 i) S256x2560.size (k0_off19_inb i h4)).emb y))⌝) ∗ owns (c : Thread nD τ) arg12 fullShare XW12 ∗ anyOwn c arg13 ∗ anyOwn c arg14 ∗ anyOwn c arg15 ∗ anyOwn c arg16 ∗ anyOwn c arg17 ∗ owns (c : Thread nD τ) arg18 fullShare XW18 ∗ owns (c : Thread nD τ) sc0 fullShare XS0 ∗ owns (c : Thread nD τ) sc1 fullShare XS1 ∗ anyOwn c sc2 ∗ anyOwn c sc3 ∗ anyOwn c sc4 ∗ anyOwn c sc5 ∗ anyOwn c sc6 ∗ anyOwn c sc7 ∗ anyOwn c sc8 ∗ anyOwn c sc9 ∗ anyOwn c sc10 ∗ semVal ((c : Thread nD τ), SemLoc.dma 29) 0 ∗ hbPt c hbM fh) ∗ ∃ W', owes (c : Thread nD τ) 0 W') -∗ K ⟨⟩))
      ⊢ wp frame (wpE (defs₀ (F := F)) Variants.none c none) Set.univ
          (cc0_backward i arg1 harg1 arg2 harg2 arg3 harg3 arg4 harg4 hbM (Memref.isWhole_whole _) arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) cc0_scratch11) K := by
  simp only [cc0_backward_eq_skeleton]; unfold cc0_backward_skel
  unfold anyOwn owns
  have ht : True := trivial
  iintro ⟨⟨⟨%fW1, %hW1, W1⟩, ⟨%fW2, %hW2, W2⟩, ⟨%fW3, %hW3, W3⟩, ⟨%fW4, %hW4, W4⟩, ⟨%fW6, %hW6, W6⟩, ⟨%fW7, %hW7, W7⟩, ⟨%fW8, %hW8, W8⟩, ⟨%fW9, %hW9, W9⟩, ⟨%fW10, %hW10, W10⟩, ⟨%fW11, %hW11, W11⟩, ⟨%fW12, %hW12, W12⟩, ⟨%fW13, %hW13, W13⟩, ⟨%fW14, %hW14, W14⟩, ⟨%fW15, %hW15, W15⟩, ⟨%fW16, %hW16, W16⟩, ⟨%fW17, %hW17, W17⟩, ⟨%fW18, %hW18, W18⟩, ⟨%fS0, %hS0, S0⟩, ⟨%fS1, %hS1, S1⟩, ⟨%fS2, %hS2, S2⟩, ⟨%fS3, %hS3, S3⟩, ⟨%fS4, %hS4, S4⟩, ⟨%fS5, %hS5, S5⟩, ⟨%fS6, %hS6, S6⟩, ⟨%fS7, %hS7, S7⟩, ⟨%fS8, %hS8, S8⟩, ⟨%fS9, %hS9, S9⟩, ⟨%fS10, %hS10, S10⟩, Hq, Hh⟩, HW, Hk⟩
  subst hW1 hW2 hW3 hW4 hW6 hW7 hW8 hW9 hW10 hW11 hW12 hW13 hW14 hW15 hW16 hW17 hW18 hS0 hS1 hS2 hS3 hS4 hS5 hS6 hS7 hS8 hS9 hS10
  sl_exec
  sl_step
  iapply Hk
  isplitr [HW]; swap
  · iexists _; iexact HW
  isplitl [W1]
  · iexists fW1; isplitr; swap; · iexact W1
    ipureintro; rfl
  isplitl [W2]
  · iexists fW2; isplitr; swap; · iexact W2
    ipureintro; rfl
  isplitl [W3]
  · iexists fW3; isplitr; swap; · iexact W3
    ipureintro; rfl
  isplitl [W4]
  · iexists fW4; isplitr; swap; · iexact W4
    ipureintro; rfl
  isplitl [W6]
  · iexists fW6; isplitr; swap; · iexact W6
    ipureintro; rfl
  isplitl [W7]
  · iexists fW7; isplitr; swap; · iexact W7
    ipureintro; rfl
  isplitl [W8]
  · iexists fW8; isplitr; swap; · iexact W8
    ipureintro; rfl
  isplitl [W9]
  · iexists fW9; isplitr; swap; · iexact W9
    ipureintro; rfl
  isplitl [W10]
  · iexists fW10; isplitr; swap; · iexact W10
    ipureintro; rfl
  isplitl [W11]
  · iexists _; isplitl [W11]
    · iexists _; isplitr; swap; · iexact W11
      ipureintro; rfl
    · ipureintro
      exact View.read_writes_full _ _ _ _ _
  isplitl [W12]
  · iexists fW12; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists fW18; isplitr; swap; · iexact W18
    ipureintro; rfl
  isplitl [S0]
  · iexists fS0; isplitr; swap; · iexact S0
    ipureintro; rfl
  isplitl [S1]
  · iexists fS1; isplitr; swap; · iexact S1
    ipureintro; rfl
  isplitl [S2]
  · iexists _, _; isplitr; swap; · iexact S2
    ipureintro; rfl
  isplitl [S3]
  · iexists _, _; isplitr; swap; · iexact S3
    ipureintro; rfl
  isplitl [S4]
  · iexists _, _; isplitr; swap; · iexact S4
    ipureintro; rfl
  isplitl [S5]
  · iexists _, _; isplitr; swap; · iexact S5
    ipureintro; rfl
  isplitl [S6]
  · iexists _, _; isplitr; swap; · iexact S6
    ipureintro; rfl
  isplitl [S7]
  · iexists _, _; isplitr; swap; · iexact S7
    ipureintro; rfl
  isplitl [S8]
  · iexists _, _; isplitr; swap; · iexact S8
    ipureintro; rfl
  isplitl [S9]
  · iexists _, _; isplitr; swap; · iexact S9
    ipureintro; rfl
  isplitl [S10]
  · iexists _, _; isplitr; swap; · iexact S10
    ipureintro; rfl
  isplitl [Hq]; · iexact Hq
  iexact Hh

end Cert.KernelIdeal.Hand

end
-- ==== Proof.ValFrame.lean ====
/-
  The run of the whole program with what the two result arrays hold at the end.
-/
module

public import proofs.«01_k».proof.Proof.Gen.KernelIdeal.Loops
public import proofs.«01_k».proof.Proof.ValRun1
public import proofs.«01_k».proof.Proof.ValRun2
public import proofs.«01_k».proof.Proof.ValRun3
public import proofs.«01_k».proof.Proof.ValRun4
public import proofs.«01_k».proof.Proof.IdealAnyFrame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fill
open Idealize.ShloMosaic.Pipeline (Dat RDat BodyObligation)

variable {F : FTy → Type} [FloatOps F] [Named F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- Window `w`'s block at point `t`. -/
def inW (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
/-- Point `n`, the last one beyond the grid. -/
def pt (n : ℕ) : Fin cfg0.N := ⟨min n 34, lt_of_le_of_lt (min_le_right n 34) (by decide)⟩
/-- The point of a point's number is the point. -/
theorem pt_val (t : Fin cfg0.N) : pt t.val = t := by
  apply Fin.ext; have := t.isLt; have h : cfg0.N = 35 := rfl; show min t.val 34 = t.val; omega
/-- The activations as the kernel reads them. -/
def xtR (c : Dev nD) : S2560x1792.Idx → Elt F .bf16 := hbM.view.read (Elt F) (V m c main_arg0)

/-- `d` is tile `n` of the gradient with its signs, rotated along the tokens. -/
def TrotN (c : Dev nD) (n : ℕ) (d : S1792x256.Idx → Elt F .f32) : Prop :=
  IsTrot (inW m c 0 (pt n)) (inW m c 2 (pt n)) (inW m c 4 (pt n)) d
/-- `d` is tile `n` of the gradient, rotated along the lanes and quantised. -/
def LaneN (c : Dev nD) (n : ℕ) (d : S1792x256.Idx → Elt F .bf16) : Prop :=
  IsLane (k0_pay70 (inW m c 1 (pt n)) (inW m c 3 (pt n)) (inW m c 4 (pt n))) (inW m c 6 (pt n)) d
/-- `d` is tile `n` of the weights, rotated along the lanes and quantised. -/
def LanewN (c : Dev nD) (n : ℕ) (d : S2560x256.Idx → Elt F .bf16) : Prop :=
  IsLanew (k0_pay71 (inW m c 1 (pt n)) (inW m c 3 (pt n)) (inW m c 5 (pt n))) (inW m c 7 (pt n)) d
/-- `d` is the accumulator after `n` tiles. -/
def AccN (c : Dev nD) : ℕ → (S1792x2560.Idx → Elt F .f32) → Prop
  | 0, d => d = k0_pay68
  | n + 1, d => ∃ d' o w, AccN c n d' ∧ LaneN m c n o ∧ LanewN m c n w ∧ IsAcc d' o w d

/-- What the scratch holds before point `k`. -/
def ST (c : Dev nD) (k : ℕ) (d0 : S2560x1792.Idx → Elt F .bf16) (d1 : S1792x2560.Idx → Elt F .f32) (d4 : S1792x256.Idx → Elt F .f32)
    (d5 : S1792x256.Idx → Elt F .bf16) (d6 : S2560x256.Idx → Elt F .bf16) : Prop :=
  1 ≤ k → d0 = xtR m c ∧ AccN m c (min (k - 1) 27) d1 ∧ (k ≤ 27 → TrotN m c (k - 1) d4 ∧ LaneN m c (k - 1) d5 ∧ LanewN m c (k - 1) d6)

/-- What the body leaves in the window of dx. -/
def P9 (c : Dev nD) (t : Fin cfg0.N) (X : S256x2560.Idx → Elt F .bf16) : Prop :=
  27 < t.val → ∃ (d : _) (h4 : k0_cond4 (grid0.coords t) = 1#1), AccN m c 27 d
    ∧ X = k0_pay5 (fun y => d ((Rect.unit (s := S1792x2560) (k0_off19 (grid0.coords t)) S256x2560.size (k0_off19_inb (grid0.coords t) h4)).emb y))
/-- What the body leaves in the window of dw, which it found at `Y`. -/
def P10 (c : Dev nD) (t : Fin cfg0.N) (Y X : S2560x256.Idx → Elt F .f32) : Prop :=
  (1 ≤ t.val ∧ t.val ≤ 27 → ∃ d o, TrotN m c (t.val - 1) d ∧ IsTok d (inW m c 8 t) o ∧ X = k0_pay204 (xtR m c) o) ∧ (27 < t.val → X = Y)

/-- What the body leaves in the window of the token scales' exponents, which it found at `Y`. -/
def P16 (c : Dev nD) (t : Fin cfg0.N) (Y X : S2x28x256.Idx → Elt F .i8) : Prop :=
  (1 ≤ t.val ∧ t.val ≤ 27 → ∃ d, TrotN m c (t.val - 1) d ∧ IsEt d X) ∧ (27 < t.val → X = Y)

/-- What holds between points. -/
def PhiR (c : Dev nD) (k : ℕ) : sProp 𝕄 :=
  iprop((∃ d0 d1 d4 d5 d6, ⌜ST m c k d0 d1 d4 d5 d6⌝ ∗ owns (c : Thread nD τ) sc0 fullShare d0 ∗ owns (c : Thread nD τ) sc1 fullShare d1
      ∗ owns (c : Thread nD τ) sc4 fullShare d4 ∗ owns (c : Thread nD τ) sc5 fullShare d5 ∗ owns (c : Thread nD τ) sc6 fullShare d6
      ∗ anyOwn c sc2 ∗ anyOwn c sc3 ∗ anyOwn c sc7 ∗ anyOwn c sc8 ∗ anyOwn c sc9 ∗ anyOwn c sc10)
    ∗ (∃ r, prngReg c r) ∗ semVal ((c : Thread nD τ), SemLoc.dma 29) 0 ∗ hbPt c hbM (V m c main_arg0))

/-- What the body may leave in a window it found at `Y`. -/
def aft (c : Dev nD) (w : Fin cfg0.W) (t : Fin cfg0.N) (Y X : (cfg0.win w).block.Idx → Elt F (cfg0.win w).elt) : Prop :=
  (w.val ≤ 8 → X = Y) ∧ (∀ h : w = 9, P9 m c t (fun j => by subst h; exact X j)) ∧ (∀ h : w = 10, P10 m c t (fun j => by subst h; exact Y j) (fun j => by subst h; exact X j))
    ∧ (∀ h : w = 16, P16 m c t (fun j => by subst h; exact Y j) (fun j => by subst h; exact X j))
/-- An input window's buffer stays. -/
theorem aft_in (c : Dev nD) (w : Fin cfg0.W) (hw : w.val ≤ 8) (t : Fin cfg0.N) (Y : (cfg0.win w).block.Idx → Elt F (cfg0.win w).elt) : aft m c w t Y Y :=
  ⟨fun _ => rfl, fun h => absurd (congrArg Fin.val h) (by show w.val ≠ 9; omega), fun h => absurd (congrArg Fin.val h) (by show w.val ≠ 10; omega),
    fun h => absurd (congrArg Fin.val h) (by show w.val ≠ 16; omega)⟩
/-- Of the buffers of codes and of the other scales nothing is said. -/
theorem aft_any (c : Dev nD) (w : Fin cfg0.W) (hw : 11 ≤ w.val) (hw' : w.val ≤ 15) (t : Fin cfg0.N) (Y X : (cfg0.win w).block.Idx → Elt F (cfg0.win w).elt) : aft m c w t Y X :=
  ⟨fun h => absurd h (by omega), fun h => absurd (congrArg Fin.val h) (by show w.val ≠ 9; omega), fun h => absurd (congrArg Fin.val h) (by show w.val ≠ 10; omega),
    fun h => absurd (congrArg Fin.val h) (by show w.val ≠ 16; omega)⟩
/-- The activations' window after a point. -/
theorem aft_9 (c : Dev nD) (t : Fin cfg0.N) (Y X : S256x2560.Idx → Elt F .bf16) (h : P9 m c t X) : aft m c 9 t Y X :=
  ⟨fun h => absurd h (by decide), fun _ => h, fun h => absurd h (by decide), fun h => absurd h (by decide)⟩
/-- The weight gradient's window after a point. -/
theorem aft_10 (c : Dev nD) (t : Fin cfg0.N) (Y X : S2560x256.Idx → Elt F .f32) (h : P10 m c t Y X) : aft m c 10 t Y X :=
  ⟨fun h => absurd h (by decide), fun h => absurd h (by decide), fun _ => h, fun h => absurd h (by decide)⟩
/-- The exponents' window after a point. -/
theorem aft_16 (c : Dev nD) (t : Fin cfg0.N) (Y X : S2x28x256.Idx → Elt F .i8) (h : P16 m c t Y X) : aft m c 16 t Y X :=
  ⟨fun h => absurd h (by decide), fun h => absurd h (by decide), fun h => absurd h (by decide), fun _ => h⟩

/-- The proof data on core `c`. -/
def rdat (c : Dev nD) : RDat τ (Elt F) Unit ℕ (Pipeline.UD sig nD τ) ℕ cfg0 c where
  A w := V m c (Pipeline.arrRef spec0 w)
  after w t Y X := aft m c w t Y X
  Φ t := PhiR m c t.val
  q _ := fullShare
  owed _ := 0

/-- Input window 0 finds its block. -/
theorem found0 (c : Dev nD) (t : Fin cfg0.N) (Y) (h : (rdat m c).Finds 0 t Y) : Y = inW m c 0 t := by
  obtain ⟨d, hd⟩ := RDat.finds_in_eq_fetched (rdat m c) 0 rfl (fun _ _ _ => rfl) (fun _ _ _ h => h.1 (by decide)) t Y h
  exact hd
/-- Input window 1 finds its block. -/
theorem found1 (c : Dev nD) (t : Fin cfg0.N) (Y) (h : (rdat m c).Finds 1 t Y) : Y = inW m c 1 t := by
  obtain ⟨d, hd⟩ := RDat.finds_in_eq_fetched (rdat m c) 1 rfl (fun _ _ _ => rfl) (fun _ _ _ h => h.1 (by decide)) t Y h
  exact hd
/-- Input window 2 finds its block. -/
theorem found2 (c : Dev nD) (t : Fin cfg0.N) (Y) (h : (rdat m c).Finds 2 t Y) : Y = inW m c 2 t := by
  obtain ⟨d, hd⟩ := RDat.finds_in_eq_fetched (rdat m c) 2 rfl (fun _ _ _ => rfl) (fun _ _ _ h => h.1 (by decide)) t Y h
  exact hd
/-- Input window 3 finds its block. -/
theorem found3 (c : Dev nD) (t : Fin cfg0.N) (Y) (h : (rdat m c).Finds 3 t Y) : Y = inW m c 3 t := by
  obtain ⟨d, hd⟩ := RDat.finds_in_eq_fetched (rdat m c) 3 rfl (fun _ _ _ => rfl) (fun _ _ _ h => h.1 (by decide)) t Y h
  exact hd
/-- Input window 4 finds its block. -/
theorem found4 (c : Dev nD) (t : Fin cfg0.N) (Y) (h : (rdat m c).Finds 4 t Y) : Y = inW m c 4 t := by
  obtain ⟨d, hd⟩ := RDat.finds_in_eq_fetched (rdat m c) 4 rfl (fun _ _ _ => rfl) (fun _ _ _ h => h.1 (by decide)) t Y h
  exact hd
/-- Input window 5 finds its block. -/
theorem found5 (c : Dev nD) (t : Fin cfg0.N) (Y) (h : (rdat m c).Finds 5 t Y) : Y = inW m c 5 t := by
  obtain ⟨d, hd⟩ := RDat.finds_in_eq_fetched (rdat m c) 5 rfl (fun _ _ _ => rfl) (fun _ _ _ h => h.1 (by decide)) t Y h
  exact hd
/-- Input window 6 finds its block. -/
theorem found6 (c : Dev nD) (t : Fin cfg0.N) (Y) (h : (rdat m c).Finds 6 t Y) : Y = inW m c 6 t := by
  obtain ⟨d, hd⟩ := RDat.finds_in_eq_fetched (rdat m c) 6 rfl (fun _ _ _ => rfl) (fun _ _ _ h => h.1 (by decide)) t Y h
  exact hd
/-- Input window 7 finds its block. -/
theorem found7 (c : Dev nD) (t : Fin cfg0.N) (Y) (h : (rdat m c).Finds 7 t Y) : Y = inW m c 7 t := by
  obtain ⟨d, hd⟩ := RDat.finds_in_eq_fetched (rdat m c) 7 rfl (fun _ _ _ => rfl) (fun _ _ _ h => h.1 (by decide)) t Y h
  exact hd
/-- Input window 8 finds its block. -/
theorem found8 (c : Dev nD) (t : Fin cfg0.N) (Y) (h : (rdat m c).Finds 8 t Y) : Y = inW m c 8 t := by
  obtain ⟨d, hd⟩ := RDat.finds_in_eq_fetched (rdat m c) 8 rfl (fun _ _ _ => rfl) (fun _ _ _ h => h.1 (by decide)) t Y h
  exact hd

/-- Which of the four kinds a grid point is of. -/
theorem kindsV (t : Fin cfg0.N) :
    ((k0_cond1 (grid0.coords t) = 1#1 ∧ ¬ k0_cond2 (grid0.coords t) = 1#1 ∧ ¬ k0_cond3 (grid0.coords t) = 1#1 ∧ ¬ k0_cond4 (grid0.coords t) = 1#1) ∧ t.val = 0)
    ∨ ((¬ k0_cond1 (grid0.coords t) = 1#1 ∧ k0_cond2 (grid0.coords t) = 1#1 ∧ ¬ k0_cond3 (grid0.coords t) = 1#1 ∧ ¬ k0_cond4 (grid0.coords t) = 1#1) ∧ (1 ≤ t.val ∧ t.val ≤ 26))
    ∨ ((¬ k0_cond1 (grid0.coords t) = 1#1 ∧ ¬ k0_cond2 (grid0.coords t) = 1#1 ∧ k0_cond3 (grid0.coords t) = 1#1 ∧ ¬ k0_cond4 (grid0.coords t) = 1#1) ∧ t.val = 27)
    ∨ ((¬ k0_cond1 (grid0.coords t) = 1#1 ∧ ¬ k0_cond2 (grid0.coords t) = 1#1 ∧ ¬ k0_cond3 (grid0.coords t) = 1#1 ∧ k0_cond4 (grid0.coords t) = 1#1) ∧ 27 < t.val) := by
  revert t; decide +kernel

/-- The state after the first point. -/
theorem st1 (c : Dev nD) (t : Fin cfg0.N) (ht : t.val = 0) {d0 d1 d4 d5 d6} (h0 : d0 = xtR m c) (h1 : d1 = k0_pay68)
    (h4 : IsTrot (inW m c 0 t) (inW m c 2 t) (inW m c 4 t) d4)
    (h5 : IsLane (k0_pay70 (inW m c 1 t) (inW m c 3 t) (inW m c 4 t)) (inW m c 6 t) d5)
    (h6 : IsLanew (k0_pay71 (inW m c 1 t) (inW m c 3 t) (inW m c 5 t)) (inW m c 7 t) d6) : ST m c (t.val + 1) d0 d1 d4 d5 d6 := by
  intro _
  have e : min (t.val + 1 - 1) 27 = 0 := by omega
  rw [e, Nat.add_sub_cancel]
  refine ⟨h0, h1, fun _ => ?_⟩
  unfold TrotN LaneN LanewN; rw [pt_val]; exact ⟨h4, h5, h6⟩
/-- The accumulator's step. -/
theorem acc_step (c : Dev nD) (t : Fin cfg0.N) (ht : 1 ≤ t.val ∧ t.val ≤ 27) {d0 d1 d4 d5 d6} (h : ST m c t.val d0 d1 d4 d5 d6) {e1} (h1 : IsAcc d1 d5 d6 e1) :
    AccN m c (min (t.val + 1 - 1) 27) e1 := by
  obtain ⟨_, ha, hs⟩ := h ht.1
  have e : min (t.val + 1 - 1) 27 = min (t.val - 1) 27 + 1 := by omega
  have e' : min (t.val - 1) 27 = t.val - 1 := by omega
  rw [e]; rw [e'] at ha ⊢
  exact ⟨d1, d5, d6, ha, (hs ht.2).2.1, (hs ht.2).2.2, h1⟩
/-- The state after a middle point. -/
theorem st2 (c : Dev nD) (t : Fin cfg0.N) (ht : 1 ≤ t.val ∧ t.val ≤ 26) {d0 d1 d4 d5 d6} (h : ST m c t.val d0 d1 d4 d5 d6) {e1 e4 e5 e6} (h1 : IsAcc d1 d5 d6 e1)
    (h4 : IsTrot (inW m c 0 t) (inW m c 2 t) (inW m c 4 t) e4)
    (h5 : IsLane (k0_pay70 (inW m c 1 t) (inW m c 3 t) (inW m c 4 t)) (inW m c 6 t) e5)
    (h6 : IsLanew (k0_pay71 (inW m c 1 t) (inW m c 3 t) (inW m c 5 t)) (inW m c 7 t) e6) : ST m c (t.val + 1) d0 e1 e4 e5 e6 := by
  intro _
  refine ⟨(h ht.1).1, acc_step m c t ⟨ht.1, by omega⟩ h h1, fun _ => ?_⟩
  rw [Nat.add_sub_cancel]
  unfold TrotN LaneN LanewN; rw [pt_val]; exact ⟨h4, h5, h6⟩
/-- The state after the last tile. -/
theorem st3 (c : Dev nD) (t : Fin cfg0.N) (ht : t.val = 27) {d0 d1 d4 d5 d6} (h : ST m c t.val d0 d1 d4 d5 d6) {e1 e4 e5 e6} (h1 : IsAcc d1 d5 d6 e1) :
    ST m c (t.val + 1) d0 e1 e4 e5 e6 := by
  intro _
  exact ⟨(h (by omega)).1, acc_step m c t ⟨by omega, by omega⟩ h h1, fun h => absurd h (by omega)⟩
/-- The state after a closing point. -/
theorem st4 (c : Dev nD) (t : Fin cfg0.N) (ht : 27 < t.val) {d0 d1 d4 d5 d6} (h : ST m c t.val d0 d1 d4 d5 d6) {e4 e5 e6} :
    ST m c (t.val + 1) d0 d1 e4 e5 e6 := by
  intro _
  obtain ⟨h0, ha, -⟩ := h (by omega)
  have e : min (t.val + 1 - 1) 27 = min (t.val - 1) 27 := by omega
  rw [e]
  exact ⟨h0, ha, fun h => absurd h (by omega)⟩
/-- The weight gradient's tile after a point. -/
theorem p10 (c : Dev nD) (t : Fin cfg0.N) (ht : 1 ≤ t.val ∧ t.val ≤ 27) {d0 d1 d4 d5 d6} (h : ST m c t.val d0 d1 d4 d5 d6) {Y X}
    (hx : ∃ o, IsTok d4 (inW m c 8 t) o ∧ X = k0_pay204 d0 o) : P10 m c t Y X := by
  obtain ⟨h0, ha, hs⟩ := h ht.1
  obtain ⟨o, ho, hX⟩ := hx
  refine ⟨fun _ => ⟨d4, o, (hs ht.2).1, ho, by rw [hX, h0]⟩, fun h => absurd h (by omega)⟩

/-- The exponents' tile after a point. -/
theorem p16 (c : Dev nD) (t : Fin cfg0.N) (ht : 1 ≤ t.val ∧ t.val ≤ 27) {d0 d1 d4 d5 d6} (h : ST m c t.val d0 d1 d4 d5 d6) {Y X}
    (hx : IsEt d4 X) : P16 m c t Y X :=
  ⟨fun _ => ⟨d4, ((h ht.1).2.2 ht.2).1, hx⟩, fun h => absurd h (by omega)⟩

/-- What the body is called with at point `t`, and what it returns. -/
def bodyPreV (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15) ∗ owns (c : Thread nD τ) (win0_16.stage (cfg0.slots t 16)) fullShare (Y 16))
/-- What the body leaves at a grid point, with values. -/
def bodyPostV (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜aft m c 0 t (Y 0) X⌝ ∗ owns (c : Thread nD τ) (win0_0.stage (cfg0.slots t 0)) fullShare X) ∗ (∃ X, ⌜aft m c 1 t (Y 1) X⌝ ∗ owns (c : Thread nD τ) (win0_1.stage (cfg0.slots t 1)) fullShare X) ∗ (∃ X, ⌜aft m c 2 t (Y 2) X⌝ ∗ owns (c : Thread nD τ) (win0_2.stage (cfg0.slots t 2)) fullShare X) ∗ (∃ X, ⌜aft m c 3 t (Y 3) X⌝ ∗ owns (c : Thread nD τ) (win0_3.stage (cfg0.slots t 3)) fullShare X) ∗ (∃ X, ⌜aft m c 4 t (Y 4) X⌝ ∗ owns (c : Thread nD τ) (win0_4.stage (cfg0.slots t 4)) fullShare X) ∗ (∃ X, ⌜aft m c 5 t (Y 5) X⌝ ∗ owns (c : Thread nD τ) (win0_5.stage (cfg0.slots t 5)) fullShare X) ∗ (∃ X, ⌜aft m c 6 t (Y 6) X⌝ ∗ owns (c : Thread nD τ) (win0_6.stage (cfg0.slots t 6)) fullShare X) ∗ (∃ X, ⌜aft m c 7 t (Y 7) X⌝ ∗ owns (c : Thread nD τ) (win0_7.stage (cfg0.slots t 7)) fullShare X) ∗ (∃ X, ⌜aft m c 8 t (Y 8) X⌝ ∗ owns (c : Thread nD τ) (win0_8.stage (cfg0.slots t 8)) fullShare X) ∗ (∃ X, ⌜aft m c 9 t (Y 9) X⌝ ∗ owns (c : Thread nD τ) (win0_9.stage (cfg0.slots t 9)) fullShare X) ∗ (∃ X, ⌜aft m c 10 t (Y 10) X⌝ ∗ owns (c : Thread nD τ) (win0_10.stage (cfg0.slots t 10)) fullShare X) ∗ (∃ X, ⌜aft m c 11 t (Y 11) X⌝ ∗ owns (c : Thread nD τ) (win0_11.stage (cfg0.slots t 11)) fullShare X) ∗ (∃ X, ⌜aft m c 12 t (Y 12) X⌝ ∗ owns (c : Thread nD τ) (win0_12.stage (cfg0.slots t 12)) fullShare X) ∗ (∃ X, ⌜aft m c 13 t (Y 13) X⌝ ∗ owns (c : Thread nD τ) (win0_13.stage (cfg0.slots t 13)) fullShare X) ∗ (∃ X, ⌜aft m c 14 t (Y 14) X⌝ ∗ owns (c : Thread nD τ) (win0_14.stage (cfg0.slots t 14)) fullShare X) ∗ (∃ X, ⌜aft m c 15 t (Y 15) X⌝ ∗ owns (c : Thread nD τ) (win0_15.stage (cfg0.slots t 15)) fullShare X) ∗ (∃ X, ⌜aft m c 16 t (Y 16) X⌝ ∗ owns (c : Thread nD τ) (win0_16.stage (cfg0.slots t 16)) fullShare X))

set_option maxHeartbeats 1000000 in
/-- The body at a point of kind 1. -/
theorem valBody1 (c : Dev nD) (t : Fin cfg0.N) (Y : (w : Fin cfg0.W) → (cfg0.win w).block.Idx → Elt F (cfg0.win w).elt) (hY : ∀ w, (rdat m c).Finds w t (Y w))
    (h1 : k0_cond1 (grid0.coords t) = 1#1) (h2 : ¬ k0_cond2 (grid0.coords t) = 1#1) (h3 : ¬ k0_cond3 (grid0.coords t) = 1#1) (h4 : ¬ k0_cond4 (grid0.coords t) = 1#1) (ht : t.val = 0) :
    bodyPreV m c t Y ⊢ wp Idealize.ShloMosaic.frame (wpE (defs₀ (F := F)) Variants.none c none) Set.univ (bodyAt0 t) (fun _ => bodyPostV m c t Y) := by
  have hY0 := found0 m c t _ (hY 0)
  have hY1 := found1 m c t _ (hY 1)
  have hY2 := found2 m c t _ (hY 2)
  have hY3 := found3 m c t _ (hY 3)
  have hY4 := found4 m c t _ (hY 4)
  have hY5 := found5 m c t _ (hY 5)
  have hY6 := found6 m c t _ (hY 6)
  have hY7 := found7 m c t _ (hY 7)
  have hY8 := found8 m c t _ (hY 8)
  unfold bodyPreV bodyPostV bodyAt0
  rw [show (rdat m c).Φ t.succ = PhiR m c (t.val + 1) from rfl,
    show (rdat m c).owesAt () t.succ = (rdat m c).owesAt () t.castSucc from rfl,
    show (rdat m c).Φ t.castSucc = PhiR m c t.val from rfl]
  unfold RDat.owesAt Pipeline.owesWithin PhiR
  rw [show (rdat m c).owed t.castSucc = 0 from rfl]
  iintro ⟨⟨⟨%d0, %d1, %d4, %d5, %d6, %hST, S0, S1, S4, S5, S6, ⟨%d2, S2⟩, ⟨%d3, S3⟩, ⟨%d7, S7⟩, ⟨%d8, S8⟩, ⟨%d9, S9⟩, ⟨%d10, S10⟩⟩, Hg, Hq, Hh⟩, ⟨%W, %hW, HO⟩, W0, W1, W2, W3, W4, W5, W6, W7, W8, W9, W10, W11, W12, W13, W14, W15, W16⟩
  iapply (valRun1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) h1 h2 h3 h4 (V m c main_arg0) W _ (Y 0) (Y 1) (Y 2) (Y 3) (Y 4) (Y 5) (Y 6) (Y 7) (Y 8) (Y 9) (Y 10) (Y 11) (Y 12) (Y 13) (Y 14) (Y 15) (Y 16) d0 d1 d2 d3 d4 d5 d6 d7 d8 d9 d10)
  isplitr [HO Hg]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Hq]; · iexact Hq
    iexact Hh
  isplitl [HO]; · iexact HO
  iintro ⟨⟨W0, W1, W2, W3, W4, W5, W6, W7, W8, ⟨%eW9, W9⟩, ⟨%eW10, W10⟩, ⟨%eW11, W11⟩, ⟨%eW12, W12⟩, ⟨%eW13, W13⟩, ⟨%eW14, W14⟩, ⟨%eW15, W15⟩, ⟨%eW16, W16⟩, ⟨%eS0, S0, %pS0⟩, ⟨%eS1, S1, %pS1⟩, ⟨%eS2, S2⟩, ⟨%eS3, S3⟩, ⟨%eS4, S4, %pS4⟩, ⟨%eS5, S5, %pS5⟩, ⟨%eS6, S6, %pS6⟩, ⟨%eS7, S7⟩, ⟨%eS8, S8⟩, ⟨%eS9, S9⟩, ⟨%eS10, S10⟩, Hq, Hh⟩, ⟨%W', HO⟩⟩
  isplitl [S0 S1 S2 S3 S4 S5 S6 S7 S8 S9 S10 Hg Hq Hh]
  · isplitl [S0 S1 S2 S3 S4 S5 S6 S7 S8 S9 S10]
    · iexists _, _, _, _, _
      isplitr
      swap
      · isplitl [S0]; · iexact S0
        isplitl [S1]; · iexact S1
        isplitl [S4]; · iexact S4
        isplitl [S5]; · iexact S5
        isplitl [S6]; · iexact S6
        isplitl [S2]; · iexists _; iexact S2
        isplitl [S3]; · iexists _; iexact S3
        isplitl [S7]; · iexists _; iexact S7
        isplitl [S8]; · iexists _; iexact S8
        isplitl [S9]; · iexists _; iexact S9
        iexists _; iexact S10
      · ipureintro; exact by rw [hY1, hY3, hY4] at pS5; rw [hY1, hY3, hY5, hY7] at pS6; rw [hY6] at pS5; rw [hY0, hY2, hY4] at pS4; exact st1 m c t ht pS0 pS1 pS4 pS5 pS6
    isplitl [Hg]; · iexact Hg
    isplitl [Hq]; · iexact Hq
    iexact Hh
  isplitl [HO]
  · iexists W'; isplitr; · ipureintro; exact fun _ _ => Or.inl trivial
    iexact HO
  isplitl [W0]
  · iexists _; isplitr; swap; · iexact W0
    ipureintro; exact aft_in m c 0 (by decide) t _
  isplitl [W1]
  · iexists _; isplitr; swap; · iexact W1
    ipureintro; exact aft_in m c 1 (by decide) t _
  isplitl [W2]
  · iexists _; isplitr; swap; · iexact W2
    ipureintro; exact aft_in m c 2 (by decide) t _
  isplitl [W3]
  · iexists _; isplitr; swap; · iexact W3
    ipureintro; exact aft_in m c 3 (by decide) t _
  isplitl [W4]
  · iexists _; isplitr; swap; · iexact W4
    ipureintro; exact aft_in m c 4 (by decide) t _
  isplitl [W5]
  · iexists _; isplitr; swap; · iexact W5
    ipureintro; exact aft_in m c 5 (by decide) t _
  isplitl [W6]
  · iexists _; isplitr; swap; · iexact W6
    ipureintro; exact aft_in m c 6 (by decide) t _
  isplitl [W7]
  · iexists _; isplitr; swap; · iexact W7
    ipureintro; exact aft_in m c 7 (by decide) t _
  isplitl [W8]
  · iexists _; isplitr; swap; · iexact W8
    ipureintro; exact aft_in m c 8 (by decide) t _
  isplitl [W9]
  · iexists _; isplitr; swap; · iexact W9
    ipureintro; exact aft_9 m c t _ _ (fun h => absurd h (by omega))
  isplitl [W10]
  · iexists _; isplitr; swap; · iexact W10
    ipureintro; exact aft_10 m c t _ _ (⟨fun h => absurd h (by omega), fun h => absurd h (by omega)⟩)
  isplitl [W11]
  · iexists _; isplitr; swap; · iexact W11
    ipureintro; exact aft_any m c 11 (by decide) (by decide) t _ _
  isplitl [W12]
  · iexists _; isplitr; swap; · iexact W12
    ipureintro; exact aft_any m c 12 (by decide) (by decide) t _ _
  isplitl [W13]
  · iexists _; isplitr; swap; · iexact W13
    ipureintro; exact aft_any m c 13 (by decide) (by decide) t _ _
  isplitl [W14]
  · iexists _; isplitr; swap; · iexact W14
    ipureintro; exact aft_any m c 14 (by decide) (by decide) t _ _
  isplitl [W15]
  · iexists _; isplitr; swap; · iexact W15
    ipureintro; exact aft_any m c 15 (by decide) (by decide) t _ _
  iexists _; isplitr; swap; · iexact W16
  ipureintro; exact aft_16 m c t _ _ ⟨fun h => absurd h (by omega), fun h => absurd h (by omega)⟩

set_option maxHeartbeats 1000000 in
/-- The body at a point of kind 2. -/
theorem valBody2 (c : Dev nD) (t : Fin cfg0.N) (Y : (w : Fin cfg0.W) → (cfg0.win w).block.Idx → Elt F (cfg0.win w).elt) (hY : ∀ w, (rdat m c).Finds w t (Y w))
    (h1 : ¬ k0_cond1 (grid0.coords t) = 1#1) (h2 : k0_cond2 (grid0.coords t) = 1#1) (h3 : ¬ k0_cond3 (grid0.coords t) = 1#1) (h4 : ¬ k0_cond4 (grid0.coords t) = 1#1) (ht : 1 ≤ t.val ∧ t.val ≤ 26) :
    bodyPreV m c t Y ⊢ wp Idealize.ShloMosaic.frame (wpE (defs₀ (F := F)) Variants.none c none) Set.univ (bodyAt0 t) (fun _ => bodyPostV m c t Y) := by
  have hY0 := found0 m c t _ (hY 0)
  have hY1 := found1 m c t _ (hY 1)
  have hY2 := found2 m c t _ (hY 2)
  have hY3 := found3 m c t _ (hY 3)
  have hY4 := found4 m c t _ (hY 4)
  have hY5 := found5 m c t _ (hY 5)
  have hY6 := found6 m c t _ (hY 6)
  have hY7 := found7 m c t _ (hY 7)
  have hY8 := found8 m c t _ (hY 8)
  unfold bodyPreV bodyPostV bodyAt0
  rw [show (rdat m c).Φ t.succ = PhiR m c (t.val + 1) from rfl,
    show (rdat m c).owesAt () t.succ = (rdat m c).owesAt () t.castSucc from rfl,
    show (rdat m c).Φ t.castSucc = PhiR m c t.val from rfl]
  unfold RDat.owesAt Pipeline.owesWithin PhiR
  rw [show (rdat m c).owed t.castSucc = 0 from rfl]
  iintro ⟨⟨⟨%d0, %d1, %d4, %d5, %d6, %hST, S0, S1, S4, S5, S6, ⟨%d2, S2⟩, ⟨%d3, S3⟩, ⟨%d7, S7⟩, ⟨%d8, S8⟩, ⟨%d9, S9⟩, ⟨%d10, S10⟩⟩, Hg, Hq, Hh⟩, ⟨%W, %hW, HO⟩, W0, W1, W2, W3, W4, W5, W6, W7, W8, W9, W10, W11, W12, W13, W14, W15, W16⟩
  iapply (valRun2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) h1 h2 h3 h4 (V m c main_arg0) W _ (Y 0) (Y 1) (Y 2) (Y 3) (Y 4) (Y 5) (Y 6) (Y 7) (Y 8) (Y 9) (Y 10) (Y 11) (Y 12) (Y 13) (Y 14) (Y 15) (Y 16) d0 d1 d2 d3 d4 d5 d6 d7 d8 d9 d10)
  isplitr [HO Hg]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Hq]; · iexact Hq
    iexact Hh
  isplitl [HO]; · iexact HO
  iintro ⟨⟨W0, W1, W2, W3, W4, W5, W6, W7, W8, ⟨%eW9, W9⟩, ⟨%eW10, W10, %pW10⟩, ⟨%eW11, W11⟩, ⟨%eW12, W12⟩, ⟨%eW13, W13⟩, ⟨%eW14, W14⟩, ⟨%eW15, W15⟩, ⟨%eW16, W16, %pW16⟩, S0, ⟨%eS1, S1, %pS1⟩, ⟨%eS2, S2⟩, ⟨%eS3, S3⟩, ⟨%eS4, S4, %pS4⟩, ⟨%eS5, S5, %pS5⟩, ⟨%eS6, S6, %pS6⟩, ⟨%eS7, S7⟩, ⟨%eS8, S8⟩, ⟨%eS9, S9⟩, ⟨%eS10, S10⟩, Hq, Hh⟩, ⟨%W', HO⟩⟩
  isplitl [S0 S1 S2 S3 S4 S5 S6 S7 S8 S9 S10 Hg Hq Hh]
  · isplitl [S0 S1 S2 S3 S4 S5 S6 S7 S8 S9 S10]
    · iexists _, _, _, _, _
      isplitr
      swap
      · isplitl [S0]; · iexact S0
        isplitl [S1]; · iexact S1
        isplitl [S4]; · iexact S4
        isplitl [S5]; · iexact S5
        isplitl [S6]; · iexact S6
        isplitl [S2]; · iexists _; iexact S2
        isplitl [S3]; · iexists _; iexact S3
        isplitl [S7]; · iexists _; iexact S7
        isplitl [S8]; · iexists _; iexact S8
        isplitl [S9]; · iexists _; iexact S9
        iexists _; iexact S10
      · ipureintro; exact by rw [hY1, hY3, hY4] at pS5; rw [hY1, hY3, hY5, hY7] at pS6; rw [hY6] at pS5; rw [hY0, hY2, hY4] at pS4; exact st2 m c t ht hST pS1 pS4 pS5 pS6
    isplitl [Hg]; · iexact Hg
    isplitl [Hq]; · iexact Hq
    iexact Hh
  isplitl [HO]
  · iexists W'; isplitr; · ipureintro; exact fun _ _ => Or.inl trivial
    iexact HO
  isplitl [W0]
  · iexists _; isplitr; swap; · iexact W0
    ipureintro; exact aft_in m c 0 (by decide) t _
  isplitl [W1]
  · iexists _; isplitr; swap; · iexact W1
    ipureintro; exact aft_in m c 1 (by decide) t _
  isplitl [W2]
  · iexists _; isplitr; swap; · iexact W2
    ipureintro; exact aft_in m c 2 (by decide) t _
  isplitl [W3]
  · iexists _; isplitr; swap; · iexact W3
    ipureintro; exact aft_in m c 3 (by decide) t _
  isplitl [W4]
  · iexists _; isplitr; swap; · iexact W4
    ipureintro; exact aft_in m c 4 (by decide) t _
  isplitl [W5]
  · iexists _; isplitr; swap; · iexact W5
    ipureintro; exact aft_in m c 5 (by decide) t _
  isplitl [W6]
  · iexists _; isplitr; swap; · iexact W6
    ipureintro; exact aft_in m c 6 (by decide) t _
  isplitl [W7]
  · iexists _; isplitr; swap; · iexact W7
    ipureintro; exact aft_in m c 7 (by decide) t _
  isplitl [W8]
  · iexists _; isplitr; swap; · iexact W8
    ipureintro; exact aft_in m c 8 (by decide) t _
  isplitl [W9]
  · iexists _; isplitr; swap; · iexact W9
    ipureintro; exact aft_9 m c t _ _ (fun h => absurd h (by omega))
  isplitl [W10]
  · iexists _; isplitr; swap; · iexact W10
    ipureintro; exact aft_10 m c t _ _ (p10 m c t ⟨by omega, by omega⟩ hST (by rwa [hY8] at pW10))
  isplitl [W11]
  · iexists _; isplitr; swap; · iexact W11
    ipureintro; exact aft_any m c 11 (by decide) (by decide) t _ _
  isplitl [W12]
  · iexists _; isplitr; swap; · iexact W12
    ipureintro; exact aft_any m c 12 (by decide) (by decide) t _ _
  isplitl [W13]
  · iexists _; isplitr; swap; · iexact W13
    ipureintro; exact aft_any m c 13 (by decide) (by decide) t _ _
  isplitl [W14]
  · iexists _; isplitr; swap; · iexact W14
    ipureintro; exact aft_any m c 14 (by decide) (by decide) t _ _
  isplitl [W15]
  · iexists _; isplitr; swap; · iexact W15
    ipureintro; exact aft_any m c 15 (by decide) (by decide) t _ _
  iexists _; isplitr; swap; · iexact W16
  ipureintro; exact aft_16 m c t _ _ (p16 m c t ⟨ht.1, by omega⟩ hST pW16)

set_option maxHeartbeats 1000000 in
/-- The body at a point of kind 3. -/
theorem valBody3 (c : Dev nD) (t : Fin cfg0.N) (Y : (w : Fin cfg0.W) → (cfg0.win w).block.Idx → Elt F (cfg0.win w).elt) (hY : ∀ w, (rdat m c).Finds w t (Y w))
    (h1 : ¬ k0_cond1 (grid0.coords t) = 1#1) (h2 : ¬ k0_cond2 (grid0.coords t) = 1#1) (h3 : k0_cond3 (grid0.coords t) = 1#1) (h4 : ¬ k0_cond4 (grid0.coords t) = 1#1) (ht : t.val = 27) :
    bodyPreV m c t Y ⊢ wp Idealize.ShloMosaic.frame (wpE (defs₀ (F := F)) Variants.none c none) Set.univ (bodyAt0 t) (fun _ => bodyPostV m c t Y) := by
  have hY0 := found0 m c t _ (hY 0)
  have hY1 := found1 m c t _ (hY 1)
  have hY2 := found2 m c t _ (hY 2)
  have hY3 := found3 m c t _ (hY 3)
  have hY4 := found4 m c t _ (hY 4)
  have hY5 := found5 m c t _ (hY 5)
  have hY6 := found6 m c t _ (hY 6)
  have hY7 := found7 m c t _ (hY 7)
  have hY8 := found8 m c t _ (hY 8)
  unfold bodyPreV bodyPostV bodyAt0
  rw [show (rdat m c).Φ t.succ = PhiR m c (t.val + 1) from rfl,
    show (rdat m c).owesAt () t.succ = (rdat m c).owesAt () t.castSucc from rfl,
    show (rdat m c).Φ t.castSucc = PhiR m c t.val from rfl]
  unfold RDat.owesAt Pipeline.owesWithin PhiR
  rw [show (rdat m c).owed t.castSucc = 0 from rfl]
  iintro ⟨⟨⟨%d0, %d1, %d4, %d5, %d6, %hST, S0, S1, S4, S5, S6, ⟨%d2, S2⟩, ⟨%d3, S3⟩, ⟨%d7, S7⟩, ⟨%d8, S8⟩, ⟨%d9, S9⟩, ⟨%d10, S10⟩⟩, Hg, Hq, Hh⟩, ⟨%W, %hW, HO⟩, W0, W1, W2, W3, W4, W5, W6, W7, W8, W9, W10, W11, W12, W13, W14, W15, W16⟩
  iapply (valRun3 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) h1 h2 h3 h4 (V m c main_arg0) W _ (Y 0) (Y 1) (Y 2) (Y 3) (Y 4) (Y 5) (Y 6) (Y 7) (Y 8) (Y 9) (Y 10) (Y 11) (Y 12) (Y 13) (Y 14) (Y 15) (Y 16) d0 d1 d2 d3 d4 d5 d6 d7 d8 d9 d10)
  isplitr [HO Hg]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Hq]; · iexact Hq
    iexact Hh
  isplitl [HO]; · iexact HO
  iintro ⟨⟨W0, W1, W2, W3, W4, W5, W6, W7, W8, ⟨%eW9, W9⟩, ⟨%eW10, W10, %pW10⟩, ⟨%eW11, W11⟩, ⟨%eW12, W12⟩, ⟨%eW13, W13⟩, ⟨%eW14, W14⟩, ⟨%eW15, W15⟩, ⟨%eW16, W16, %pW16⟩, S0, ⟨%eS1, S1, %pS1⟩, ⟨%eS2, S2⟩, ⟨%eS3, S3⟩, ⟨%eS4, S4⟩, ⟨%eS5, S5⟩, ⟨%eS6, S6⟩, ⟨%eS7, S7⟩, ⟨%eS8, S8⟩, ⟨%eS9, S9⟩, ⟨%eS10, S10⟩, Hq, Hh⟩, ⟨%W', HO⟩⟩
  isplitl [S0 S1 S2 S3 S4 S5 S6 S7 S8 S9 S10 Hg Hq Hh]
  · isplitl [S0 S1 S2 S3 S4 S5 S6 S7 S8 S9 S10]
    · iexists _, _, _, _, _
      isplitr
      swap
      · isplitl [S0]; · iexact S0
        isplitl [S1]; · iexact S1
        isplitl [S4]; · iexact S4
        isplitl [S5]; · iexact S5
        isplitl [S6]; · iexact S6
        isplitl [S2]; · iexists _; iexact S2
        isplitl [S3]; · iexists _; iexact S3
        isplitl [S7]; · iexists _; iexact S7
        isplitl [S8]; · iexists _; iexact S8
        isplitl [S9]; · iexists _; iexact S9
        iexists _; iexact S10
      · ipureintro; exact st3 m c t ht hST pS1
    isplitl [Hg]; · iexact Hg
    isplitl [Hq]; · iexact Hq
    iexact Hh
  isplitl [HO]
  · iexists W'; isplitr; · ipureintro; exact fun _ _ => Or.inl trivial
    iexact HO
  isplitl [W0]
  · iexists _; isplitr; swap; · iexact W0
    ipureintro; exact aft_in m c 0 (by decide) t _
  isplitl [W1]
  · iexists _; isplitr; swap; · iexact W1
    ipureintro; exact aft_in m c 1 (by decide) t _
  isplitl [W2]
  · iexists _; isplitr; swap; · iexact W2
    ipureintro; exact aft_in m c 2 (by decide) t _
  isplitl [W3]
  · iexists _; isplitr; swap; · iexact W3
    ipureintro; exact aft_in m c 3 (by decide) t _
  isplitl [W4]
  · iexists _; isplitr; swap; · iexact W4
    ipureintro; exact aft_in m c 4 (by decide) t _
  isplitl [W5]
  · iexists _; isplitr; swap; · iexact W5
    ipureintro; exact aft_in m c 5 (by decide) t _
  isplitl [W6]
  · iexists _; isplitr; swap; · iexact W6
    ipureintro; exact aft_in m c 6 (by decide) t _
  isplitl [W7]
  · iexists _; isplitr; swap; · iexact W7
    ipureintro; exact aft_in m c 7 (by decide) t _
  isplitl [W8]
  · iexists _; isplitr; swap; · iexact W8
    ipureintro; exact aft_in m c 8 (by decide) t _
  isplitl [W9]
  · iexists _; isplitr; swap; · iexact W9
    ipureintro; exact aft_9 m c t _ _ (fun h => absurd h (by omega))
  isplitl [W10]
  · iexists _; isplitr; swap; · iexact W10
    ipureintro; exact aft_10 m c t _ _ (p10 m c t ⟨by omega, by omega⟩ hST (by rwa [hY8] at pW10))
  isplitl [W11]
  · iexists _; isplitr; swap; · iexact W11
    ipureintro; exact aft_any m c 11 (by decide) (by decide) t _ _
  isplitl [W12]
  · iexists _; isplitr; swap; · iexact W12
    ipureintro; exact aft_any m c 12 (by decide) (by decide) t _ _
  isplitl [W13]
  · iexists _; isplitr; swap; · iexact W13
    ipureintro; exact aft_any m c 13 (by decide) (by decide) t _ _
  isplitl [W14]
  · iexists _; isplitr; swap; · iexact W14
    ipureintro; exact aft_any m c 14 (by decide) (by decide) t _ _
  isplitl [W15]
  · iexists _; isplitr; swap; · iexact W15
    ipureintro; exact aft_any m c 15 (by decide) (by decide) t _ _
  iexists _; isplitr; swap; · iexact W16
  ipureintro; exact aft_16 m c t _ _ (p16 m c t ⟨by omega, by omega⟩ hST pW16)

set_option maxHeartbeats 1000000 in
/-- The body at a point of kind 4. -/
theorem valBody4 (c : Dev nD) (t : Fin cfg0.N) (Y : (w : Fin cfg0.W) → (cfg0.win w).block.Idx → Elt F (cfg0.win w).elt) (hY : ∀ w, (rdat m c).Finds w t (Y w))
    (h1 : ¬ k0_cond1 (grid0.coords t) = 1#1) (h2 : ¬ k0_cond2 (grid0.coords t) = 1#1) (h3 : ¬ k0_cond3 (grid0.coords t) = 1#1) (h4 : k0_cond4 (grid0.coords t) = 1#1) (ht : 27 < t.val) :
    bodyPreV m c t Y ⊢ wp Idealize.ShloMosaic.frame (wpE (defs₀ (F := F)) Variants.none c none) Set.univ (bodyAt0 t) (fun _ => bodyPostV m c t Y) := by
  have hY0 := found0 m c t _ (hY 0)
  have hY1 := found1 m c t _ (hY 1)
  have hY2 := found2 m c t _ (hY 2)
  have hY3 := found3 m c t _ (hY 3)
  have hY4 := found4 m c t _ (hY 4)
  have hY5 := found5 m c t _ (hY 5)
  have hY6 := found6 m c t _ (hY 6)
  have hY7 := found7 m c t _ (hY 7)
  have hY8 := found8 m c t _ (hY 8)
  unfold bodyPreV bodyPostV bodyAt0
  rw [show (rdat m c).Φ t.succ = PhiR m c (t.val + 1) from rfl,
    show (rdat m c).owesAt () t.succ = (rdat m c).owesAt () t.castSucc from rfl,
    show (rdat m c).Φ t.castSucc = PhiR m c t.val from rfl]
  unfold RDat.owesAt Pipeline.owesWithin PhiR
  rw [show (rdat m c).owed t.castSucc = 0 from rfl]
  iintro ⟨⟨⟨%d0, %d1, %d4, %d5, %d6, %hST, S0, S1, S4, S5, S6, ⟨%d2, S2⟩, ⟨%d3, S3⟩, ⟨%d7, S7⟩, ⟨%d8, S8⟩, ⟨%d9, S9⟩, ⟨%d10, S10⟩⟩, Hg, Hq, Hh⟩, ⟨%W, %hW, HO⟩, W0, W1, W2, W3, W4, W5, W6, W7, W8, W9, W10, W11, W12, W13, W14, W15, W16⟩
  iapply (valRun4 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) h1 h2 h3 h4 (V m c main_arg0) W _ (Y 0) (Y 1) (Y 2) (Y 3) (Y 4) (Y 5) (Y 6) (Y 7) (Y 8) (Y 9) (Y 10) (Y 11) (Y 12) (Y 13) (Y 14) (Y 15) (Y 16) d0 d1 d2 d3 d4 d5 d6 d7 d8 d9 d10)
  isplitr [HO Hg]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Hq]; · iexact Hq
    iexact Hh
  isplitl [HO]; · iexact HO
  iintro ⟨⟨W0, W1, W2, W3, W4, W5, W6, W7, W8, ⟨%eW9, W9, %pW9⟩, W10, ⟨%eW11, W11⟩, ⟨%eW12, W12⟩, ⟨%eW13, W13⟩, ⟨%eW14, W14⟩, ⟨%eW15, W15⟩, W16, S0, S1, ⟨%eS2, S2⟩, ⟨%eS3, S3⟩, ⟨%eS4, S4⟩, ⟨%eS5, S5⟩, ⟨%eS6, S6⟩, ⟨%eS7, S7⟩, ⟨%eS8, S8⟩, ⟨%eS9, S9⟩, ⟨%eS10, S10⟩, Hq, Hh⟩, ⟨%W', HO⟩⟩
  isplitl [S0 S1 S2 S3 S4 S5 S6 S7 S8 S9 S10 Hg Hq Hh]
  · isplitl [S0 S1 S2 S3 S4 S5 S6 S7 S8 S9 S10]
    · iexists _, _, _, _, _
      isplitr
      swap
      · isplitl [S0]; · iexact S0
        isplitl [S1]; · iexact S1
        isplitl [S4]; · iexact S4
        isplitl [S5]; · iexact S5
        isplitl [S6]; · iexact S6
        isplitl [S2]; · iexists _; iexact S2
        isplitl [S3]; · iexists _; iexact S3
        isplitl [S7]; · iexists _; iexact S7
        isplitl [S8]; · iexists _; iexact S8
        isplitl [S9]; · iexists _; iexact S9
        iexists _; iexact S10
      · ipureintro; exact st4 m c t ht hST
    isplitl [Hg]; · iexact Hg
    isplitl [Hq]; · iexact Hq
    iexact Hh
  isplitl [HO]
  · iexists W'; isplitr; · ipureintro; exact fun _ _ => Or.inl trivial
    iexact HO
  isplitl [W0]
  · iexists _; isplitr; swap; · iexact W0
    ipureintro; exact aft_in m c 0 (by decide) t _
  isplitl [W1]
  · iexists _; isplitr; swap; · iexact W1
    ipureintro; exact aft_in m c 1 (by decide) t _
  isplitl [W2]
  · iexists _; isplitr; swap; · iexact W2
    ipureintro; exact aft_in m c 2 (by decide) t _
  isplitl [W3]
  · iexists _; isplitr; swap; · iexact W3
    ipureintro; exact aft_in m c 3 (by decide) t _
  isplitl [W4]
  · iexists _; isplitr; swap; · iexact W4
    ipureintro; exact aft_in m c 4 (by decide) t _
  isplitl [W5]
  · iexists _; isplitr; swap; · iexact W5
    ipureintro; exact aft_in m c 5 (by decide) t _
  isplitl [W6]
  · iexists _; isplitr; swap; · iexact W6
    ipureintro; exact aft_in m c 6 (by decide) t _
  isplitl [W7]
  · iexists _; isplitr; swap; · iexact W7
    ipureintro; exact aft_in m c 7 (by decide) t _
  isplitl [W8]
  · iexists _; isplitr; swap; · iexact W8
    ipureintro; exact aft_in m c 8 (by decide) t _
  isplitl [W9]
  · iexists _; isplitr; swap; · iexact W9
    ipureintro; exact aft_9 m c t _ _ (fun _ => ⟨_, h4, (by have := (hST (by omega)).2.1; rwa [show min (t.val - 1) 27 = 27 by omega] at this), pW9⟩)
  isplitl [W10]
  · iexists _; isplitr; swap; · iexact W10
    ipureintro; exact aft_10 m c t _ _ (⟨fun h => absurd h (by omega), fun _ => rfl⟩)
  isplitl [W11]
  · iexists _; isplitr; swap; · iexact W11
    ipureintro; exact aft_any m c 11 (by decide) (by decide) t _ _
  isplitl [W12]
  · iexists _; isplitr; swap; · iexact W12
    ipureintro; exact aft_any m c 12 (by decide) (by decide) t _ _
  isplitl [W13]
  · iexists _; isplitr; swap; · iexact W13
    ipureintro; exact aft_any m c 13 (by decide) (by decide) t _ _
  isplitl [W14]
  · iexists _; isplitr; swap; · iexact W14
    ipureintro; exact aft_any m c 14 (by decide) (by decide) t _ _
  isplitl [W15]
  · iexists _; isplitr; swap; · iexact W15
    ipureintro; exact aft_any m c 15 (by decide) (by decide) t _ _
  iexists _; isplitr; swap; · iexact W16
  ipureintro; exact aft_16 m c t _ _ ⟨fun h => absurd h (by omega), fun _ => rfl⟩

/-- The body obligation. -/
theorem body_obligationV (c : Dev nD) : (rdat (F := F) m c).BodyObligation (defs₀ (F := F)) Variants.none () Set.univ := fun t Y hY => by
  rw [bigSep_W0, bigSep_W0, defs₀_row]
  refine triple_restated (P := bodyPreV m c t Y) (Q := fun _ => bodyPostV m c t Y) ?_ rfl .rfl fun _ => .rfl
  rcases kindsV t with ⟨⟨h1, h2, h3, h4⟩, ht⟩ | ⟨⟨h1, h2, h3, h4⟩, ht⟩ | ⟨⟨h1, h2, h3, h4⟩, ht⟩ | ⟨⟨h1, h2, h3, h4⟩, ht⟩
  · exact valBody1 m c t Y hY h1 h2 h3 h4 ht
  · exact valBody2 m c t Y hY h1 h2 h3 h4 ht
  · exact valBody3 m c t Y hY h1 h2 h3 h4 ht
  · exact valBody4 m c t Y hY h1 h2 h3 h4 ht

/-- At the start the scratch holds anything. -/
theorem phi_in (c : Dev nD) : Pipeline.ΦD osem0 spec0 H0 (V m) c ⊢ (rdat m c).Φ 0 := by
  rw [show (rdat m c).Φ 0 = PhiR m c 0 from rfl, PhiD0_eq]
  unfold PhiR
  iintro ⟨⟨⟨%d0, S0⟩, ⟨%d1, S1⟩, S2, S3, ⟨%d4, S4⟩, ⟨%d5, S5⟩, ⟨%d6, S6⟩, S7, S8, S9, S10⟩, Hg, Hq, Hh⟩
  isplitl [S0 S1 S2 S3 S4 S5 S6 S7 S8 S9 S10]
  · iexists d0, d1, d4, d5, d6
    isplitr; · ipureintro; exact fun h => absurd h (by decide)
    isplitl [S0]; · iexact S0
    isplitl [S1]; · iexact S1
    isplitl [S4]; · iexact S4
    isplitl [S5]; · iexact S5
    isplitl [S6]; · iexact S6
    isplitl [S2]; · iexact S2
    isplitl [S3]; · iexact S3
    isplitl [S7]; · iexact S7
    isplitl [S8]; · iexact S8
    isplitl [S9]; · iexact S9
    iexact S10
  isplitl [Hg]; · iexact Hg
  isplitl [Hq]; · iexact Hq
  iexact Hh
/-- At the end the scratch is given back. -/
theorem phi_out (c : Dev nD) : (rdat m c).Φ (Fin.last cfg0.N) ⊢ Pipeline.ΦD osem0 spec0 H0 (V m) c := by
  rw [show (rdat m c).Φ (Fin.last cfg0.N) = PhiR m c cfg0.N from rfl, PhiD0_eq]
  unfold PhiR
  iintro ⟨⟨%d0, %d1, %d4, %d5, %d6, %hST, S0, S1, S4, S5, S6, S2, S3, S7, S8, S9, S10⟩, Hg, Hq, Hh⟩
  isplitl [S0 S1 S2 S3 S4 S5 S6 S7 S8 S9 S10]
  · isplitl [S0]; · iexists d0; iexact S0
    isplitl [S1]; · iexists d1; iexact S1
    isplitl [S2]; · iexact S2
    isplitl [S3]; · iexact S3
    isplitl [S4]; · iexists d4; iexact S4
    isplitl [S5]; · iexists d5; iexact S5
    isplitl [S6]; · iexists d6; iexact S6
    isplitl [S7]; · iexact S7
    isplitl [S8]; · iexact S8
    isplitl [S9]; · iexact S9
    iexact S10
  isplitl [Hg]; · iexact Hg
  isplitl [Hq]; · iexact Hq
  iexact Hh

set_option maxHeartbeats 1000000 in
-- unification must unfold plain definitions in a metavariable's type
set_option backward.isDefEq.respectTransparency.types false in
/-- Every run of the program ends with the arrays as the proof data say. -/
theorem run_mainV :
    θ_run defs (onTc (τ := τ) (main (F := F))) (s₀ m ρ)
      (fun r => Pipeline.RDat.FramePost (cfgs 0) (fun c => rdat m c) (V m) r ∧ r.2.sem = fun _ => 0) :=
  Pipeline.RDat.θ_run_frame_dma (Q' := _) cfgs (0 : Fin 1) launch0 osem0 defs₀ Variants.none (rdat m) ownSemFacts0 H0 H0_sub m ρ main
    (hbody := fun c => body_obligationV m c) (hshare := fun c w => by unfold Pipeline.RDat.share; split <;> rfl)
    (howed := fun _ _ => rfl) (V := V m) (hmain := hmainD m Variants.none) (hA := fun _ _ => rfl)
    (hin := phi_in m) (hout := phi_out m)

end Cert.KernelIdeal.Hand

end
-- ==== Proof.Scalar.lean ====
/-
  One element quantised, on the extended reals: the kernel's eight-bit code and its decoding against the reference's
  grid value and power of two. Pure arithmetic; the arrays meet it in the modules about tokens and lanes.
-/
module

public import Idealize.ShloMosaic.PureOps.Ideal
public import Idealize.ShloMosaic.Lib.IdealHost
public import Mathlib.Analysis.SpecialFunctions.Pow.Real
public import Mathlib.Tactic.IntervalCases

@[expose] public section

noncomputable section

namespace Cert.Scalar

open Idealize.ShloMosaic

/-- The rotation's scale, the float32 nearest the square root of 1/32, as a rational. -/
def c0 : ℝ := 11863283 / 67108864

/-- The kernel's power of two for a group whose largest magnitude is `a`. -/
def kP (a : EReal) : EReal := Ideal.exp2 (Ideal.liftRound Int.floor (Ideal.log a * (((Real.log 2)⁻¹ : ℝ) : EReal)))
/-- The kernel's scale from that power of two. -/
def kSc (p : EReal) : EReal :=
  (if p = 0 then (((2 : ℝ) ^ (127 : ℕ) : ℝ) : EReal) else Ideal.div 1 p) * (((35589849 : ℝ) / 33554432 : ℝ) : EReal)
/-- Magnitude plus the larger of magnitude and two. -/
def kG (y : EReal) : EReal := max y (-y) + max (max y (-y)) ((2 : ℝ) : EReal)
/-- The reciprocal of the grid's step at `g`, in the kernel's units. -/
def kInv (g : EReal) : EReal :=
  if g < ((4 : ℝ) : EReal) then 1 else if g < ((8 : ℝ) : EReal) then ((1 / 2 : ℝ) : EReal)
    else if g < ((16 : ℝ) : EReal) then ((1 / 4 : ℝ) : EReal) else ((1 / 8 : ℝ) : EReal)
/-- The code's offset at `g`. -/
def kOff (g : EReal) : EReal :=
  if g < ((4 : ℝ) : EReal) then ((-2 : ℝ) : EReal) else if g < ((8 : ℝ) : EReal) then 0
    else if g < ((16 : ℝ) : EReal) then ((2 : ℝ) : EReal) else ((4 : ℝ) : EReal)
/-- The threshold a random byte stands for. -/
def thr (r : BitVec 8) : EReal :=
  ((((r.setWidth 32).toInt : ℝ) : EReal) + ((1 / 2 : ℝ) : EReal)) * ((1 / 256 : ℝ) : EReal)
/-- The magnitude's code, still an extended real. -/
def kVal (y : EReal) (ρ : EReal) : EReal :=
  Ideal.liftRound Int.floor (kG y * kInv (kG y)) + kOff (kG y)
    + (if ρ < kG y * kInv (kG y) - Ideal.liftRound Int.floor (kG y * kInv (kG y)) then 1 else 0)
/-- The magnitude's code as a byte. -/
def kIdx (y : EReal) (r : BitVec 8) : BitVec 8 := (Ideal.fptosi 32 (kVal y (thr r))).setWidth 8
/-- The sign's byte. -/
def kSg (y : EReal) : BitVec 8 := if y < 0 then 0x80#8 else 0#8
/-- The byte decoded as an eight-bit float. -/
def kByte (y : EReal) (r : BitVec 8) : BitVec 8 := (kIdx y r <<< 2) ||| ((kSg y &&& (kIdx y r + 0x7f#8)) &&& 0x80#8)
/-- The kernel's quantised element. -/
def kElem (s a : EReal) (r : BitVec 8) : EReal :=
  Ideal.e4m3fn (kByte (s * kSc (kP a)) r) * (kP a * ((16 : ℝ) : EReal))

/-- The reference's exponent. -/
def rE (a : EReal) : EReal :=
  if a = 0 then 0 else Ideal.liftRound Int.floor (Ideal.div (Ideal.log a) (Ideal.log ((2 : ℝ) : EReal))) - ((2 : ℝ) : EReal)
/-- The kernel's exponent from the power of two. -/
def kE (p : EReal) : EReal :=
  if p = 0 then 0 else Ideal.liftRound Int.floor (Ideal.log p * (((Real.log 2)⁻¹ : ℝ) : EReal) + ((1 / 2 : ℝ) : EReal)) - ((2 : ℝ) : EReal)
/-- The reference's scaled value. -/
def rY (v a : EReal) : EReal := v * (((3 / 4 : ℝ) : EReal) * Ideal.exp (-(rE a) * Ideal.log ((2 : ℝ) : EReal)))
/-- The reference's grid step at magnitude `m`. -/
def rStep (m : EReal) : EReal :=
  if m < ((2 : ℝ) : EReal) then ((1 / 2 : ℝ) : EReal) else if m < ((4 : ℝ) : EReal) then 1 else ((2 : ℝ) : EReal)
/-- The grid point below. -/
def rLo (m : EReal) : EReal := Ideal.liftRound Int.floor (Ideal.div m (rStep m)) * rStep m
/-- The magnitude rounded. -/
def rQ (m ρ : EReal) : EReal :=
  if ρ < Ideal.div (m - rLo m) (rStep m) then rLo m + rStep m else rLo m
/-- The reference's quantised element. -/
def rElem (v a : EReal) (r : BitVec 8) : EReal :=
  (if rY v a < 0 then -(rQ (max (rY v a) (-(rY v a))) (thr r)) else rQ (max (rY v a) (-(rY v a))) (thr r))
    * Ideal.exp (rE a * Ideal.log ((2 : ℝ) : EReal))

/-- The larger of two reals, as an extended real. -/
theorem coe_max (a b : ℝ) : ((max a b : ℝ) : EReal) = max (a : EReal) (b : EReal) := EReal.coe_strictMono.monotone.map_max

/-- The magnitude of a real, as an extended real. -/
theorem abs_coe (z : ℝ) : max (z : EReal) (-(z : EReal)) = ((|z| : ℝ) : EReal) := by
  rw [← EReal.coe_neg, ← coe_max]; rfl

/-- A random byte's threshold is a nonnegative real. -/
theorem thr_real (r : BitVec 8) : ∃ ρ : ℝ, 0 ≤ ρ ∧ thr r = (ρ : EReal) := by
  refine ⟨(((r.setWidth 32).toInt : ℝ) + 1 / 2) * (1 / 256), ?_, ?_⟩
  · have h : 0 ≤ (r.setWidth 32).toInt := by
      rw [BitVec.toInt_eq_toNat_of_lt]
      · positivity
      · have := r.isLt
        simp only [BitVec.toNat_setWidth]
        omega
    have : (0 : ℝ) ≤ ((r.setWidth 32).toInt : ℝ) := by exact_mod_cast h
    positivity
  · unfold thr
    push_cast
    rfl

/-- The code's integer, for a real magnitude `m` in the kernel's units. -/
def nIdx (m ρ : ℝ) : ℤ :=
  if m < 4 then ⌊m⌋ + (if ρ < m - ⌊m⌋ then 1 else 0)
  else if m < 8 then ⌊m / 2⌋ + 2 + (if ρ < m / 2 - ⌊m / 2⌋ then 1 else 0)
  else ⌊m / 4⌋ + 4 + (if ρ < m / 4 - ⌊m / 4⌋ then 1 else 0)

/-- A choice between two reals, as an extended real. -/
theorem coe_ite (p : Prop) [Decidable p] (a b : ℝ) : (if p then (a : EReal) else (b : EReal)) = ((if p then a else b : ℝ) : EReal) := by
  split <;> rfl

/-- The code of a real is an integer. -/
theorem kVal_coe (z ρ : ℝ) : kVal (z : EReal) (ρ : EReal) = (((nIdx |z| ρ : ℤ) : ℝ) : EReal) := by
  have hm := abs_nonneg z
  unfold kVal
  have hg : kG (z : EReal) = ((|z| + max |z| 2 : ℝ) : EReal) := by
    unfold kG; rw [abs_coe, ← coe_max, ← EReal.coe_add]
  rw [hg]
  generalize |z| = m at *
  unfold kInv kOff nIdx
  simp only [EReal.coe_lt_coe_iff]
  by_cases h2 : m < 2
  · rw [max_eq_right h2.le, if_pos (show m + 2 < 4 by linarith), if_pos (show m + 2 < 4 by linarith), if_pos (show m < 4 by linarith)]
    rw [mul_one, Ideal.liftRound_coe, ← EReal.coe_sub, ← EReal.coe_add]
    simp only [EReal.coe_lt_coe_iff]
    have hf : ⌊m + 2⌋ = ⌊m⌋ + 2 := by exact_mod_cast Int.floor_add_natCast m 2
    rw [hf]
    rw [show (m + 2 - ((⌊m⌋ + 2 : ℤ) : ℝ)) = m - (⌊m⌋ : ℝ) by push_cast; ring]
    split
    · rw [← EReal.coe_one, ← EReal.coe_add]; exact congrArg Real.toEReal (by push_cast; ring)
    · rw [add_zero]; exact congrArg Real.toEReal (by push_cast; ring)
  · have h2' : 2 ≤ m := not_lt.mp h2
    rw [max_eq_left h2']
    by_cases h4 : m < 4
    · have n4 : ¬ m + m < 4 := by linarith
      have n8 : m + m < 8 := by linarith
      rw [if_neg n4, if_neg n4, if_pos n8, if_pos n8, if_pos h4, ← EReal.coe_mul, Ideal.liftRound_coe, ← EReal.coe_sub,
        add_zero]
      rw [show (m + m) * (1 / 2) = m by ring]
      simp only [EReal.coe_lt_coe_iff]
      split
      · rw [← EReal.coe_one, ← EReal.coe_add]; exact congrArg Real.toEReal (by push_cast; ring)
      · rw [add_zero]; exact congrArg Real.toEReal (by push_cast; ring)
    · have n4 : ¬ m + m < 4 := by linarith
      have n8 : ¬ m + m < 8 := by linarith
      rw [if_neg n4, if_neg n4, if_neg n8, if_neg n8, if_neg h4]
      by_cases h8 : m < 8
      · rw [if_pos (show m + m < 16 by linarith), if_pos (show m + m < 16 by linarith), if_pos h8, ← EReal.coe_mul, Ideal.liftRound_coe, ← EReal.coe_sub,
          ← EReal.coe_add]
        rw [show (m + m) * (1 / 4) = m / 2 by ring]
        simp only [EReal.coe_lt_coe_iff]
        split
        · rw [← EReal.coe_one, ← EReal.coe_add]; exact congrArg Real.toEReal (by push_cast; ring)
        · rw [add_zero]; exact congrArg Real.toEReal (by push_cast; ring)
      · rw [if_neg (show ¬ m + m < 16 by linarith), if_neg (show ¬ m + m < 16 by linarith), if_neg h8, ← EReal.coe_mul, Ideal.liftRound_coe, ← EReal.coe_sub,
          ← EReal.coe_add]
        rw [show (m + m) * (1 / 8) = m / 4 by ring]
        simp only [EReal.coe_lt_coe_iff]
        split
        · rw [← EReal.coe_one, ← EReal.coe_add]; exact congrArg Real.toEReal (by push_cast; ring)
        · rw [add_zero]; exact congrArg Real.toEReal (by push_cast; ring)

/-- The magnitude a code stands for. -/
def gridVal (n : ℤ) : ℝ :=
  if n ≤ 4 then n / 2 else if n ≤ 6 then n - 2 else (n - 4) * 2

/-- The code of a magnitude in range is one of eight. -/
theorem nIdx_bounds {m ρ : ℝ} (h0 : 0 ≤ m) (h12 : m < 12) (hρ : 0 ≤ ρ) : 0 ≤ nIdx m ρ ∧ nIdx m ρ < 8 := by
  unfold nIdx
  split
  · rename_i h
    have a1 : 0 ≤ ⌊m⌋ := Int.floor_nonneg.mpr h0
    have a2 : ⌊m⌋ < 4 := Int.floor_lt.mpr (by exact_mod_cast h)
    split <;> omega
  · split
    · have a1 : 0 ≤ ⌊m / 2⌋ := Int.floor_nonneg.mpr (by linarith)
      have a2 : ⌊m / 2⌋ < 4 := Int.floor_lt.mpr (by push_cast; linarith)
      split <;> omega
    · have a1 : 0 ≤ ⌊m / 4⌋ := Int.floor_nonneg.mpr (by linarith)
      have a2 : ⌊m / 4⌋ < 3 := Int.floor_lt.mpr (by push_cast; linarith)
      split <;> omega

/-- The reference's rounded magnitude is the grid value of the kernel's code. -/
theorem rQ_coe (m ρ : ℝ) (h0 : 0 ≤ m) (h12 : m < 12) : rQ ((m / 2 : ℝ) : EReal) (ρ : EReal) = ((gridVal (nIdx m ρ) : ℝ) : EReal) := by
  unfold rQ rLo rStep nIdx
  simp only [EReal.coe_lt_coe_iff]
  by_cases h4 : m < 4
  · rw [if_pos (show m / 2 < 2 by linarith), if_pos h4]
    simp only [Ideal.div_coe (show (1 / 2 : ℝ) ≠ 0 by norm_num), ← EReal.coe_mul, Ideal.liftRound_coe, ← EReal.coe_sub, ← EReal.coe_add]
    have e1 : m / 2 * (1 / (1 / 2)) = m := by ring
    rw [e1]
    have e2 : (m / 2 - (⌊m⌋ : ℝ) * (1 / 2)) * (1 / (1 / 2)) = m - ⌊m⌋ := by ring
    rw [e2]
    simp only [EReal.coe_lt_coe_iff]
    have a2 : ⌊m⌋ < 4 := Int.floor_lt.mpr (by exact_mod_cast h4)
    unfold gridVal
    split
    · rw [if_pos (by omega)]; exact congrArg Real.toEReal (by push_cast; ring)
    · rw [if_pos (by omega)]; exact congrArg Real.toEReal (by push_cast; ring)
  · rw [if_neg (show ¬ m / 2 < 2 by linarith), if_neg h4]
    by_cases h8 : m < 8
    · rw [if_pos (show m / 2 < 4 by linarith), if_pos h8, ← EReal.coe_one]
      simp only [Ideal.div_coe (show (1 : ℝ) ≠ 0 by norm_num), ← EReal.coe_mul, Ideal.liftRound_coe, ← EReal.coe_sub, ← EReal.coe_add]
      have e1 : m / 2 * (1 / 1) = m / 2 := by ring
      rw [e1]
      have e2 : (m / 2 - (⌊m / 2⌋ : ℝ) * 1) * (1 / 1) = m / 2 - ⌊m / 2⌋ := by ring
      rw [e2]
      simp only [EReal.coe_lt_coe_iff]
      have a1 : 2 ≤ ⌊m / 2⌋ := Int.le_floor.mpr (by push_cast; linarith)
      have a2 : ⌊m / 2⌋ < 4 := Int.floor_lt.mpr (by push_cast; linarith)
      unfold gridVal
      split
      · rw [if_neg (by omega), if_pos (by omega)]; exact congrArg Real.toEReal (by push_cast; ring)
      · by_cases h : ⌊m / 2⌋ = 2
        · rw [if_pos (by omega), h]; exact congrArg Real.toEReal (by norm_num)
        · rw [if_neg (by omega), if_pos (by omega)]; exact congrArg Real.toEReal (by push_cast; ring)
    · rw [if_neg (show ¬ m / 2 < 4 by linarith), if_neg h8]
      simp only [Ideal.div_coe (show (2 : ℝ) ≠ 0 by norm_num), ← EReal.coe_mul, Ideal.liftRound_coe, ← EReal.coe_sub, ← EReal.coe_add]
      have e1 : m / 2 * (1 / 2) = m / 4 := by ring
      rw [e1]
      have e2 : (m / 2 - (⌊m / 4⌋ : ℝ) * 2) * (1 / 2) = m / 4 - ⌊m / 4⌋ := by ring
      rw [e2]
      simp only [EReal.coe_lt_coe_iff]
      have a1 : 2 ≤ ⌊m / 4⌋ := Int.le_floor.mpr (by push_cast; linarith)
      have a2 : ⌊m / 4⌋ < 3 := Int.floor_lt.mpr (by push_cast; linarith)
      have h : ⌊m / 4⌋ = 2 := by omega
      unfold gridVal
      split
      · rw [if_neg (by omega), if_neg (by omega), h]; exact congrArg Real.toEReal (by norm_num)
      · rw [if_neg (by omega), if_pos (by omega), h]; exact congrArg Real.toEReal (by norm_num)

/-- A small integer converted to a byte. -/
theorem fptosi_int {n : ℤ} (h0 : 0 ≤ n) (h8 : n < 8) : (Ideal.fptosi 32 (((n : ℝ)) : EReal)).setWidth 8 = BitVec.ofInt 8 n := by
  have : Ideal.fptosi 32 ((n : ℝ) : EReal) = BitVec.ofInt 32 n := by
    unfold Ideal.fptosi Ideal.toIntClamped
    have hn : (0 : ℝ) ≤ n := by exact_mod_cast h0
    show BitVec.ofInt 32 (max _ (min _ (if 0 ≤ (n : ℝ) then ⌊(n : ℝ)⌋ else _))) = _
    rw [if_pos hn, Int.floor_intCast]
    congr 1
    rw [min_eq_right (by norm_num; omega), max_eq_right (by norm_num; omega)]
  rw [this]
  interval_cases n <;> decide

/-- The decoded byte of code `n` and sign `b`. -/
theorem byte_val {n : ℤ} (h0 : 0 ≤ n) (h8 : n < 8) (b : Prop) [Decidable b] :
    Ideal.e4m3fn ((BitVec.ofInt 8 n <<< 2) ||| (((if b then 0x80#8 else 0#8) &&& (BitVec.ofInt 8 n + 0x7f#8)) &&& 0x80#8))
      = ((if b then -(gridVal n / 64) else gridVal n / 64 : ℝ) : EReal) := by
  split <;> interval_cases n <;> simp [Ideal.e4m3fn, gridVal, BitVec.extractLsb', -EReal.coe_mul, -EReal.coe_neg] <;> norm_num

/-- The code of a value in range and the grid value it stands for. -/
theorem kVal_bounds (z : ℝ) (hz : |z| < 12) (r : BitVec 8) :
    ∃ n : ℤ, 0 ≤ n ∧ n < 8 ∧ kIdx (z : EReal) r = BitVec.ofInt 8 n ∧
      rQ ((|z| / 2 : ℝ) : EReal) (thr r) = ((gridVal n : ℝ) : EReal) := by
  obtain ⟨ρ, hρ, e⟩ := thr_real r
  obtain ⟨h0, h8⟩ := nIdx_bounds (ρ := ρ) (abs_nonneg z) hz hρ
  refine ⟨nIdx |z| ρ, h0, h8, ?_, ?_⟩
  · unfold kIdx
    rw [e, kVal_coe, fptosi_int h0 h8]
  · rw [e, rQ_coe _ _ (abs_nonneg z) hz]

/-- The code of a value in range is below eight. -/
theorem kIdx_lt (z : ℝ) (hz : |z| < 12) (r : BitVec 8) : (kIdx (z : EReal) r).toNat < 8 := by
  obtain ⟨n, h0, h8, e, -⟩ := kVal_bounds z hz r
  rw [e]
  interval_cases n <;> decide

/-- The decoded byte of a value in range is the signed grid value. -/
theorem kByte_coe (z : ℝ) (hz : |z| < 12) (r : BitVec 8) :
    ∃ g : ℝ, Ideal.e4m3fn (kByte (z : EReal) r) = ((if z < 0 then -(g / 64) else g / 64 : ℝ) : EReal) ∧
      rQ ((|z| / 2 : ℝ) : EReal) (thr r) = (g : EReal) := by
  obtain ⟨n, h0, h8, e, q⟩ := kVal_bounds z hz r
  refine ⟨gridVal n, ?_, q⟩
  unfold kByte kSg
  rw [e]
  have hz0 : ((z : EReal) < 0) = (z < 0) := by
    rw [← EReal.coe_zero, EReal.coe_lt_coe_iff]
  simp only [hz0]
  exact byte_val h0 h8 (z < 0)

/-- The rotation's scale is positive. -/
theorem c0_pos : 0 < c0 := by unfold c0; norm_num

/-- The logarithm of two is positive. -/
theorem log2_pos : 0 < Real.log 2 := Real.log_pos (by norm_num)

/-- The group's scale when its largest magnitude is a positive real: a power of two `P` with `P ≤ a < 2P`. -/
theorem scale_pos (a : ℝ) (ha : 0 < a) : ∃ P : ℝ, 0 < P ∧ P ≤ a ∧ a < 2 * P ∧ kP (a : EReal) = (P : EReal) ∧
    Ideal.exp (-(rE (a : EReal)) * Ideal.log ((2 : ℝ) : EReal)) = ((4 / P : ℝ) : EReal) ∧
    Ideal.exp (rE (a : EReal) * Ideal.log ((2 : ℝ) : EReal)) = ((P / 4 : ℝ) : EReal) := by
  have hl := log2_pos
  have hl' : Real.log 2 ≠ 0 := hl.ne'
  set k : ℤ := ⌊Real.log a * (Real.log 2)⁻¹⌋ with hk
  have ekE : rE (a : EReal) = (((k : ℝ) - 2 : ℝ) : EReal) := by
    unfold rE
    rw [if_neg (by rw [← EReal.coe_zero, EReal.coe_eq_coe_iff]; exact ha.ne'), Ideal.log_coe, if_neg (by linarith), Ideal.log_coe,
      if_neg (by norm_num), Ideal.div_coe hl', ← EReal.coe_mul, Ideal.liftRound_coe, ← EReal.coe_sub, one_div]
  have e2 : Ideal.log ((2 : ℝ) : EReal) = ((Real.log 2 : ℝ) : EReal) := by rw [Ideal.log_coe, if_neg (by norm_num)]
  have hP : (2 : ℝ) ^ (k : ℝ) = Real.exp (k * Real.log 2) := by
    rw [Real.rpow_def_of_pos (by norm_num), mul_comm]
  have h4 : Real.exp (2 * Real.log 2) = 4 := by
    rw [two_mul, Real.exp_add, Real.exp_log (by norm_num)]; norm_num
  refine ⟨(2 : ℝ) ^ (k : ℝ), by positivity, ?_, ?_, ?_, ?_, ?_⟩
  · have := Int.floor_le (Real.log a * (Real.log 2)⁻¹)
    rw [← hk, ← div_eq_mul_inv, le_div_iff₀ hl] at this
    rw [hP, ← Real.exp_log ha]
    exact Real.exp_le_exp.mpr this
  · have := Int.lt_floor_add_one (Real.log a * (Real.log 2)⁻¹)
    rw [← hk, ← div_eq_mul_inv, div_lt_iff₀ hl] at this
    have h := Real.exp_lt_exp.mpr this
    rw [Real.exp_log ha, add_mul, one_mul, Real.exp_add, Real.exp_log (by norm_num)] at h
    rw [hP]
    linarith
  · unfold kP
    rw [Ideal.log_coe, if_neg (by linarith), ← EReal.coe_mul, Ideal.liftRound_coe, Ideal.exp2_coe]
    rfl
  · rw [ekE, e2, ← EReal.coe_neg, ← EReal.coe_mul, Ideal.exp_coe, hP]
    congr 1
    rw [show -((k : ℝ) - 2) * Real.log 2 = 2 * Real.log 2 - k * Real.log 2 by ring, Real.exp_sub, h4]
  · rw [ekE, e2, ← EReal.coe_mul, Ideal.exp_coe, hP]
    congr 1
    rw [show ((k : ℝ) - 2) * Real.log 2 = k * Real.log 2 - 2 * Real.log 2 by ring, Real.exp_sub, h4]

/-- A group of zeros has the power zero. -/
theorem kP_zero : kP 0 = 0 := by
  unfold kP
  rw [← EReal.coe_zero, Ideal.log_coe, if_pos le_rfl, EReal.bot_mul_coe_of_pos (inv_pos.mpr log2_pos)]
  rfl

/-- An infinite group has an infinite power. -/
theorem kP_top : kP ⊤ = ⊤ := by
  unfold kP
  rw [Ideal.log_top, EReal.top_mul_coe_of_pos (inv_pos.mpr log2_pos)]
  rfl

/-- The kernel's exponent of a group is the reference's. -/
theorem kE_eq (a : EReal) (ha : 0 ≤ a) : kE (kP a) = rE a := by
  have hl := log2_pos
  have hl' : Real.log 2 ≠ 0 := hl.ne'
  induction a with
  | bot => simp at ha
  | top =>
    rw [kP_top]
    unfold kE rE
    rw [if_neg (by simp), if_neg (by simp), Ideal.log_top, EReal.top_mul_coe_of_pos (inv_pos.mpr hl), EReal.top_add_coe, Ideal.log_coe,
      if_neg (by norm_num), Ideal.div_coe hl', EReal.top_mul_coe_of_pos (by positivity)]
  | coe a =>
    have ha' : 0 ≤ a := by exact_mod_cast ha
    rcases ha'.eq_or_lt with e | e
    · rw [← e, EReal.coe_zero, kP_zero]
      unfold kE rE
      rw [if_pos rfl, if_pos rfl]
    · have ek : kP (a : EReal) = (((2 : ℝ) ^ ((⌊Real.log a * (Real.log 2)⁻¹⌋ : ℤ) : ℝ) : ℝ) : EReal) := by
        unfold kP
        rw [Ideal.log_coe, if_neg (by linarith), ← EReal.coe_mul, Ideal.liftRound_coe, Ideal.exp2_coe]
        rfl
      have er : rE (a : EReal) = ((((⌊Real.log a * (Real.log 2)⁻¹⌋ : ℤ) : ℝ) - 2 : ℝ) : EReal) := by
        unfold rE
        rw [if_neg (by rw [← EReal.coe_zero, EReal.coe_eq_coe_iff]; exact e.ne'), Ideal.log_coe, if_neg (by linarith), Ideal.log_coe,
          if_neg (by norm_num), Ideal.div_coe hl', ← EReal.coe_mul, Ideal.liftRound_coe, ← EReal.coe_sub, one_div]
      rw [ek, er]
      generalize ⌊Real.log a * (Real.log 2)⁻¹⌋ = k
      have hp : (0 : ℝ) < (2 : ℝ) ^ (k : ℝ) := by positivity
      unfold kE
      rw [if_neg (by rw [← EReal.coe_zero, EReal.coe_eq_coe_iff]; exact hp.ne'), Ideal.log_coe, if_neg (by linarith), ← EReal.coe_mul,
        ← EReal.coe_add, Ideal.liftRound_coe, ← EReal.coe_sub, Real.log_rpow (by norm_num), mul_assoc, mul_inv_cancel₀ hl', mul_one]
      have hf : ⌊(k : ℝ) + 1 / 2⌋ = k := by
        rw [Int.floor_eq_iff]
        constructor <;> linarith
      rw [hf]

/-- An infinite group is scaled by zero. -/
theorem kSc_top : kSc ⊤ = 0 := by
  unfold kSc
  rw [if_neg (by simp), Ideal.div, if_neg (by simp)]
  simp

/-- A group's largest magnitude: every scaled element of it is a real below twelve. -/
theorem scaled_real (s M : EReal) (h : max s (-s) ≤ M) : ∃ z : ℝ, |z| < 12 ∧ s * kSc (kP (M * (c0 : EReal))) = (z : EReal) := by
  have hM : 0 ≤ M := le_trans (by rcases le_total 0 s with h | h
                                  · exact le_max_of_le_left h
                                  · exact le_max_of_le_right (by simpa using h)) h
  induction M with
  | bot => simp at hM
  | top =>
    rw [EReal.top_mul_coe_of_pos c0_pos, kP_top, kSc_top, mul_zero]
    exact ⟨0, by norm_num, rfl⟩
  | coe M =>
    have hs : ∃ x : ℝ, s = x ∧ |x| ≤ M := by
      induction s with
      | bot => simp at h
      | top => simp at h
      | coe x => exact ⟨x, rfl, by rw [abs_coe, EReal.coe_le_coe_iff] at h; exact h⟩
    obtain ⟨x, rfl, hx⟩ := hs
    have hM' : 0 ≤ M := by exact_mod_cast hM
    rcases hM'.eq_or_lt with e | e
    · have : x = 0 := by rw [← e] at hx; simpa using hx
      subst this
      refine ⟨0, by norm_num, ?_⟩
      rw [EReal.coe_zero, zero_mul]
    · rw [← EReal.coe_mul]
      have hc := c0_pos
      obtain ⟨P, hP, h1, h2, ek, -, -⟩ := scale_pos (M * c0) (by positivity)
      rw [ek]
      unfold kSc
      rw [if_neg (by rw [← EReal.coe_zero, EReal.coe_eq_coe_iff]; exact hP.ne'), Ideal.div_coe hP.ne', one_mul, ← EReal.coe_mul,
        ← EReal.coe_mul]
      refine ⟨_, ?_, rfl⟩
      have : x * (1 / P * (35589849 / 33554432)) = (6 * c0 * x) / P := by unfold c0; ring
      rw [this, abs_div, abs_of_pos hP, div_lt_iff₀ hP, abs_mul, abs_of_pos (by positivity)]
      have := mul_le_mul_of_nonneg_left hx hc.le
      linarith

/-- The kernel's element is the reference's: `s` the rotated value before the rotation's scale, `M` the group's largest
    magnitude before it. -/
theorem elem_eq (s M : EReal) (h : max s (-s) ≤ M) (r : BitVec 8) :
    kElem s (M * (c0 : EReal)) r = rElem ((c0 : EReal) * s) (M * (c0 : EReal)) r := by
  have hM : 0 ≤ M := le_trans (by rcases le_total 0 s with h | h
                                  · exact le_max_of_le_left h
                                  · exact le_max_of_le_right (by simpa using h)) h
  have hz0 : ∀ z : ℝ, ((z : EReal) < 0) = (z < 0) := fun z => by
    rw [← EReal.coe_zero, EReal.coe_lt_coe_iff]
  have q0 : rQ (max (0 : EReal) (-0)) (thr r) = 0 := by
    obtain ⟨ρ, hρ, e⟩ := thr_real r
    have := rQ_coe 0 ρ le_rfl (by norm_num)
    rw [e]
    rw [show nIdx 0 ρ = 0 by unfold nIdx; simp [hρ], show gridVal 0 = 0 by simp [gridVal], zero_div, EReal.coe_zero] at this
    simpa using this
  have b0 : Ideal.e4m3fn (kByte 0 r) = 0 := by
    obtain ⟨g, e1, e2⟩ := kByte_coe 0 (by norm_num) r
    have : rQ (max (0 : EReal) (-0)) (thr r) = (g : EReal) := by
      rw [← e2]; simp
    rw [q0] at this
    have hg : g = 0 := by exact_mod_cast this.symm
    rw [EReal.coe_zero] at e1
    rw [e1, hg]; simp
  induction M with
  | bot => simp at hM
  | top =>
    rw [EReal.top_mul_coe_of_pos c0_pos]
    unfold kElem rElem
    have hE : rE ⊤ = ⊤ := by
      unfold rE
      rw [if_neg (by simp), Ideal.log_top, Ideal.log_coe, if_neg (by norm_num), Ideal.div_coe log2_pos.ne',
        EReal.top_mul_coe_of_pos (by have := log2_pos; positivity), Ideal.liftRound_top]
      rfl
    have hY : rY ((c0 : EReal) * s) ⊤ = 0 := by
      unfold rY
      rw [hE, Ideal.log_coe, if_neg (by norm_num), EReal.neg_top, EReal.bot_mul_coe_of_pos log2_pos, Ideal.exp_bot, mul_zero, mul_zero]
    rw [kP_top, kSc_top, mul_zero, b0, zero_mul, hY, if_neg (lt_irrefl _), q0, zero_mul]
  | coe M =>
    have hs : ∃ x : ℝ, s = x ∧ |x| ≤ M := by
      induction s with
      | bot => simp at h
      | top => simp at h
      | coe x => exact ⟨x, rfl, by rw [abs_coe, EReal.coe_le_coe_iff] at h; exact h⟩
    obtain ⟨x, rfl, hx⟩ := hs
    have hM' : 0 ≤ M := by exact_mod_cast hM
    rcases hM'.eq_or_lt with e | e
    · have : x = 0 := by rw [← e] at hx; simpa using hx
      subst this
      subst e
      unfold kElem rElem
      have hY : ∀ a, rY ((c0 : EReal) * ((0 : ℝ) : EReal)) a = 0 := fun a => by
        unfold rY
        rw [EReal.coe_zero, mul_zero, zero_mul]
      rw [hY, EReal.coe_zero, zero_mul, zero_mul, b0, zero_mul, if_neg (lt_irrefl _), q0, zero_mul]
    · rw [← EReal.coe_mul, ← EReal.coe_mul]
      have hc := c0_pos
      obtain ⟨P, hP, h1, h2, ek, en, ep⟩ := scale_pos (M * c0) (by positivity)
      obtain ⟨z, hz, hzz⟩ := scaled_real (x : EReal) (M : EReal) h
      unfold kElem rElem
      have hY : rY ((c0 * x : ℝ) : EReal) ((M * c0 : ℝ) : EReal) = ((z / 2 : ℝ) : EReal) := by
        rw [← EReal.coe_mul, ek] at hzz
        unfold kSc at hzz
        rw [if_neg (by rw [← EReal.coe_zero, EReal.coe_eq_coe_iff]; exact hP.ne'), Ideal.div_coe hP.ne', one_mul, ← EReal.coe_mul,
          ← EReal.coe_mul, EReal.coe_eq_coe_iff] at hzz
        unfold rY
        rw [en, ← EReal.coe_mul, ← EReal.coe_mul, ← hzz]
        congr 1
        unfold c0
        ring
      rw [EReal.coe_mul M c0, hzz, ← EReal.coe_mul, ek, hY, ep]
      obtain ⟨g, e1, e2⟩ := kByte_coe z hz r
      have ha : max (((z / 2 : ℝ)) : EReal) (-((z / 2 : ℝ) : EReal)) = ((|z| / 2 : ℝ) : EReal) := by
        rw [abs_coe, abs_div, abs_of_pos (by norm_num : (0 : ℝ) < 2)]
      rw [e1, ha, e2]
      simp only [hz0]
      by_cases hneg : z < 0
      · rw [if_pos hneg, if_pos (by linarith), ← EReal.coe_mul, ← EReal.coe_neg, ← EReal.coe_mul, ← EReal.coe_mul]
        exact congrArg Real.toEReal (by ring)
      · rw [if_neg hneg, if_neg (by linarith), ← EReal.coe_mul, ← EReal.coe_mul, ← EReal.coe_mul]
        exact congrArg Real.toEReal (by ring)

end Cert.Scalar
end
-- ==== Proof.Group.lean ====
/-
  One group of thirty-two values: rotated by the signs of a Hadamard matrix, its largest magnitude, and its quantised
  elements, as the kernel and as the reference compute them. Pure arithmetic on the extended reals.
-/
module

public import proofs.«01_k».proof.Proof.Scalar
public import Idealize.ShloMosaic.PureOps
public import Idealize.ShloMosaic.Lib.Pointwise

@[expose] public section

set_option maxRecDepth 16384

noncomputable section

namespace Cert.Group

open Idealize.ShloMosaic Cert.Scalar

/-- Whether the Hadamard matrix's entry for two numbers is positive: their common bits are even in count. -/
def par (b k : BitVec 32) : BitVec 1 := IntOp.cmpi .eq (IntOp.andi (IntOp.ctpop (IntOp.andi b k)) 1#32) 0#32

/-- The sign of the Hadamard matrix's entry. -/
def sgn (b k : Fin 32) : EReal := if par (BitVec.ofNat 32 b.val) (BitVec.ofNat 32 k.val) = 1#1 then ((1 : ℝ) : EReal) else ((-1 : ℝ) : EReal)

/-- The entry itself: the sign times the rotation's scale. -/
def had (b k : Fin 32) : EReal := if par (BitVec.ofNat 32 b.val) (BitVec.ofNat 32 k.val) = 1#1 then (c0 : EReal) else -(c0 : EReal)

/-- A group rotated by the signs. -/
def rot (z : Fin 32 → EReal) (b : Fin 32) : EReal := ∑ k, z k * sgn b k

/-- A group's largest magnitude. -/
def gmax (f : Fin 32 → EReal) : EReal := Finset.fold max (⊥ : EReal) (fun k => max (f k) (-(f k))) Finset.univ

/-- The kernel's quantised element of a group. -/
def gq (z : Fin 32 → EReal) (r : BitVec 8) (b : Fin 32) : EReal := kElem (rot z b) (gmax (rot z) * (c0 : EReal)) r

/-- The reference's rotated group. -/
def rotR (z : Fin 32 → EReal) (b : Fin 32) : EReal := ∑ k, z k * had b k

/-- The reference's quantised element of a group. -/
def gr (z : Fin 32 → EReal) (r : BitVec 8) (b : Fin 32) : EReal := rElem (rotR z b) (gmax (rotR z)) r

/-- The sign matrix over 256 indices: thirty-two-wide blocks on the diagonal. -/
def blk (i j : Fin 256) : EReal :=
  if i.val / 32 = j.val / 32 then sgn ⟨i.val % 32, Nat.mod_lt _ (by decide)⟩ ⟨j.val % 32, Nat.mod_lt _ (by decide)⟩ else 0

/-- The entry is the scale times the sign. -/
theorem had_eq (b k : Fin 32) : had b k = (c0 : EReal) * sgn b k := by
  unfold had sgn
  split
  · rw [← EReal.coe_mul, mul_one]
  · rw [← EReal.coe_mul, ← EReal.coe_neg]
    exact congrArg Real.toEReal (by ring)

/-- The rotation's scale is nonnegative. -/
theorem c0_nonneg : (0 : EReal) ≤ (c0 : EReal) := by exact_mod_cast c0_pos.le

/-- A finite nonnegative factor passes through a sum. -/
theorem mul_sum (c : ℝ) (hc : 0 ≤ c) {ι : Type} (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- The reference's rotation is the scale times the rotation by signs. -/
theorem rotR_eq (z : Fin 32 → EReal) (b : Fin 32) : rotR z b = (c0 : EReal) * rot z b := by
  unfold rotR rot
  rw [mul_sum c0 c0_pos.le]
  refine Finset.sum_congr rfl fun k _ => ?_
  rw [had_eq, mul_left_comm]

/-- A scaled value's magnitude is the scaled magnitude. -/
theorem abs_scaled (s : EReal) : max ((c0 : EReal) * s) (-((c0 : EReal) * s)) = max s (-s) * (c0 : EReal) := by
  rw [← mul_neg, mul_comm _ (c0 : EReal)]
  exact ((monotone_mul_left_of_nonneg' s).map_max).symm
where
  monotone_mul_left_of_nonneg' (_ : EReal) : Monotone (fun x : EReal => (c0 : EReal) * x) := fun _ _ h => mul_le_mul_of_nonneg_left h c0_nonneg

/-- A scaled group's largest magnitude is the scaled largest magnitude. -/
theorem gmax_scaled (f : Fin 32 → EReal) : gmax (fun k => (c0 : EReal) * f k) = gmax f * (c0 : EReal) := by
  unfold gmax
  simp only [abs_scaled]
  have hm : Monotone (fun x : EReal => x * (c0 : EReal)) := fun _ _ h => mul_le_mul_of_nonneg_right h c0_nonneg
  have hb : (⊥ : EReal) * (c0 : EReal) = ⊥ := EReal.bot_mul_coe_of_pos c0_pos
  have := Finset.fold_hom (op := (max : EReal → EReal → EReal)) (op' := (max : EReal → EReal → EReal)) (m := fun x : EReal => x * (c0 : EReal))
    (b := (⊥ : EReal)) (s := (Finset.univ : Finset (Fin 32))) (f := fun k => max (f k) (-(f k))) (fun x y => hm.map_max)
  rw [hb] at this
  exact this

/-- No element's magnitude exceeds the group's largest. -/
theorem le_gmax (f : Fin 32 → EReal) (b : Fin 32) : max (f b) (-(f b)) ≤ gmax f := by
  unfold gmax
  rw [Finset.le_fold_max]
  exact Or.inr ⟨b, Finset.mem_univ _, le_rfl⟩

/-- The kernel's element of a group is the reference's. -/
theorem gq_eq (z : Fin 32 → EReal) (r : BitVec 8) (b : Fin 32) : gq z r b = gr z r b := by
  unfold gq gr
  have : rotR z = fun k => (c0 : EReal) * rot z k := funext fun k => rotR_eq z k
  rw [this, gmax_scaled]
  exact elem_eq _ _ (le_gmax _ b) r

/-- The largest magnitude does not depend on the order of the values. -/
theorem gmax_perm (f g : Fin 32 → EReal) (h : ∀ k, ∃ k', f k = g k') (h' : ∀ k, ∃ k', g k = f k') : gmax f = gmax g := by
  apply le_antisymm
  · unfold gmax
    rw [Finset.fold_max_le]
    refine ⟨bot_le, fun k _ => ?_⟩
    obtain ⟨k', e⟩ := h k
    rw [e]
    exact le_gmax g k'
  · unfold gmax
    rw [Finset.fold_max_le]
    refine ⟨bot_le, fun k _ => ?_⟩
    obtain ⟨k', e⟩ := h' k
    rw [e]
    exact le_gmax f k'

/-- A sum of 256 products with a row of the block matrix is a group's rotation. -/
theorem sum_blk (i : Fin 256) (z : Fin 256 → EReal) :
    ∑ j, z j * blk i j = rot (fun k => z ⟨32 * (i.val / 32) + k.val, by omega⟩) ⟨i.val % 32, Nat.mod_lt _ (by decide)⟩ := by
  rw [Fin.sum_univ_tiles 8 32 rfl]
  have hz : ∀ u : Fin 8, u ≠ ⟨i.val / 32, by omega⟩ → ∑ k : Fin 32, z ⟨u.val * 32 + k.val, by omega⟩ * blk i ⟨u.val * 32 + k.val, by omega⟩ = 0 := fun u hu => by
    refine Finset.sum_eq_zero fun k _ => ?_
    have : ¬ i.val / 32 = (u.val * 32 + k.val) / 32 := fun e => hu (Fin.ext (by show u.val = i.val / 32; omega))
    unfold blk
    rw [if_neg this, mul_zero]
  refine (Finset.sum_eq_single (⟨i.val / 32, by omega⟩ : Fin 8) (fun u _ hu => ?_) (fun h => absurd (Finset.mem_univ _) h)).trans ?_
  · exact hz u hu
  · unfold rot
    refine Finset.sum_congr rfl fun k _ => ?_
    have e : (⟨i.val / 32 * 32 + k.val, by omega⟩ : Fin 256) = ⟨32 * (i.val / 32) + k.val, by omega⟩ := Fin.ext (by show i.val / 32 * 32 + k.val = 32 * (i.val / 32) + k.val; omega)
    show z ⟨i.val / 32 * 32 + k.val, by omega⟩ * blk i ⟨i.val / 32 * 32 + k.val, by omega⟩ = _
    rw [e]
    congr 1
    unfold blk
    rw [if_pos (show i.val / 32 = (32 * (i.val / 32) + k.val) / 32 by omega)]
    congr 1
    exact Fin.ext (by show (32 * (i.val / 32) + k.val) % 32 = k.val; omega)

end Cert.Group
end
-- ==== Proof.Rot.lean ====
/-
  The rotations: what the kernel's three small products leave at an element, as a rotated group.
-/
module

public import proofs.«01_k».proof.Proof.StepOps
public import proofs.«01_k».proof.Proof.Group

@[expose] public section

set_option maxRecDepth 16384

noncomputable section

namespace Cert.KernelIdeal.Hand

open Cert.KernelIdeal Cert.KernelIdeal.Gen
open Idealize.ShloMosaic Idealize.ShloMosaic.TcCoe
open Cert.Group

/-- The rotation along the tokens, as a sum over 256 rows. -/
theorem pay213_at (H : FVec Ideal S256x256 .bf16) (s : FVec Ideal S1x256 .f32) (A : FVec Ideal S256x256 .bf16) (i l : Fin 256) :
    k0_pay213 (F := Ideal) H s A (ix2 i l) = (∑ j : Fin 256, ((H (ix2 i j) : EReal) * (s (ix2 0 j) : EReal)) * (A (ix2 j l) : EReal) : EReal) := by
  pointwise [k0_pay213, k0_pay212]

/-- The rotation along the lanes of dy. -/
theorem pay70_at (H : FVec Ideal S256x256 .bf16) (s : FVec Ideal S1x256 .f32) (A : FVec Ideal S1792x256 .bf16) (m : Fin 1792) (l : Fin 256) :
    k0_pay70 (F := Ideal) H s A (ix2 m l) = (∑ j : Fin 256, (A (ix2 m j) : EReal) * ((H (ix2 l j) : EReal) * (s (ix2 0 j) : EReal)) : EReal) := by
  pointwise [k0_pay70, k0_pay69]

/-- The rotation along the lanes of the weight. -/
theorem pay71_at (H : FVec Ideal S256x256 .bf16) (s : FVec Ideal S1x256 .f32) (A : FVec Ideal S2560x256 .bf16) (m : Fin 2560) (l : Fin 256) :
    k0_pay71 (F := Ideal) H s A (ix2 m l) = (∑ j : Fin 256, (A (ix2 m j) : EReal) * ((H (ix2 l j) : EReal) * (s (ix2 0 j) : EReal)) : EReal) := by
  pointwise [k0_pay71, k0_pay69]

/-- The weight gradient's product, at an index. -/
theorem pay204_at (X : FVec Ideal S2560x1792 .bf16) (B : FVec Ideal S1792x256 .bf16) (K : Fin 2560) (l : Fin 256) :
    k0_pay204 X B (ix2 K l) = Ideal.ofBits .f32 0x3FE38E39#32 * ∑ j : Fin 1792, X (ix2 K j) * B (ix2 j l) := by
  pointwise [k0_pay204]

/-- One addition to the accumulator, at an index. -/
theorem pay186_at (D : FVec Ideal S1792x256 .f32) (A : FVec Ideal S1792x256 .bf16) (B : FVec Ideal S256x256 .bf16) (m : Fin 1792) (K : Fin 256) :
    k0_pay186 D A B (ix2 m K) = D (ix2 m K) + ∑ j : Fin 256, A (ix2 m j) * B (ix2 K j) := by
  pointwise [k0_pay186]

end Cert.KernelIdeal.Hand
end
-- ==== Proof.Bytes.lean ====
/-
  Four bytes held in one word: the kernel shifts, adds and masks whole words, and each byte of the result depends on the
  same byte of the operands alone, because the codes are below eight.
-/
module

public import Idealize.ShloMosaic.Lib.BitcastFour

@[expose] public section

noncomputable section

namespace Cert.Bytes

open Idealize.ShloMosaic Idealize.ShloMosaic.ValueIdx

/-- Byte `q` of a word. -/
def byteOf (w : BitVec 32) (q : ℕ) : BitVec 8 := (w >>> (8 * q)).setWidth 8

/-- A word read as bytes: row `p` of a column is byte `p % 4` of the word at row `p / 4`. -/
theorem bitcast_32_8_ix2 {R r n : ℕ} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = byteOf (x (ix2 a l)) (p.val % 4) := by
  apply BitVec.eq_of_getLsbD_eq
  intro i hi
  rw [bitcast_getLsbD x h _ i hi (by decide)]
  unfold byteOf
  rw [BitVec.getLsbD_setWidth, BitVec.getLsbD_ushiftRight]
  have hr : (⟨2, ![R, n]⟩ : Shape).row (ix2 p l) = p.val := rfl
  have e1 : ((⟨2, ![R, n]⟩ : Shape).row (ix2 p l) * 8 + i) / 32 = p.val / 4 := by rw [hr]; omega
  have e2 : ((⟨2, ![R, n]⟩ : Shape).row (ix2 p l) * 8 + i) % 32 = 8 * (p.val % 4) + i := by rw [hr]; omega
  have hp : ∀ b : Fin (⟨2, ![r, n]⟩ : Shape).rank, b.val + 2 = (⟨2, ![r, n]⟩ : Shape).rank → p.val / 4 < (⟨2, ![r, n]⟩ : Shape).size b :=
    fun b hb => by
      have hb' : b = ⟨0, Nat.zero_lt_two⟩ := Fin.ext (by have : b.val + 2 = 2 := hb; show b.val = 0; omega)
      subst hb'
      show p.val / 4 < r
      have := a.isLt
      omega
  rw [h.srcIdx_congr _ e1 (hp' := hp), e2]
  simp only [hi, decide_true, Bool.true_and]
  congr 2
  funext c
  match c with
  | ⟨0, _⟩ => exact Fin.ext ((h.srcIdx_row _ _ _ ⟨0, Nat.zero_lt_two⟩ rfl).trans ha.symm)
  | ⟨1, _⟩ => exact Fin.ext (h.srcIdx_other _ _ _ ⟨1, Nat.one_lt_two⟩ (by show ¬ 1 + 2 = 2; omega))

/-- Bytes read as a word and read back: byte `q` of the word at row `a` is source row `4a + q`. -/
theorem byteOf_bitcast {R r n : ℕ} (x : (⟨2, ![R, n]⟩ : Shape).Idx → BitVec 8)
    (h : (⟨2, ![R, n]⟩ : Shape).Bitcasts 8 ⟨2, ![r, n]⟩ 32) (a : Fin r) (l : Fin n) (q : ℕ) (hq : q < 4) (p : Fin R)
    (hp : p.val = 4 * a.val + q) : byteOf (bitcast ⟨2, ![r, n]⟩ 32 x h (ix2 a l)) q = x (ix2 p l) := by
  apply BitVec.eq_of_getLsbD_eq
  intro i hi
  unfold byteOf
  rw [BitVec.getLsbD_setWidth, BitVec.getLsbD_ushiftRight,
    bitcast_8_32_getLsbD_ix2 x h a l (8 * q + i) (by omega) p (by omega)]
  simp only [hi, decide_true, Bool.true_and]
  congr 1
  omega

/-- One byte of the kernel's word: the code shifted, joined with the sign where the code is not zero. -/
theorem byte_word (W S : BitVec 32) (q : ℕ) (hq : q < 4) (hW : ∀ k < 4, (byteOf W k).toNat < 8) :
    byteOf ((W <<< (2 : ℕ)) ||| ((S &&& (W + 0x7F7F7F7F#32)) &&& 0x80808080#32)) q
      = (byteOf W q <<< 2) ||| ((byteOf S q &&& (byteOf W q + 0x7f#8)) &&& 0x80#8) := by
  have h0 := hW 0 (by omega)
  have h1 := hW 1 (by omega)
  have h2 := hW 2 (by omega)
  have h3 := hW 3 (by omega)
  unfold byteOf at *
  have hn : W.toNat < 2 ^ 32 := W.isLt
  simp only [BitVec.toNat_setWidth, BitVec.toNat_ushiftRight, Nat.shiftRight_eq_div_pow] at h0 h1 h2 h3
  obtain ⟨b0, b1, b2, b3, g0, g1, g2, g3, e⟩ : ∃ b0 b1 b2 b3 : ℕ, b0 < 8 ∧ b1 < 8 ∧ b2 < 8 ∧ b3 < 8 ∧
      W = BitVec.ofNat 32 (b0 + 256 * b1 + 65536 * b2 + 16777216 * b3) := by
    refine ⟨_, _, _, _, h0, h1, h2, h3, ?_⟩
    apply BitVec.eq_of_toNat_eq
    rw [BitVec.toNat_ofNat]
    norm_num
    omega
  have hadd : W + 0x7F7F7F7F#32 = BitVec.ofNat 32 ((b0 + 127) + 256 * (b1 + 127) + 65536 * (b2 + 127) + 16777216 * (b3 + 127)) := by
    apply BitVec.eq_of_toNat_eq
    rw [e, BitVec.toNat_add, BitVec.toNat_ofNat, BitVec.toNat_ofNat, BitVec.toNat_ofNat]
    omega
  have hsh : W <<< (2 : ℕ) = BitVec.ofNat 32 (4 * b0 + 256 * (4 * b1) + 65536 * (4 * b2) + 16777216 * (4 * b3)) := by
    apply BitVec.eq_of_toNat_eq
    rw [e, BitVec.toNat_shiftLeft, BitVec.toNat_ofNat, BitVec.toNat_ofNat, Nat.shiftLeft_eq]
    omega
  have key : ∀ (X : BitVec 32) (c : ℕ), (∃ c0 c1 c2 c3 : ℕ, c0 < 256 ∧ c1 < 256 ∧ c2 < 256 ∧ c3 < 256 ∧
      X = BitVec.ofNat 32 (c0 + 256 * c1 + 65536 * c2 + 16777216 * c3) ∧ c = (if q = 0 then c0 else if q = 1 then c1 else if q = 2 then c2 else c3)) →
      (X >>> (8 * q)).setWidth 8 = BitVec.ofNat 8 c := by
    rintro X c ⟨c0, c1, c2, c3, k0, k1, k2, k3, rfl, rfl⟩
    apply BitVec.eq_of_toNat_eq
    rw [BitVec.toNat_setWidth, BitVec.toNat_ushiftRight, BitVec.toNat_ofNat, BitVec.toNat_ofNat, Nat.shiftRight_eq_div_pow]
    interval_cases q <;> norm_num <;> omega
  have kW := key W _ ⟨b0, b1, b2, b3, by omega, by omega, by omega, by omega, e, rfl⟩
  have kA := key (W + 0x7F7F7F7F#32) _ ⟨_, _, _, _, by omega, by omega, by omega, by omega, hadd, rfl⟩
  have kS := key (W <<< (2 : ℕ)) _ ⟨_, _, _, _, by omega, by omega, by omega, by omega, hsh, rfl⟩
  have kM : ((0x80808080#32 : BitVec 32) >>> (8 * q)).setWidth 8 = 0x80#8 := by
    interval_cases q <;> rfl
  rw [BitVec.ushiftRight_or_distrib, BitVec.ushiftRight_and_distrib, BitVec.ushiftRight_and_distrib, BitVec.setWidth_or,
    BitVec.setWidth_and, BitVec.setWidth_and, kM, kA, kS, kW]
  have f1 : BitVec.ofNat 8 (if q = 0 then 4 * b0 else if q = 1 then 4 * b1 else if q = 2 then 4 * b2 else 4 * b3)
      = BitVec.ofNat 8 (if q = 0 then b0 else if q = 1 then b1 else if q = 2 then b2 else b3) <<< 2 := by
    apply BitVec.eq_of_toNat_eq
    rw [BitVec.toNat_shiftLeft, BitVec.toNat_ofNat, BitVec.toNat_ofNat, Nat.shiftLeft_eq]
    split_ifs <;> omega
  have f2 : BitVec.ofNat 8 (if q = 0 then b0 + 127 else if q = 1 then b1 + 127 else if q = 2 then b2 + 127 else b3 + 127)
      = BitVec.ofNat 8 (if q = 0 then b0 else if q = 1 then b1 else if q = 2 then b2 else b3) + 0x7f#8 := by
    apply BitVec.eq_of_toNat_eq
    rw [BitVec.toNat_add, BitVec.toNat_ofNat, BitVec.toNat_ofNat, BitVec.toNat_ofNat]
    split_ifs <;> omega
  rw [f1, f2]

/-- The kernel's word of four codes and signs, read back as bytes: each byte from its own code and sign. -/
theorem codes_ix2 {R r n : ℕ} (X S : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (hX : ∀ j, (X j).toNat < 8) (V : (⟨2, ![r, n]⟩ : Shape).Idx → BitVec 32)
    (hV : ∀ j, V j = ((bitcast ⟨2, ![r, n]⟩ 32 X h j <<< (2 : ℕ)) |||
      ((bitcast ⟨2, ![r, n]⟩ 32 S h j &&& (bitcast ⟨2, ![r, n]⟩ 32 X h j + 0x7F7F7F7F#32)) &&& 0x80808080#32)))
    (p : Fin R) (l : Fin n) :
    bitcast ⟨2, ![R, n]⟩ 8 V h' (ix2 p l)
      = (X (ix2 p l) <<< 2) ||| ((S (ix2 p l) &&& (X (ix2 p l) + 0x7f#8)) &&& 0x80#8) := by
  have hp := p.isLt
  rw [bitcast_32_8_ix2 V h' p l ⟨p.val / 4, by omega⟩ rfl, hV, byte_word _ _ _ (Nat.mod_lt _ (by decide)),
    byteOf_bitcast X h ⟨p.val / 4, by omega⟩ l (p.val % 4) (Nat.mod_lt _ (by decide)) p (by show _ = 4 * (p.val / 4) + _; omega),
    byteOf_bitcast S h ⟨p.val / 4, by omega⟩ l (p.val % 4) (Nat.mod_lt _ (by decide)) p (by show _ = 4 * (p.val / 4) + _; omega)]
  intro k hk
  rw [byteOf_bitcast X h ⟨p.val / 4, by omega⟩ l k hk ⟨4 * (p.val / 4) + k, by omega⟩ rfl]
  exact hX _

end Cert.Bytes
end
-- ==== Proof.Tok.lean ====
/-
  The loop over the tokens' groups: what it stores at a row and a lane is the scalar quantiser applied to the rotated value
  there and to the largest magnitude of the thirty-two rows of its group.
-/
module

public import proofs.«01_k».proof.Proof.Quant
public import proofs.«01_k».proof.Proof.Scalar
public import proofs.«01_k».proof.Proof.Bytes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Scalar

/-! The float constants the kernel spells, as real numbers. -/

/-- The constant 2. -/
theorem b2 : Ideal.ofBits .f32 1073741824#32 = ((2 : ℝ) : EReal) := by
  simp [Ideal.ofBits, Ideal.ieee, -EReal.coe_mul]; norm_num
/-- The constant 4. -/
theorem b4 : Ideal.ofBits .f32 1082130432#32 = ((4 : ℝ) : EReal) := by
  simp [Ideal.ofBits, Ideal.ieee, -EReal.coe_mul]; norm_num
/-- The constant 8. -/
theorem b8 : Ideal.ofBits .f32 1090519040#32 = ((8 : ℝ) : EReal) := by
  simp [Ideal.ofBits, Ideal.ieee, -EReal.coe_mul]; norm_num
/-- The constant 16. -/
theorem b16 : Ideal.ofBits .f32 1098907648#32 = ((16 : ℝ) : EReal) := by
  simp [Ideal.ofBits, Ideal.ieee, -EReal.coe_mul]; norm_num
/-- The constant 1/2. -/
theorem bhalf : Ideal.ofBits .f32 1056964608#32 = ((1 / 2 : ℝ) : EReal) := by
  simp [Ideal.ofBits, Ideal.ieee, -EReal.coe_mul]; norm_num
/-- The constant 1/4. -/
theorem bquarter : Ideal.ofBits .f32 1048576000#32 = ((1 / 4 : ℝ) : EReal) := by
  simp [Ideal.ofBits, Ideal.ieee, -EReal.coe_mul]; norm_num
/-- The constant 1/8. -/
theorem beighth : Ideal.ofBits .f32 1040187392#32 = ((1 / 8 : ℝ) : EReal) := by
  simp [Ideal.ofBits, Ideal.ieee, -EReal.coe_mul]; norm_num
/-- The constant -2. -/
theorem bm2 : Ideal.ofBits .f32 3221225472#32 = ((-2 : ℝ) : EReal) := by
  simp [Ideal.ofBits, Ideal.ieee, -EReal.coe_mul, -EReal.coe_neg]; norm_num
/-- The constant 1/256. -/
theorem b256th : Ideal.ofBits .f32 998244352#32 = ((1 / 256 : ℝ) : EReal) := by
  simp [Ideal.ofBits, Ideal.ieee, -EReal.coe_mul]; norm_num
/-- The constant 2 to the 127th. -/
theorem b2p127 : Ideal.ofBits .f32 2130706432#32 = (((2 : ℝ) ^ (127 : ℕ) : ℝ) : EReal) := by
  simp [Ideal.ofBits, Ideal.ieee, -EReal.coe_mul, -EReal.coe_pow]; norm_num
/-- The constant the rotation's scale. -/
theorem bc0 : Ideal.ofBits .f32 1043662067#32 = (c0 : EReal) := by
  unfold c0; simp [Ideal.ofBits, Ideal.ieee, -EReal.coe_mul]; norm_num
/-- The reciprocal of the logarithm of two, named. -/
theorem nInv : (Named.named κ "inv_ln2" 1069066811#32 : Ideal .f32) = (((Real.log 2)⁻¹ : ℝ) : EReal) := rfl
/-- Six times the rotation's scale, named. -/
theorem nQs : (Named.named κ "quant_scale" 1065862070#32 : Ideal .f32) = (((35589849 : ℝ) / 33554432 : ℝ) : EReal) := rfl

/-- The largest magnitude of thirty-two rows at lane `l`. -/
def colMax (x : FVec Ideal S32x256 .f32) (l : Fin 256) : EReal :=
  Finset.fold max (⊥ : EReal) (fun k : Fin 32 => max (x (ix2 k l)) (-(x (ix2 k l)))) Finset.univ

/-- The least float is the least extended real. -/
theorem bbot : Ideal.ofBits .f32 4286578688#32 = (⊥ : EReal) := by
  simp [Ideal.ofBits, Ideal.ieee]

/-- The power of two of the second group's columns. -/
theorem pay108_at (x : Vec Ideal S64x256 .f32) (l : Fin 256) :
    k0_pay108 (k0_pay107 x) (ix2 0 l) = kP (colMax (k0_pay106 x) l * (c0 : EReal)) := by
  pointwise [k0_pay108, k0_pay107]
  simp only [bc0, nInv, bbot]
  rfl

/-- The power of two of the first group's columns. -/
theorem pay92_at (x : Vec Ideal S64x256 .f32) (l : Fin 256) :
    k0_pay92 x (ix2 0 l) = kP (colMax (k0_pay91 x) l * (c0 : EReal)) := by
  pointwise [k0_pay92]
  simp only [bc0, nInv, bbot]
  rfl

/-- The exponents of the first group's columns. -/
theorem pay94_at (x : Vec Ideal S64x256 .f32) (l : Fin 256) :
    k0_pay94 x (ix2 0 l) = Ideal.fptosi 32 (kE (k0_pay92 x (ix2 0 l))) := by
  pointwise [k0_pay94]
  simp only [b2, bhalf, nInv]
  rfl

/-- The exponents of the second group's columns. -/
theorem pay109_at (p : FVec Ideal S1x256 .f32) (l : Fin 256) :
    k0_pay109 p (ix2 0 l) = Ideal.fptosi 32 (kE (k0_pay108 p (ix2 0 l))) := by
  pointwise [k0_pay109]
  simp only [b2, bhalf, nInv]
  rfl

/-- A scaled value of the second group. -/
theorem pay111_at (x : FVec Ideal S32x256 .f32) (p : FVec Ideal S1x256 .f32) (b : Fin 32) (l : Fin 256) :
    k0_pay111 x p (ix2 b l) = x (ix2 b l) * kSc (k0_pay108 p (ix2 0 l)) := by
  pointwise [k0_pay111]
  simp only [b2p127, nQs]
  rfl

/-- The scale of the first group's columns. -/
theorem pay93_at (x : Vec Ideal S64x256 .f32) (l : Fin 256) :
    k0_pay93 x (ix2 0 l) = kSc (k0_pay92 x (ix2 0 l)) := by
  pointwise [k0_pay93]
  simp only [b2p127, nQs]
  rfl

/-- The second group's codes. -/
theorem pay117_eq (x1 : FVec Ideal S32x256 .f32) (p1 : FVec Ideal S1x256 .f32) (bytes : IVec S64x256 8) :
    k0_pay117 (F := Ideal) (k0_pay112 bytes) (k0_pay113 x1 p1) (k0_pay114 x1 p1) (k0_pay115 x1 p1) (k0_pay116 x1 p1)
      (Ideal.ofBits .f32 0x3E800000#32)
    = bitcast S8x256 32 (fun j => kIdx (k0_pay111 x1 p1 j) (bytes (ix2 ⟨32 + (j 0).val, by have : (j 0).val < 32 := (j 0).isLt; omega⟩ (j 1))))
        bitcasts_S32x256_w8_S8x256_w32 := by
  unfold k0_pay117
  simp only []
  congr 1
  funext j
  idx_vars j
  pointwise [k0_pay112, k0_pay114, k0_pay115, k0_pay116, k0_pay113]
  simp only [b2, b4, b8, b16, bhalf, bquarter, beighth, bm2, b256th]
  rfl

/-- No element's magnitude exceeds its column's largest. -/
theorem le_colMax (x : FVec Ideal S32x256 .f32) (b : Fin 32) (l : Fin 256) :
    max (x (ix2 b l)) (-(x (ix2 b l))) ≤ colMax x l := by
  unfold colMax
  rw [Finset.le_fold_max]
  exact Or.inr ⟨b, Finset.mem_univ _, le_rfl⟩

/-- Each scaled value of a group of rows has a code below eight. -/
theorem idx_lt_col (x : FVec Ideal S32x256 .f32) (b : Fin 32) (l : Fin 256) (r : BitVec 8) :
    (kIdx (x (ix2 b l) * kSc (kP (colMax x l * (c0 : EReal)))) r).toNat < 8 := by
  obtain ⟨z, hz, e⟩ := scaled_real _ _ (le_colMax x b l)
  rw [e]
  exact kIdx_lt z hz r

/-- The first group's codes. -/
theorem pay102_eq (x0 : FVec Ideal S32x256 .f32) (sc : FVec Ideal S1x256 .f32) (bytes : IVec S64x256 8) :
    k0_pay102 (F := Ideal) (k0_pay98 x0 sc) (k0_pay99 x0 sc) (k0_pay100 x0 sc) (k0_pay101 (F := Ideal) bytes)
    = bitcast S8x256 32 (fun j => kIdx (k0_pay96 x0 sc j) (bytes (ix2 ⟨(j 0).val, by have : (j 0).val < 32 := (j 0).isLt; omega⟩ (j 1))))
        bitcasts_S32x256_w8_S8x256_w32 := by
  unfold k0_pay102
  simp only []
  congr 1
  funext j
  idx_vars j
  pointwise [k0_pay98, k0_pay99, k0_pay100, k0_pay101, k0_pay97]
  simp only [b2, b4, b8, b16, bhalf, bquarter, beighth, bm2, b256th]
  rfl

/-- The sign bytes of a block of scaled values. -/
theorem pay118_eq (y : FVec Ideal S32x256 .f32) : k0_pay118 y = fun j => kSg (y j) := by
  funext j
  idx_vars j
  pointwise [k0_pay118]
  unfold kSg
  split <;> rfl

/-- The first group's decoded values. -/
theorem pay103_eq (y a b c d : FVec Ideal S32x256 .f32) :
    k0_pay103 y a b c d = k0_pay119 (k0_pay102 a b c d) (k0_pay118 y) := rfl

/-- A quantised value of the second group of a block. -/
theorem tokOp_hi (x : Vec Ideal S64x256 .f32) (r : Vec Ideal S64x256 .i8) (b : Fin 32) (l : Fin 256) :
    tokOp (F := Ideal) x r (ix2 ⟨32 + b.val, by omega⟩ l)
      = kElem (x (ix2 ⟨32 + b.val, by omega⟩ l)) (colMax (k0_pay106 x) l * (c0 : EReal)) (r (ix2 ⟨32 + b.val, by omega⟩ l)) := by
  have hr : k0_pay90 (F := Ideal) r = r := shapeCast_self r _
  have hx : ∀ b : Fin 32, k0_pay106 x (ix2 b l) = x (ix2 ⟨32 + b.val, by omega⟩ l) := fun b => by pointwise [k0_pay106]
  pointwise [tokOp, k0_pay197, k0_pay121, k0_pay110]
  rw [hr, pay117_eq, pay118_eq, pay108_at, b16]
  unfold kElem
  congr 1
  show Ideal.e4m3fn _ = _
  congr 1
  refine (Cert.Bytes.codes_ix2 _ (fun j => kSg (k0_pay111 (k0_pay106 x) (k0_pay107 x) j)) bitcasts_S32x256_w8_S8x256_w32
    bitcasts_S8x256_w32_S32x256_w8 rfl ?_ _ (fun j => rfl) b l).trans ?_
  rotate_left
  · show _ = kByte _ _
    unfold kByte
    rw [← hx b, ← pay108_at, ← pay111_at]
    rfl
  · intro j
    idx_vars j
    rw [pay111_at, pay108_at]
    exact idx_lt_col _ _ _ _

/-- A quantised value of the first group of a block. -/
theorem tokOp_lo (x : Vec Ideal S64x256 .f32) (r : Vec Ideal S64x256 .i8) (b : Fin 32) (l : Fin 256) :
    tokOp (F := Ideal) x r (ix2 ⟨b.val, by omega⟩ l)
      = kElem (x (ix2 ⟨b.val, by omega⟩ l)) (colMax (k0_pay91 x) l * (c0 : EReal)) (r (ix2 ⟨b.val, by omega⟩ l)) := by
  have hr : k0_pay90 (F := Ideal) r = r := shapeCast_self r _
  have hx : ∀ b : Fin 32, k0_pay91 x (ix2 b l) = x (ix2 ⟨b.val, by omega⟩ l) := fun b => by pointwise [k0_pay91]
  have hy : ∀ (b : Fin 32) (l : Fin 256), k0_pay96 (k0_pay91 x) (k0_pay93 x) (ix2 b l)
      = k0_pay91 x (ix2 b l) * kSc (kP (colMax (k0_pay91 x) l * (c0 : EReal))) := fun b l => by
    pointwise [k0_pay96]
    rw [pay93_at, pay92_at]
  pointwise [tokOp, k0_pay197, k0_pay121, k0_pay104, k0_pay95]
  rw [hr, pay103_eq, pay118_eq, pay102_eq, pay92_at, b16]
  unfold kElem
  congr 1
  show Ideal.e4m3fn _ = _
  congr 1
  refine (Cert.Bytes.codes_ix2 _ (fun j => kSg (k0_pay96 (k0_pay91 x) (k0_pay93 x) j)) bitcasts_S32x256_w8_S8x256_w32
    bitcasts_S8x256_w32_S32x256_w8 rfl ?_ _ (fun j => rfl) b l).trans ?_
  rotate_left
  · show _ = kByte _ _
    unfold kByte
    rw [← hx b, ← hy]
    rfl
  · intro j
    idx_vars j
    rw [hy]
    exact idx_lt_col _ _ _ _

/-- The scale exponents of the first group of a block. -/
theorem expOp_lo (x : Vec Ideal S64x256 .f32) (l : Fin 256) :
    expOp (F := Ideal) x 0 (ix2 0 l) = Ideal.fptosi 32 (kE (kP (colMax (k0_pay91 x) l * (c0 : EReal)))) := by
  have h : expOp (F := Ideal) x 0 = k0_pay94 x := (if_pos rfl).trans (shapeCast_self (k0_pay94 x) _)
  rw [h, pay94_at, pay92_at]

/-- The scale exponents of the second group of a block. -/
theorem expOp_hi (x : Vec Ideal S64x256 .f32) (l : Fin 256) :
    expOp (F := Ideal) x 1 (ix2 0 l) = Ideal.fptosi 32 (kE (kP (colMax (k0_pay106 x) l * (c0 : EReal)))) := by
  have h : expOp (F := Ideal) x 1 = k0_pay109 (k0_pay107 x) := (if_neg Nat.one_ne_zero).trans (shapeCast_self (k0_pay109 (k0_pay107 x)) _)
  rw [h, pay109_at, pay108_at]

end Cert.KernelIdeal.Hand
end
-- ==== Proof.Lane.lean ====
/-
  The loops over the lanes' groups: what they store at a row and a lane is the scalar quantiser applied to the rotated value
  there, to the largest magnitude of the thirty-two lanes of its group (those equal to it modulo eight), and to the random
  byte at the position the lane stands for.
-/
module

public import proofs.«01_k».proof.Proof.Tok

@[expose] public section

set_option maxRecDepth 16384

noncomputable section

namespace Cert.KernelIdeal.Hand

open Cert.KernelIdeal Cert.KernelIdeal.Gen
open Idealize.ShloMosaic Idealize.ShloMosaic.TcCoe
open Cert.Scalar

/-- The position along the row that lane `l` stands for. -/
def order (l : Fin 256) : Fin 256 := ⟨(l.val % 8) * 32 + 2 * ((l.val % 128) / 8) + l.val / 128, by omega⟩

/-! ### The largest of a group, by rotations -/

/-- One step: the larger of an element and the one `k` lanes before it. -/
def st (k : ℕ) (f : Fin 128 → EReal) (l : Fin 128) : EReal :=
  max (f l) (f ⟨(l.val + 128 - k % 128) % 128, Nat.mod_lt _ (by decide)⟩)

/-- One more rotation keeps the bound by the class's largest. -/
theorem st_le {k : ℕ} {f : Fin 128 → EReal} {c : EReal} {g : ℕ} (hk : k % 128 % 8 = 0)
    (h : ∀ l : Fin 128, l.val % 8 = g → f l ≤ c) (l : Fin 128) (hl : l.val % 8 = g) : st k f l ≤ c := by
  unfold st
  exact max_le (h l hl) (h _ (by show ((l.val + 128 - k % 128) % 128) % 8 = g; omega))

/-- After the rotations every lane of the class bounds each member. -/
theorem le_st {k : ℕ} (f : Fin 128 → EReal) (b : ℕ) (hb : b < 2) (hk : k < 128) (l l' : Fin 128)
    (h : l.val = (l'.val + k * b) % 128) : f l' ≤ st k f l := by
  unfold st
  interval_cases b
  · have : l = l' := Fin.ext (by omega)
    subst this
    exact le_max_left _ _
  · refine le_max_of_le_right (le_of_eq (congrArg f (Fin.ext ?_)))
    show l'.val = (l.val + 128 - k % 128) % 128
    omega

/-- The four steps together reach every lane of the group. -/
theorem steps_eq (f : Fin 128 → EReal) (c : EReal) (l : Fin 128) (hle : ∀ l' : Fin 128, l'.val % 8 = l.val % 8 → f l' ≤ c)
    (hex : ∃ l' : Fin 128, l'.val % 8 = l.val % 8 ∧ f l' = c) : st 64 (st 32 (st 16 (st 8 f))) l = c := by
  apply le_antisymm
  · exact st_le (g := l.val % 8) (by decide) (st_le (by decide) (st_le (by decide) (st_le (by decide) hle))) l rfl
  · obtain ⟨l', h, rfl⟩ := hex
    obtain ⟨m, hm, e⟩ : ∃ m, m < 16 ∧ l.val = (l'.val + 8 * m) % 128 := ⟨((l.val + 128 - l'.val) % 128) / 8, by omega, by omega⟩
    let l1 : Fin 128 := ⟨(l'.val + 8 * (m % 2)) % 128, Nat.mod_lt _ (by decide)⟩
    let l2 : Fin 128 := ⟨(l1.val + 16 * (m / 2 % 2)) % 128, Nat.mod_lt _ (by decide)⟩
    let l3 : Fin 128 := ⟨(l2.val + 32 * (m / 4 % 2)) % 128, Nat.mod_lt _ (by decide)⟩
    refine (le_st f (m % 2) (by omega) (by decide) l1 l' rfl).trans ?_
    refine (le_st (st 8 f) (m / 2 % 2) (by omega) (by decide) l2 l1 rfl).trans ?_
    refine (le_st (st 16 (st 8 f)) (m / 4 % 2) (by omega) (by decide) l3 l2 rfl).trans ?_
    refine le_st (st 32 (st 16 (st 8 f))) (m / 8) (by omega) (by decide) l l3 ?_
    show l.val = ((((l'.val + 8 * (m % 2)) % 128 + 16 * (m / 2 % 2)) % 128 + 32 * (m / 4 % 2)) % 128 + 64 * (m / 8)) % 128
    omega

/-- One rotation step on a block of bfloat16 rows, through its pairs of rows. -/
def rstep (n : BitVec 32) (p : FVec Ideal S32x128 .bf16) : FVec Ideal S32x128 .bf16 :=
  maximumf p (interleaveRows S32x128
    (dynamicRotate 1 n none (rowsOfParity 0 S16x128 p bitcasts_S32x128_w16_S16x128_w32) rotates_S16x128_d1)
    (dynamicRotate 1 n none (rowsOfParity 1 S16x128 p bitcasts_S32x128_w16_S16x128_w32) rotates_S16x128_d1)
    bitcasts_S32x128_w16_S16x128_w32)

/-- One rotation of the pairs and one maximum, at a lane. -/
theorem rstep_at (n : BitVec 32) (p : FVec Ideal S32x128 .bf16) (b : Fin 32) (l : Fin 128) :
    rstep n p (ix2 b l) = st n.toNat (fun l => p (ix2 b l)) l := by
  pointwise [rstep]
  unfold st
  congr 1
  split
  · rename_i h
    have h' : b.val % 2 = 0 := h
    congr 2
    refine Fin.ext ?_
    show 2 * (b.val / 2) + 0 = b.val
    omega
  · rename_i h
    have h' : ¬ b.val % 2 = 0 := h
    congr 2
    refine Fin.ext ?_
    show 2 * (b.val / 2) + 1 = b.val
    omega

/-- The scale of each pair of halves, before the rotations. -/
def pbase (x : Vec Ideal S32x256 .f32) : FVec Ideal S32x128 .bf16 :=
  truncf .bf16 (exp2 (floor (mulf (log (mulf (maximumf (absf (k0_pay7 x)) (absf (k0_pay8 x))) (broadcast S32x128 (Scalar.ofBits .f32 0x3E3504F3#32 : Ideal .f32))))
    (broadcast S32x128 (Named.named κ "inv_ln2" 0x3FB8AA3B#32 : Ideal .f32))))) bitsLt_bf16_f32

/-- The four rotations, one after another. -/
theorem pay9_eq (x : Vec Ideal S32x256 .f32) : k0_pay9 x = rstep 64#32 (rstep 32#32 (rstep 16#32 (rstep 8#32 (pbase x)))) := rfl

/-- The largest magnitude of the lanes equal to `g` modulo eight, along row `b`. -/
def laneMax (x : FVec Ideal S32x256 .f32) (b : Fin 32) (g : Fin 8) : EReal :=
  Finset.fold max (⊥ : EReal) (fun k : Fin 32 => max (x (ix2 b ⟨8 * k.val + g.val, by omega⟩)) (-(x (ix2 b ⟨8 * k.val + g.val, by omega⟩)))) Finset.univ

/-- No element's magnitude exceeds its class's largest. -/
theorem le_laneMax (x : FVec Ideal S32x256 .f32) (b : Fin 32) (l : Fin 256) :
    max (x (ix2 b l)) (-(x (ix2 b l))) ≤ laneMax x b ⟨l.val % 8, Nat.mod_lt _ (by decide)⟩ := by
  unfold laneMax
  rw [Finset.le_fold_max]
  refine Or.inr ⟨⟨l.val / 8, by omega⟩, Finset.mem_univ _, le_of_eq ?_⟩
  have : (⟨8 * (l.val / 8) + l.val % 8, by omega⟩ : Fin 256) = l := Fin.ext (by show 8 * (l.val / 8) + l.val % 8 = l.val; omega)
  simp only [this]

/-- The class's largest magnitude is some element's. -/
theorem laneMax_attained (x : FVec Ideal S32x256 .f32) (b : Fin 32) (g : Fin 8) :
    ∃ l : Fin 256, l.val % 8 = g.val ∧ max (x (ix2 b l)) (-(x (ix2 b l))) = laneMax x b g := by
  obtain ⟨k, -, hk⟩ : ∃ k ∈ (Finset.univ : Finset (Fin 32)), laneMax x b g =
      max (x (ix2 b ⟨8 * k.val + g.val, by omega⟩)) (-(x (ix2 b ⟨8 * k.val + g.val, by omega⟩))) := by
    obtain ⟨k, hk, h⟩ := Finset.exists_mem_eq_sup (Finset.univ : Finset (Fin 32)) ⟨0, Finset.mem_univ _⟩
      (fun k : Fin 32 => max (x (ix2 b ⟨8 * k.val + g.val, by omega⟩)) (-(x (ix2 b ⟨8 * k.val + g.val, by omega⟩))))
    exact ⟨k, hk, h⟩
  exact ⟨_, by show (8 * k.val + g.val) % 8 = g.val; omega, hk.symm⟩

/-- The scale grows with the magnitude. -/
theorem kP_mono : Monotone kP := by
  have hlog : Monotone Ideal.log := by
    intro a b h
    induction a with
    | bot => rw [Ideal.log_bot]; exact bot_le
    | top => rw [top_le_iff.mp h]
    | coe a =>
      induction b with
      | bot => simp at h
      | top => rw [Ideal.log_top]; exact le_top
      | coe b =>
        rw [Ideal.log_coe, Ideal.log_coe]
        have h' : a ≤ b := by exact_mod_cast h
        split
        · exact bot_le
        · rename_i ha
          rw [if_neg (by linarith)]
          exact_mod_cast Real.log_le_log (by linarith) h'
  have hfl : Monotone (Ideal.liftRound Int.floor) := by
    intro a b h
    induction a with
    | bot => rw [Ideal.liftRound_bot]; exact bot_le
    | top => rw [top_le_iff.mp h]
    | coe a =>
      induction b with
      | bot => simp at h
      | top => rw [Ideal.liftRound_top]; exact le_top
      | coe b =>
        rw [Ideal.liftRound_coe, Ideal.liftRound_coe]
        have h' : a ≤ b := by exact_mod_cast h
        exact_mod_cast Int.floor_mono h'
  have hexp : Monotone Ideal.exp2 := by
    intro a b h
    induction a with
    | bot =>
      rw [Ideal.exp2_bot]
      induction b with
      | bot => exact le_rfl
      | top => rw [Ideal.exp2_top]; exact le_top
      | coe b =>
        rw [Ideal.exp2_coe]
        exact_mod_cast (Real.rpow_nonneg (by norm_num) b : (0 : ℝ) ≤ (2 : ℝ) ^ b)
    | top => rw [top_le_iff.mp h]
    | coe a =>
      induction b with
      | bot => simp at h
      | top => rw [Ideal.exp2_top]; exact le_top
      | coe b =>
        rw [Ideal.exp2_coe, Ideal.exp2_coe]
        have h' : a ≤ b := by exact_mod_cast h
        exact_mod_cast (Real.rpow_le_rpow_of_exponent_le (by norm_num) h' : (2 : ℝ) ^ a ≤ (2 : ℝ) ^ b)
  intro a b h
  unfold kP
  refine hexp (hfl ?_)
  exact mul_le_mul_of_nonneg_right (hlog h) (by exact_mod_cast (inv_pos.mpr log2_pos).le)

/-- The powers of two before the rotations, at a lane. -/
theorem pbase_at (x : Vec Ideal S32x256 .f32) (b : Fin 32) (l : Fin 128) :
    pbase x (ix2 b l) = kP (max (max (x (ix2 b ⟨l.val, by omega⟩)) (-(x (ix2 b ⟨l.val, by omega⟩))))
      (max (x (ix2 b ⟨128 + l.val, by omega⟩)) (-(x (ix2 b ⟨128 + l.val, by omega⟩)))) * (c0 : EReal)) := by
  pointwise [pbase, k0_pay7, k0_pay8]
  simp only [bc0, nInv]
  rfl

/-- The group's scale at a lane of either half. -/
theorem pay9_at (x : Vec Ideal S32x256 .f32) (b : Fin 32) (l : Fin 128) :
    k0_pay9 x (ix2 b l) = kP (laneMax x b ⟨l.val % 8, Nat.mod_lt _ (by decide)⟩ * (c0 : EReal)) := by
  have hc : (0 : EReal) ≤ (c0 : EReal) := by exact_mod_cast c0_pos.le
  rw [pay9_eq, rstep_at]
  have e : (fun l => rstep 32#32 (rstep 16#32 (rstep 8#32 (pbase x))) (ix2 b l))
      = st 32 (st 16 (st 8 (fun l => pbase x (ix2 b l)))) := by
    funext l
    rw [rstep_at]
    congr 1
    funext l
    rw [rstep_at]
    congr 1
    funext l
    rw [rstep_at]
    rfl
  rw [e]
  refine steps_eq _ _ l ?_ ?_
  · intro l' hl'
    rw [pbase_at]
    refine kP_mono (mul_le_mul_of_nonneg_right ?_ hc)
    refine max_le ?_ ?_
    · refine (le_laneMax x b ⟨l'.val, by omega⟩).trans (le_of_eq ?_)
      simp only [hl']
    · refine (le_laneMax x b ⟨128 + l'.val, by omega⟩).trans (le_of_eq ?_)
      have : (128 + l'.val) % 8 = l.val % 8 := by omega
      simp only [this]
  · obtain ⟨L, hL, e⟩ := laneMax_attained x b ⟨l.val % 8, Nat.mod_lt _ (by decide)⟩
    have hL' : L.val % 8 = l.val % 8 := hL
    refine ⟨⟨L.val % 128, Nat.mod_lt _ (by decide)⟩, by show L.val % 128 % 8 = _; omega, ?_⟩
    apply le_antisymm
    · rw [pbase_at]
      refine kP_mono (mul_le_mul_of_nonneg_right ?_ hc)
      refine max_le ?_ ?_
      · refine (le_laneMax x b ⟨L.val % 128, by omega⟩).trans (le_of_eq ?_)
        have : L.val % 128 % 8 = l.val % 8 := by omega
        simp only [this]
      · refine (le_laneMax x b ⟨128 + L.val % 128, by omega⟩).trans (le_of_eq ?_)
        have : (128 + L.val % 128) % 8 = l.val % 8 := by omega
        simp only [this]
    · rw [pbase_at, ← e]
      refine kP_mono (mul_le_mul_of_nonneg_right ?_ hc)
      by_cases h : L.val < 128
      · refine le_max_of_le_left (le_of_eq ?_)
        have : (⟨L.val % 128, by omega⟩ : Fin 256) = L := Fin.ext (by show L.val % 128 = L.val; omega)
        simp only [this]
      · refine le_max_of_le_right (le_of_eq ?_)
        have : (⟨128 + L.val % 128, by omega⟩ : Fin 256) = L := Fin.ext (by show 128 + L.val % 128 = L.val; omega)
        simp only [this]

end Cert.KernelIdeal.Hand
end
-- ==== Proof.Host.lean ====
/-
  What the host computes before the kernel starts: the two sign matrices, and its arguments reshaped.
-/
module

public import proofs.«01_k».proof.Proof.ValFrame
public import proofs.«01_k».proof.Proof.Rot
public import proofs.«01_k».proof.Proof.Lane
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Cert.Group

variable (m : (ℓ : Loc nD τ sig) → Buf (Elt Ideal) ℓ)

/-- The sign matrix the host computes for rows numbered by `v`. -/
def htab (v : IVec S256 32) : FVec Ideal S256x256 .bf16 :=
  truncf .bf16 (select
    (cmpi .eq
      (broadcastInDim S256x256 ![0, 1] bcast_S256x1_S256x256_0_1
        (Host.shrsi (broadcastInDim S256x1 ![0] bcast_S256_S256x1_0 v) (broadcastInDim S256x1 ![] bcast_S_S256x1 (constantI S_ 32 5#32))))
      (broadcastInDim S256x256 ![0, 1] bcast_S1x256_S256x256_0_1
        (Host.shrsi (broadcastInDim S1x256 ![1] bcast_S256_S1x256_1 (iotaInDim S256 32 0)) (broadcastInDim S1x256 ![] bcast_S_S1x256 (constantI S_ 32 5#32)))))
    (select
      (cmpi .eq
        (andi
          (ctpop
            (andi
              (broadcastInDim S256x256 ![0, 1] bcast_S256x1_S256x256_0_1
                (andi (broadcastInDim S256x1 ![0] bcast_S256_S256x1_0 v) (broadcastInDim S256x1 ![] bcast_S_S256x1 (constantI S_ 32 31#32))))
              (broadcastInDim S256x256 ![0, 1] bcast_S1x256_S256x256_0_1
                (andi (broadcastInDim S1x256 ![1] bcast_S256_S1x256_1 (iotaInDim S256 32 0)) (broadcastInDim S1x256 ![] bcast_S_S1x256 (constantI S_ 32 31#32))))))
          (broadcastInDim S256x256 ![] bcast_S_S256x256 (constantI S_ 32 1#32)))
        (broadcastInDim S256x256 ![] bcast_S_S256x256 (constantI S_ 32 0#32)))
      (broadcastInDim S256x256 ![] bcast_S_S256x256 (constant (F := Ideal) S_ .f32 0x3F800000#32))
      (broadcastInDim S256x256 ![] bcast_S_S256x256 (constant (F := Ideal) S_ .f32 0xBF800000#32)))
    (broadcastInDim S256x256 ![] bcast_S_S256x256 (constant (F := Ideal) S_ .f32 0#32))) bitsLt_bf16_f32

/-- The order of the lanes, as the host computes it. -/
def orderV : IVec S256 32 :=
  addi (addi (muli (andi (iotaInDim S256 32 0) (broadcastInDim S256 ![] bcast_S_S256 (constantI S_ 32 7#32)))
        (broadcastInDim S256 ![] bcast_S_S256 (constantI S_ 32 32#32)))
      (muli (broadcastInDim S256 ![] bcast_S_S256 (constantI S_ 32 2#32))
        (Host.shrsi (andi (iotaInDim S256 32 0) (broadcastInDim S256 ![] bcast_S_S256 (constantI S_ 32 127#32)))
          (broadcastInDim S256 ![] bcast_S_S256 (constantI S_ 32 3#32)))))
    (Host.shrsi (iotaInDim S256 32 0) (broadcastInDim S256 ![] bcast_S_S256 (constantI S_ 32 7#32)))

/-- The token table that the host line computes. -/
theorem V27 (c : Dev nD) : V m c main_v27 = htab (iotaInDim S256 32 0) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The lane table that the host line computes. -/
theorem V69 (c : Dev nD) : V m c main_v69 = htab orderV := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The gradient, flattened over the tokens. -/
theorem V70 (c : Dev nD) : V m c main_v70 = shapeCast S1792x6912 (m ((c : Thread nD τ).loc main_arg1)) shapeCasts_S2x896x6912_S1792x6912 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The tokens' signs as one row. -/
theorem V71 (c : Dev nD) : V m c main_v71 = shapeCast S1x1792 (m ((c : Thread nD τ).loc main_arg4)) shapeCasts_S2x896_S1x1792 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The columns' signs as one row. -/
theorem V72 (c : Dev nD) : V m c main_v72 = shapeCast S1x6912 (m ((c : Thread nD τ).loc main_arg3)) shapeCasts_S6912_S1x6912 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The gradient's bytes for the columns, flattened. -/
theorem V73 (c : Dev nD) : V m c main_v73 = shapeCast S1792x6912 (m ((c : Thread nD τ).loc main_arg5)) shapeCasts_S2x896x6912_S1792x6912 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The gradient's bytes for the tokens, flattened. -/
theorem V74 (c : Dev nD) : V m c main_v74 = shapeCast S1792x6912 (m ((c : Thread nD τ).loc main_arg7)) shapeCasts_S2x896x6912_S1792x6912 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The host's lane order is the order of the lanes. -/
theorem orderV_at (l : Fin 256) : orderV (ix1 l) = BitVec.ofNat 32 (order l).val := by
  revert l; decide

/-- A shift by five is a division by thirty-two. -/
theorem shr5 : ∀ p : Fin 256, IntOp.shrsi .host (BitVec.ofNat 32 p.val) 5#32 = BitVec.ofNat 32 (p.val / 32) := by decide
/-- The low five bits are the remainder by thirty-two. -/
theorem and31 : ∀ p : Fin 256, IntOp.andi (BitVec.ofNat 32 p.val) 31#32 = BitVec.ofNat 32 (p.val % 32) := by decide
/-- Comparing words of small numbers is comparing the numbers. -/
theorem eq8 : ∀ a b : Fin 8, IntOp.cmpi .eq (BitVec.ofNat 32 a.val) (BitVec.ofNat 32 b.val) = if a.val = b.val then 1#1 else 0#1 := by decide

/-- The sign matrix at an element: the block matrix at the row's number. -/
theorem htab_at (v : IVec S256 32) (i j p : Fin 256) (h : v (ix1 i) = BitVec.ofNat 32 p.val) : (htab v (ix2 i j) : EReal) = blk p j := by
  pointwise [htab]
  rw [h, shr5, shr5, and31, and31, eq8 ⟨p.val / 32, by omega⟩ ⟨j.val / 32, by omega⟩]
  unfold blk sgn
  have e : ∀ x : BitVec 1, Scalar.select x (1 : EReal) (Ideal.ofBits .f32 3212836864#32)
      = if x = 1#1 then ((1 : ℝ) : EReal) else ((-1 : ℝ) : EReal) := fun x => by
    have b : Ideal.ofBits .f32 3212836864#32 = ((-1 : ℝ) : EReal) := by
      simp [Ideal.ofBits, Ideal.ieee, -EReal.coe_mul]; norm_num
    rw [b]; rfl
  by_cases hp : p.val / 32 = j.val / 32
  · rw [if_pos hp, if_pos (show (⟨p.val / 32, by omega⟩ : Fin 8).val = (⟨j.val / 32, by omega⟩ : Fin 8).val from hp)]
    exact e _
  · rw [if_neg hp, if_neg (show ¬ (⟨p.val / 32, by omega⟩ : Fin 8).val = (⟨j.val / 32, by omega⟩ : Fin 8).val from hp)]
    rfl

/-- The reshapes the host makes, at an element. -/
theorem cast3 {α : Type} (X : S2x896x6912.Idx → α) (r : Fin 1792) (n : Fin 6912) :
    shapeCast S1792x6912 X shapeCasts_S2x896x6912_S1792x6912 (ix2 r n) = X (ix3 ⟨r.val / 896, by omega⟩ ⟨r.val % 896, by omega⟩ n) := by
  pointwise []
/-- A row over batches and tokens, flattened. -/
theorem cast2 {α : Type} (X : S2x896.Idx → α) (r : Fin 1792) :
    shapeCast S1x1792 X shapeCasts_S2x896_S1x1792 (ix2 0 r) = X (ix2 ⟨r.val / 896, by omega⟩ ⟨r.val % 896, by omega⟩) := by
  pointwise []
/-- A row with a leading axis of one. -/
theorem cast1 {α : Type} (X : S6912.Idx → α) (n : Fin 6912) :
    shapeCast S1x6912 X shapeCasts_S6912_S1x6912 (ix2 0 n) = X (ix1 n) := by
  pointwise []

/-- The gradient, flattened over the tokens, at an index. -/
theorem read70 (c : Dev nD) (i : S1792x6912.Idx) (r : Fin 1792) (n : Fin 6912) (e : i = ix2 r n) :
    V m c main_v70 i = m ((c : Thread nD τ).loc main_arg1) (ix3 ⟨r.val / 896, by omega⟩ ⟨r.val % 896, by omega⟩ n) := by
  subst e
  exact (congrFun (V70 m c) (ix2 r n)).trans (cast3 (m ((c : Thread nD τ).loc main_arg1)) r n)
/-- The gradient's bytes for the columns, flattened, at an index. -/
theorem read73 (c : Dev nD) (i : S1792x6912.Idx) (r : Fin 1792) (n : Fin 6912) (e : i = ix2 r n) :
    V m c main_v73 i = m ((c : Thread nD τ).loc main_arg5) (ix3 ⟨r.val / 896, by omega⟩ ⟨r.val % 896, by omega⟩ n) := by
  subst e
  exact (congrFun (V73 m c) (ix2 r n)).trans (cast3 (m ((c : Thread nD τ).loc main_arg5)) r n)
/-- The gradient's bytes for the tokens, flattened, at an index. -/
theorem read74 (c : Dev nD) (i : S1792x6912.Idx) (r : Fin 1792) (n : Fin 6912) (e : i = ix2 r n) :
    V m c main_v74 i = m ((c : Thread nD τ).loc main_arg7) (ix3 ⟨r.val / 896, by omega⟩ ⟨r.val % 896, by omega⟩ n) := by
  subst e
  exact (congrFun (V74 m c) (ix2 r n)).trans (cast3 (m ((c : Thread nD τ).loc main_arg7)) r n)
/-- The columns' signs as one row, at an index. -/
theorem read72 (c : Dev nD) (i : S1x6912.Idx) (n : Fin 6912) (e : i = ix2 0 n) :
    V m c main_v72 i = m ((c : Thread nD τ).loc main_arg3) (ix1 n) := by
  subst e
  exact (congrFun (V72 m c) (ix2 0 n)).trans (cast1 (m ((c : Thread nD τ).loc main_arg3)) n)
/-- The tokens' signs as one row, at an index. -/
theorem read71 (c : Dev nD) (i : S1x1792.Idx) (r : Fin 1792) (e : i = ix2 0 r) :
    V m c main_v71 i = m ((c : Thread nD τ).loc main_arg4) (ix2 ⟨r.val / 896, by omega⟩ ⟨r.val % 896, by omega⟩) := by
  subst e
  exact (congrFun (V71 m c) (ix2 0 r)).trans (cast2 (m ((c : Thread nD τ).loc main_arg4)) r)

end Cert.KernelIdeal.Hand
end
-- ==== Proof.Entry.lean ====
/-
  What the windows hold at an element, in terms of the arguments: the sign matrices the host computes, and the tiles of the
  gradient, the weight, the signs and the random bytes.
-/
module

public import proofs.«01_k».proof.Proof.Host
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Cert.Group

variable (m : (ℓ : Loc nD τ sig) → Buf (Elt Ideal) ℓ)

/-- The block of window 0 at a point. -/
theorem idx0 : ∀ t : Fin cfg0.N, win0_0.index t = ![0, 0] := (by decide +kernel : ∀ t : Fin grid0.N, _)
/-- The block of window 1 at a point. -/
theorem idx1 : ∀ t : Fin cfg0.N, win0_1.index t = ![0, 0] := (by decide +kernel : ∀ t : Fin grid0.N, _)
/-- The block of window 2 at a point. -/
theorem idx2 : ∀ t : Fin cfg0.N, win0_2.index t = ![0, 0] := (by decide +kernel : ∀ t : Fin grid0.N, _)
/-- The block of window 3 at a point. -/
theorem idx3 : ∀ t : Fin cfg0.N, win0_3.index t = ![0, min t.val 26] := (by decide +kernel : ∀ t : Fin grid0.N, _)
/-- The block of window 4 at a point. -/
theorem idx4 : ∀ t : Fin cfg0.N, win0_4.index t = ![0, min t.val 26] := (by decide +kernel : ∀ t : Fin grid0.N, _)
/-- The block of window 5 at a point. -/
theorem idx5 : ∀ t : Fin cfg0.N, win0_5.index t = ![0, min t.val 26] := (by decide +kernel : ∀ t : Fin grid0.N, _)
/-- The block of window 6 at a point. -/
theorem idx6 : ∀ t : Fin cfg0.N, win0_6.index t = ![0, min t.val 26] := (by decide +kernel : ∀ t : Fin grid0.N, _)
/-- The block of window 7 at a point. -/
theorem idx7 : ∀ t : Fin cfg0.N, win0_7.index t = ![0, min t.val 26] := (by decide +kernel : ∀ t : Fin grid0.N, _)
/-- The block of window 8 at a point. -/
theorem idx8 : ∀ t : Fin cfg0.N, win0_8.index t = ![0, min (t.val - 1) 26] := (by decide +kernel : ∀ t : Fin grid0.N, _)
/-- The block of window 9 at a point. -/
theorem idx9 : ∀ t : Fin cfg0.N, win0_9.index t = ![t.val - 28, 0] := (by decide +kernel : ∀ t : Fin grid0.N, _)
/-- The block of window 10 at a point. -/
theorem idx10 : ∀ t : Fin cfg0.N, win0_10.index t = ![0, min (t.val - 1) 26] := (by decide +kernel : ∀ t : Fin grid0.N, _)
/-- The block of window 16 at a point. -/
theorem idx16 : ∀ t : Fin cfg0.N, win0_16.index t = ![0, 0, min (t.val - 1) 26] := (by decide +kernel : ∀ t : Fin grid0.N, _)

/-- The block of input window 5, at an index. -/
theorem inW5_at (c : Dev nD) (n : ℕ) (hn : n < 27) (r : Fin 2560) (j : Fin 256) :
    inW m c 5 (pt n) (ix2 r j) = m ((c : Thread nD τ).loc main_arg2) (ix2 r ⟨256 * n + j.val, by omega⟩) := by
  have hp : (pt n).val = n := by show min _ 34 = _; omega
  show V m c main_arg2 _ = _
  rw [V_main_arg2]
  blk_ext [idx5, hp]
/-- The block of input window 7, at an index. -/
theorem inW7_at (c : Dev nD) (n : ℕ) (hn : n < 27) (r : Fin 2560) (j : Fin 256) :
    inW m c 7 (pt n) (ix2 r j) = m ((c : Thread nD τ).loc main_arg6) (ix2 r ⟨256 * n + j.val, by omega⟩) := by
  have hp : (pt n).val = n := by show min _ 34 = _; omega
  show V m c main_arg6 _ = _
  rw [V_main_arg6]
  blk_ext [idx7, hp]
/-- The block of input window 4, at an index. -/
theorem inW4_at (c : Dev nD) (n : ℕ) (hn : n < 27) (r : Fin 1792) (j : Fin 256) :
    inW m c 4 (pt n) (ix2 r j) = m ((c : Thread nD τ).loc main_arg1) (ix3 ⟨r.val / 896, by omega⟩ ⟨r.val % 896, by omega⟩ ⟨256 * n + j.val, by omega⟩) := by
  have hp : (pt n).val = n := by show min _ 34 = _; omega
  have e : ((win0_4.blk (pt n)).view.emb (ix2 r j) : S1792x6912.Idx) = ix2 r ⟨256 * n + j.val, by omega⟩ := by blk_ext [idx4, hp]
  show V m c main_v70 _ = _
  exact read70 m c _ r _ e
/-- The block of input window 6, at an index. -/
theorem inW6_at (c : Dev nD) (n : ℕ) (hn : n < 27) (r : Fin 1792) (j : Fin 256) :
    inW m c 6 (pt n) (ix2 r j) = m ((c : Thread nD τ).loc main_arg5) (ix3 ⟨r.val / 896, by omega⟩ ⟨r.val % 896, by omega⟩ ⟨256 * n + j.val, by omega⟩) := by
  have hp : (pt n).val = n := by show min _ 34 = _; omega
  have e : ((win0_6.blk (pt n)).view.emb (ix2 r j) : S1792x6912.Idx) = ix2 r ⟨256 * n + j.val, by omega⟩ := by blk_ext [idx6, hp]
  show V m c main_v73 _ = _
  exact read73 m c _ r _ e
/-- The block of input window 8, at an index. -/
theorem inW8_at (c : Dev nD) (n : ℕ) (hn : n < 27) (r : Fin 1792) (j : Fin 256) :
    inW m c 8 (pt (n + 1)) (ix2 r j) = m ((c : Thread nD τ).loc main_arg7) (ix3 ⟨r.val / 896, by omega⟩ ⟨r.val % 896, by omega⟩ ⟨256 * n + j.val, by omega⟩) := by
  have hp : (pt (n + 1)).val = n + 1 := by show min _ 34 = _; omega
  have e : ((win0_8.blk (pt (n + 1))).view.emb (ix2 r j) : S1792x6912.Idx) = ix2 r ⟨256 * n + j.val, by omega⟩ := by blk_ext [idx8, hp]
  show V m c main_v74 _ = _
  exact read74 m c _ r _ e
/-- The block of input window 3, at an index. -/
theorem inW3_at (c : Dev nD) (n : ℕ) (hn : n < 27) (j : Fin 256) :
    inW m c 3 (pt n) (ix2 0 j) = m ((c : Thread nD τ).loc main_arg3) (ix1 ⟨256 * n + j.val, by omega⟩) := by
  have hp : (pt n).val = n := by show min _ 34 = _; omega
  have e : ((win0_3.blk (pt n)).view.emb (ix2 0 j) : S1x6912.Idx) = ix2 0 ⟨256 * n + j.val, by omega⟩ := by blk_ext [idx3, hp]
  show V m c main_v72 _ = _
  exact read72 m c _ _ e
/-- The block of input window 2, at an index. -/
theorem inW2_at (c : Dev nD) (t : Fin cfg0.N) (j : Fin 1792) :
    inW m c 2 t (ix2 0 j) = m ((c : Thread nD τ).loc main_arg4) (ix2 ⟨j.val / 896, by omega⟩ ⟨j.val % 896, by omega⟩) := by
  have e : ((win0_2.blk (t)).view.emb (ix2 0 j) : S1x1792.Idx) = ix2 0 j := by blk_ext [idx2]
  show V m c main_v71 _ = _
  exact read71 m c _ _ e
/-- The block of input window 0, at an index. -/
theorem inW0_at (c : Dev nD) (t : Fin cfg0.N) (i j : Fin 256) : (inW m c 0 t (ix2 i j) : EReal) = blk i j := by
  show (V m c main_v27 _ : EReal) = _
  rw [V27]
  refine Eq.trans ?_ (htab_at (iotaInDim S256 32 0) i j i rfl)
  blk_ext [idx0]
/-- The block of input window 1, at an index. -/
theorem inW1_at (c : Dev nD) (t : Fin cfg0.N) (i j : Fin 256) : (inW m c 1 t (ix2 i j) : EReal) = blk (order i) j := by
  show (V m c main_v69 _ : EReal) = _
  rw [V69]
  refine Eq.trans ?_ (htab_at orderV i j (order i) (orderV_at i))
  blk_ext [idx1]
/-- The copied array, at an index. -/
theorem xtR_at (c : Dev nD) (i : Fin 2560) (j : Fin 1792) :
    xtR m c (ix2 i j) = m ((c : Thread nD τ).loc main_arg0) (ix2 i j) := by
  show V m c main_arg0 _ = _
  rw [V_main_arg0]
  rfl

end Cert.KernelIdeal.Hand
end
-- ==== Proof.Spec.lean ====
/-
  The three results in closed form, over the arguments' arrays: two sums of products of quantised elements, and the scales'
  exponents.
-/
module

public import proofs.«01_k».proof.Proof.Group

@[expose] public section

noncomputable section

namespace Cert.Spec

open Idealize.ShloMosaic Cert.Group Cert.Scalar

/-- The gradient's shape: two batches of 896 tokens, 6912 columns. -/
abbrev SG : Shape := ⟨3, ![2, 896, 6912]⟩

/-- An array over batches and tokens, at a row of the flattened tokens. -/
def flat {α : Type} (A : SG.Idx → α) (r : Fin 1792) (n : Fin 6912) : α := A (ix3 ⟨r.val / 896, by omega⟩ ⟨r.val % 896, by omega⟩ n)

/-- The group of thirty-two tokens `g` in column `n`, with its signs. -/
def zT (dy : SG.Idx → EReal) (st : (⟨2, ![2, 896]⟩ : Shape).Idx → EReal) (g : Fin 56) (n : Fin 6912) (k : Fin 32) : EReal :=
  flat dy ⟨32 * g.val + k.val, by omega⟩ n * st (ix2 ⟨(32 * g.val + k.val) / 896, by omega⟩ ⟨(32 * g.val + k.val) % 896, by omega⟩)

/-- The group of thirty-two columns `u` of token `r`, with its signs. -/
def zN (dy : SG.Idx → EReal) (sn : (⟨1, ![6912]⟩ : Shape).Idx → EReal) (r : Fin 1792) (u : Fin 216) (k : Fin 32) : EReal :=
  flat dy r ⟨32 * u.val + k.val, by omega⟩ * sn (ix1 ⟨32 * u.val + k.val, by omega⟩)

/-- The group of thirty-two columns `u` of the weight's row `K`, with its signs. -/
def zW (w : (⟨2, ![2560, 6912]⟩ : Shape).Idx → EReal) (sn : (⟨1, ![6912]⟩ : Shape).Idx → EReal) (K : Fin 2560) (u : Fin 216) (k : Fin 32) : EReal :=
  w (ix2 K ⟨32 * u.val + k.val, by omega⟩) * sn (ix1 ⟨32 * u.val + k.val, by omega⟩)

/-- The gradient quantised along the tokens. -/
def qT (dy : SG.Idx → EReal) (st : (⟨2, ![2, 896]⟩ : Shape).Idx → EReal) (R : SG.Idx → BitVec 8) (r : Fin 1792) (n : Fin 6912) : EReal :=
  gq (zT dy st ⟨r.val / 32, by omega⟩ n) (flat R r n) ⟨r.val % 32, Nat.mod_lt _ (by decide)⟩

/-- The gradient quantised along the columns. -/
def qN (dy : SG.Idx → EReal) (sn : (⟨1, ![6912]⟩ : Shape).Idx → EReal) (R : SG.Idx → BitVec 8) (r : Fin 1792) (n : Fin 6912) : EReal :=
  gq (zN dy sn r ⟨n.val / 32, by omega⟩) (flat R r n) ⟨n.val % 32, Nat.mod_lt _ (by decide)⟩

/-- The weight quantised along the columns. -/
def qW (w : (⟨2, ![2560, 6912]⟩ : Shape).Idx → EReal) (sn : (⟨1, ![6912]⟩ : Shape).Idx → EReal) (R : (⟨2, ![2560, 6912]⟩ : Shape).Idx → BitVec 8)
    (K : Fin 2560) (n : Fin 6912) : EReal :=
  gq (zW w sn K ⟨n.val / 32, by omega⟩) (R (ix2 K n)) ⟨n.val % 32, Nat.mod_lt _ (by decide)⟩

/-- The factor that undoes the quantiser's shrinking. -/
def un : EReal := Ideal.ofBits .f32 0x3FE38E39#32

/-- The scale's exponent of the group of thirty-two tokens `g` in column `n`, as a byte. -/
def es (dy : SG.Idx → EReal) (st : (⟨2, ![2, 896]⟩ : Shape).Idx → EReal) (g : Fin 56) (n : Fin 6912) : BitVec 8 :=
  (Ideal.fptosi 32 (rE (gmax (rotR (zT dy st g n))))).setWidth 8

/-- The gradient of the activations. -/
def dx (dy : SG.Idx → EReal) (w : (⟨2, ![2560, 6912]⟩ : Shape).Idx → EReal) (sn : (⟨1, ![6912]⟩ : Shape).Idx → EReal) (Rn : SG.Idx → BitVec 8)
    (Rw : (⟨2, ![2560, 6912]⟩ : Shape).Idx → BitVec 8) (r : Fin 1792) (K : Fin 2560) : EReal :=
  un * ∑ n : Fin 6912, qN dy sn Rn r n * qW w sn Rw K n

/-- The gradient of the weight. -/
def dw (xt : (⟨2, ![2560, 1792]⟩ : Shape).Idx → EReal) (dy : SG.Idx → EReal) (st : (⟨2, ![2, 896]⟩ : Shape).Idx → EReal) (Rt : SG.Idx → BitVec 8)
    (K : Fin 2560) (n : Fin 6912) : EReal :=
  un * ∑ r : Fin 1792, xt (ix2 K r) * qT dy st Rt r n

end Cert.Spec
end
-- ==== Proof.TileT.lean ====
/-
  The tile quantised along the tokens, element by element.
-/
module

public import proofs.«01_k».proof.Proof.Entry
public import proofs.«01_k».proof.Proof.Tok
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe
open Cert.Group Cert.Scalar Cert.Spec

variable (m : (ℓ : Loc nD τ sig) → Buf (Elt Ideal) ℓ)

/-- The arguments' arrays. -/
def aXt (c : Dev nD) : S2560x1792.Idx → EReal := m ((c : Thread nD τ).loc main_arg0)
/-- The gradient. -/
def aDy (c : Dev nD) : SG.Idx → EReal := m ((c : Thread nD τ).loc main_arg1)
/-- The weight. -/
def aW (c : Dev nD) : S2560x6912.Idx → EReal := m ((c : Thread nD τ).loc main_arg2)
/-- The columns' signs. -/
def aSn (c : Dev nD) : S6912.Idx → EReal := m ((c : Thread nD τ).loc main_arg3)
/-- The tokens' signs. -/
def aSt (c : Dev nD) : S2x896.Idx → EReal := m ((c : Thread nD τ).loc main_arg4)
/-- The gradient's bytes for the columns. -/
def aRn (c : Dev nD) : SG.Idx → BitVec 8 := m ((c : Thread nD τ).loc main_arg5)
/-- The weight's bytes. -/
def aRw (c : Dev nD) : S2560x6912.Idx → BitVec 8 := m ((c : Thread nD τ).loc main_arg6)
/-- The gradient's bytes for the tokens. -/
def aRt (c : Dev nD) : SG.Idx → BitVec 8 := m ((c : Thread nD τ).loc main_arg7)

/-- A product of three regrouped, the rotation's factor last. -/
theorem regroup (a s y : EReal) {B S Y : EReal} (ha : a = B) (hs : s = S) (hy : y = Y) : (a * s) * y = (Y * S) * B := by
  rw [ha, hs, hy, mul_comm (B * S) Y, mul_comm B S, mul_assoc]

/-- The windows' blocks as the arguments' arrays. -/
theorem w4 (c : Dev nD) (n : ℕ) (hn : n < 27) (r : Fin 1792) (l : Fin 256) :
    inW m c 4 (pt n) (ix2 r l) = flat (aDy m c) r ⟨256 * n + l.val, by omega⟩ := inW4_at m c n hn r l
/-- The window of the gradient's bytes for the columns, at an index. -/
theorem w6 (c : Dev nD) (n : ℕ) (hn : n < 27) (r : Fin 1792) (l : Fin 256) :
    inW m c 6 (pt n) (ix2 r l) = flat (aRn m c) r ⟨256 * n + l.val, by omega⟩ := inW6_at m c n hn r l
/-- The window of the gradient's bytes for the tokens, at an index. -/
theorem w8 (c : Dev nD) (n : ℕ) (hn : n < 27) (r : Fin 1792) (l : Fin 256) :
    inW m c 8 (pt (n + 1)) (ix2 r l) = flat (aRt m c) r ⟨256 * n + l.val, by omega⟩ := inW8_at m c n hn r l
/-- The window of the tokens' signs, at an index. -/
theorem w2 (c : Dev nD) (t : Fin cfg0.N) (j : Fin 1792) :
    inW m c 2 t (ix2 0 j) = aSt m c (ix2 ⟨j.val / 896, by omega⟩ ⟨j.val % 896, by omega⟩) := inW2_at m c t j

/-- Rotating a tile along the tokens, group by group. -/
theorem trot_pure (H : S256x256.Idx → EReal) (hH : ∀ i j, H (ix2 i j) = blk i j) (S : S1x1792.Idx → EReal) (A : S1792x256.Idx → EReal)
    (d : S1792x256.Idx → EReal) (h : IsTrot (F := Ideal) H S A d) (r : Fin 1792) (l : Fin 256) :
    d (ix2 r l) = rot (fun k => A (ix2 ⟨32 * (r.val / 32) + k.val, by omega⟩ l) * S (ix2 0 ⟨32 * (r.val / 32) + k.val, by omega⟩)) ⟨r.val % 32, Nat.mod_lt _ (by decide)⟩ := by
  have h1 := h ⟨r.val / 256, by omega⟩ (ix2 ⟨r.val % 256, Nat.mod_lt _ (by decide)⟩ l)
  have e1 : at256 ⟨r.val / 256, by omega⟩ (ix2 ⟨r.val % 256, Nat.mod_lt _ (by decide)⟩ l) = ix2 r l := by
    unfold at256
    congr 1
    exact Fin.ext (by show 256 * (r.val / 256) + r.val % 256 = r.val; omega)
  rw [e1] at h1
  refine h1.trans ((pay213_at _ _ _ _ _).trans ?_)
  refine (Finset.sum_congr rfl fun j _ => regroup _ _ _ (hH _ j) rfl rfl).trans ((sum_blk ⟨r.val % 256, Nat.mod_lt _ (by decide)⟩ (fun j =>
      A (ix2 ⟨256 * (r.val / 256) + j.val, by omega⟩ l) * S (ix2 0 ⟨256 * (r.val / 256) + j.val, by omega⟩))).trans ?_)
  have hb : (⟨r.val % 256 % 32, Nat.mod_lt _ (by decide)⟩ : Fin 32) = ⟨r.val % 32, Nat.mod_lt _ (by decide)⟩ := Fin.ext (by show r.val % 256 % 32 = r.val % 32; omega)
  show rot _ (⟨r.val % 256 % 32, Nat.mod_lt _ (by decide)⟩ : Fin 32) = _
  rw [hb]
  congr 1
  funext k
  have ek : 256 * (r.val / 256) + (32 * (r.val % 256 / 32) + k.val) = 32 * (r.val / 32) + k.val := by omega
  simp only [ek]

/-- The quantiser along the tokens, group by group. -/
theorem tok_pure (D : S1792x256.Idx → EReal) (R : S1792x256.Idx → BitVec 8) (o : S1792x256.Idx → EReal) (ho : IsTok (F := Ideal) D R o)
    (r : Fin 1792) (l : Fin 256) :
    o (ix2 r l) = kElem (D (ix2 r l)) (gmax (fun k => D (ix2 ⟨32 * (r.val / 32) + k.val, by omega⟩ l)) * c0) (R (ix2 r l)) := by
  have e1 : at64 ⟨r.val / 64, by omega⟩ (ix2 ⟨r.val % 64, Nat.mod_lt _ (by decide)⟩ l) = ix2 r l := by
    unfold at64
    congr 1
    exact Fin.ext (by show 64 * (r.val / 64) + r.val % 64 = r.val; omega)
  have h1 := ho ⟨r.val / 64, by omega⟩ (ix2 ⟨r.val % 64, Nat.mod_lt _ (by decide)⟩ l)
  rw [e1] at h1
  refine h1.trans ?_
  unfold tokG
  have hb : r.val % 32 < 32 := Nat.mod_lt _ (by decide)
  generalize hbb : (⟨r.val % 32, hb⟩ : Fin 32) = b
  have hbv : b.val = r.val % 32 := by rw [← hbb]
  by_cases hlo : r.val % 64 < 32
  · have ei : (ix2 ⟨r.val % 64, Nat.mod_lt _ (by decide)⟩ l : S64x256.Idx) = ix2 ⟨b.val, by omega⟩ l := by
      congr 1
      exact Fin.ext (by show r.val % 64 = b.val; omega)
    rw [ei] at e1 ⊢
    refine (tokOp_lo _ _ b l).trans ?_
    have hc : colMax (k0_pay91 (F := Ideal) fun x => D (at64 ⟨r.val / 64, by omega⟩ x)) l
        = gmax (fun k => D (ix2 ⟨32 * (r.val / 32) + k.val, by omega⟩ l)) := by
      unfold colMax gmax
      congr 1
      funext k
      have : k0_pay91 (F := Ideal) (fun x => D (at64 ⟨r.val / 64, by omega⟩ x)) (ix2 k l) = D (ix2 ⟨32 * (r.val / 32) + k.val, by omega⟩ l) := by
        pointwise [k0_pay91]
        show D _ = D _
        congr 1
        unfold at64
        congr 1
        exact Fin.ext (by show 64 * (r.val / 64) + k.val = 32 * (r.val / 32) + k.val; omega)
      rw [this]
    rw [hc]
    exact congrArg₂ (fun x y => kElem x _ y) (congrArg D e1) (congrArg R e1)
  · have ei : (ix2 ⟨r.val % 64, Nat.mod_lt _ (by decide)⟩ l : S64x256.Idx) = ix2 ⟨32 + b.val, by omega⟩ l := by
      congr 1
      exact Fin.ext (by show r.val % 64 = 32 + b.val; omega)
    rw [ei] at e1 ⊢
    refine (tokOp_hi _ _ b l).trans ?_
    have hc : colMax (k0_pay106 (F := Ideal) fun x => D (at64 ⟨r.val / 64, by omega⟩ x)) l
        = gmax (fun k => D (ix2 ⟨32 * (r.val / 32) + k.val, by omega⟩ l)) := by
      unfold colMax gmax
      congr 1
      funext k
      have : k0_pay106 (F := Ideal) (fun x => D (at64 ⟨r.val / 64, by omega⟩ x)) (ix2 k l) = D (ix2 ⟨32 * (r.val / 32) + k.val, by omega⟩ l) := by
        pointwise [k0_pay106]
        show D _ = D _
        congr 1
        unfold at64
        congr 1
        exact Fin.ext (by show 64 * (r.val / 64) + (32 + k.val) = 32 * (r.val / 32) + k.val; omega)
      rw [this]
    rw [hc]
    exact congrArg₂ (fun x y => kElem x _ y) (congrArg D e1) (congrArg R e1)

/-- The tile quantised along the tokens, at a row and a lane. -/
theorem tok_at (c : Dev nD) (n : ℕ) (hn : n < 27) (d : S1792x256.Idx → EReal) (h : TrotN m c n d) (o : S1792x256.Idx → EReal)
    (ho : IsTok (F := Ideal) d (inW m c 8 (pt (n + 1))) o) (r : Fin 1792) (l : Fin 256) :
    o (ix2 r l) = qT (aDy m c) (aSt m c) (aRt m c) r ⟨256 * n + l.val, by omega⟩ := by
  have hd : ∀ (k : Fin 32) (r' : Fin 1792) (e : r'.val = 32 * (r.val / 32) + k.val), d (ix2 r' l) = rot (zT (aDy m c) (aSt m c) ⟨r.val / 32, by omega⟩ ⟨256 * n + l.val, by omega⟩) k := by
    intro k r' e
    refine (trot_pure _ (fun i j => inW0_at m c _ i j) _ _ d h r' l).trans ?_
    have e1 : r'.val / 32 = r.val / 32 := by omega
    have e2 : (⟨r'.val % 32, Nat.mod_lt _ (by decide)⟩ : Fin 32) = k := Fin.ext (by show r'.val % 32 = k.val; omega)
    rw [e2]
    congr 1
    funext k'
    simp only [e1]
    exact congrArg₂ (fun x y : EReal => x * y) (w4 m c n hn _ l) (w2 m c (pt n) _)
  refine (tok_pure d _ o ho r l).trans ?_
  rw [hd ⟨r.val % 32, Nat.mod_lt _ (by decide)⟩ r (by show r.val = 32 * (r.val / 32) + r.val % 32; omega)]
  have hg : (fun k : Fin 32 => d (ix2 ⟨32 * (r.val / 32) + k.val, by omega⟩ l)) = rot (zT (aDy m c) (aSt m c) ⟨r.val / 32, by omega⟩ ⟨256 * n + l.val, by omega⟩) :=
    funext fun k => hd k _ rfl
  rw [hg]
  exact congrArg _ (w8 m c n hn r l)

/-- The scale exponents of the tokens' groups, of a tile whose groups are given. -/
theorem exp_pure (D : S1792x256.Idx → EReal) (q : Fin 56) (l : Fin 256) :
    expG (F := Ideal) D q (ix2 0 l) = Ideal.fptosi 32 (kE (kP (gmax (fun k => D (ix2 ⟨32 * q.val + k.val, by omega⟩ l)) * (c0 : EReal)))) := by
  unfold expG
  by_cases hlo : q.val % 2 = 0
  · rw [hlo, expOp_lo]
    have hc : colMax (k0_pay91 (F := Ideal) fun x => D (at64 ⟨q.val / 2, by omega⟩ x)) l
        = gmax (fun k => D (ix2 ⟨32 * q.val + k.val, by omega⟩ l)) := by
      unfold colMax gmax
      congr 1
      funext k
      have : k0_pay91 (F := Ideal) (fun x => D (at64 ⟨q.val / 2, by omega⟩ x)) (ix2 k l) = D (ix2 ⟨32 * q.val + k.val, by omega⟩ l) := by
        pointwise [k0_pay91]
        show D _ = D _
        congr 1
        unfold at64
        congr 1
        exact Fin.ext (by show 64 * (q.val / 2) + k.val = 32 * q.val + k.val; omega)
      rw [this]
    rw [hc]
  · have h1 : q.val % 2 = 1 := by omega
    rw [h1, expOp_hi]
    have hc : colMax (k0_pay106 (F := Ideal) fun x => D (at64 ⟨q.val / 2, by omega⟩ x)) l
        = gmax (fun k => D (ix2 ⟨32 * q.val + k.val, by omega⟩ l)) := by
      unfold colMax gmax
      congr 1
      funext k
      have : k0_pay106 (F := Ideal) (fun x => D (at64 ⟨q.val / 2, by omega⟩ x)) (ix2 k l) = D (ix2 ⟨32 * q.val + k.val, by omega⟩ l) := by
        pointwise [k0_pay106]
        show D _ = D _
        congr 1
        unfold at64
        congr 1
        exact Fin.ext (by show 64 * (q.val / 2) + (32 + k.val) = 32 * q.val + k.val; omega)
      rw [this]
    rw [hc]

/-- The tile's scale exponents, at a group and a lane. -/
theorem exp_at (c : Dev nD) (n : ℕ) (hn : n < 27) (d : S1792x256.Idx → EReal) (h : TrotN m c n d) (q : Fin 56) (l : Fin 256) :
    BitVec.setWidth 8 (expG (F := Ideal) d q (ix2 0 l)) = es (aDy m c) (aSt m c) q ⟨256 * n + l.val, by omega⟩ := by
  have hg : (fun k : Fin 32 => d (ix2 ⟨32 * q.val + k.val, by omega⟩ l)) = rot (zT (aDy m c) (aSt m c) q ⟨256 * n + l.val, by omega⟩) := by
    funext k
    refine (trot_pure _ (fun i j => inW0_at m c _ i j) _ _ d h _ l).trans ?_
    have e1 : (32 * q.val + k.val) / 32 = q.val := by omega
    have e2 : (⟨(32 * q.val + k.val) % 32, Nat.mod_lt _ (by decide)⟩ : Fin 32) = k := Fin.ext (by dsimp only; omega)
    dsimp only
    rw [e2]
    congr 1
    funext k'
    simp only [e1]
    exact congrArg₂ (fun x y : EReal => x * y) (w4 m c n hn _ l) (w2 m c (pt n) _)
  rw [exp_pure, hg]
  unfold es
  have hr : rotR (zT (aDy m c) (aSt m c) q ⟨256 * n + l.val, by omega⟩) = fun k => (c0 : EReal) * rot (zT (aDy m c) (aSt m c) q ⟨256 * n + l.val, by omega⟩) k :=
    funext fun k => rotR_eq _ k
  rw [hr, gmax_scaled, kE_eq]
  refine mul_nonneg (le_trans ?_ (le_gmax _ 0)) c0_nonneg
  generalize rot (zT (aDy m c) (aSt m c) q ⟨256 * n + l.val, by omega⟩) 0 = s
  rcases le_total 0 s with h | h
  · exact le_max_of_le_left h
  · exact le_max_of_le_right (by simpa using h)

end Cert.KernelIdeal.Hand
end
-- ==== Proof.LaneOp.lean ====
/-
  One trip of the lanes' loops, element by element: the random byte picked for a lane, the code, the stored value.
-/
module

public import proofs.«01_k».proof.Proof.Lane

@[expose] public section

set_option maxRecDepth 16384

noncomputable section

namespace Cert.KernelIdeal.Hand

open Cert.KernelIdeal Cert.KernelIdeal.Gen
open Idealize.ShloMosaic Idealize.ShloMosaic.TcCoe
open Cert.Scalar

/-! ### The random bytes' places -/

/-- A lane's group among eight. -/
theorem pay13_at (a : Fin 8) (l : Fin 128) : k0_pay13 (ix2 a l) = BitVec.ofNat 32 (l.val % 8) := by
  pointwise [k0_pay13]
  revert l; decide

/-- The lane that a byte is taken from. -/
theorem pay14_at (a : Fin 8) (l : Fin 128) : k0_pay14 (ix2 a l) = BitVec.ofNat 32 ((l.val % 4) * 32 + 2 * (l.val / 8)) := by
  pointwise [k0_pay14, k0_pay13]
  revert l; decide

/-- A word picked by a group number and a lane number: `g` says which half, `n` which lane of it. -/
theorem pick_word (G I : IVec S8x128 32) (r : IVec S32x256 8) (a : Fin 8) (l : Fin 128) (g n : ℕ) (hg : g < 8) (hn : n < 128)
    (hG : G (ix2 a l) = BitVec.ofNat 32 g) (hI : I (ix2 a l) = BitVec.ofNat 32 n) (c : Fin 256) (hc : c.val = g / 4 * 128 + n) :
    select (cmpi .slt G (broadcast S8x128 4#32))
      (dynamicGather 1 (k0_pay16 r) (select (cmpi .slt I (broadcast S8x128 0#32)) (addi I (broadcast S8x128 128#32)) I))
      (dynamicGather 1 (k0_pay17 r) (select (cmpi .slt I (broadcast S8x128 0#32)) (addi I (broadcast S8x128 128#32)) I)) (ix2 a l)
    = k0_pay15 r (ix2 a c) := by
  have h0 : ¬ (BitVec.ofNat 32 n).toInt < 0 := by
    rw [BitVec.toInt_eq_toNat_of_lt (by rw [BitVec.toNat_ofNat]; omega)]
    omega
  have hs : select (cmpi .slt I (broadcast S8x128 0#32)) (addi I (broadcast S8x128 128#32)) I (ix2 a l) = BitVec.ofNat 32 n := by
    rw [← hI]
    show Scalar.select (IntOp.cmpi .slt (I (ix2 a l)) 0#32) _ (I (ix2 a l)) = I (ix2 a l)
    rw [hI]
    have : IntOp.cmpi .slt (BitVec.ofNat 32 n) 0#32 = 0#1 := by
      simp only [IntOp.cmpi, BitVec.slt]
      simp [h0]
    rw [this]
    rfl
  have hn' : (BitVec.ofNat 32 n).toNat % 128 = n := by rw [BitVec.toNat_ofNat]; omega
  have hcmp : IntOp.cmpi .slt (BitVec.ofNat 32 g) 4#32 = if g < 4 then 1#1 else 0#1 := by
    interval_cases g <;> rfl
  show Scalar.select (IntOp.cmpi .slt (G (ix2 a l)) 4#32) (dynamicGather 1 (k0_pay16 r) _ (ix2 a l)) (dynamicGather 1 (k0_pay17 r) _ (ix2 a l)) = _
  rw [hG, hcmp]
  have e1 : dynamicGather 1 (k0_pay16 r) (select (cmpi .slt I (broadcast S8x128 0#32)) (addi I (broadcast S8x128 128#32)) I) (ix2 a l)
      = k0_pay15 r (ix2 a ⟨n, by omega⟩) := by
    rw [dynamicGather_apply_norm, hs]
    pointwise [k0_pay16]
    congr 2
    exact Fin.ext hn'
  have e2 : dynamicGather 1 (k0_pay17 r) (select (cmpi .slt I (broadcast S8x128 0#32)) (addi I (broadcast S8x128 128#32)) I) (ix2 a l)
      = k0_pay15 r (ix2 a ⟨128 + n, by omega⟩) := by
    rw [dynamicGather_apply_norm, hs]
    pointwise [k0_pay17]
    congr 2
    exact Fin.ext (congrArg (128 + ·) hn')
  rw [e1, e2]
  by_cases h : g < 4
  · rw [if_pos h]
    have : c = ⟨n, by omega⟩ := Fin.ext (by show c.val = n; omega)
    exact congrArg (fun c => k0_pay15 r (ix2 a c)) this.symm
  · rw [if_neg h]
    have : c = ⟨128 + n, by omega⟩ := Fin.ext (by show c.val = 128 + n; omega)
    exact congrArg (fun c => k0_pay15 r (ix2 a c)) this.symm

/-- The word of four rows' bytes picked for lane `l` of the first half. -/
theorem pay20_at (r : IVec S32x256 8) (a : Fin 8) (l : Fin 128) (c : Fin 256) (hc : c = order ⟨l.val, by omega⟩) :
    k0_pay20 r (ix2 a l) = k0_pay15 r (ix2 a c) := by
  subst hc
  unfold k0_pay20
  simp only [shapeCast_shapeCast, shapeCast_self]
  exact pick_word k0_pay13 k0_pay14 r a l _ _ (Nat.mod_lt _ (by decide)) (by omega) (pay13_at a l) (pay14_at a l) _
    (by show l.val % 8 * 32 + 2 * (l.val % 128 / 8) + l.val / 128 = _; omega)

/-- Words picked along the rows, read as bytes: the byte of each row at the picked lane. -/
theorem bytes_pick (r : IVec S32x256 8) (w : IVec S8x128 32) (l : Fin 128) (c : Fin 256)
    (hw : ∀ a : Fin 8, w (ix2 a l) = k0_pay15 r (ix2 a c)) (b : Fin 32) :
    bitcast S32x128 8 w bitcasts_S8x128_w32_S32x128_w8 (ix2 b l) = r (ix2 b c) := by
  refine (Cert.Bytes.bitcast_32_8_ix2 w bitcasts_S8x128_w32_S32x128_w8 b l ⟨b.val / 4, by omega⟩ rfl).trans ?_
  have e15 : k0_pay15 r = bitcast S8x256 32 r bitcasts_S32x256_w8_S8x256_w32 := rfl
  show Cert.Bytes.byteOf (w (ix2 ⟨b.val / 4, by omega⟩ l)) (b.val % 4) = _
  rw [hw, e15]
  exact Cert.Bytes.byteOf_bitcast r bitcasts_S32x256_w8_S8x256_w32 ⟨b.val / 4, by omega⟩ c (b.val % 4) (Nat.mod_lt _ (by decide)) b
      (by show b.val = 4 * (b.val / 4) + b.val % 4; omega)

/-- The byte picked for lane `l` of the second half. -/
theorem pick_odd (r : IVec S32x256 8) (b : Fin 32) (l : Fin 128) (c : Fin 256) (hc : c = order ⟨128 + l.val, by omega⟩) :
    k0_pay27 k0_pay13 k0_pay14 (k0_pay16 r) (k0_pay17 r) (ix2 b l) = (r (ix2 b c)).setWidth 32 := by
  subst hc
  unfold k0_pay27
  simp only [shapeCast_shapeCast, shapeCast_self]
  show BitVec.setWidth 32 _ = _
  congr 1
  refine bytes_pick r _ l _ (fun a => ?_) b
  refine pick_word k0_pay13 (addi k0_pay14 (broadcast S8x128 1#32)) r a l (l.val % 8) ((l.val % 4) * 32 + 2 * (l.val / 8) + 1)
    (Nat.mod_lt _ (by decide)) (by omega) (pay13_at a l) ?_ _
    (by show (128 + l.val) % 8 * 32 + 2 * ((128 + l.val) % 128 / 8) + (128 + l.val) / 128 = _; omega)
  show k0_pay14 (ix2 a l) + 1#32 = _
  rw [pay14_at, ← BitVec.ofNat_add]

/-- The even elements' codes. -/
theorem ie_eq (y : FVec Ideal S32x128 .f32) (r : IVec S32x256 8) :
    k0_pay26 (k0_pay24 y (k0_pay20 r)) (k0_pay25 y) (Scalar.ofBits .f32 0x3F800000#32 : Ideal .f32)
    = bitcast S8x128 32 (fun j => kIdx (y j) (r (ix2 (j 0) (order ⟨(j 1).val, by have : (j 1).val < 128 := (j 1).isLt; omega⟩))))
        bitcasts_S32x128_w8_S8x128_w32 := by
  unfold k0_pay26
  simp only []
  congr 1
  funext j
  idx_vars j
  have hb := bytes_pick r (k0_pay20 r) j1 (order ⟨j1.val, by omega⟩) (fun a => pay20_at r a j1 _ rfl) j0
  pointwise [k0_pay24, k0_pay25, k0_pay22, k0_pay23, k0_pay21]
  rw [hb]
  simp only [b2, b4, b8, b16, bhalf, bquarter, beighth, bm2, b256th]
  rfl

/-- The odd elements' codes. -/
theorem io_eq (y : FVec Ideal S32x128 .f32) (r : IVec S32x256 8) :
    k0_pay31 (k0_pay27 k0_pay13 k0_pay14 (k0_pay16 r) (k0_pay17 r)) (k0_pay28 y) (k0_pay29 y) (k0_pay30 y) (Scalar.ofBits .f32 0x3F800000#32 : Ideal .f32)
    = bitcast S8x128 32 (fun j => kIdx (y j) (r (ix2 (j 0) (order ⟨128 + (j 1).val, by have : (j 1).val < 128 := (j 1).isLt; omega⟩))))
        bitcasts_S32x128_w8_S8x128_w32 := by
  unfold k0_pay31
  simp only []
  congr 1
  funext j
  idx_vars j
  pointwise [k0_pay28, k0_pay29, k0_pay30]
  rw [pick_odd r j0 j1 _ rfl]
  simp only [b2, b4, b8, b16, bhalf, bquarter, beighth, bm2, b256th]
  rfl

/-- A scaled value, at a lane. -/
theorem laneY_at (s : FVec Ideal S32x128 .f32) (p : FVec Ideal S32x128 .f32) (b : Fin 32) (l : Fin 128) :
    k0_pay18 s p (Scalar.ofBits .f32 0x00000000#32 : Ideal .f32) (ix2 b l) = s (ix2 b l) * kSc (p (ix2 b l)) := by
  pointwise [k0_pay18, k0_pay11]
  simp only [b2p127, nQs]
  rfl

/-- The signs' bytes. -/
theorem sg_eq (y : FVec Ideal S32x128 .f32) (w : IVec S8x128 32) :
    k0_pay32 y w = andi (andi (bitcast S8x128 32 (fun j => kSg (y j)) bitcasts_S32x128_w8_S8x128_w32) (addi w (broadcast S8x128 2139062143#32)))
      (broadcast S8x128 2155905152#32) := by
  unfold k0_pay32
  simp only []
  congr 3
  funext j
  idx_vars j
  pointwise []
  unfold kSg
  split <;> rfl

/-- The sign word of the second half is the same function. -/
theorem sg'_eq (y : FVec Ideal S32x128 .f32) (w : IVec S8x128 32) : k0_pay33 y w = k0_pay32 y w := rfl

/-- The index of a scaled lane is below eight. -/
theorem idx_lt_lane (x : FVec Ideal S32x256 .f32) (b : Fin 32) (l : Fin 256) (r : BitVec 8) :
    (kIdx (x (ix2 b l) * kSc (kP (laneMax x b ⟨l.val % 8, Nat.mod_lt _ (by decide)⟩ * (c0 : EReal)))) r).toNat < 8 := by
  obtain ⟨z, hz, e⟩ := scaled_real _ _ (le_laneMax x b l)
  rw [e]
  exact kIdx_lt z hz r

/-- The first half of the joined lanes. -/
theorem pay74_lo (A B : FVec Ideal S32x128 .bf16) (b : Fin 32) (l : Fin 128) : k0_pay74 A B (ix2 b ⟨l.val, by omega⟩) = A (ix2 b l) := by
  pointwise [k0_pay74]

/-- The second half of the joined lanes. -/
theorem pay74_hi (A B : FVec Ideal S32x128 .bf16) (b : Fin 32) (l : Fin 128) :
    k0_pay74 A B (ix2 b ⟨128 + l.val, by omega⟩) = B (ix2 b l) := by
  pointwise [k0_pay74]

/-- Sixteen, in sixteen bits. -/
theorem b16h : Ideal.ofBits .bf16 0x4180#16 = ((16 : ℝ) : EReal) := by
  simp [Ideal.ofBits, Ideal.ieee, -EReal.coe_mul]; norm_num

/-- A byte read as a number, times sixteen times the power. -/
theorem pay35_at (P : FVec Ideal S32x128 .bf16) (w s : IVec S8x128 32) (b : Fin 32) (l : Fin 128) :
    k0_pay35 (k0_pay12 P) w s (ix2 b l)
      = Ideal.e4m3fn (bitcast S32x128 8 (ori (shli w (broadcast S8x128 2#32)) s) bitcasts_S8x128_w32_S32x128_w8 (ix2 b l))
        * (P (ix2 b l) * ((16 : ℝ) : EReal)) := by
  pointwise [k0_pay35, k0_pay12]
  rw [b16h]
  rfl

/-- The same for the second half. -/
theorem pay36_at (P : FVec Ideal S32x128 .bf16) (y : FVec Ideal S32x128 .f32) (w : IVec S8x128 32) (b : Fin 32) (l : Fin 128) :
    k0_pay36 (k0_pay12 P) y w (ix2 b l)
      = Ideal.e4m3fn (bitcast S32x128 8 (ori (shli w (broadcast S8x128 2#32)) (k0_pay32 y w)) bitcasts_S8x128_w32_S32x128_w8 (ix2 b l))
        * (P (ix2 b l) * ((16 : ℝ) : EReal)) := pay35_at P w (k0_pay32 y w) b l

/-- The quantised element of a lane of the first half. -/
theorem laneOp_even (x : Vec Ideal S32x256 .f32) (r : Vec Ideal S32x256 .i8) (b : Fin 32) (l : Fin 128) :
    laneOp (F := Ideal) x r (ix2 b ⟨l.val, by omega⟩)
      = kElem (x (ix2 b ⟨l.val, by omega⟩)) (laneMax x b ⟨l.val % 8, Nat.mod_lt _ (by decide)⟩ * (c0 : EReal))
          (r (ix2 b (order ⟨l.val, by omega⟩))) := by
  have hx : ∀ (b : Fin 32) (l : Fin 128), k0_pay7 x (ix2 b l) = x (ix2 b ⟨l.val, by omega⟩) := fun b l => by
    pointwise [k0_pay7]
  have hy : ∀ (b : Fin 32) (l : Fin 128), k0_pay18 (k0_pay7 x) (k0_pay10 x) (Scalar.ofBits .f32 0x00000000#32 : Ideal .f32) (ix2 b l)
      = x (ix2 b ⟨l.val, by omega⟩) * kSc (kP (laneMax x b ⟨l.val % 8, Nat.mod_lt _ (by decide)⟩ * (c0 : EReal))) := fun b l => by
    rw [laneY_at, hx]
    congr 2
    exact pay9_at x b l
  unfold laneOp kElem
  refine (pay74_lo _ _ b l).trans ((pay35_at _ _ _ b l).trans ?_)
  rw [pay6_eq, ie_eq, sg_eq]
  refine congrArg₂ (· * ·) ?_ (congrArg (· * ((16 : ℝ) : EReal)) (pay9_at x b l))
  show Ideal.e4m3fn _ = _
  congr 1
  refine (Cert.Bytes.codes_ix2 _ (fun j => kSg (k0_pay18 (k0_pay7 x) (k0_pay10 x) (Scalar.ofBits .f32 0x00000000#32 : Ideal .f32) j)) bitcasts_S32x128_w8_S8x128_w32
    bitcasts_S8x128_w32_S32x128_w8 rfl ?_ _ (fun j => rfl) b l).trans ?_
  rotate_left
  · show _ = kByte _ _
    unfold kByte
    rw [← hy]
    rfl
  · intro j
    idx_vars j
    rw [hy]
    exact idx_lt_lane x j0 ⟨j1.val, by omega⟩ _

/-- The quantised element of a lane of the second half. -/
theorem laneOp_odd (x : Vec Ideal S32x256 .f32) (r : Vec Ideal S32x256 .i8) (b : Fin 32) (l : Fin 128) :
    laneOp (F := Ideal) x r (ix2 b ⟨128 + l.val, by omega⟩)
      = kElem (x (ix2 b ⟨128 + l.val, by omega⟩)) (laneMax x b ⟨l.val % 8, Nat.mod_lt _ (by decide)⟩ * (c0 : EReal))
          (r (ix2 b (order ⟨128 + l.val, by omega⟩))) := by
  have hx : ∀ (b : Fin 32) (l : Fin 128), k0_pay8 x (ix2 b l) = x (ix2 b ⟨128 + l.val, by omega⟩) := fun b l => by
    pointwise [k0_pay8]
  have hy : ∀ (b : Fin 32) (l : Fin 128), k0_pay19 (k0_pay8 x) (k0_pay10 x) (Scalar.ofBits .f32 0x00000000#32 : Ideal .f32) (ix2 b l)
      = x (ix2 b ⟨128 + l.val, by omega⟩) * kSc (kP (laneMax x b ⟨l.val % 8, Nat.mod_lt _ (by decide)⟩ * (c0 : EReal))) := fun b l => by
    refine (laneY_at _ _ b l).trans ?_
    rw [hx]
    congr 2
    exact pay9_at x b l
  unfold laneOp kElem
  refine (pay74_hi _ _ b l).trans ((pay36_at _ _ _ b l).trans ?_)
  rw [pay6_eq, io_eq, sg_eq]
  refine congrArg₂ (· * ·) ?_ (congrArg (· * ((16 : ℝ) : EReal)) (pay9_at x b l))
  show Ideal.e4m3fn _ = _
  congr 1
  refine (Cert.Bytes.codes_ix2 _ (fun j => kSg (k0_pay19 (k0_pay8 x) (k0_pay10 x) (Scalar.ofBits .f32 0x00000000#32 : Ideal .f32) j)) bitcasts_S32x128_w8_S8x128_w32
    bitcasts_S8x128_w32_S32x128_w8 rfl ?_ _ (fun j => rfl) b l).trans ?_
  rotate_left
  · show _ = kByte _ _
    unfold kByte
    rw [← hy]
    rfl
  · intro j
    idx_vars j
    rw [hy]
    have := idx_lt_lane x j0 ⟨128 + j1.val, by omega⟩ (r (ix2 j0 (order ⟨128 + j1.val, by omega⟩)))
    have e : (128 + j1.val) % 8 = j1.val % 8 := by omega
    simp only [e] at this
    exact this

end Cert.KernelIdeal.Hand
end
-- ==== Proof.TileL.lean ====
/-
  The tiles quantised along the lanes, element by element, and the running product.
-/
module

public import proofs.«01_k».proof.Proof.TileT
public import proofs.«01_k».proof.Proof.LaneOp
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Group Cert.Scalar Cert.Spec

variable (m : (ℓ : Loc nD τ sig) → Buf (Elt Ideal) ℓ)

/-- The place of a lane, by its three digits. -/
theorem order_val (l : ℕ) (h : l < 256) (x y z : ℕ) (hx : l % 8 = x) (hy : l % 128 / 8 = y) (hz : l / 128 = z) :
    (order ⟨l, h⟩).val = 32 * x + 2 * y + z := by
  subst hx hy hz
  show (l % 8) * 32 + 2 * (l % 128 / 8) + l / 128 = _
  omega

/-- The order of the lanes takes no lane twice. -/
theorem order_inj : Function.Injective order := by
  intro a b h
  have h1 : (order a).val = (order b).val := congrArg Fin.val h
  rw [order_val a.val a.isLt _ _ _ rfl rfl rfl, order_val b.val b.isLt _ _ _ rfl rfl rfl] at h1
  have ha : a.val = 128 * (a.val / 128) + 8 * (a.val % 128 / 8) + a.val % 8 := by omega
  have hb : b.val = 128 * (b.val / 128) + 8 * (b.val % 128 / 8) + b.val % 8 := by omega
  have a1 : a.val % 8 < 8 := Nat.mod_lt _ (by decide)
  have a2 : a.val % 128 / 8 < 16 := by omega
  have a3 : a.val / 128 < 2 := by omega
  have b1 : b.val % 8 < 8 := Nat.mod_lt _ (by decide)
  have b2 : b.val % 128 / 8 < 16 := by omega
  have b3 : b.val / 128 < 2 := by omega
  apply Fin.ext
  generalize a.val % 8 = x, a.val % 128 / 8 = y, a.val / 128 = z, b.val % 8 = x', b.val % 128 / 8 = y', b.val / 128 = z' at *
  have p1 : (32 * x + 2 * y + z) / 32 = x := by omega
  have p2 : (32 * x' + 2 * y' + z') / 32 = x' := by omega
  have q1 : (32 * x + 2 * y + z) % 2 = z := by omega
  have q2 : (32 * x' + 2 * y' + z') % 2 = z' := by omega
  rw [h1] at p1 q1
  have e1 : x = x' := p1.symm.trans p2
  have e2 : z = z' := q1.symm.trans q2
  have e3 : y = y' := by omega
  rw [ha, hb, e1, e2, e3]

/-- The order of the lanes as a permutation. -/
def orderE : Fin 256 ≃ Fin 256 := Equiv.ofBijective order (Finite.injective_iff_bijective.mp order_inj)

/-- A sum over the lanes in the kernel's order is the sum over the lanes. -/
theorem sum_order (f : Fin 256 → EReal) : ∑ l, f (order l) = ∑ l, f l := Equiv.sum_comp orderE f

/-- The quantiser along the lanes, the second half. -/
theorem lane_odd (x : S32x256.Idx → EReal) (r : S32x256.Idx → BitVec 8) (b : Fin 32) (k : Fin 128) :
    laneOp (F := Ideal) x r (ix2 b ⟨128 + k.val, by omega⟩) = kElem (x (ix2 b ⟨128 + k.val, by omega⟩))
      (laneMax x b ⟨(128 + k.val) % 8, Nat.mod_lt _ (by decide)⟩ * (c0 : EReal)) (r (ix2 b (order ⟨128 + k.val, by omega⟩))) := by
  have e8 : (⟨(128 + k.val) % 8, Nat.mod_lt _ (by decide)⟩ : Fin 8) = ⟨k.val % 8, Nat.mod_lt _ (by decide)⟩ := Fin.ext (by show (128 + k.val) % 8 = k.val % 8; omega)
  refine (laneOp_odd x r b k).trans ?_
  rw [← e8]

/-- The quantiser along the lanes, both halves. -/
theorem lane_all (x : S32x256.Idx → EReal) (r : S32x256.Idx → BitVec 8) (b : Fin 32) (l : Fin 256) :
    laneOp (F := Ideal) x r (ix2 b l) = kElem (x (ix2 b l)) (laneMax x b ⟨l.val % 8, Nat.mod_lt _ (by decide)⟩ * (c0 : EReal)) (r (ix2 b (order l))) := by
  by_cases h : l.val < 128
  · exact laneOp_even x r b ⟨l.val, h⟩
  · have e : ∃ k : Fin 128, l.val = 128 + k.val := ⟨⟨l.val - 128, by omega⟩, by show l.val = 128 + (l.val - 128); omega⟩
    obtain ⟨k, hk⟩ := e
    have hl : l = ⟨128 + k.val, by omega⟩ := Fin.ext hk
    rw [hl]
    exact lane_odd x r b k

/-- The largest of a group, the group's lanes in the kernel's order. -/
theorem laneMax_eq (x : S32x256.Idx → EReal) (b : Fin 32) (g : Fin 8) (z : Fin 32 → EReal)
    (hx : ∀ k : Fin 32, x (ix2 b ⟨8 * k.val + g.val, by omega⟩) = z ⟨2 * (k.val % 16) + k.val / 16, by omega⟩) : laneMax x b g = gmax z := by
  have : laneMax x b g = gmax (fun k : Fin 32 => x (ix2 b ⟨8 * k.val + g.val, by omega⟩)) := rfl
  rw [this]
  refine gmax_perm _ _ (fun k => ⟨_, hx k⟩) (fun k => ⟨⟨k.val / 2 + 16 * (k.val % 2), by omega⟩, ?_⟩)
  rw [hx]
  congr 1
  exact Fin.ext (by show k.val = 2 * ((k.val / 2 + 16 * (k.val % 2)) % 16) + (k.val / 2 + 16 * (k.val % 2)) / 16; omega)

/-- A group of thirty-two lanes of a row, with its signs. -/
def rowz {M : ℕ} (A : (⟨2, ![M, 256]⟩ : Shape).Idx → EReal) (s : S1x256.Idx → EReal) (r : Fin M) (g : Fin 8) (k : Fin 32) : EReal :=
  A (ix2 r ⟨32 * g.val + k.val, by omega⟩) * s (ix2 0 ⟨32 * g.val + k.val, by omega⟩)

/-- The rotation along the lanes, group by group. -/
theorem rot_lane {M : ℕ} (H : S256x256.Idx → EReal) (hH : ∀ i j, H (ix2 i j) = blk (order i) j) (s : S1x256.Idx → EReal)
    (A : (⟨2, ![M, 256]⟩ : Shape).Idx → EReal) (r : Fin M) (l : Fin 256) :
    (∑ j : Fin 256, A (ix2 r j) * (H (ix2 l j) * s (ix2 0 j)))
      = rot (rowz A s r ⟨(order l).val / 32, by omega⟩) ⟨(order l).val % 32, Nat.mod_lt _ (by decide)⟩ := by
  refine Eq.trans (Finset.sum_congr rfl fun j _ => ?_) (sum_blk (order l) (fun j => A (ix2 r j) * s (ix2 0 j)))
  rw [hH, mul_comm (blk _ _) _, ← mul_assoc]

/-- A block of rows rotated and quantised. -/
theorem lane_block (x : S32x256.Idx → EReal) (R : S32x256.Idx → BitVec 8) (b : Fin 32) (z : Fin 8 → Fin 32 → EReal)
    (hx : ∀ l : Fin 256, x (ix2 b l) = rot (z ⟨(order l).val / 32, by omega⟩) ⟨(order l).val % 32, Nat.mod_lt _ (by decide)⟩) (l : Fin 256) :
    laneOp (F := Ideal) x R (ix2 b l)
      = gq (z ⟨(order l).val / 32, by omega⟩) (R (ix2 b (order l))) ⟨(order l).val % 32, Nat.mod_lt _ (by decide)⟩ := by
  have e : (⟨(order l).val / 32, by omega⟩ : Fin 8) = ⟨l.val % 8, Nat.mod_lt _ (by decide)⟩ := Fin.ext (by
    show ((l.val % 8) * 32 + 2 * ((l.val % 128) / 8) + l.val / 128) / 32 = l.val % 8; omega)
  rw [lane_all]
  unfold gq
  rw [hx l, laneMax_eq x b ⟨l.val % 8, Nat.mod_lt _ (by decide)⟩ (rot (z ⟨(order l).val / 32, by omega⟩)) fun k => ?_]
  rw [hx, e]
  have ho : (order ⟨8 * k.val + l.val % 8, by omega⟩).val = 32 * (l.val % 8) + 2 * (k.val % 16) + k.val / 16 :=
    order_val _ _ _ _ _ (by omega) (by omega) (by omega)
  have e1 : (⟨(order ⟨8 * k.val + l.val % 8, by omega⟩).val / 32, by omega⟩ : Fin 8) = ⟨l.val % 8, Nat.mod_lt _ (by decide)⟩ := Fin.ext (by
    show (order ⟨8 * k.val + l.val % 8, by omega⟩).val / 32 = l.val % 8; rw [ho]; omega)
  have e2 : (⟨(order ⟨8 * k.val + l.val % 8, by omega⟩).val % 32, Nat.mod_lt _ (by decide)⟩ : Fin 32) = ⟨2 * (k.val % 16) + k.val / 16, by omega⟩ := Fin.ext (by
    show (order ⟨8 * k.val + l.val % 8, by omega⟩).val % 32 = 2 * (k.val % 16) + k.val / 16; rw [ho]; omega)
  rw [e1, e2]

/-- One tile of the gradient rotated along the lanes and quantised, over plain arrays. -/
theorem lane_pure (H : S256x256.Idx → EReal) (hH : ∀ i j, H (ix2 i j) = blk (order i) j) (s : S1x256.Idx → EReal) (A : S1792x256.Idx → EReal)
    (R : S1792x256.Idx → BitVec 8) (d : S1792x256.Idx → EReal) (h : IsLane (F := Ideal) (k0_pay70 (F := Ideal) H s A) R d) (r : Fin 1792) (l : Fin 256) :
    d (ix2 r l) = gq (rowz A s r ⟨(order l).val / 32, by omega⟩) (R (ix2 r (order l))) ⟨(order l).val % 32, Nat.mod_lt _ (by decide)⟩ := by
  have e1 : ∀ l, at32 ⟨r.val / 32, by omega⟩ (ix2 ⟨r.val % 32, Nat.mod_lt _ (by decide)⟩ l) = ix2 r l := fun l => by
    unfold at32
    congr 1
    exact Fin.ext (by show 32 * (r.val / 32) + r.val % 32 = r.val; omega)
  have h1 := h ⟨r.val / 32, by omega⟩ (ix2 ⟨r.val % 32, Nat.mod_lt _ (by decide)⟩ l)
  rw [e1] at h1
  refine h1.trans ?_
  unfold laneG
  refine (lane_block _ _ _ (rowz A s r) (fun l => ?_) l).trans ?_
  · show k0_pay70 (F := Ideal) H s A (at32 _ _) = _
    rw [e1]
    exact (pay70_at H s A r l).trans (rot_lane H hH s A r l)
  · show gq _ (R (at32 _ _)) _ = _
    rw [e1]

/-- The same for the weight. -/
theorem lanew_pure (H : S256x256.Idx → EReal) (hH : ∀ i j, H (ix2 i j) = blk (order i) j) (s : S1x256.Idx → EReal) (A : S2560x256.Idx → EReal)
    (R : S2560x256.Idx → BitVec 8) (d : S2560x256.Idx → EReal) (h : IsLanew (F := Ideal) (k0_pay71 (F := Ideal) H s A) R d) (r : Fin 2560) (l : Fin 256) :
    d (ix2 r l) = gq (rowz A s r ⟨(order l).val / 32, by omega⟩) (R (ix2 r (order l))) ⟨(order l).val % 32, Nat.mod_lt _ (by decide)⟩ := by
  have e1 : ∀ l, at32w ⟨r.val / 32, by omega⟩ (ix2 ⟨r.val % 32, Nat.mod_lt _ (by decide)⟩ l) = ix2 r l := fun l => by
    unfold at32w
    congr 1
    exact Fin.ext (by show 32 * (r.val / 32) + r.val % 32 = r.val; omega)
  have h1 := h ⟨r.val / 32, by omega⟩ (ix2 ⟨r.val % 32, Nat.mod_lt _ (by decide)⟩ l)
  rw [e1] at h1
  refine h1.trans ?_
  unfold laneGw
  refine (lane_block _ _ _ (rowz A s r) (fun l => ?_) l).trans ?_
  · show k0_pay71 (F := Ideal) H s A (at32w _ _) = _
    rw [e1]
    exact (pay71_at H s A r l).trans (rot_lane H hH s A r l)
  · show gq _ (R (at32w _ _)) _ = _
    rw [e1]

/-- The signs' window at an index. -/
theorem w3 (c : Dev nD) (n : ℕ) (hn : n < 27) (j : Fin 256) :
    inW m c 3 (pt n) (ix2 0 j) = aSn m c (ix1 ⟨256 * n + j.val, by omega⟩) := inW3_at m c n hn j
/-- The weight's window at an index. -/
theorem w5 (c : Dev nD) (n : ℕ) (hn : n < 27) (r : Fin 2560) (j : Fin 256) :
    inW m c 5 (pt n) (ix2 r j) = aW m c (ix2 r ⟨256 * n + j.val, by omega⟩) := inW5_at m c n hn r j
/-- The weight's bytes' window at an index. -/
theorem w7 (c : Dev nD) (n : ℕ) (hn : n < 27) (r : Fin 2560) (j : Fin 256) :
    inW m c 7 (pt n) (ix2 r j) = aRw m c (ix2 r ⟨256 * n + j.val, by omega⟩) := inW7_at m c n hn r j

/-- Tile `n` of the gradient quantised along the lanes. -/
theorem laneN_at (c : Dev nD) (n : ℕ) (hn : n < 27) (d : S1792x256.Idx → EReal) (h : LaneN m c n d) (r : Fin 1792) (l : Fin 256) :
    d (ix2 r l) = qN (aDy m c) (aSn m c) (aRn m c) r ⟨256 * n + (order l).val, by omega⟩ := by
  refine (lane_pure _ (fun i j => inW1_at m c _ i j) _ _ _ d h r l).trans ?_
  unfold qN
  have ez : rowz (inW m c 4 (pt n)) (inW m c 3 (pt n)) r ⟨(order l).val / 32, by omega⟩
      = zN (aDy m c) (aSn m c) r ⟨(256 * n + (order l).val) / 32, by omega⟩ := by
    funext k
    have ek : 256 * n + (32 * ((order l).val / 32) + k.val) = 32 * ((256 * n + (order l).val) / 32) + k.val := by omega
    refine (congrArg₂ (fun x y : EReal => x * y) (w4 m c n hn r ⟨32 * ((order l).val / 32) + k.val, by omega⟩) (w3 m c n hn ⟨32 * ((order l).val / 32) + k.val, by omega⟩)).trans ?_
    unfold zN
    simp only [ek]
  have eb : (⟨(order l).val % 32, Nat.mod_lt _ (by decide)⟩ : Fin 32) = ⟨(256 * n + (order l).val) % 32, Nat.mod_lt _ (by decide)⟩ :=
    Fin.ext (by show (order l).val % 32 = (256 * n + (order l).val) % 32; omega)
  rw [eb]
  exact congrArg₂ (fun x y => gq x y _) ez (w6 m c n hn r (order l))

/-- Tile `n` of the weight quantised along the lanes. -/
theorem lanewN_at (c : Dev nD) (n : ℕ) (hn : n < 27) (d : S2560x256.Idx → EReal) (h : LanewN m c n d) (r : Fin 2560) (l : Fin 256) :
    d (ix2 r l) = qW (aW m c) (aSn m c) (aRw m c) r ⟨256 * n + (order l).val, by omega⟩ := by
  refine (lanew_pure _ (fun i j => inW1_at m c _ i j) _ _ _ d h r l).trans ?_
  unfold qW
  have ez : rowz (inW m c 5 (pt n)) (inW m c 3 (pt n)) r ⟨(order l).val / 32, by omega⟩
      = zW (aW m c) (aSn m c) r ⟨(256 * n + (order l).val) / 32, by omega⟩ := by
    funext k
    have ek : 256 * n + (32 * ((order l).val / 32) + k.val) = 32 * ((256 * n + (order l).val) / 32) + k.val := by omega
    refine (congrArg₂ (fun x y : EReal => x * y) (w5 m c n hn r ⟨32 * ((order l).val / 32) + k.val, by omega⟩) (w3 m c n hn ⟨32 * ((order l).val / 32) + k.val, by omega⟩)).trans ?_
    unfold zW
    simp only [ek]
  have eb : (⟨(order l).val % 32, Nat.mod_lt _ (by decide)⟩ : Fin 32) = ⟨(256 * n + (order l).val) % 32, Nat.mod_lt _ (by decide)⟩ :=
    Fin.ext (by show (order l).val % 32 = (256 * n + (order l).val) % 32; omega)
  rw [eb]
  exact congrArg₂ (fun x y => gq x y _) ez (w7 m c n hn r (order l))

/-- One more tile's product. -/
theorem acc_pure (A : S1792x2560.Idx → EReal) (N : S1792x256.Idx → EReal) (W : S2560x256.Idx → EReal) (d : S1792x2560.Idx → EReal)
    (h : IsAcc (F := Ideal) A N W d) (r : Fin 1792) (K : Fin 2560) :
    d (ix2 r K) = A (ix2 r K) + ∑ j : Fin 256, N (ix2 r j) * W (ix2 K j) := by
  have e1 : atCol ⟨K.val / 256, by omega⟩ (ix2 r ⟨K.val % 256, Nat.mod_lt _ (by decide)⟩) = ix2 r K := by
    unfold atCol
    congr 1
    exact Fin.ext (by show 256 * (K.val / 256) + K.val % 256 = K.val; omega)
  have e2 : ∀ j, at256w ⟨K.val / 256, by omega⟩ (ix2 ⟨K.val % 256, Nat.mod_lt _ (by decide)⟩ j) = ix2 K j := fun j => by
    unfold at256w
    congr 1
    exact Fin.ext (by show 256 * (K.val / 256) + K.val % 256 = K.val; omega)
  have h1 := h ⟨K.val / 256, by omega⟩ (ix2 r ⟨K.val % 256, Nat.mod_lt _ (by decide)⟩)
  rw [e1] at h1
  refine h1.trans ((pay186_at _ _ _ _ _).trans ?_)
  simp only [e1, e2]

/-- The running product after `k` tiles. -/
theorem accN_at (c : Dev nD) : ∀ (k : ℕ) (hk : k ≤ 27) (d : S1792x2560.Idx → EReal) (_ : AccN m c k d) (r : Fin 1792) (K : Fin 2560),
    d (ix2 r K) = ∑ n : Fin k, ∑ j : Fin 256, qN (aDy m c) (aSn m c) (aRn m c) r ⟨256 * n.val + j.val, by omega⟩
      * qW (aW m c) (aSn m c) (aRw m c) K ⟨256 * n.val + j.val, by omega⟩
  | 0, _, d, h, r, K => by
    have h' : d = k0_pay68 (F := Ideal) := h
    rw [h', Fin.sum_univ_zero]
    pointwise [k0_pay68]
  | k + 1, hk, d, h, r, K => by
    obtain ⟨d', o, w, hd, ho, hw, ha⟩ := h
    rw [acc_pure d' o w d ha r K, accN_at c k (by omega) d' hd r K]
    refine Eq.trans ?_ (Fin.sum_univ_castSucc _).symm
    refine congrArg₂ (fun x y : EReal => x + y) rfl ?_
    rw [← sum_order (fun j => qN (aDy m c) (aSn m c) (aRn m c) r ⟨256 * (Fin.last k).val + j.val, by show 256 * k + _ < 6912; omega⟩
      * qW (aW m c) (aSn m c) (aRw m c) K ⟨256 * (Fin.last k).val + j.val, by show 256 * k + _ < 6912; omega⟩)]
    refine Finset.sum_congr rfl fun j _ => congrArg₂ (fun x y : EReal => x * y) (laneN_at m c k (by omega) o ho r j) (lanewN_at m c k (by omega) w hw K j)

/-- The running product after every tile. -/
theorem acc_at (c : Dev nD) (d : S1792x2560.Idx → EReal) (h : AccN m c 27 d) (r : Fin 1792) (K : Fin 2560) :
    d (ix2 r K) = ∑ n : Fin 6912, qN (aDy m c) (aSn m c) (aRn m c) r n * qW (aW m c) (aSn m c) (aRw m c) K n := by
  rw [accN_at m c 27 le_rfl d h r K, Fin.sum_univ_tiles 27 256 rfl]
  refine Finset.sum_congr rfl fun n _ => Finset.sum_congr rfl fun j _ => ?_
  have e : 256 * n.val + j.val = n.val * 256 + j.val := by omega
  simp only [e]

end Cert.KernelIdeal.Hand
end
-- ==== Proof.ValOut.lean ====
/-
  What the kernel's three claimed result arrays hold after the run, in closed form.
-/
module

public import proofs.«01_k».proof.Proof.TileL
public import Idealize.ShloMosaic.Lib.Pipeline.ValueKit
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe
open Cert.Group Cert.Scalar Cert.Spec
open Idealize.ShloMosaic.Pipeline (Dat RDat)

variable (m : (ℓ : Loc nD τ sig) → Buf (Elt Ideal) ℓ)

/-- The gradient of the weight, as the kernel's arguments give it. -/
def outDw (c : Dev nD) : S2560x6912.Idx → EReal := fun i => dw (aXt m c) (aDy m c) (aSt m c) (aRt m c) (i 0) (i 1)
/-- The gradient of the activations, as the kernel's arguments give it. -/
def outDx (c : Dev nD) : S1792x2560.Idx → EReal := fun i => dx (aDy m c) (aW m c) (aSn m c) (aRn m c) (aRw m c) (i 0) (i 1)

/-- The token scales' exponents, as the kernel's arguments give them. -/
def outEt (c : Dev nD) : S2x28x6912.Idx → BitVec 8 := fun i => es (aDy m c) (aSt m c) ⟨28 * (i 0).val + (i 1).val, by
  have h0 : (i 0).val < 2 := (i 0).isLt
  have h1 : (i 1).val < 28 := (i 1).isLt
  omega⟩ (i 2)

/-- One tile of the gradient of the weight. -/
def TileW (c : Dev nD) (n : ℕ) (X : S2560x256.Idx → EReal) : Prop :=
  ∃ d o, TrotN m c n d ∧ IsTok (F := Ideal) d (inW m c 8 (pt (n + 1))) o ∧ X = k0_pay204 (F := Ideal) (xtR m c) o

/-- A tile of the weight gradient, at an index. -/
theorem tileW_at (c : Dev nD) (n : ℕ) (hn : n < 27) (X : S2560x256.Idx → EReal) (h : TileW m c n X) (K : Fin 2560) (l : Fin 256) :
    X (ix2 K l) = dw (aXt m c) (aDy m c) (aSt m c) (aRt m c) K ⟨256 * n + l.val, by omega⟩ := by
  obtain ⟨d, o, hd, ho, rfl⟩ := h
  refine (pay204_at _ _ _ _).trans ?_
  unfold dw un
  refine congrArg (fun x : EReal => Ideal.ofBits .f32 0x3FE38E39#32 * x) (Finset.sum_congr rfl fun j _ => ?_)
  exact congrArg₂ (fun x y : EReal => x * y) (xtR_at m c K j) (tok_at m c n hn d hd o ho j l)

/-- The window's contents are the tile. -/
theorem tileW_of_P10 (c : Dev nD) (t : Fin cfg0.N) (ht : 1 ≤ t.val ∧ t.val ≤ 27) (Y X : S2560x256.Idx → EReal) (h : P10 m c t Y X) :
    TileW m c (t.val - 1) X := by
  obtain ⟨d, o, hd, ho, hX⟩ := h.1 ht
  refine ⟨d, o, hd, ?_, hX⟩
  have e : pt (t.val - 1 + 1) = t := by rw [Nat.sub_add_cancel ht.1]; exact pt_val t
  rw [e]; exact ho

/-- The weight gradient's window is never fetched. -/
theorem nofetch10 : ∀ t : Fin cfg0.N, (cfg0.win 10).fetch t = false := by decide +kernel
/-- It is not written back between the last tile and the end. -/
theorem flush10 : ∀ t : Fin cfg0.N, 27 ≤ t.val → t.val < 34 → (cfg0.win 10).flush t = false := by decide +kernel
/-- It is written back from the second point on. -/
theorem flush10_pos : ∀ t : Fin cfg0.N, (cfg0.win 10).flush t = true → 1 ≤ t.val := by decide +kernel
/-- The activations' window is written back after the last tile only. -/
theorem flush9_pos : ∀ t : Fin cfg0.N, (cfg0.win 9).flush t = true → 27 < t.val := by decide +kernel

/-- After the last tile the weight gradient's window keeps its contents. -/
theorem late_step (c : Dev nD) (t : Fin cfg0.N) (ht : 27 < t.val) (t' : Fin cfg0.N) (ht' : t'.val = t.val - 1) (X : S2560x256.Idx → EReal) (h : (rdat m c).Leaves 10 t X) :
    (rdat m c).Leaves 10 t' X := by
  obtain ⟨Y, hY, hX⟩ := h
  have h : P10 m c t Y X := hX.2.2.1 rfl
  have e : X = Y := h.2 ht
  rw [e]
  have hN : t.val < 35 := t.isLt
  have et : t' = ⟨t.val - 1, Nat.lt_of_le_of_lt (Nat.sub_le _ _) t.isLt⟩ := Fin.ext ht'
  rw [et]
  rcases (RDat.finds_of_pos (rdat m c) (nofetch10 t) (by omega) Y).mp hY with hf | hl
  · rw [← et, flush10 t' (by omega) (by omega)] at hf
    exact absurd hf (by decide)
  · exact hl

/-- What the window of dw holds once the last tile is done. -/
theorem leaves_late (c : Dev nD) (X : S2560x256.Idx → EReal) (k : ℕ) : ∀ (t : Fin cfg0.N) (_ : t.val = 27 + k) (_ : (rdat m c).Leaves 10 t X), TileW m c 26 X := by
  induction k with
  | zero =>
    intro t ht h
    obtain ⟨Y, _, hX⟩ := h
    have h := tileW_of_P10 m c t ⟨by omega, by omega⟩ Y X (hX.2.2.1 rfl)
    rw [ht] at h; exact h
  | succ k ih =>
    intro t ht h
    have hN : t.val < 35 := t.isLt
    exact ih ⟨27 + k, by show 27 + k < 35; omega⟩ rfl (late_step m c t (by omega) _ (by show 27 + k = _; omega) X h)

/-- What the weight gradient's window holds at each point. -/
theorem leaves10 (c : Dev nD) (t : Fin cfg0.N) (ht : 1 ≤ t.val) (X : S2560x256.Idx → EReal) (h : (rdat m c).Leaves 10 t X) : TileW m c (min (t.val - 1) 26) X := by
  by_cases h27 : t.val ≤ 27
  · obtain ⟨Y, _, hX⟩ := h
    have h := tileW_of_P10 m c t ⟨ht, h27⟩ Y X (hX.2.2.1 rfl)
    rwa [show min (t.val - 1) 26 = t.val - 1 by omega]
  · rw [show min (t.val - 1) 26 = 26 by omega]
    exact leaves_late m c X (t.val - 27) t (by omega) h

/-- One tile of the token scales' exponents. -/
def TileE (c : Dev nD) (n : ℕ) (X : S2x28x256.Idx → BitVec 8) : Prop := ∃ d, TrotN m c n d ∧ IsEt (F := Ideal) d X

/-- A tile of the token scales' exponents, at an index. -/
theorem tileE_at (c : Dev nD) (n : ℕ) (hn : n < 27) (X : S2x28x256.Idx → BitVec 8) (h : TileE m c n X) (b : Fin 2) (g : Fin 28) (l : Fin 256) :
    X (ix3 b g l) = es (aDy m c) (aSt m c) ⟨28 * b.val + g.val, by omega⟩ ⟨256 * n + l.val, by omega⟩ := by
  obtain ⟨d, hd, hX⟩ := h
  exact (hX b g l).trans (exp_at m c n hn d hd _ l)

/-- The exponents' window is never fetched. -/
theorem nofetch16 : ∀ t : Fin cfg0.N, (cfg0.win 16).fetch t = false := by decide +kernel
/-- It is not written back between the last tile and the end. -/
theorem flush16 : ∀ t : Fin cfg0.N, 27 ≤ t.val → t.val < 34 → (cfg0.win 16).flush t = false := by decide +kernel
/-- It is written back from the second point on. -/
theorem flush16_pos : ∀ t : Fin cfg0.N, (cfg0.win 16).flush t = true → 1 ≤ t.val := by decide +kernel

/-- After the last tile the exponents' window keeps its contents. -/
theorem late_stepE (c : Dev nD) (t : Fin cfg0.N) (ht : 27 < t.val) (t' : Fin cfg0.N) (ht' : t'.val = t.val - 1) (X : S2x28x256.Idx → BitVec 8) (h : (rdat m c).Leaves 16 t X) :
    (rdat m c).Leaves 16 t' X := by
  obtain ⟨Y, hY, hX⟩ := h
  have h : P16 m c t Y X := hX.2.2.2 rfl
  have e : X = Y := h.2 ht
  rw [e]
  have hN : t.val < 35 := t.isLt
  have et : t' = ⟨t.val - 1, Nat.lt_of_le_of_lt (Nat.sub_le _ _) t.isLt⟩ := Fin.ext ht'
  rw [et]
  rcases (RDat.finds_of_pos (rdat m c) (nofetch16 t) (by omega) Y).mp hY with hf | hl
  · rw [← et, flush16 t' (by omega) (by omega)] at hf
    exact absurd hf (by decide)
  · exact hl

/-- What the exponents' window holds once the last tile is done. -/
theorem leavesE_late (c : Dev nD) (X : S2x28x256.Idx → BitVec 8) (k : ℕ) : ∀ (t : Fin cfg0.N) (_ : t.val = 27 + k) (_ : (rdat m c).Leaves 16 t X), TileE m c 26 X := by
  induction k with
  | zero =>
    intro t ht h
    obtain ⟨Y, _, hX⟩ := h
    have h16 : P16 m c t Y X := hX.2.2.2 rfl
    have h : TileE m c (t.val - 1) X := h16.1 ⟨by omega, by omega⟩
    rw [ht] at h; exact h
  | succ k ih =>
    intro t ht h
    have hN : t.val < 35 := t.isLt
    exact ih ⟨27 + k, by show 27 + k < 35; omega⟩ rfl (late_stepE m c t (by omega) _ (by show 27 + k = _; omega) X h)

/-- What the exponents' window holds at each point. -/
theorem leaves16 (c : Dev nD) (t : Fin cfg0.N) (ht : 1 ≤ t.val) (X : S2x28x256.Idx → BitVec 8) (h : (rdat m c).Leaves 16 t X) : TileE m c (min (t.val - 1) 26) X := by
  by_cases h27 : t.val ≤ 27
  · obtain ⟨Y, _, hX⟩ := h
    have h16 : P16 m c t Y X := hX.2.2.2 rfl
    rw [show min (t.val - 1) 26 = t.val - 1 by omega]
    exact h16.1 ⟨ht, h27⟩
  · rw [show min (t.val - 1) 26 = 26 by omega]
    exact leavesE_late m c X (t.val - 27) t (by omega) h

/-- The accumulator's rows that a closing point reads. -/
theorem off19 : ∀ t : Fin cfg0.N, 27 < t.val → k0_off19 (grid0.coords t) = ![256 * (t.val - 28), 0] :=
  (by decide +kernel : ∀ t : Fin grid0.N, 27 < t.val → k0_off19 (grid0.coords t) = ![256 * (t.val - 28), 0])

/-- What the activations' window holds at a closing point. -/
theorem leaves9 (c : Dev nD) (t : Fin cfg0.N) (ht : 27 < t.val) (X : S256x2560.Idx → EReal) (h : (rdat m c).Leaves 9 t X) (r : Fin 256) (K : Fin 2560)
    (hr : 256 * (t.val - 28) + r.val < 1792) :
    X (ix2 r K) = dx (aDy m c) (aW m c) (aSn m c) (aRn m c) (aRw m c) ⟨256 * (t.val - 28) + r.val, hr⟩ K := by
  obtain ⟨Y, _, hX⟩ := h
  have h9 : P9 m c t X := hX.2.1 rfl
  obtain ⟨d, h4, hd, e⟩ := h9 ht
  rw [e]
  have hp : ∀ v : S256x2560.Idx → EReal, k0_pay5 (F := Ideal) v (ix2 r K) = (Ideal.ofBits .f32 0x3FE38E39#32 * v (ix2 r K) : EReal) := fun v => by
    pointwise [k0_pay5]
  refine (hp _).trans ?_
  unfold dx un
  refine congrArg (fun x : EReal => Ideal.ofBits .f32 0x3FE38E39#32 * x) ?_
  refine Eq.trans (congrArg d ?_) (acc_at m c d hd _ K)
  have ho := off19 t ht
  blk_ext [ho]

/-- The weight gradient's array after the run. -/
theorem arr_dw (c : Dev nD) (after) (hL : ∀ (w : Fin cfg0.W) (u : Fin cfg0.N), (cfg0.win w).flush u = true → (rdat m c).Leaves w u (after w u)) :
    ((rdat m c).withAfter after).arrAt 10 cfg0.N = outDw m c := by
  refine ((rdat m c).withAfter after).arrAt_eq_of_covers 10 _ (by decide +kernel) fun t hf y => ?_
  have h := leaves10 m c t (flush10_pos t hf) _ (hL 10 t hf)
  have hy : ∃ (K : Fin 2560) (l : Fin 256), y = ix2 K l := ⟨y 0, y 1, by blk_ext⟩
  obtain ⟨K, l, rfl⟩ := hy
  refine (tileW_at m c _ (by omega) _ h K l).trans ?_
  have e : ((win0_10.blk t).view.emb (ix2 K l) : S2560x6912.Idx) = ix2 K ⟨256 * min (t.val - 1) 26 + l.val, by omega⟩ := by blk_ext [idx10]
  exact (congrArg (outDw m c) e).symm

/-- The exponents' array after the run. -/
theorem arr_et (c : Dev nD) (after) (hL : ∀ (w : Fin cfg0.W) (u : Fin cfg0.N), (cfg0.win w).flush u = true → (rdat m c).Leaves w u (after w u)) :
    ((rdat m c).withAfter after).arrAt 16 cfg0.N = outEt m c := by
  refine ((rdat m c).withAfter after).arrAt_eq_of_covers 16 _ (by decide +kernel) fun t hf y => ?_
  have h := leaves16 m c t (flush16_pos t hf) _ (hL 16 t hf)
  have hy : ∃ (b : Fin 2) (g : Fin 28) (l : Fin 256), y = ix3 b g l := ⟨y 0, y 1, y 2, by blk_ext⟩
  obtain ⟨b, g, l, rfl⟩ := hy
  refine (tileE_at m c _ (by omega) _ h b g l).trans ?_
  have e : ((win0_16.blk t).view.emb (ix3 b g l) : S2x28x6912.Idx) = ix3 b g ⟨256 * min (t.val - 1) 26 + l.val, by omega⟩ := by blk_ext [idx16]
  exact (congrArg (outEt m c) e).symm

/-- The activations' gradient's array after the run. -/
theorem arr_dx (c : Dev nD) (after) (hL : ∀ (w : Fin cfg0.W) (u : Fin cfg0.N), (cfg0.win w).flush u = true → (rdat m c).Leaves w u (after w u)) :
    ((rdat m c).withAfter after).arrAt 9 cfg0.N = outDx m c := by
  refine ((rdat m c).withAfter after).arrAt_eq_of_covers 9 _ (by decide +kernel) fun t hf y => ?_
  have hN : t.val < 35 := t.isLt
  have h := leaves9 m c t (flush9_pos t hf) _ (hL 9 t hf)
  have hy : ∃ (K : Fin 256) (l : Fin 2560), y = ix2 K l := ⟨y 0, y 1, by blk_ext⟩
  obtain ⟨K, l, rfl⟩ := hy
  have hb : 256 * (t.val - 28) + K.val < 1792 := by omega
  refine (h K l hb).trans ?_
  have e : ((win0_9.blk t).view.emb (ix2 K l) : S1792x2560.Idx) = ix2 ⟨256 * (t.val - 28) + K.val, hb⟩ l := by blk_ext [idx9]
  exact (congrArg (outDx m c) e).symm

end Cert.KernelIdeal.Hand
end
-- ==== Proof.KernelRun.lean ====
/-
  The kernel's run: its three claimed results as the mathematics states them, its arguments unchanged.
-/
module

public import proofs.«01_k».proof.Proof.ValOut

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every element type is inhabited at the extended reals. -/
theorem elt_nonempty : ∀ e, Nonempty (Elt Ideal e) := fun e => by cases e <;> first | exact ⟨(0 : EReal)⟩ | exact ⟨(0 : BitVec _)⟩

set_option maxHeartbeats 1600000 in
/-- The kernel ends with its three claimed results and its arguments unchanged. -/
theorem runV :
    θ_run (defs (F := Ideal)) (onTc (τ := τ) (main (F := Ideal))) ⟨m, fun _ => 0, ρ⟩ (fun r => ∀ c : Dev nD,
      r.2.mem ((c.tc : Thread nD τ).loc main_v75_0) = outDx m c
      ∧ r.2.mem ((c.tc : Thread nD τ).loc main_v75_1) = outDw m c
      ∧ r.2.mem ((c.tc : Thread nD τ).loc main_v75_7) = outEt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => by
    haveI : ∀ e, Nonempty (Elt Ideal e) := elt_nonempty
    obtain ⟨after, hL, hA⟩ := Pipeline.RDat.FramePost.exists_exact h.1 c
    exact ⟨(hA 9).trans (arr_dx m c after hL), (hA 10).trans (arr_dw m c after hL), (hA 16).trans (arr_et m c after hL),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 5 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Pipeline.RDat.FramePost.arr_in h.1 c 7 rfl).trans (V_main_arg6 m c),
      ((h.1 c).2 main_arg7 (Pipeline.mem_restRefs_of main_arg7 (by decide) (by decide))).trans (V_main_arg7 m c)⟩) (run_mainV m ρ)

end Cert.KernelIdeal.Hand
end
-- ==== Proof.Ref.lean ====
/-
  The reference's operations, chunk by chunk: each chunk a function of the arrays it takes.
-/
module

public import proofs.«01_k».proof.Defs
public import proofs.«01_k».proof.Proof.Gen.ReferenceIdeal
public import proofs.«01_k».proof.Proof.Spec

@[expose] public section

set_option maxRecDepth 16384

noncomputable section

namespace Cert.ReferenceIdeal.Hand

open Cert.ReferenceIdeal Cert.ReferenceIdeal.Gen
open Idealize.ShloMosaic

/-- The Hadamard matrix, scaled. -/
def rHad  : FVec Ideal S32x32 .f32 :=
  have v0 : IVec S32 32 := iotaInDim S32 32 0
  have v1 : IVec S32x1 32 := broadcastInDim S32x1 ![0] bcast_S32_S32x1_0 v0
  have v2 : IVec S1x32 32 := broadcastInDim S1x32 ![1] bcast_S32_S1x32_1 v0
  have v3 : IVec S32x32 32 := broadcastInDim S32x32 ![0, 1] bcast_S32x1_S32x32_0_1 v1
  have v4 : IVec S32x32 32 := broadcastInDim S32x32 ![0, 1] bcast_S1x32_S32x32_0_1 v2
  have v5 : IVec S32x32 32 := andi v3 v4
  have v6 : IVec S32x32 32 := ctpop v5
  have c : IVec S_ 32 := constantI S_ 32 1#32
  have v7 : IVec S32x32 32 := broadcastInDim S32x32 ![] bcast_S_S32x32 c
  have v8 : IVec S32x32 32 := andi v6 v7
  have c_0 : IVec S_ 32 := constantI S_ 32 0#32
  have v9 : IVec S32x32 32 := broadcastInDim S32x32 ![] bcast_S_S32x32 c_0
  have v10 : IVec S32x32 1 := cmpi .eq v8 v9
  have cst : FVec Ideal S_ .f32 := constant S_ .f32 0x3E3504F3#32
  have v11 : FVec Ideal S_ .f32 := Host.negf cst
  have cst_1 : FVec Ideal S_ .f32 := constant S_ .f32 0x3E3504F3#32
  have v12 : FVec Ideal S32x32 .f32 := select v10 (broadcastInDim S32x32 ![] bcast_S_S32x32 cst_1) (broadcastInDim S32x32 ![] bcast_S_S32x32 v11)
  v12

/-- The gradient rotated along its columns. -/
def rRotN (arg1 : FVec Ideal S2x896x6912 .bf16) (arg3 : FVec Ideal S6912 .f32) (v12 : FVec Ideal S32x32 .f32) : FVec Ideal S2x896x216x32 .f32 :=
  have v13 : FVec Ideal S2x896x6912 .f32 := extf .f32 arg1 bitsLt_bf16_f32
  have v14 : FVec Ideal S1x1x6912 .f32 := broadcastInDim S1x1x6912 ![2] bcast_S6912_S1x1x6912_2 arg3
  have v15 : FVec Ideal S2x896x6912 .f32 := broadcastInDim S2x896x6912 ![0, 1, 2] bcast_S1x1x6912_S2x896x6912_0_1_2 v14
  have v16 : FVec Ideal S2x896x6912 .f32 := mulf v13 v15
  have v17 : FVec Ideal S2x896x216x32 .f32 := shapeCast S2x896x216x32 v16 shapeCasts_S2x896x6912_S2x896x216x32
  have v18 : FVec Ideal S2x896x216x32 .f32 := Host.dotGeneral dot_S2x896x216x32_S32x32_S2x896x216x32_3_1_012_0_n_n (some .fp32) v17 v12
  v18

/-- The gradient's bytes by column groups. -/
def rBytesN (arg5 : IVec S2x896x6912 8) : IVec S2x896x216x32 8 :=
  have v19 : IVec S2x896x216x32 8 := shapeCast S2x896x216x32 arg5 shapeCasts_S2x896x6912_S2x896x216x32
  v19

/-- The largest magnitude of every column group of the gradient. -/
def rMaxN (v18 : FVec Ideal S2x896x216x32 .f32) : FVec Ideal S2x896x216x1 .f32 :=
  have v21 : FVec Ideal S2x896x216x32 .f32 := Host.absf v18
  have cst_3 : FVec Ideal S_ .f32 := constant S_ .f32 0xFF800000#32
  have v22 : FVec Ideal S2x896x216 .f32 := Host.reduce FloatOps.maximumf v21 cst_3 reducesTo_S2x896x216x32_S2x896x216_d3 h_S_
  have v23 : FVec Ideal S2x896x216x1 .f32 := broadcastInDim S2x896x216x1 ![0, 1, 2] bcast_S2x896x216_S2x896x216x1_0_1_2 v22
  v23

/-- The gradient quantised along its columns. -/
def rQuantN (v18 : FVec Ideal S2x896x216x32 .f32) (v19 : IVec S2x896x216x32 8) (v23 : FVec Ideal S2x896x216x1 .f32) : FVec Ideal S2x896x216x32 .bf16 :=
  have cst_2 : FVec Ideal S_ .f32 := constant S_ .f32 0x40000000#32
  have v20 : FVec Ideal S_ .f32 := Host.log cst_2
  have cst_4 : FVec Ideal S_ .f32 := constant S_ .f32 0x00000000#32
  have v24 : FVec Ideal S2x896x216x1 .f32 := broadcastInDim S2x896x216x1 ![] bcast_S_S2x896x216x1 cst_4
  have v25 : IVec S2x896x216x1 1 := cmpf .oeq v23 v24
  have v26 : FVec Ideal S2x896x216x1 .f32 := Host.log v23
  have v27 : FVec Ideal S2x896x216x1 .f32 := broadcastInDim S2x896x216x1 ![] bcast_S_S2x896x216x1 v20
  have v28 : FVec Ideal S2x896x216x1 .f32 := Host.divf v26 v27
  have v29 : FVec Ideal S2x896x216x1 .f32 := Host.floor v28
  have cst_5 : FVec Ideal S_ .f32 := constant S_ .f32 0x40000000#32
  have v30 : FVec Ideal S2x896x216x1 .f32 := broadcastInDim S2x896x216x1 ![] bcast_S_S2x896x216x1 cst_5
  have v31 : FVec Ideal S2x896x216x1 .f32 := subf v29 v30
  have cst_6 : FVec Ideal S_ .f32 := constant S_ .f32 0x00000000#32
  have v32 : FVec Ideal S2x896x216x1 .f32 := select v25 (broadcastInDim S2x896x216x1 ![] bcast_S_S2x896x216x1 cst_6) v31
  have v33 : FVec Ideal S2x896x216x1 .f32 := Host.negf v32
  have v34 : FVec Ideal S2x896x216x1 .f32 := broadcastInDim S2x896x216x1 ![] bcast_S_S2x896x216x1 v20
  have v35 : FVec Ideal S2x896x216x1 .f32 := mulf v33 v34
  have v36 : FVec Ideal S2x896x216x1 .f32 := Host.exp v35
  have cst_7 : FVec Ideal S_ .f32 := constant S_ .f32 0x3F400000#32
  have v37 : FVec Ideal S2x896x216x1 .f32 := broadcastInDim S2x896x216x1 ![] bcast_S_S2x896x216x1 cst_7
  have v38 : FVec Ideal S2x896x216x1 .f32 := mulf v37 v36
  have v39 : FVec Ideal S2x896x216x32 .f32 := broadcastInDim S2x896x216x32 ![0, 1, 2, 3] bcast_S2x896x216x1_S2x896x216x32_0_1_2_3 v38
  have v40 : FVec Ideal S2x896x216x32 .f32 := mulf v18 v39
  have v41 : FVec Ideal S2x896x216x32 .f32 := Host.absf v40
  have cst_8 : FVec Ideal S_ .f32 := constant S_ .f32 0x40000000#32
  have v42 : FVec Ideal S2x896x216x32 .f32 := broadcastInDim S2x896x216x32 ![] bcast_S_S2x896x216x32 cst_8
  have v43 : IVec S2x896x216x32 1 := cmpf .olt v41 v42
  have cst_9 : FVec Ideal S_ .f32 := constant S_ .f32 0x40800000#32
  have v44 : FVec Ideal S2x896x216x32 .f32 := broadcastInDim S2x896x216x32 ![] bcast_S_S2x896x216x32 cst_9
  have v45 : IVec S2x896x216x32 1 := cmpf .olt v41 v44
  have cst_10 : FVec Ideal S_ .f32 := constant S_ .f32 0x3F800000#32
  have cst_11 : FVec Ideal S_ .f32 := constant S_ .f32 0x40000000#32
  have v46 : FVec Ideal S2x896x216x32 .f32 := select v45 (broadcastInDim S2x896x216x32 ![] bcast_S_S2x896x216x32 cst_10) (broadcastInDim S2x896x216x32 ![] bcast_S_S2x896x216x32 cst_11)
  have cst_12 : FVec Ideal S_ .f32 := constant S_ .f32 0x3F000000#32
  have v47 : FVec Ideal S2x896x216x32 .f32 := select v43 (broadcastInDim S2x896x216x32 ![] bcast_S_S2x896x216x32 cst_12) v46
  have v48 : FVec Ideal S2x896x216x32 .f32 := Host.divf v41 v47
  have v49 : FVec Ideal S2x896x216x32 .f32 := Host.floor v48
  have v50 : FVec Ideal S2x896x216x32 .f32 := mulf v49 v47
  have v51 : FVec Ideal S2x896x216x32 .f32 := subf v41 v50
  have v52 : FVec Ideal S2x896x216x32 .f32 := Host.divf v51 v47
  have v53 : IVec S2x896x216x32 32 := extui 32 v19 natLt_8_32
  have v54 : FVec Ideal S2x896x216x32 .f32 := sitofp .f32 v53
  have cst_13 : FVec Ideal S_ .f32 := constant S_ .f32 0x3F000000#32
  have v55 : FVec Ideal S2x896x216x32 .f32 := broadcastInDim S2x896x216x32 ![] bcast_S_S2x896x216x32 cst_13
  have v56 : FVec Ideal S2x896x216x32 .f32 := addf v54 v55
  have cst_14 : FVec Ideal S_ .f32 := constant S_ .f32 0x3B800000#32
  have v57 : FVec Ideal S2x896x216x32 .f32 := broadcastInDim S2x896x216x32 ![] bcast_S_S2x896x216x32 cst_14
  have v58 : FVec Ideal S2x896x216x32 .f32 := mulf v56 v57
  have v59 : IVec S2x896x216x32 1 := cmpf .olt v58 v52
  have v60 : FVec Ideal S2x896x216x32 .f32 := addf v50 v47
  have v61 : FVec Ideal S2x896x216x32 .f32 := select v59 v60 v50
  have cst_15 : FVec Ideal S_ .f32 := constant S_ .f32 0x00000000#32
  have v62 : FVec Ideal S2x896x216x32 .f32 := broadcastInDim S2x896x216x32 ![] bcast_S_S2x896x216x32 cst_15
  have v63 : IVec S2x896x216x32 1 := cmpf .olt v40 v62
  have v64 : FVec Ideal S2x896x216x32 .f32 := Host.negf v61
  have v65 : FVec Ideal S2x896x216x32 .f32 := select v63 v64 v61
  have v66 : FVec Ideal S2x896x216x32 .bf16 := truncf .bf16 v65 bitsLt_bf16_f32
  have v67 : FVec Ideal S2x896x216x1 .f32 := broadcastInDim S2x896x216x1 ![] bcast_S_S2x896x216x1 v20
  have v68 : FVec Ideal S2x896x216x1 .f32 := mulf v32 v67
  have v69 : FVec Ideal S2x896x216x1 .f32 := Host.exp v68
  have v70 : FVec Ideal S2x896x216x1 .bf16 := truncf .bf16 v69 bitsLt_bf16_f32
  have v71 : FVec Ideal S2x896x216x32 .bf16 := broadcastInDim S2x896x216x32 ![0, 1, 2, 3] bcast_S2x896x216x1_S2x896x216x32_0_1_2_3 v70
  have v72 : FVec Ideal S2x896x216x32 .bf16 := mulf v66 v71
  v72

/-- The weight rotated along its columns. -/
def rRotW (arg2 : FVec Ideal S2560x6912 .bf16) (arg3 : FVec Ideal S6912 .f32) (v12 : FVec Ideal S32x32 .f32) : FVec Ideal S2560x216x32 .f32 :=
  have v73 : FVec Ideal S2560x6912 .f32 := extf .f32 arg2 bitsLt_bf16_f32
  have v74 : FVec Ideal S1x6912 .f32 := broadcastInDim S1x6912 ![1] bcast_S6912_S1x6912_1 arg3
  have v75 : FVec Ideal S2560x6912 .f32 := broadcastInDim S2560x6912 ![0, 1] bcast_S1x6912_S2560x6912_0_1 v74
  have v76 : FVec Ideal S2560x6912 .f32 := mulf v73 v75
  have v77 : FVec Ideal S2560x216x32 .f32 := shapeCast S2560x216x32 v76 shapeCasts_S2560x6912_S2560x216x32
  have v78 : FVec Ideal S2560x216x32 .f32 := Host.dotGeneral dot_S2560x216x32_S32x32_S2560x216x32_2_1_01_0_n_n (some .fp32) v77 v12
  v78

/-- The weight's bytes by column groups. -/
def rBytesW (arg6 : IVec S2560x6912 8) : IVec S2560x216x32 8 :=
  have v79 : IVec S2560x216x32 8 := shapeCast S2560x216x32 arg6 shapeCasts_S2560x6912_S2560x216x32
  v79

/-- The largest magnitude of every column group of the weight. -/
def rMaxW (v78 : FVec Ideal S2560x216x32 .f32) : FVec Ideal S2560x216x1 .f32 :=
  have v81 : FVec Ideal S2560x216x32 .f32 := Host.absf v78
  have cst_17 : FVec Ideal S_ .f32 := constant S_ .f32 0xFF800000#32
  have v82 : FVec Ideal S2560x216 .f32 := Host.reduce FloatOps.maximumf v81 cst_17 reducesTo_S2560x216x32_S2560x216_d2 h_S_
  have v83 : FVec Ideal S2560x216x1 .f32 := broadcastInDim S2560x216x1 ![0, 1] bcast_S2560x216_S2560x216x1_0_1 v82
  v83

/-- The weight quantised along its columns. -/
def rQuantW (v78 : FVec Ideal S2560x216x32 .f32) (v79 : IVec S2560x216x32 8) (v83 : FVec Ideal S2560x216x1 .f32) : FVec Ideal S2560x216x32 .bf16 :=
  have cst_16 : FVec Ideal S_ .f32 := constant S_ .f32 0x40000000#32
  have v80 : FVec Ideal S_ .f32 := Host.log cst_16
  have cst_18 : FVec Ideal S_ .f32 := constant S_ .f32 0x00000000#32
  have v84 : FVec Ideal S2560x216x1 .f32 := broadcastInDim S2560x216x1 ![] bcast_S_S2560x216x1 cst_18
  have v85 : IVec S2560x216x1 1 := cmpf .oeq v83 v84
  have v86 : FVec Ideal S2560x216x1 .f32 := Host.log v83
  have v87 : FVec Ideal S2560x216x1 .f32 := broadcastInDim S2560x216x1 ![] bcast_S_S2560x216x1 v80
  have v88 : FVec Ideal S2560x216x1 .f32 := Host.divf v86 v87
  have v89 : FVec Ideal S2560x216x1 .f32 := Host.floor v88
  have cst_19 : FVec Ideal S_ .f32 := constant S_ .f32 0x40000000#32
  have v90 : FVec Ideal S2560x216x1 .f32 := broadcastInDim S2560x216x1 ![] bcast_S_S2560x216x1 cst_19
  have v91 : FVec Ideal S2560x216x1 .f32 := subf v89 v90
  have cst_20 : FVec Ideal S_ .f32 := constant S_ .f32 0x00000000#32
  have v92 : FVec Ideal S2560x216x1 .f32 := select v85 (broadcastInDim S2560x216x1 ![] bcast_S_S2560x216x1 cst_20) v91
  have v93 : FVec Ideal S2560x216x1 .f32 := Host.negf v92
  have v94 : FVec Ideal S2560x216x1 .f32 := broadcastInDim S2560x216x1 ![] bcast_S_S2560x216x1 v80
  have v95 : FVec Ideal S2560x216x1 .f32 := mulf v93 v94
  have v96 : FVec Ideal S2560x216x1 .f32 := Host.exp v95
  have cst_21 : FVec Ideal S_ .f32 := constant S_ .f32 0x3F400000#32
  have v97 : FVec Ideal S2560x216x1 .f32 := broadcastInDim S2560x216x1 ![] bcast_S_S2560x216x1 cst_21
  have v98 : FVec Ideal S2560x216x1 .f32 := mulf v97 v96
  have v99 : FVec Ideal S2560x216x32 .f32 := broadcastInDim S2560x216x32 ![0, 1, 2] bcast_S2560x216x1_S2560x216x32_0_1_2 v98
  have v100 : FVec Ideal S2560x216x32 .f32 := mulf v78 v99
  have v101 : FVec Ideal S2560x216x32 .f32 := Host.absf v100
  have cst_22 : FVec Ideal S_ .f32 := constant S_ .f32 0x40000000#32
  have v102 : FVec Ideal S2560x216x32 .f32 := broadcastInDim S2560x216x32 ![] bcast_S_S2560x216x32 cst_22
  have v103 : IVec S2560x216x32 1 := cmpf .olt v101 v102
  have cst_23 : FVec Ideal S_ .f32 := constant S_ .f32 0x40800000#32
  have v104 : FVec Ideal S2560x216x32 .f32 := broadcastInDim S2560x216x32 ![] bcast_S_S2560x216x32 cst_23
  have v105 : IVec S2560x216x32 1 := cmpf .olt v101 v104
  have cst_24 : FVec Ideal S_ .f32 := constant S_ .f32 0x3F800000#32
  have cst_25 : FVec Ideal S_ .f32 := constant S_ .f32 0x40000000#32
  have v106 : FVec Ideal S2560x216x32 .f32 := select v105 (broadcastInDim S2560x216x32 ![] bcast_S_S2560x216x32 cst_24) (broadcastInDim S2560x216x32 ![] bcast_S_S2560x216x32 cst_25)
  have cst_26 : FVec Ideal S_ .f32 := constant S_ .f32 0x3F000000#32
  have v107 : FVec Ideal S2560x216x32 .f32 := select v103 (broadcastInDim S2560x216x32 ![] bcast_S_S2560x216x32 cst_26) v106
  have v108 : FVec Ideal S2560x216x32 .f32 := Host.divf v101 v107
  have v109 : FVec Ideal S2560x216x32 .f32 := Host.floor v108
  have v110 : FVec Ideal S2560x216x32 .f32 := mulf v109 v107
  have v111 : FVec Ideal S2560x216x32 .f32 := subf v101 v110
  have v112 : FVec Ideal S2560x216x32 .f32 := Host.divf v111 v107
  have v113 : IVec S2560x216x32 32 := extui 32 v79 natLt_8_32
  have v114 : FVec Ideal S2560x216x32 .f32 := sitofp .f32 v113
  have cst_27 : FVec Ideal S_ .f32 := constant S_ .f32 0x3F000000#32
  have v115 : FVec Ideal S2560x216x32 .f32 := broadcastInDim S2560x216x32 ![] bcast_S_S2560x216x32 cst_27
  have v116 : FVec Ideal S2560x216x32 .f32 := addf v114 v115
  have cst_28 : FVec Ideal S_ .f32 := constant S_ .f32 0x3B800000#32
  have v117 : FVec Ideal S2560x216x32 .f32 := broadcastInDim S2560x216x32 ![] bcast_S_S2560x216x32 cst_28
  have v118 : FVec Ideal S2560x216x32 .f32 := mulf v116 v117
  have v119 : IVec S2560x216x32 1 := cmpf .olt v118 v112
  have v120 : FVec Ideal S2560x216x32 .f32 := addf v110 v107
  have v121 : FVec Ideal S2560x216x32 .f32 := select v119 v120 v110
  have cst_29 : FVec Ideal S_ .f32 := constant S_ .f32 0x00000000#32
  have v122 : FVec Ideal S2560x216x32 .f32 := broadcastInDim S2560x216x32 ![] bcast_S_S2560x216x32 cst_29
  have v123 : IVec S2560x216x32 1 := cmpf .olt v100 v122
  have v124 : FVec Ideal S2560x216x32 .f32 := Host.negf v121
  have v125 : FVec Ideal S2560x216x32 .f32 := select v123 v124 v121
  have v126 : FVec Ideal S2560x216x32 .bf16 := truncf .bf16 v125 bitsLt_bf16_f32
  have v127 : FVec Ideal S2560x216x1 .f32 := broadcastInDim S2560x216x1 ![] bcast_S_S2560x216x1 v80
  have v128 : FVec Ideal S2560x216x1 .f32 := mulf v92 v127
  have v129 : FVec Ideal S2560x216x1 .f32 := Host.exp v128
  have v130 : FVec Ideal S2560x216x1 .bf16 := truncf .bf16 v129 bitsLt_bf16_f32
  have v131 : FVec Ideal S2560x216x32 .bf16 := broadcastInDim S2560x216x32 ![0, 1, 2] bcast_S2560x216x1_S2560x216x32_0_1_2 v130
  have v132 : FVec Ideal S2560x216x32 .bf16 := mulf v126 v131
  v132

/-- The gradient of the activations, of the two quantised operands. -/
def rDx (v72 : FVec Ideal S2x896x216x32 .bf16) (v132 : FVec Ideal S2560x216x32 .bf16) : FVec Ideal S1792x2560 .bf16 :=
  have v133 : FVec Ideal S2x896x2560 .f32 := Host.dotGeneral dot_S2x896x216x32_S2560x216x32_S2x896x2560_23_12_01_0_n_n none v72 v132
  have cst_30 : FVec Ideal S_ .f32 := constant S_ .f32 0x3FE38E39#32
  have v134 : FVec Ideal S2x896x2560 .f32 := broadcastInDim S2x896x2560 ![] bcast_S_S2x896x2560 cst_30
  have v135 : FVec Ideal S2x896x2560 .f32 := mulf v134 v133
  have v136 : FVec Ideal S2x896x2560 .bf16 := truncf .bf16 v135 bitsLt_bf16_f32
  have v202 : FVec Ideal S1792x2560 .bf16 := shapeCast S1792x2560 v136 shapeCasts_S2x896x2560_S1792x2560
  v202

/-- The gradient rotated along its tokens. -/
def rRotT (arg1 : FVec Ideal S2x896x6912 .bf16) (arg4 : FVec Ideal S2x896 .f32) (v12 : FVec Ideal S32x32 .f32) : FVec Ideal S2x28x32x6912 .f32 :=
  have v137 : FVec Ideal S2x896x6912 .f32 := extf .f32 arg1 bitsLt_bf16_f32
  have v138 : FVec Ideal S2x896x1 .f32 := broadcastInDim S2x896x1 ![0, 1] bcast_S2x896_S2x896x1_0_1 arg4
  have v139 : FVec Ideal S2x896x6912 .f32 := broadcastInDim S2x896x6912 ![0, 1, 2] bcast_S2x896x1_S2x896x6912_0_1_2 v138
  have v140 : FVec Ideal S2x896x6912 .f32 := mulf v137 v139
  have v141 : FVec Ideal S2x28x32x6912 .f32 := shapeCast S2x28x32x6912 v140 shapeCasts_S2x896x6912_S2x28x32x6912
  have v142 : FVec Ideal S2x28x6912x32 .f32 := Host.dotGeneral dot_S2x28x32x6912_S32x32_S2x28x6912x32_2_1_013_0_n_n (some .fp32) v141 v12
  have v143 : FVec Ideal S2x28x32x6912 .f32 := transpose S2x28x32x6912 [0, 1, 3, 2] v142 transposes_S2x28x6912x32_S2x28x32x6912_0_1_3_2
  v143

/-- The gradient's bytes by token groups. -/
def rBytesT (arg7 : IVec S2x896x6912 8) : IVec S2x28x32x6912 8 :=
  have v144 : IVec S2x28x32x6912 8 := shapeCast S2x28x32x6912 arg7 shapeCasts_S2x896x6912_S2x28x32x6912
  v144

/-- The largest magnitude of every token group of the gradient. -/
def rMaxT (v143 : FVec Ideal S2x28x32x6912 .f32) : FVec Ideal S2x28x1x6912 .f32 :=
  have v146 : FVec Ideal S2x28x32x6912 .f32 := Host.absf v143
  have cst_32 : FVec Ideal S_ .f32 := constant S_ .f32 0xFF800000#32
  have v147 : FVec Ideal S2x28x6912 .f32 := Host.reduce FloatOps.maximumf v146 cst_32 reducesTo_S2x28x32x6912_S2x28x6912_d2 h_S_
  have v148 : FVec Ideal S2x28x1x6912 .f32 := broadcastInDim S2x28x1x6912 ![0, 1, 3] bcast_S2x28x6912_S2x28x1x6912_0_1_3 v147
  v148

/-- The gradient quantised along its tokens. -/
def rQuantT (v143 : FVec Ideal S2x28x32x6912 .f32) (v144 : IVec S2x28x32x6912 8) (v148 : FVec Ideal S2x28x1x6912 .f32) : FVec Ideal S2x28x32x6912 .bf16 :=
  have cst_31 : FVec Ideal S_ .f32 := constant S_ .f32 0x40000000#32
  have v145 : FVec Ideal S_ .f32 := Host.log cst_31
  have cst_33 : FVec Ideal S_ .f32 := constant S_ .f32 0x00000000#32
  have v149 : FVec Ideal S2x28x1x6912 .f32 := broadcastInDim S2x28x1x6912 ![] bcast_S_S2x28x1x6912 cst_33
  have v150 : IVec S2x28x1x6912 1 := cmpf .oeq v148 v149
  have v151 : FVec Ideal S2x28x1x6912 .f32 := Host.log v148
  have v152 : FVec Ideal S2x28x1x6912 .f32 := broadcastInDim S2x28x1x6912 ![] bcast_S_S2x28x1x6912 v145
  have v153 : FVec Ideal S2x28x1x6912 .f32 := Host.divf v151 v152
  have v154 : FVec Ideal S2x28x1x6912 .f32 := Host.floor v153
  have cst_34 : FVec Ideal S_ .f32 := constant S_ .f32 0x40000000#32
  have v155 : FVec Ideal S2x28x1x6912 .f32 := broadcastInDim S2x28x1x6912 ![] bcast_S_S2x28x1x6912 cst_34
  have v156 : FVec Ideal S2x28x1x6912 .f32 := subf v154 v155
  have cst_35 : FVec Ideal S_ .f32 := constant S_ .f32 0x00000000#32
  have v157 : FVec Ideal S2x28x1x6912 .f32 := select v150 (broadcastInDim S2x28x1x6912 ![] bcast_S_S2x28x1x6912 cst_35) v156
  have v158 : FVec Ideal S2x28x1x6912 .f32 := Host.negf v157
  have v159 : FVec Ideal S2x28x1x6912 .f32 := broadcastInDim S2x28x1x6912 ![] bcast_S_S2x28x1x6912 v145
  have v160 : FVec Ideal S2x28x1x6912 .f32 := mulf v158 v159
  have v161 : FVec Ideal S2x28x1x6912 .f32 := Host.exp v160
  have cst_36 : FVec Ideal S_ .f32 := constant S_ .f32 0x3F400000#32
  have v162 : FVec Ideal S2x28x1x6912 .f32 := broadcastInDim S2x28x1x6912 ![] bcast_S_S2x28x1x6912 cst_36
  have v163 : FVec Ideal S2x28x1x6912 .f32 := mulf v162 v161
  have v164 : FVec Ideal S2x28x32x6912 .f32 := broadcastInDim S2x28x32x6912 ![0, 1, 2, 3] bcast_S2x28x1x6912_S2x28x32x6912_0_1_2_3 v163
  have v165 : FVec Ideal S2x28x32x6912 .f32 := mulf v143 v164
  have v166 : FVec Ideal S2x28x32x6912 .f32 := Host.absf v165
  have cst_37 : FVec Ideal S_ .f32 := constant S_ .f32 0x40000000#32
  have v167 : FVec Ideal S2x28x32x6912 .f32 := broadcastInDim S2x28x32x6912 ![] bcast_S_S2x28x32x6912 cst_37
  have v168 : IVec S2x28x32x6912 1 := cmpf .olt v166 v167
  have cst_38 : FVec Ideal S_ .f32 := constant S_ .f32 0x40800000#32
  have v169 : FVec Ideal S2x28x32x6912 .f32 := broadcastInDim S2x28x32x6912 ![] bcast_S_S2x28x32x6912 cst_38
  have v170 : IVec S2x28x32x6912 1 := cmpf .olt v166 v169
  have cst_39 : FVec Ideal S_ .f32 := constant S_ .f32 0x3F800000#32
  have cst_40 : FVec Ideal S_ .f32 := constant S_ .f32 0x40000000#32
  have v171 : FVec Ideal S2x28x32x6912 .f32 := select v170 (broadcastInDim S2x28x32x6912 ![] bcast_S_S2x28x32x6912 cst_39) (broadcastInDim S2x28x32x6912 ![] bcast_S_S2x28x32x6912 cst_40)
  have cst_41 : FVec Ideal S_ .f32 := constant S_ .f32 0x3F000000#32
  have v172 : FVec Ideal S2x28x32x6912 .f32 := select v168 (broadcastInDim S2x28x32x6912 ![] bcast_S_S2x28x32x6912 cst_41) v171
  have v173 : FVec Ideal S2x28x32x6912 .f32 := Host.divf v166 v172
  have v174 : FVec Ideal S2x28x32x6912 .f32 := Host.floor v173
  have v175 : FVec Ideal S2x28x32x6912 .f32 := mulf v174 v172
  have v176 : FVec Ideal S2x28x32x6912 .f32 := subf v166 v175
  have v177 : FVec Ideal S2x28x32x6912 .f32 := Host.divf v176 v172
  have v178 : IVec S2x28x32x6912 32 := extui 32 v144 natLt_8_32
  have v179 : FVec Ideal S2x28x32x6912 .f32 := sitofp .f32 v178
  have cst_42 : FVec Ideal S_ .f32 := constant S_ .f32 0x3F000000#32
  have v180 : FVec Ideal S2x28x32x6912 .f32 := broadcastInDim S2x28x32x6912 ![] bcast_S_S2x28x32x6912 cst_42
  have v181 : FVec Ideal S2x28x32x6912 .f32 := addf v179 v180
  have cst_43 : FVec Ideal S_ .f32 := constant S_ .f32 0x3B800000#32
  have v182 : FVec Ideal S2x28x32x6912 .f32 := broadcastInDim S2x28x32x6912 ![] bcast_S_S2x28x32x6912 cst_43
  have v183 : FVec Ideal S2x28x32x6912 .f32 := mulf v181 v182
  have v184 : IVec S2x28x32x6912 1 := cmpf .olt v183 v177
  have v185 : FVec Ideal S2x28x32x6912 .f32 := addf v175 v172
  have v186 : FVec Ideal S2x28x32x6912 .f32 := select v184 v185 v175
  have cst_44 : FVec Ideal S_ .f32 := constant S_ .f32 0x00000000#32
  have v187 : FVec Ideal S2x28x32x6912 .f32 := broadcastInDim S2x28x32x6912 ![] bcast_S_S2x28x32x6912 cst_44
  have v188 : IVec S2x28x32x6912 1 := cmpf .olt v165 v187
  have v189 : FVec Ideal S2x28x32x6912 .f32 := Host.negf v186
  have v190 : FVec Ideal S2x28x32x6912 .f32 := select v188 v189 v186
  have v191 : FVec Ideal S2x28x32x6912 .bf16 := truncf .bf16 v190 bitsLt_bf16_f32
  have v192 : FVec Ideal S2x28x1x6912 .f32 := broadcastInDim S2x28x1x6912 ![] bcast_S_S2x28x1x6912 v145
  have v193 : FVec Ideal S2x28x1x6912 .f32 := mulf v157 v192
  have v194 : FVec Ideal S2x28x1x6912 .f32 := Host.exp v193
  have v195 : FVec Ideal S2x28x1x6912 .bf16 := truncf .bf16 v194 bitsLt_bf16_f32
  have v196 : FVec Ideal S2x28x32x6912 .bf16 := broadcastInDim S2x28x32x6912 ![0, 1, 2, 3] bcast_S2x28x1x6912_S2x28x32x6912_0_1_2_3 v195
  have v197 : FVec Ideal S2x28x32x6912 .bf16 := mulf v191 v196
  v197

/-- The scale's exponent of every token group of the gradient, as a byte. -/
def rScaleT (v148 : FVec Ideal S2x28x1x6912 .f32) : IVec S2x28x6912 8 :=
  have cst_31 : FVec Ideal S_ .f32 := constant S_ .f32 0x40000000#32
  have v145 : FVec Ideal S_ .f32 := Host.log cst_31
  have cst_33 : FVec Ideal S_ .f32 := constant S_ .f32 0x00000000#32
  have v149 : FVec Ideal S2x28x1x6912 .f32 := broadcastInDim S2x28x1x6912 ![] bcast_S_S2x28x1x6912 cst_33
  have v150 : IVec S2x28x1x6912 1 := cmpf .oeq v148 v149
  have v151 : FVec Ideal S2x28x1x6912 .f32 := Host.log v148
  have v152 : FVec Ideal S2x28x1x6912 .f32 := broadcastInDim S2x28x1x6912 ![] bcast_S_S2x28x1x6912 v145
  have v153 : FVec Ideal S2x28x1x6912 .f32 := Host.divf v151 v152
  have v154 : FVec Ideal S2x28x1x6912 .f32 := Host.floor v153
  have cst_34 : FVec Ideal S_ .f32 := constant S_ .f32 0x40000000#32
  have v155 : FVec Ideal S2x28x1x6912 .f32 := broadcastInDim S2x28x1x6912 ![] bcast_S_S2x28x1x6912 cst_34
  have v156 : FVec Ideal S2x28x1x6912 .f32 := subf v154 v155
  have cst_35 : FVec Ideal S_ .f32 := constant S_ .f32 0x00000000#32
  have v157 : FVec Ideal S2x28x1x6912 .f32 := select v150 (broadcastInDim S2x28x1x6912 ![] bcast_S_S2x28x1x6912 cst_35) v156
  have v203 : FVec Ideal S2x28x6912 .f32 := shapeCast S2x28x6912 v157 shapeCasts_S2x28x1x6912_S2x28x6912
  have v204 : IVec S2x28x6912 32 := fptosi 32 v203
  have v205 : IVec S2x28x6912 8 := trunci 8 v204 natLt_8_32
  v205

/-- The gradient of the weight, of the activations and the quantised gradient. -/
def rDw (arg0 : FVec Ideal S2560x1792 .bf16) (v197 : FVec Ideal S2x28x32x6912 .bf16) : FVec Ideal S2560x6912 .f32 :=
  have v198 : FVec Ideal S1792x6912 .bf16 := shapeCast S1792x6912 v197 shapeCasts_S2x28x32x6912_S1792x6912
  have v199 : FVec Ideal S2560x6912 .f32 := Host.dotGeneral dot_S2560x1792_S1792x6912_S2560x6912_1_0_0_1_n_n none arg0 v198
  have cst_45 : FVec Ideal S_ .f32 := constant S_ .f32 0x3FE38E39#32
  have v200 : FVec Ideal S2560x6912 .f32 := broadcastInDim S2560x6912 ![] bcast_S_S2560x6912 cst_45
  have v201 : FVec Ideal S2560x6912 .f32 := mulf v200 v199
  v201

end Cert.ReferenceIdeal.Hand
end
-- ==== Proof.RefAt.lean ====
/-
  The reference's chunks, element by element.
-/
module

public import proofs.«01_k».proof.Proof.Ref
public import proofs.«01_k».proof.Proof.Tok
public import Idealize.ShloMosaic.Lib.Pointwise

@[expose] public section

set_option maxRecDepth 16384

noncomputable section

namespace Cert.ReferenceIdeal.Hand

open Cert.ReferenceIdeal Cert.ReferenceIdeal.Gen
open Idealize.ShloMosaic
open Cert.Group Cert.Scalar
open Cert.KernelIdeal.Hand (b2 b4 bhalf bbot bc0)

/-- The reference's scale of a group before the power of two. -/
theorem b34 : Ideal.ofBits .f32 1061158912#32 = ((3 / 4 : ℝ) : EReal) := by
  simp [Ideal.ofBits, Ideal.ieee, -EReal.coe_mul]; norm_num

/-- The width of a random byte's step. -/
theorem b256 : Ideal.ofBits .f32 998244352#32 = ((1 / 256 : ℝ) : EReal) := Cert.KernelIdeal.Hand.b256th

/-- An entry of the reference's Hadamard matrix. -/
theorem rHad_at (b k : Fin 32) : (rHad (ix2 b k) : EReal) = had b k := by
  pointwise [rHad]
  rw [bc0]
  rfl

/-- A rotated element of the gradient along the columns. -/
theorem rRotN_at (x : FVec Ideal S2x896x6912 .bf16) (s : FVec Ideal S6912 .f32) (H : FVec Ideal S32x32 .f32) (a : Fin 2) (i : Fin 896) (g : Fin 216) (b : Fin 32) :
    (rRotN x s H (ix4 a i g b) : EReal) = ∑ k : Fin 32, ((x (ix3 a i ⟨g.val * 32 + k.val, by omega⟩) : EReal) * (s (ix1 ⟨g.val * 32 + k.val, by omega⟩) : EReal)) * (H (ix2 b k) : EReal) := by
  pointwise [rRotN]

/-- A byte for the gradient along the columns. -/
theorem rBytesN_at (r : IVec S2x896x6912 8) (a : Fin 2) (i : Fin 896) (g : Fin 216) (b : Fin 32) :
    rBytesN r (ix4 a i g b) = r (ix3 a i ⟨g.val * 32 + b.val, by omega⟩) := by
  pointwise [rBytesN]

/-- A group's largest magnitude of the gradient along the columns. -/
theorem rMaxN_at (x : FVec Ideal S2x896x216x32 .f32) (a : Fin 2) (i : Fin 896) (g : Fin 216) :
    (rMaxN x (ix4 a i g 0) : EReal) = gmax (fun b => x (ix4 a i g b)) := by
  pointwise [rMaxN]
  rw [bbot]
  rfl

/-- A quantised element of the gradient along the columns. -/
theorem rQuantN_at (x : FVec Ideal S2x896x216x32 .f32) (r : IVec S2x896x216x32 8) (mx : FVec Ideal S2x896x216x1 .f32) (a : Fin 2) (i : Fin 896) (g : Fin 216) (b : Fin 32) :
    (rQuantN x r mx (ix4 a i g b) : EReal) = rElem (x (ix4 a i g b)) (mx (ix4 a i g 0)) (r (ix4 a i g b)) := by
  pointwise [rQuantN]
  simp only [b2, b4, bhalf, b34, b256]
  rfl

/-- A rotated element of the weight along the columns. -/
theorem rRotW_at (x : FVec Ideal S2560x6912 .bf16) (s : FVec Ideal S6912 .f32) (H : FVec Ideal S32x32 .f32) (K : Fin 2560) (g : Fin 216) (b : Fin 32) :
    (rRotW x s H (ix3 K g b) : EReal) = ∑ k : Fin 32, ((x (ix2 K ⟨g.val * 32 + k.val, by omega⟩) : EReal) * (s (ix1 ⟨g.val * 32 + k.val, by omega⟩) : EReal)) * (H (ix2 b k) : EReal) := by
  pointwise [rRotW]

/-- A byte for the weight along the columns. -/
theorem rBytesW_at (r : IVec S2560x6912 8) (K : Fin 2560) (g : Fin 216) (b : Fin 32) :
    rBytesW r (ix3 K g b) = r (ix2 K ⟨g.val * 32 + b.val, by omega⟩) := by
  pointwise [rBytesW]

/-- A group's largest magnitude of the weight along the columns. -/
theorem rMaxW_at (x : FVec Ideal S2560x216x32 .f32) (K : Fin 2560) (g : Fin 216) :
    (rMaxW x (ix3 K g 0) : EReal) = gmax (fun b => x (ix3 K g b)) := by
  pointwise [rMaxW]
  rw [bbot]
  rfl

/-- A quantised element of the weight along the columns. -/
theorem rQuantW_at (x : FVec Ideal S2560x216x32 .f32) (r : IVec S2560x216x32 8) (mx : FVec Ideal S2560x216x1 .f32) (K : Fin 2560) (g : Fin 216) (b : Fin 32) :
    (rQuantW x r mx (ix3 K g b) : EReal) = rElem (x (ix3 K g b)) (mx (ix3 K g 0)) (r (ix3 K g b)) := by
  pointwise [rQuantW]
  simp only [b2, b4, bhalf, b34, b256]
  rfl

/-- A rotated element of the gradient along the tokens. -/
theorem rRotT_at (x : FVec Ideal S2x896x6912 .bf16) (s : FVec Ideal S2x896 .f32) (H : FVec Ideal S32x32 .f32) (a : Fin 2) (u : Fin 28) (n : Fin 6912) (b : Fin 32) :
    (rRotT x s H (ix4 a u b n) : EReal) = ∑ k : Fin 32, ((x (ix3 a ⟨u.val * 32 + k.val, by omega⟩ n) : EReal) * (s (ix2 a ⟨u.val * 32 + k.val, by omega⟩) : EReal)) * (H (ix2 b k) : EReal) := by
  pointwise [rRotT]

/-- A byte for the gradient along the tokens. -/
theorem rBytesT_at (r : IVec S2x896x6912 8) (a : Fin 2) (u : Fin 28) (n : Fin 6912) (b : Fin 32) :
    rBytesT r (ix4 a u b n) = r (ix3 a ⟨u.val * 32 + b.val, by omega⟩ n) := by
  pointwise [rBytesT]

/-- A group's largest magnitude of the gradient along the tokens. -/
theorem rMaxT_at (x : FVec Ideal S2x28x32x6912 .f32) (a : Fin 2) (u : Fin 28) (n : Fin 6912) :
    (rMaxT x (ix4 a u 0 n) : EReal) = gmax (fun b => x (ix4 a u b n)) := by
  pointwise [rMaxT]
  rw [bbot]
  rfl

/-- A quantised element of the gradient along the tokens. -/
theorem rQuantT_at (x : FVec Ideal S2x28x32x6912 .f32) (r : IVec S2x28x32x6912 8) (mx : FVec Ideal S2x28x1x6912 .f32) (a : Fin 2) (u : Fin 28) (n : Fin 6912) (b : Fin 32) :
    (rQuantT x r mx (ix4 a u b n) : EReal) = rElem (x (ix4 a u b n)) (mx (ix4 a u 0 n)) (r (ix4 a u b n)) := by
  pointwise [rQuantT]
  simp only [b2, b4, bhalf, b34, b256]
  rfl

/-- The scale's exponent of a token group, at an index. -/
theorem rScaleT_at (mx : FVec Ideal S2x28x1x6912 .f32) (a : Fin 2) (u : Fin 28) (n : Fin 6912) :
    rScaleT mx (ix3 a u n) = (Ideal.fptosi 32 (rE (mx (ix4 a u 0 n)))).setWidth 8 := by
  pointwise [rScaleT]
  simp only [b2]
  rfl

/-- The reference's first product, at an index. -/
theorem rDx_at (x : FVec Ideal S2x896x216x32 .bf16) (y : FVec Ideal S2560x216x32 .bf16) (r : Fin 1792) (K : Fin 2560) :
    (rDx x y (ix2 r K) : EReal) = (Ideal.ofBits .f32 0x3FE38E39#32 * ∑ n : Fin 6912, (x (ix4 ⟨r.val / 896, by omega⟩ ⟨r.val % 896, by omega⟩ ⟨n.val / 32, by omega⟩ ⟨n.val % 32, by omega⟩) : EReal) * (y (ix3 K ⟨n.val / 32, by omega⟩ ⟨n.val % 32, by omega⟩) : EReal) : EReal) := by
  pointwise [rDx]
  refine congrArg (fun s : EReal => Ideal.ofBits .f32 0x3FE38E39#32 * s) ?_
  refine Eq.trans ?_ (Fin.sum_univ_tiles 216 32 rfl _).symm
  refine Finset.sum_congr rfl fun j _ => Finset.sum_congr rfl fun t _ => ?_
  have h1 : (⟨(j.val * 32 + t.val) / 32, by omega⟩ : Fin 216) = j := Fin.ext (by dsimp only; omega)
  have h2 : (⟨(j.val * 32 + t.val) % 32, by omega⟩ : Fin 32) = t := Fin.ext (by dsimp only; omega)
  dsimp only
  rw [h1, h2]

/-- The reference's second product, at an index. -/
theorem rDw_at (X : FVec Ideal S2560x1792 .bf16) (q : FVec Ideal S2x28x32x6912 .bf16) (K : Fin 2560) (n : Fin 6912) :
    (rDw X q (ix2 K n) : EReal) = (Ideal.ofBits .f32 0x3FE38E39#32 * ∑ r : Fin 1792, (X (ix2 K r) : EReal)
      * (q (ix4 ⟨r.val / 896, by omega⟩ ⟨r.val / 32 % 28, by omega⟩ ⟨r.val % 32, by omega⟩ n) : EReal) : EReal) := by
  pointwise [rDw]

end Cert.ReferenceIdeal.Hand
end
-- ==== Proof.RefVal.lean ====
/-
  The reference's three results, element by element: the sums of quantised elements and the exponents that the mathematics
  states.
-/
module

public import proofs.«01_k».proof.Proof.RefAt
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic
open Cert.Group Cert.Scalar Cert.Spec

/-- A group of the reference, rotated. -/
theorem rRotN_grp (x : FVec Ideal S2x896x6912 .bf16) (s : FVec Ideal S6912 .f32) (r : Fin 1792) (n : Fin 6912) (b : Fin 32) :
    (rRotN x s rHad (ix4 ⟨r.val / 896, by omega⟩ ⟨r.val % 896, by omega⟩ ⟨n.val / 32, by omega⟩ b) : EReal) = rotR (zN x s r ⟨n.val / 32, by omega⟩) b := by
  refine (rRotN_at ..).trans ?_
  unfold rotR
  refine Finset.sum_congr rfl fun k _ => ?_
  rw [rHad_at]
  have e : (⟨n.val / 32 * 32 + k.val, by omega⟩ : Fin 6912) = ⟨32 * (n.val / 32) + k.val, by omega⟩ := Fin.ext (by dsimp only; omega)
  unfold zN flat
  rw [e]

/-- A quantised element of the reference. -/
theorem rQuantN_grp (x : FVec Ideal S2x896x6912 .bf16) (s : FVec Ideal S6912 .f32) (R : IVec S2x896x6912 8) (r : Fin 1792) (n : Fin 6912) :
    (rQuantN (rRotN x s rHad) (rBytesN R) (rMaxN (rRotN x s rHad)) (ix4 ⟨r.val / 896, by omega⟩ ⟨r.val % 896, by omega⟩ ⟨n.val / 32, by omega⟩ ⟨n.val % 32, by omega⟩) : EReal) = qN x s R r n := by
  have e : (⟨n.val / 32 * 32 + n.val % 32, by omega⟩ : Fin 6912) = n := Fin.ext (by dsimp only; omega)
  have hb : rBytesN R (ix4 ⟨r.val / 896, by omega⟩ ⟨r.val % 896, by omega⟩ ⟨n.val / 32, by omega⟩ ⟨n.val % 32, by omega⟩) = flat R r n := by
    refine (rBytesN_at ..).trans ?_
    unfold flat
    dsimp only
    rw [e]
  have hm : (rMaxN (rRotN x s rHad) (ix4 ⟨r.val / 896, by omega⟩ ⟨r.val % 896, by omega⟩ ⟨n.val / 32, by omega⟩ 0) : EReal) = gmax (rotR (zN x s r ⟨n.val / 32, by omega⟩)) := by
    refine (rMaxN_at ..).trans ?_
    exact congrArg gmax (funext fun b => rRotN_grp x s r n b)
  refine (rQuantN_at ..).trans ?_
  rw [hb, hm, rRotN_grp]
  unfold qN
  rw [gq_eq]
  rfl

/-- A group of the reference, rotated. -/
theorem rRotW_grp (x : FVec Ideal S2560x6912 .bf16) (s : FVec Ideal S6912 .f32) (K : Fin 2560) (n : Fin 6912) (b : Fin 32) :
    (rRotW x s rHad (ix3 K ⟨n.val / 32, by omega⟩ b) : EReal) = rotR (zW x s K ⟨n.val / 32, by omega⟩) b := by
  refine (rRotW_at ..).trans ?_
  unfold rotR
  refine Finset.sum_congr rfl fun k _ => ?_
  rw [rHad_at]
  have e : (⟨n.val / 32 * 32 + k.val, by omega⟩ : Fin 6912) = ⟨32 * (n.val / 32) + k.val, by omega⟩ := Fin.ext (by dsimp only; omega)
  unfold zW
  rw [e]

/-- A quantised element of the reference. -/
theorem rQuantW_grp (x : FVec Ideal S2560x6912 .bf16) (s : FVec Ideal S6912 .f32) (R : IVec S2560x6912 8) (K : Fin 2560) (n : Fin 6912) :
    (rQuantW (rRotW x s rHad) (rBytesW R) (rMaxW (rRotW x s rHad)) (ix3 K ⟨n.val / 32, by omega⟩ ⟨n.val % 32, by omega⟩) : EReal) = qW x s R K n := by
  have e : (⟨n.val / 32 * 32 + n.val % 32, by omega⟩ : Fin 6912) = n := Fin.ext (by dsimp only; omega)
  have hb : rBytesW R (ix3 K ⟨n.val / 32, by omega⟩ ⟨n.val % 32, by omega⟩) = R (ix2 K n) := by
    refine (rBytesW_at ..).trans ?_
    dsimp only
    rw [e]
  have hm : (rMaxW (rRotW x s rHad) (ix3 K ⟨n.val / 32, by omega⟩ 0) : EReal) = gmax (rotR (zW x s K ⟨n.val / 32, by omega⟩)) := by
    refine (rMaxW_at ..).trans ?_
    exact congrArg gmax (funext fun b => rRotW_grp x s K n b)
  refine (rQuantW_at ..).trans ?_
  rw [hb, hm, rRotW_grp]
  unfold qW
  rw [gq_eq]
  rfl

/-- A group of the reference, rotated. -/
theorem rRotT_grp (x : FVec Ideal S2x896x6912 .bf16) (s : FVec Ideal S2x896 .f32) (r : Fin 1792) (n : Fin 6912) (b : Fin 32) :
    (rRotT x s rHad (ix4 ⟨r.val / 896, by omega⟩ ⟨r.val / 32 % 28, by omega⟩ b n) : EReal) = rotR (zT x s ⟨r.val / 32, by omega⟩ n) b := by
  refine (rRotT_at ..).trans ?_
  unfold rotR
  refine Finset.sum_congr rfl fun k _ => ?_
  rw [rHad_at]
  have e1 : (⟨(32 * (r.val / 32) + k.val) / 896, by omega⟩ : Fin 2) = ⟨r.val / 896, by omega⟩ := Fin.ext (by dsimp only; omega)
  have e2 : (⟨(32 * (r.val / 32) + k.val) % 896, by omega⟩ : Fin 896) = ⟨r.val / 32 % 28 * 32 + k.val, by omega⟩ := Fin.ext (by dsimp only; omega)
  unfold zT flat
  dsimp only
  rw [e1, e2]

/-- A quantised element of the reference. -/
theorem rQuantT_grp (x : FVec Ideal S2x896x6912 .bf16) (s : FVec Ideal S2x896 .f32) (R : IVec S2x896x6912 8) (r : Fin 1792) (n : Fin 6912) :
    (rQuantT (rRotT x s rHad) (rBytesT R) (rMaxT (rRotT x s rHad)) (ix4 ⟨r.val / 896, by omega⟩ ⟨r.val / 32 % 28, by omega⟩ ⟨r.val % 32, by omega⟩ n) : EReal) = qT x s R r n := by
  have e : (⟨r.val / 32 % 28 * 32 + r.val % 32, by omega⟩ : Fin 896) = ⟨r.val % 896, by omega⟩ := Fin.ext (by dsimp only; omega)
  have hb : rBytesT R (ix4 ⟨r.val / 896, by omega⟩ ⟨r.val / 32 % 28, by omega⟩ ⟨r.val % 32, by omega⟩ n) = flat R r n := by
    refine (rBytesT_at ..).trans ?_
    unfold flat
    dsimp only
    rw [e]
  have hm : (rMaxT (rRotT x s rHad) (ix4 ⟨r.val / 896, by omega⟩ ⟨r.val / 32 % 28, by omega⟩ 0 n) : EReal) = gmax (rotR (zT x s ⟨r.val / 32, by omega⟩ n)) := by
    refine (rMaxT_at ..).trans ?_
    exact congrArg gmax (funext fun b => rRotT_grp x s r n b)
  refine (rQuantT_at ..).trans ?_
  rw [hb, hm, rRotT_grp]
  unfold qT
  rw [gq_eq]
  rfl

/-- The gradient of the activations, over the arguments. -/
def refDx (dy : FVec Ideal S2x896x6912 .bf16) (w : FVec Ideal S2560x6912 .bf16) (sn : FVec Ideal S6912 .f32) (rn : IVec S2x896x6912 8)
    (rw : IVec S2560x6912 8) : FVec Ideal S1792x2560 .bf16 :=
  rDx (rQuantN (rRotN dy sn rHad) (rBytesN rn) (rMaxN (rRotN dy sn rHad))) (rQuantW (rRotW w sn rHad) (rBytesW rw) (rMaxW (rRotW w sn rHad)))

/-- The gradient of the weight, over the arguments. -/
def refDw (xt : FVec Ideal S2560x1792 .bf16) (dy : FVec Ideal S2x896x6912 .bf16) (st : FVec Ideal S2x896 .f32) (rt : IVec S2x896x6912 8) :
    FVec Ideal S2560x6912 .f32 :=
  rDw xt (rQuantT (rRotT dy st rHad) (rBytesT rt) (rMaxT (rRotT dy st rHad)))

/-- The reference's gradient of the activations. -/
theorem refDx_eq (dy : FVec Ideal S2x896x6912 .bf16) (w : FVec Ideal S2560x6912 .bf16) (sn : FVec Ideal S6912 .f32) (rn : IVec S2x896x6912 8)
    (rw' : IVec S2560x6912 8) : refDx dy w sn rn rw' = fun i => dx dy w sn rn rw' (i 0) (i 1) := by
  funext i
  have hy : ∃ (r : Fin 1792) (K : Fin 2560), i = ix2 r K := ⟨i 0, i 1, by blk_ext⟩
  obtain ⟨r, K, rfl⟩ := hy
  refine (rDx_at ..).trans ?_
  show _ = dx dy w sn rn rw' r K
  unfold dx un
  refine congrArg (fun s : EReal => Ideal.ofBits .f32 0x3FE38E39#32 * s) ?_
  refine Finset.sum_congr rfl fun n _ => ?_
  exact congrArg₂ (fun a b : EReal => a * b) (rQuantN_grp dy sn rn r n) (rQuantW_grp w sn rw' K n)

/-- The reference's gradient of the weight. -/
theorem refDw_eq (xt : FVec Ideal S2560x1792 .bf16) (dy : FVec Ideal S2x896x6912 .bf16) (st : FVec Ideal S2x896 .f32) (rt : IVec S2x896x6912 8) :
    refDw xt dy st rt = fun i => dw xt dy st rt (i 0) (i 1) := by
  funext i
  have hy : ∃ (K : Fin 2560) (n : Fin 6912), i = ix2 K n := ⟨i 0, i 1, by blk_ext⟩
  obtain ⟨K, n, rfl⟩ := hy
  refine (rDw_at ..).trans ?_
  show _ = dw xt dy st rt K n
  unfold dw un
  refine congrArg (fun s : EReal => Ideal.ofBits .f32 0x3FE38E39#32 * s) ?_
  refine Finset.sum_congr rfl fun r _ => ?_
  exact congrArg (fun b : EReal => (xt (ix2 K r) : EReal) * b) (rQuantT_grp dy st rt r n)

/-- The token scales' exponents, over the arguments. -/
def refEt (dy : FVec Ideal S2x896x6912 .bf16) (st : FVec Ideal S2x896 .f32) : IVec S2x28x6912 8 := rScaleT (rMaxT (rRotT dy st rHad))

/-- The reference's token scales' exponents. -/
theorem refEt_eq (dy : FVec Ideal S2x896x6912 .bf16) (st : FVec Ideal S2x896 .f32) :
    refEt dy st = fun i => es dy st ⟨28 * (i 0).val + (i 1).val, by
      have h0 : (i 0).val < 2 := (i 0).isLt
      have h1 : (i 1).val < 28 := (i 1).isLt
      omega⟩ (i 2) := by
  funext i
  have hy : ∃ (a : Fin 2) (u : Fin 28) (n : Fin 6912), i = ix3 a u n := ⟨i 0, i 1, i 2, by blk_ext⟩
  obtain ⟨a, u, n, rfl⟩ := hy
  refine (rScaleT_at ..).trans ?_
  show _ = es dy st ⟨28 * a.val + u.val, _⟩ n
  unfold es
  refine congrArg (fun s : EReal => (Ideal.fptosi 32 (rE s)).setWidth 8) ?_
  refine (rMaxT_at ..).trans ?_
  refine congrArg gmax (funext fun b => ?_)
  have h := rRotT_grp dy st ⟨32 * (28 * a.val + u.val), by omega⟩ n b
  have e1 : (⟨32 * (28 * a.val + u.val) / 896, by omega⟩ : Fin 2) = a := Fin.ext (by dsimp only; omega)
  have e2 : (⟨32 * (28 * a.val + u.val) / 32 % 28, by omega⟩ : Fin 28) = u := Fin.ext (by dsimp only; omega)
  have e3 : (⟨32 * (28 * a.val + u.val) / 32, by omega⟩ : Fin 56) = ⟨28 * a.val + u.val, by omega⟩ := Fin.ext (by dsimp only; omega)
  dsimp only at h
  rw [e1, e2, e3] at h
  exact h

end Cert.ReferenceIdeal.Hand
end
-- ==== Proof.RefRun.lean ====
/-
  The reference's run, its three results as the chunks' composition.
-/
module

public import proofs.«01_k».proof.Proof.RefVal
public import Idealize.ShloMosaic.Lib.Claim

@[expose] public section

set_option maxRecDepth 100000

noncomputable section

namespace Cert.ReferenceIdeal.Hand

open Cert.ReferenceIdeal Cert.ReferenceIdeal.Gen
open Idealize.ShloMosaic Idealize.ShloMosaic.StableHlo Idealize.SL.Sem

set_option maxHeartbeats 6400000 in
/-- The reference ends with its three results and its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v202) = refDx (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg6))
      ∧ r.2.mem ((c.tc : Thread nD τ).loc main_v201) = refDw (m ((c.tc : Thread nD τ).loc main_arg0)) (m ((c.tc : Thread nD τ).loc main_arg1))
          (m ((c.tc : Thread nD τ).loc main_arg4)) (m ((c.tc : Thread nD τ).loc main_arg7))
      ∧ r.2.mem ((c.tc : Thread nD τ).loc main_v205) = refEt (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  hlo_run
  · simp only [StableHlo.TRef.ofBuf_toBuf]
    simp -implicitDefEqProofs only [StableHlo.TRef.toBuf, StableHlo.TRef.ofBuf, cast_eq]
    rfl
  · simp only [StableHlo.TRef.ofBuf_toBuf]
    simp -implicitDefEqProofs only [StableHlo.TRef.toBuf, StableHlo.TRef.ofBuf, cast_eq]
    rfl
  · simp only [StableHlo.TRef.ofBuf_toBuf]
    simp -implicitDefEqProofs only [StableHlo.TRef.toBuf, StableHlo.TRef.ofBuf, cast_eq]
    rfl

end Cert.ReferenceIdeal.Hand
end
-- ==== Proof.Algebraic.lean ====
/-
  The kernel and the reference, from memories that agree on the arguments: equal results, as extended reals.
-/
module

public import proofs.«01_k».proof.Proof.KernelRun
public import proofs.«01_k».proof.Proof.RefRun

@[expose] public section

set_option maxRecDepth 16384

noncomputable section

namespace Cert.Proof

open Idealize.ShloMosaic Idealize.SL.Sem

/-- Both runs end in the same three results: the gradient of the activations, the gradient of the weight and the token scales' exponents. -/
theorem algebraic : Cert.algebraic_KernelIdeal_ReferenceIdeal := by
  intro m g m' g' _ hagree
  refine ⟨fun c => Cert.KernelIdeal.Hand.outDx m c, fun c => Cert.KernelIdeal.Hand.outDw m c, fun c => Cert.KernelIdeal.Hand.outEt m c, Cert.KernelIdeal.Hand.runV m g, ?_⟩
  refine (θ_run Cert.ReferenceIdeal.defs _ _).mono (fun r h c => ?_) (Cert.ReferenceIdeal.Hand.run m' g')
  obtain ⟨h0, h1, h2, hargs⟩ := h c
  obtain ⟨a0, a1, a2, a3, a4, a5, a6, a7⟩ := hagree c
  refine ⟨h0.trans ?_, h1.trans ?_, h2.trans ?_, hargs⟩
  · rw [a1, a2, a3, a5, a6]
    exact Cert.ReferenceIdeal.Hand.refDx_eq _ _ _ _ _
  · rw [a0, a1, a4, a7]
    exact Cert.ReferenceIdeal.Hand.refDw_eq _ _ _ _
  · rw [a1, a4]
    exact Cert.ReferenceIdeal.Hand.refEt_eq _ _

end Cert.Proof
end
-- ==== Proof.lean ====
/- The claims of `Cert.Claim`, assembled: each is proved in a module under Proof/. -/
module

public import proofs.«01_k».proof.Defs
public import proofs.«01_k».proof.Proof.AnyFrame
public import proofs.«01_k».proof.Proof.IdealAnyFrame
public import proofs.«01_k».proof.Proof.RefFrame
public import proofs.«01_k».proof.Proof.Named
public import proofs.«01_k».proof.Proof.Algebraic

@[expose] public section

noncomputable section

namespace Cert.Proof

/-- Every claim: the three runs leave their arguments unchanged, the ideal twin's rewrites are allowed, and the ideal twin's
    three results are the reference's. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, Ref.frame, preserves, algebraic⟩

end Cert.Proof

end
